-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DHMix (m : (ℓ : Loc Cert.DHMix.nD Cert.DHMix.τ Cert.DHMix.sig) → Buf (Elt Bits) ℓ) : Prop :=
  True

def Pre_DHMixIdeal (m : (ℓ : Loc Cert.DHMixIdeal.nD Cert.DHMixIdeal.τ Cert.DHMixIdeal.sig) → Buf (Elt Ideal) ℓ) : Prop :=
  True

def Pre_DHMixRefIdeal (m : (ℓ : Loc Cert.DHMixRefIdeal.nD Cert.DHMixRefIdeal.τ Cert.DHMixRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DWUp (m : (ℓ : Loc Cert.DWUp.nD Cert.DWUp.τ Cert.DWUp.sig) → Buf (Elt Bits) ℓ) : Prop :=
  True

def Pre_DWUpIdeal (m : (ℓ : Loc Cert.DWUpIdeal.nD Cert.DWUpIdeal.τ Cert.DWUpIdeal.sig) → Buf (Elt Ideal) ℓ) : Prop :=
  True

def Pre_DWUpRefIdeal (m : (ℓ : Loc Cert.DWUpRefIdeal.nD Cert.DWUpRefIdeal.τ Cert.DWUpRefIdeal.sig) → Buf (Elt Ideal) ℓ) : Prop :=
  True

def Pre_DHMlp (m : (ℓ : Loc Cert.DHMlp.nD Cert.DHMlp.τ Cert.DHMlp.sig) → Buf (Elt Bits) ℓ) : Prop :=
  True

def Pre_DHMlpIdeal (m : (ℓ : Loc Cert.DHMlpIdeal.nD Cert.DHMlpIdeal.τ Cert.DHMlpIdeal.sig) → Buf (Elt Ideal) ℓ) : Prop :=
  True

def Pre_DHMlpRefIdeal (m : (ℓ : Loc Cert.DHMlpRefIdeal.nD Cert.DHMlpRefIdeal.τ Cert.DHMlpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_DWPleProj (m : (ℓ : Loc Cert.DWPleProj.nD Cert.DWPleProj.τ Cert.DWPleProj.sig) → Buf (Elt Bits) ℓ) : Prop :=
  True

def Pre_DWPleProjIdeal (m : (ℓ : Loc Cert.DWPleProjIdeal.nD Cert.DWPleProjIdeal.τ Cert.DWPleProjIdeal.sig) → Buf (Elt Ideal) ℓ) : Prop :=
  True

def Pre_DWPleProjRefIdeal (m : (ℓ : Loc Cert.DWPleProjRefIdeal.nD Cert.DWPleProjRefIdeal.τ Cert.DWPleProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWPleGate (m : (ℓ : Loc Cert.AdamWPleGate.nD Cert.AdamWPleGate.τ Cert.AdamWPleGate.sig) → Buf (Elt Bits) ℓ) : Prop :=
  True

def Pre_AdamWPleGateIdeal (m : (ℓ : Loc Cert.AdamWPleGateIdeal.nD Cert.AdamWPleGateIdeal.τ Cert.AdamWPleGateIdeal.sig) → Buf (Elt Ideal) ℓ) : Prop :=
  True

def Pre_AdamWPleGateRefIdeal (m : (ℓ : Loc Cert.AdamWPleGateRefIdeal.nD Cert.AdamWPleGateRefIdeal.τ Cert.AdamWPleGateRefIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_AdamWDownRefIdeal (m : (ℓ : Loc Cert.AdamWDownRefIdeal.nD Cert.AdamWDownRefIdeal.τ Cert.AdamWDownRefIdeal.sig) → Buf (Elt Ideal) ℓ) : Prop :=
  True

def Pre_AdamWUp (m : (ℓ : Loc Cert.AdamWUp.nD Cert.AdamWUp.τ Cert.AdamWUp.sig) → Buf (Elt Bits) ℓ) : Prop :=
  True

def Pre_AdamWUpIdeal (m : (ℓ : Loc Cert.AdamWUpIdeal.nD Cert.AdamWUpIdeal.τ Cert.AdamWUpIdeal.sig) → Buf (Elt Ideal) ℓ) : Prop :=
  True

def Pre_AdamWUpRefIdeal (m : (ℓ : Loc Cert.AdamWUpRefIdeal.nD Cert.AdamWUpRefIdeal.τ Cert.AdamWUpRefIdeal.sig) → Buf (Elt Ideal) ℓ) : Prop :=
  True

def Pre_AdamWPleProj (m : (ℓ : Loc Cert.AdamWPleProj.nD Cert.AdamWPleProj.τ Cert.AdamWPleProj.sig) → Buf (Elt Bits) ℓ) : Prop :=
  True

def Pre_AdamWPleProjIdeal (m : (ℓ : Loc Cert.AdamWPleProjIdeal.nD Cert.AdamWPleProjIdeal.τ Cert.AdamWPleProjIdeal.sig) → Buf (Elt Ideal) ℓ) : Prop :=
  True

def Pre_AdamWPleProjRefIdeal (m : (ℓ : Loc Cert.AdamWPleProjRefIdeal.nD Cert.AdamWPleProjRefIdeal.τ Cert.AdamWPleProjRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DHMix [hDHMix : Cert.DHMix.Facts] : Prop :=
  ∀ (m : (ℓ : Loc Cert.DHMix.nD Cert.DHMix.τ Cert.DHMix.sig) → Buf (Elt Bits) ℓ) (g : Dev Cert.DHMix.nD → PrngReg), Pre_DHMix m →
    θ_run (Cert.DHMix.defs (F := Bits)) (onTc (τ := Cert.DHMix.τ) (Cert.DHMix.main (F := Bits))) ⟨m, fun _ => 0, g⟩ (fun r => (∀ c : Dev Cert.DHMix.nD,
      r.2.mem ((c.tc : Thread Cert.DHMix.nD Cert.DHMix.τ).loc Cert.DHMix.main_arg0) = m ((c.tc : Thread Cert.DHMix.nD Cert.DHMix.τ).loc Cert.DHMix.main_arg0)
      ∧ r.2.mem ((c.tc : Thread Cert.DHMix.nD Cert.DHMix.τ).loc Cert.DHMix.main_arg1) = m ((c.tc : Thread Cert.DHMix.nD Cert.DHMix.τ).loc Cert.DHMix.main_arg1)
      ∧ r.2.mem ((c.tc : Thread Cert.DHMix.nD Cert.DHMix.τ).loc Cert.DHMix.main_arg2) = m ((c.tc : Thread Cert.DHMix.nD Cert.DHMix.τ).loc Cert.DHMix.main_arg2))
      ∧ r.2.sem = fun _ => 0)

def quiescent_DHMixIdeal [hDHMixIdeal : Cert.DHMixIdeal.Facts] : Prop :=
  ∀ (m : (ℓ : Loc Cert.DHMixIdeal.nD Cert.DHMixIdeal.τ Cert.DHMixIdeal.sig) → Buf (Elt Ideal) ℓ) (g : Dev Cert.DHMixIdeal.nD → PrngReg), Pre_DHMixIdeal m →
    θ_run (Cert.DHMixIdeal.defs (F := Ideal)) (onTc (τ := Cert.DHMixIdeal.τ) (Cert.DHMixIdeal.main (F := Ideal))) ⟨m, fun _ => 0, g⟩ (fun r => (∀ c : Dev Cert.DHMixIdeal.nD,
      r.2.mem ((c.tc : Thread Cert.DHMixIdeal.nD Cert.DHMixIdeal.τ).loc Cert.DHMixIdeal.main_arg0) = m ((c.tc : Thread Cert.DHMixIdeal.nD Cert.DHMixIdeal.τ).loc Cert.DHMixIdeal.main_arg0)
      ∧ r.2.mem ((c.tc : Thread Cert.DHMixIdeal.nD Cert.DHMixIdeal.τ).loc Cert.DHMixIdeal.main_arg1) = m ((c.tc : Thread Cert.DHMixIdeal.nD Cert.DHMixIdeal.τ).loc Cert.DHMixIdeal.main_arg1)
      ∧ r.2.mem ((c.tc : Thread Cert.DHMixIdeal.nD Cert.DHMixIdeal.τ).loc Cert.DHMixIdeal.main_arg2) = m ((c.tc : Thread Cert.DHMixIdeal.nD Cert.DHMixIdeal.τ).loc Cert.DHMixIdeal.main_arg2))
      ∧ r.2.sem = fun _ => 0)

def quiescent_DHMixRefIdeal [hDHMixRefIdeal : Cert.DHMixRefIdeal.Facts] : Prop :=
  ∀ (m : (ℓ : Loc Cert.DHMixRefIdeal.nD Cert.DHMixRefIdeal.τ Cert.DHMixRefIdeal.sig) → Buf (Elt Ideal) ℓ) (g : Dev Cert.DHMixRefIdeal.nD → PrngReg), Pre_DHMixRefIdeal m →
    θ_run (Cert.DHMixRefIdeal.defs (F := Ideal)) (onTc (τ := Cert.DHMixRefIdeal.τ) (Cert.DHMixRefIdeal.main (F := Ideal))) ⟨m, fun _ => 0, g⟩ (fun r => (∀ c : Dev Cert.DHMixRefIdeal.nD,
      r.2.mem ((c.tc : Thread Cert.DHMixRefIdeal.nD Cert.DHMixRefIdeal.τ).loc Cert.DHMixRefIdeal.main_arg0) = m ((c.tc : Thread Cert.DHMixRefIdeal.nD Cert.DHMixRefIdeal.τ).loc Cert.DHMixRefIdeal.main_arg0)
      ∧ r.2.mem ((c.tc : Thread Cert.DHMixRefIdeal.nD Cert.DHMixRefIdeal.τ).loc Cert.DHMixRefIdeal.main_arg1) = m ((c.tc : Thread Cert.DHMixRefIdeal.nD Cert.DHMixRefIdeal.τ).loc Cert.DHMixRefIdeal.main_arg1)
      ∧ r.2.mem ((c.tc : Thread Cert.DHMixRefIdeal.nD Cert.DHMixRefIdeal.τ).loc Cert.DHMixRefIdeal.main_arg2) = m ((c.tc : Thread Cert.DHMixRefIdeal.nD Cert.DHMixRefIdeal.τ).loc Cert.DHMixRefIdeal.main_arg2))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DWUp [hDWUp : Cert.DWUp.Facts] : Prop :=
  ∀ (m : (ℓ : Loc Cert.DWUp.nD Cert.DWUp.τ Cert.DWUp.sig) → Buf (Elt Bits) ℓ) (g : Dev Cert.DWUp.nD → PrngReg), Pre_DWUp m →
    θ_run (Cert.DWUp.defs (F := Bits)) (onTc (τ := Cert.DWUp.τ) (Cert.DWUp.main (F := Bits))) ⟨m, fun _ => 0, g⟩ (fun r => (∀ c : Dev Cert.DWUp.nD,
      r.2.mem ((c.tc : Thread Cert.DWUp.nD Cert.DWUp.τ).loc Cert.DWUp.main_arg0) = m ((c.tc : Thread Cert.DWUp.nD Cert.DWUp.τ).loc Cert.DWUp.main_arg0)
      ∧ r.2.mem ((c.tc : Thread Cert.DWUp.nD Cert.DWUp.τ).loc Cert.DWUp.main_arg1) = m ((c.tc : Thread Cert.DWUp.nD Cert.DWUp.τ).loc Cert.DWUp.main_arg1))
      ∧ r.2.sem = fun _ => 0)

def quiescent_DWUpIdeal [hDWUpIdeal : Cert.DWUpIdeal.Facts] : Prop :=
  ∀ (m : (ℓ : Loc Cert.DWUpIdeal.nD Cert.DWUpIdeal.τ Cert.DWUpIdeal.sig) → Buf (Elt Ideal) ℓ) (g : Dev Cert.DWUpIdeal.nD → PrngReg), Pre_DWUpIdeal m →
    θ_run (Cert.DWUpIdeal.defs (F := Ideal)) (onTc (τ := Cert.DWUpIdeal.τ) (Cert.DWUpIdeal.main (F := Ideal))) ⟨m, fun _ => 0, g⟩ (fun r => (∀ c : Dev Cert.DWUpIdeal.nD,
      r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
      ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ r.2.sem = fun _ => 0)

def quiescent_DWUpRefIdeal [hDWUpRefIdeal : Cert.DWUpRefIdeal.Facts] : Prop :=
  ∀ (m : (ℓ : Loc Cert.DWUpRefIdeal.nD Cert.DWUpRefIdeal.τ Cert.DWUpRefIdeal.sig) → Buf (Elt Ideal) ℓ) (g : Dev Cert.DWUpRefIdeal.nD → PrngReg), Pre_DWUpRefIdeal m →
    θ_run (Cert.DWUpRefIdeal.defs (F := Ideal)) (onTc (τ := Cert.DWUpRefIdeal.τ) (Cert.DWUpRefIdeal.main (F := Ideal))) ⟨m, fun _ => 0, g⟩ (fun r => (∀ c : Dev Cert.DWUpRefIdeal.nD,
      r.2.mem ((c.tc : Thread Cert.DWUpRefIdeal.nD Cert.DWUpRefIdeal.τ).loc Cert.DWUpRefIdeal.main_arg0) = m ((c.tc : Thread Cert.DWUpRefIdeal.nD Cert.DWUpRefIdeal.τ).loc Cert.DWUpRefIdeal.main_arg0)
      ∧ r.2.mem ((c.tc : Thread Cert.DWUpRefIdeal.nD Cert.DWUpRefIdeal.τ).loc Cert.DWUpRefIdeal.main_arg1) = m ((c.tc : Thread Cert.DWUpRefIdeal.nD Cert.DWUpRefIdeal.τ).loc Cert.DWUpRefIdeal.main_arg1))
      ∧ r.2.sem = fun _ => 0)

def quiescent_DHMlp [hDHMlp : Cert.DHMlp.Facts] : Prop :=
  ∀ (m : (ℓ : Loc Cert.DHMlp.nD Cert.DHMlp.τ Cert.DHMlp.sig) → Buf (Elt Bits) ℓ) (g : Dev Cert.DHMlp.nD → PrngReg), Pre_DHMlp m →
    θ_run (Cert.DHMlp.defs (F := Bits)) (onTc (τ := Cert.DHMlp.τ) (Cert.DHMlp.main (F := Bits))) ⟨m, fun _ => 0, g⟩ (fun r => (∀ c : Dev Cert.DHMlp.nD,
      r.2.mem ((c.tc : Thread Cert.DHMlp.nD Cert.DHMlp.τ).loc Cert.DHMlp.main_arg0) = m ((c.tc : Thread Cert.DHMlp.nD Cert.DHMlp.τ).loc Cert.DHMlp.main_arg0)
      ∧ r.2.mem ((c.tc : Thread Cert.DHMlp.nD Cert.DHMlp.τ).loc Cert.DHMlp.main_arg1) = m ((c.tc : Thread Cert.DHMlp.nD Cert.DHMlp.τ).loc Cert.DHMlp.main_arg1))
      ∧ r.2.sem = fun _ => 0)

def quiescent_DHMlpIdeal [hDHMlpIdeal : Cert.DHMlpIdeal.Facts] : Prop :=
  ∀ (m : (ℓ : Loc Cert.DHMlpIdeal.nD Cert.DHMlpIdeal.τ Cert.DHMlpIdeal.sig) → Buf (Elt Ideal) ℓ) (g : Dev Cert.DHMlpIdeal.nD → PrngReg), Pre_DHMlpIdeal m →
    θ_run (Cert.DHMlpIdeal.defs (F := Ideal)) (onTc (τ := Cert.DHMlpIdeal.τ) (Cert.DHMlpIdeal.main (F := Ideal))) ⟨m, fun _ => 0, g⟩ (fun r => (∀ c : Dev Cert.DHMlpIdeal.nD,
      r.2.mem ((c.tc : Thread Cert.DHMlpIdeal.nD Cert.DHMlpIdeal.τ).loc Cert.DHMlpIdeal.main_arg0) = m ((c.tc : Thread Cert.DHMlpIdeal.nD Cert.DHMlpIdeal.τ).loc Cert.DHMlpIdeal.main_arg0)
      ∧ r.2.mem ((c.tc : Thread Cert.DHMlpIdeal.nD Cert.DHMlpIdeal.τ).loc Cert.DHMlpIdeal.main_arg1) = m ((c.tc : Thread Cert.DHMlpIdeal.nD Cert.DHMlpIdeal.τ).loc Cert.DHMlpIdeal.main_arg1))
      ∧ r.2.sem = fun _ => 0)

def quiescent_DHMlpRefIdeal [hDHMlpRefIdeal : Cert.DHMlpRefIdeal.Facts] : Prop :=
  ∀ (m : (ℓ : Loc Cert.DHMlpRefIdeal.nD Cert.DHMlpRefIdeal.τ Cert.DHMlpRefIdeal.sig) → Buf (Elt Ideal) ℓ) (g : Dev Cert.DHMlpRefIdeal.nD → PrngReg), Pre_DHMlpRefIdeal m →
    θ_run (Cert.DHMlpRefIdeal.defs (F := Ideal)) (onTc (τ := Cert.DHMlpRefIdeal.τ) (Cert.DHMlpRefIdeal.main (F := Ideal))) ⟨m, fun _ => 0, g⟩ (fun r => (∀ c : Dev Cert.DHMlpRefIdeal.nD,
      r.2.mem ((c.tc : Thread Cert.DHMlpRefIdeal.nD Cert.DHMlpRefIdeal.τ).loc Cert.DHMlpRefIdeal.main_arg0) = m ((c.tc : Thread Cert.DHMlpRefIdeal.nD Cert.DHMlpRefIdeal.τ).loc Cert.DHMlpRefIdeal.main_arg0)
      ∧ r.2.mem ((c.tc : Thread Cert.DHMlpRefIdeal.nD Cert.DHMlpRefIdeal.τ).loc Cert.DHMlpRefIdeal.main_arg1) = m ((c.tc : Thread Cert.DHMlpRefIdeal.nD Cert.DHMlpRefIdeal.τ).loc Cert.DHMlpRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_DWPleProj [hDWPleProj : Cert.DWPleProj.Facts] : Prop :=
  ∀ (m : (ℓ : Loc Cert.DWPleProj.nD Cert.DWPleProj.τ Cert.DWPleProj.sig) → Buf (Elt Bits) ℓ) (g : Dev Cert.DWPleProj.nD → PrngReg), Pre_DWPleProj m →
    θ_run (Cert.DWPleProj.defs (F := Bits)) (onTc (τ := Cert.DWPleProj.τ) (Cert.DWPleProj.main (F := Bits))) ⟨m, fun _ => 0, g⟩ (fun r => (∀ c : Dev Cert.DWPleProj.nD,
      r.2.mem ((c.tc : Thread Cert.DWPleProj.nD Cert.DWPleProj.τ).loc Cert.DWPleProj.main_arg0) = m ((c.tc : Thread Cert.DWPleProj.nD Cert.DWPleProj.τ).loc Cert.DWPleProj.main_arg0)
      ∧ r.2.mem ((c.tc : Thread Cert.DWPleProj.nD Cert.DWPleProj.τ).loc Cert.DWPleProj.main_arg1) = m ((c.tc : Thread Cert.DWPleProj.nD Cert.DWPleProj.τ).loc Cert.DWPleProj.main_arg1))
      ∧ r.2.sem = fun _ => 0)

def quiescent_DWPleProjIdeal [hDWPleProjIdeal : Cert.DWPleProjIdeal.Facts] : Prop :=
  ∀ (m : (ℓ : Loc Cert.DWPleProjIdeal.nD Cert.DWPleProjIdeal.τ Cert.DWPleProjIdeal.sig) → Buf (Elt Ideal) ℓ) (g : Dev Cert.DWPleProjIdeal.nD → PrngReg), Pre_DWPleProjIdeal m →
    θ_run (Cert.DWPleProjIdeal.defs (F := Ideal)) (onTc (τ := Cert.DWPleProjIdeal.τ) (Cert.DWPleProjIdeal.main (F := Ideal))) ⟨m, fun _ => 0, g⟩ (fun r => (∀ c : Dev Cert.DWPleProjIdeal.nD,
      r.2.mem ((c.tc : Thread Cert.DWPleProjIdeal.nD Cert.DWPleProjIdeal.τ).loc Cert.DWPleProjIdeal.main_arg0) = m ((c.tc : Thread Cert.DWPleProjIdeal.nD Cert.DWPleProjIdeal.τ).loc Cert.DWPleProjIdeal.main_arg0)
      ∧ r.2.mem ((c.tc : Thread Cert.DWPleProjIdeal.nD Cert.DWPleProjIdeal.τ).loc Cert.DWPleProjIdeal.main_arg1) = m ((c.tc : Thread Cert.DWPleProjIdeal.nD Cert.DWPleProjIdeal.τ).loc Cert.DWPleProjIdeal.main_arg1))
      ∧ r.2.sem = fun _ => 0)

def quiescent_DWPleProjRefIdeal [hDWPleProjRefIdeal : Cert.DWPleProjRefIdeal.Facts] : Prop :=
  ∀ (m : (ℓ : Loc Cert.DWPleProjRefIdeal.nD Cert.DWPleProjRefIdeal.τ Cert.DWPleProjRefIdeal.sig) → Buf (Elt Ideal) ℓ) (g : Dev Cert.DWPleProjRefIdeal.nD → PrngReg), Pre_DWPleProjRefIdeal m →
    θ_run (Cert.DWPleProjRefIdeal.defs (F := Ideal)) (onTc (τ := Cert.DWPleProjRefIdeal.τ) (Cert.DWPleProjRefIdeal.main (F := Ideal))) ⟨m, fun _ => 0, g⟩ (fun r => (∀ c : Dev Cert.DWPleProjRefIdeal.nD,
      r.2.mem ((c.tc : Thread Cert.DWPleProjRefIdeal.nD Cert.DWPleProjRefIdeal.τ).loc Cert.DWPleProjRefIdeal.main_arg0) = m ((c.tc : Thread Cert.DWPleProjRefIdeal.nD Cert.DWPleProjRefIdeal.τ).loc Cert.DWPleProjRefIdeal.main_arg0)
      ∧ r.2.mem ((c.tc : Thread Cert.DWPleProjRefIdeal.nD Cert.DWPleProjRefIdeal.τ).loc Cert.DWPleProjRefIdeal.main_arg1) = m ((c.tc : Thread Cert.DWPleProjRefIdeal.nD Cert.DWPleProjRefIdeal.τ).loc Cert.DWPleProjRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWPleGate [hAdamWPleGate : Cert.AdamWPleGate.Facts] : Prop :=
  ∀ (m : (ℓ : Loc Cert.AdamWPleGate.nD Cert.AdamWPleGate.τ Cert.AdamWPleGate.sig) → Buf (Elt Bits) ℓ) (g : Dev Cert.AdamWPleGate.nD → PrngReg), Pre_AdamWPleGate m →
    θ_run (Cert.AdamWPleGate.defs (F := Bits)) (onTc (τ := Cert.AdamWPleGate.τ) (Cert.AdamWPleGate.main (F := Bits))) ⟨m, fun _ => 0, g⟩ (fun r => (∀ c : Dev Cert.AdamWPleGate.nD,
      r.2.mem ((c.tc : Thread Cert.AdamWPleGate.nD Cert.AdamWPleGate.τ).loc Cert.AdamWPleGate.main_arg0) = m ((c.tc : Thread Cert.AdamWPleGate.nD Cert.AdamWPleGate.τ).loc Cert.AdamWPleGate.main_arg0)
      ∧ r.2.mem ((c.tc : Thread Cert.AdamWPleGate.nD Cert.AdamWPleGate.τ).loc Cert.AdamWPleGate.main_arg1) = m ((c.tc : Thread Cert.AdamWPleGate.nD Cert.AdamWPleGate.τ).loc Cert.AdamWPleGate.main_arg1)
      ∧ r.2.mem ((c.tc : Thread Cert.AdamWPleGate.nD Cert.AdamWPleGate.τ).loc Cert.AdamWPleGate.main_arg2) = m ((c.tc : Thread Cert.AdamWPleGate.nD Cert.AdamWPleGate.τ).loc Cert.AdamWPleGate.main_arg2)
      ∧ r.2.mem ((c.tc : Thread Cert.AdamWPleGate.nD Cert.AdamWPleGate.τ).loc Cert.AdamWPleGate.main_arg3) = m ((c.tc : Thread Cert.AdamWPleGate.nD Cert.AdamWPleGate.τ).loc Cert.AdamWPleGate.main_arg3))
      ∧ r.2.sem = fun _ => 0)

def quiescent_AdamWPleGateIdeal [hAdamWPleGateIdeal : Cert.AdamWPleGateIdeal.Facts] : Prop :=
  ∀ (m : (ℓ : Loc Cert.AdamWPleGateIdeal.nD Cert.AdamWPleGateIdeal.τ Cert.AdamWPleGateIdeal.sig) → Buf (Elt Ideal) ℓ) (g : Dev Cert.AdamWPleGateIdeal.nD → PrngReg), Pre_AdamWPleGateIdeal m →
    θ_run (Cert.AdamWPleGateIdeal.defs (F := Ideal)) (onTc (τ := Cert.AdamWPleGateIdeal.τ) (Cert.AdamWPleGateIdeal.main (F := Ideal))) ⟨m, fun _ => 0, g⟩ (fun r => (∀ c : Dev Cert.AdamWPleGateIdeal.nD,
      r.2.mem ((c.tc : Thread Cert.AdamWPleGateIdeal.nD Cert.AdamWPleGateIdeal.τ).loc Cert.AdamWPleGateIdeal.main_arg0) = m ((c.tc : Thread Cert.AdamWPleGateIdeal.nD Cert.AdamWPleGateIdeal.τ).loc Cert.AdamWPleGateIdeal.main_arg0)
      ∧ r.2.mem ((c.tc : Thread Cert.AdamWPleGateIdeal.nD Cert.AdamWPleGateIdeal.τ).loc Cert.AdamWPleGateIdeal.main_arg1) = m ((c.tc : Thread Cert.AdamWPleGateIdeal.nD Cert.AdamWPleGateIdeal.τ).loc Cert.AdamWPleGateIdeal.main_arg1)
      ∧ r.2.mem ((c.tc : Thread Cert.AdamWPleGateIdeal.nD Cert.AdamWPleGateIdeal.τ).loc Cert.AdamWPleGateIdeal.main_arg2) = m ((c.tc : Thread Cert.AdamWPleGateIdeal.nD Cert.AdamWPleGateIdeal.τ).loc Cert.AdamWPleGateIdeal.main_arg2)
      ∧ r.2.mem ((c.tc : Thread Cert.AdamWPleGateIdeal.nD Cert.AdamWPleGateIdeal.τ).loc Cert.AdamWPleGateIdeal.main_arg3) = m ((c.tc : Thread Cert.AdamWPleGateIdeal.nD Cert.AdamWPleGateIdeal.τ).loc Cert.AdamWPleGateIdeal.main_arg3))
      ∧ r.2.sem = fun _ => 0)

def quiescent_AdamWPleGateRefIdeal [hAdamWPleGateRefIdeal : Cert.AdamWPleGateRefIdeal.Facts] : Prop :=
  ∀ (m : (ℓ : Loc Cert.AdamWPleGateRefIdeal.nD Cert.AdamWPleGateRefIdeal.τ Cert.AdamWPleGateRefIdeal.sig) → Buf (Elt Ideal) ℓ) (g : Dev Cert.AdamWPleGateRefIdeal.nD → PrngReg), Pre_AdamWPleGateRefIdeal m →
    θ_run (Cert.AdamWPleGateRefIdeal.defs (F := Ideal)) (onTc (τ := Cert.AdamWPleGateRefIdeal.τ) (Cert.AdamWPleGateRefIdeal.main (F := Ideal))) ⟨m, fun _ => 0, g⟩ (fun r => (∀ c : Dev Cert.AdamWPleGateRefIdeal.nD,
      r.2.mem ((c.tc : Thread Cert.AdamWPleGateRefIdeal.nD Cert.AdamWPleGateRefIdeal.τ).loc Cert.AdamWPleGateRefIdeal.main_arg0) = m ((c.tc : Thread Cert.AdamWPleGateRefIdeal.nD Cert.AdamWPleGateRefIdeal.τ).loc Cert.AdamWPleGateRefIdeal.main_arg0)
      ∧ r.2.mem ((c.tc : Thread Cert.AdamWPleGateRefIdeal.nD Cert.AdamWPleGateRefIdeal.τ).loc Cert.AdamWPleGateRefIdeal.main_arg1) = m ((c.tc : Thread Cert.AdamWPleGateRefIdeal.nD Cert.AdamWPleGateRefIdeal.τ).loc Cert.AdamWPleGateRefIdeal.main_arg1)
      ∧ r.2.mem ((c.tc : Thread Cert.AdamWPleGateRefIdeal.nD Cert.AdamWPleGateRefIdeal.τ).loc Cert.AdamWPleGateRefIdeal.main_arg2) = m ((c.tc : Thread Cert.AdamWPleGateRefIdeal.nD Cert.AdamWPleGateRefIdeal.τ).loc Cert.AdamWPleGateRefIdeal.main_arg2)
      ∧ r.2.mem ((c.tc : Thread Cert.AdamWPleGateRefIdeal.nD Cert.AdamWPleGateRefIdeal.τ).loc Cert.AdamWPleGateRefIdeal.main_arg3) = m ((c.tc : Thread Cert.AdamWPleGateRefIdeal.nD Cert.AdamWPleGateRefIdeal.τ).loc Cert.AdamWPleGateRefIdeal.main_arg3))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ r.2.sem = fun _ => 0)

def quiescent_AdamWDownRefIdeal [hAdamWDownRefIdeal : Cert.AdamWDownRefIdeal.Facts] : Prop :=
  ∀ (m : (ℓ : Loc Cert.AdamWDownRefIdeal.nD Cert.AdamWDownRefIdeal.τ Cert.AdamWDownRefIdeal.sig) → Buf (Elt Ideal) ℓ) (g : Dev Cert.AdamWDownRefIdeal.nD → PrngReg), Pre_AdamWDownRefIdeal m →
    θ_run (Cert.AdamWDownRefIdeal.defs (F := Ideal)) (onTc (τ := Cert.AdamWDownRefIdeal.τ) (Cert.AdamWDownRefIdeal.main (F := Ideal))) ⟨m, fun _ => 0, g⟩ (fun r => (∀ c : Dev Cert.AdamWDownRefIdeal.nD,
      r.2.mem ((c.tc : Thread Cert.AdamWDownRefIdeal.nD Cert.AdamWDownRefIdeal.τ).loc Cert.AdamWDownRefIdeal.main_arg0) = m ((c.tc : Thread Cert.AdamWDownRefIdeal.nD Cert.AdamWDownRefIdeal.τ).loc Cert.AdamWDownRefIdeal.main_arg0)
      ∧ r.2.mem ((c.tc : Thread Cert.AdamWDownRefIdeal.nD Cert.AdamWDownRefIdeal.τ).loc Cert.AdamWDownRefIdeal.main_arg1) = m ((c.tc : Thread Cert.AdamWDownRefIdeal.nD Cert.AdamWDownRefIdeal.τ).loc Cert.AdamWDownRefIdeal.main_arg1)
      ∧ r.2.mem ((c.tc : Thread Cert.AdamWDownRefIdeal.nD Cert.AdamWDownRefIdeal.τ).loc Cert.AdamWDownRefIdeal.main_arg2) = m ((c.tc : Thread Cert.AdamWDownRefIdeal.nD Cert.AdamWDownRefIdeal.τ).loc Cert.AdamWDownRefIdeal.main_arg2)
      ∧ r.2.mem ((c.tc : Thread Cert.AdamWDownRefIdeal.nD Cert.AdamWDownRefIdeal.τ).loc Cert.AdamWDownRefIdeal.main_arg3) = m ((c.tc : Thread Cert.AdamWDownRefIdeal.nD Cert.AdamWDownRefIdeal.τ).loc Cert.AdamWDownRefIdeal.main_arg3))
      ∧ r.2.sem = fun _ => 0)

def quiescent_AdamWUp [hAdamWUp : Cert.AdamWUp.Facts] : Prop :=
  ∀ (m : (ℓ : Loc Cert.AdamWUp.nD Cert.AdamWUp.τ Cert.AdamWUp.sig) → Buf (Elt Bits) ℓ) (g : Dev Cert.AdamWUp.nD → PrngReg), Pre_AdamWUp m →
    θ_run (Cert.AdamWUp.defs (F := Bits)) (onTc (τ := Cert.AdamWUp.τ) (Cert.AdamWUp.main (F := Bits))) ⟨m, fun _ => 0, g⟩ (fun r => (∀ c : Dev Cert.AdamWUp.nD,
      r.2.mem ((c.tc : Thread Cert.AdamWUp.nD Cert.AdamWUp.τ).loc Cert.AdamWUp.main_arg0) = m ((c.tc : Thread Cert.AdamWUp.nD Cert.AdamWUp.τ).loc Cert.AdamWUp.main_arg0)
      ∧ r.2.mem ((c.tc : Thread Cert.AdamWUp.nD Cert.AdamWUp.τ).loc Cert.AdamWUp.main_arg1) = m ((c.tc : Thread Cert.AdamWUp.nD Cert.AdamWUp.τ).loc Cert.AdamWUp.main_arg1)
      ∧ r.2.mem ((c.tc : Thread Cert.AdamWUp.nD Cert.AdamWUp.τ).loc Cert.AdamWUp.main_arg2) = m ((c.tc : Thread Cert.AdamWUp.nD Cert.AdamWUp.τ).loc Cert.AdamWUp.main_arg2)
      ∧ r.2.mem ((c.tc : Thread Cert.AdamWUp.nD Cert.AdamWUp.τ).loc Cert.AdamWUp.main_arg3) = m ((c.tc : Thread Cert.AdamWUp.nD Cert.AdamWUp.τ).loc Cert.AdamWUp.main_arg3))
      ∧ r.2.sem = fun _ => 0)

def quiescent_AdamWUpIdeal [hAdamWUpIdeal : Cert.AdamWUpIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg), Pre_AdamWUpIdeal m →
    θ_run (Cert.AdamWUpIdeal.defs (F := Ideal)) (onTc (τ := Cert.AdamWUpIdeal.τ) (Cert.AdamWUpIdeal.main (F := Ideal))) ⟨m, fun _ => 0, g⟩ (fun r => (∀ c : Dev Cert.AdamWUpIdeal.nD,
      r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
      ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
      ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
      ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ r.2.sem = fun _ => 0)

def quiescent_AdamWUpRefIdeal [hAdamWUpRefIdeal : Cert.AdamWUpRefIdeal.Facts] : Prop :=
  ∀ (m : (ℓ : Loc Cert.AdamWUpRefIdeal.nD Cert.AdamWUpRefIdeal.τ Cert.AdamWUpRefIdeal.sig) → Buf (Elt Ideal) ℓ) (g : Dev Cert.AdamWUpRefIdeal.nD → PrngReg), Pre_AdamWUpRefIdeal m →
    θ_run (Cert.AdamWUpRefIdeal.defs (F := Ideal)) (onTc (τ := Cert.AdamWUpRefIdeal.τ) (Cert.AdamWUpRefIdeal.main (F := Ideal))) ⟨m, fun _ => 0, g⟩ (fun r => (∀ c : Dev Cert.AdamWUpRefIdeal.nD,
      r.2.mem ((c.tc : Thread Cert.AdamWUpRefIdeal.nD Cert.AdamWUpRefIdeal.τ).loc Cert.AdamWUpRefIdeal.main_arg0) = m ((c.tc : Thread Cert.AdamWUpRefIdeal.nD Cert.AdamWUpRefIdeal.τ).loc Cert.AdamWUpRefIdeal.main_arg0)
      ∧ r.2.mem ((c.tc : Thread Cert.AdamWUpRefIdeal.nD Cert.AdamWUpRefIdeal.τ).loc Cert.AdamWUpRefIdeal.main_arg1) = m ((c.tc : Thread Cert.AdamWUpRefIdeal.nD Cert.AdamWUpRefIdeal.τ).loc Cert.AdamWUpRefIdeal.main_arg1)
      ∧ r.2.mem ((c.tc : Thread Cert.AdamWUpRefIdeal.nD Cert.AdamWUpRefIdeal.τ).loc Cert.AdamWUpRefIdeal.main_arg2) = m ((c.tc : Thread Cert.AdamWUpRefIdeal.nD Cert.AdamWUpRefIdeal.τ).loc Cert.AdamWUpRefIdeal.main_arg2)
      ∧ r.2.mem ((c.tc : Thread Cert.AdamWUpRefIdeal.nD Cert.AdamWUpRefIdeal.τ).loc Cert.AdamWUpRefIdeal.main_arg3) = m ((c.tc : Thread Cert.AdamWUpRefIdeal.nD Cert.AdamWUpRefIdeal.τ).loc Cert.AdamWUpRefIdeal.main_arg3))
      ∧ r.2.sem = fun _ => 0)

def quiescent_AdamWPleProj [hAdamWPleProj : Cert.AdamWPleProj.Facts] : Prop :=
  ∀ (m : (ℓ : Loc Cert.AdamWPleProj.nD Cert.AdamWPleProj.τ Cert.AdamWPleProj.sig) → Buf (Elt Bits) ℓ) (g : Dev Cert.AdamWPleProj.nD → PrngReg), Pre_AdamWPleProj m →
    θ_run (Cert.AdamWPleProj.defs (F := Bits)) (onTc (τ := Cert.AdamWPleProj.τ) (Cert.AdamWPleProj.main (F := Bits))) ⟨m, fun _ => 0, g⟩ (fun r => (∀ c : Dev Cert.AdamWPleProj.nD,
      r.2.mem ((c.tc : Thread Cert.AdamWPleProj.nD Cert.AdamWPleProj.τ).loc Cert.AdamWPleProj.main_arg0) = m ((c.tc : Thread Cert.AdamWPleProj.nD Cert.AdamWPleProj.τ).loc Cert.AdamWPleProj.main_arg0)
      ∧ r.2.mem ((c.tc : Thread Cert.AdamWPleProj.nD Cert.AdamWPleProj.τ).loc Cert.AdamWPleProj.main_arg1) = m ((c.tc : Thread Cert.AdamWPleProj.nD Cert.AdamWPleProj.τ).loc Cert.AdamWPleProj.main_arg1)
      ∧ r.2.mem ((c.tc : Thread Cert.AdamWPleProj.nD Cert.AdamWPleProj.τ).loc Cert.AdamWPleProj.main_arg2) = m ((c.tc : Thread Cert.AdamWPleProj.nD Cert.AdamWPleProj.τ).loc Cert.AdamWPleProj.main_arg2)
      ∧ r.2.mem ((c.tc : Thread Cert.AdamWPleProj.nD Cert.AdamWPleProj.τ).loc Cert.AdamWPleProj.main_arg3) = m ((c.tc : Thread Cert.AdamWPleProj.nD Cert.AdamWPleProj.τ).loc Cert.AdamWPleProj.main_arg3))
      ∧ r.2.sem = fun _ => 0)

def quiescent_AdamWPleProjIdeal [hAdamWPleProjIdeal : Cert.AdamWPleProjIdeal.Facts] : Prop :=
  ∀ (m : (ℓ : Loc Cert.AdamWPleProjIdeal.nD Cert.AdamWPleProjIdeal.τ Cert.AdamWPleProjIdeal.sig) → Buf (Elt Ideal) ℓ) (g : Dev Cert.AdamWPleProjIdeal.nD → PrngReg), Pre_AdamWPleProjIdeal m →
    θ_run (Cert.AdamWPleProjIdeal.defs (F := Ideal)) (onTc (τ := Cert.AdamWPleProjIdeal.τ) (Cert.AdamWPleProjIdeal.main (F := Ideal))) ⟨m, fun _ => 0, g⟩ (fun r => (∀ c : Dev Cert.AdamWPleProjIdeal.nD,
      r.2.mem ((c.tc : Thread Cert.AdamWPleProjIdeal.nD Cert.AdamWPleProjIdeal.τ).loc Cert.AdamWPleProjIdeal.main_arg0) = m ((c.tc : Thread Cert.AdamWPleProjIdeal.nD Cert.AdamWPleProjIdeal.τ).loc Cert.AdamWPleProjIdeal.main_arg0)
      ∧ r.2.mem ((c.tc : Thread Cert.AdamWPleProjIdeal.nD Cert.AdamWPleProjIdeal.τ).loc Cert.AdamWPleProjIdeal.main_arg1) = m ((c.tc : Thread Cert.AdamWPleProjIdeal.nD Cert.AdamWPleProjIdeal.τ).loc Cert.AdamWPleProjIdeal.main_arg1)
      ∧ r.2.mem ((c.tc : Thread Cert.AdamWPleProjIdeal.nD Cert.AdamWPleProjIdeal.τ).loc Cert.AdamWPleProjIdeal.main_arg2) = m ((c.tc : Thread Cert.AdamWPleProjIdeal.nD Cert.AdamWPleProjIdeal.τ).loc Cert.AdamWPleProjIdeal.main_arg2)
      ∧ r.2.mem ((c.tc : Thread Cert.AdamWPleProjIdeal.nD Cert.AdamWPleProjIdeal.τ).loc Cert.AdamWPleProjIdeal.main_arg3) = m ((c.tc : Thread Cert.AdamWPleProjIdeal.nD Cert.AdamWPleProjIdeal.τ).loc Cert.AdamWPleProjIdeal.main_arg3))
      ∧ r.2.sem = fun _ => 0)

def quiescent_AdamWPleProjRefIdeal [hAdamWPleProjRefIdeal : Cert.AdamWPleProjRefIdeal.Facts] : Prop :=
  ∀ (m : (ℓ : Loc Cert.AdamWPleProjRefIdeal.nD Cert.AdamWPleProjRefIdeal.τ Cert.AdamWPleProjRefIdeal.sig) → Buf (Elt Ideal) ℓ) (g : Dev Cert.AdamWPleProjRefIdeal.nD → PrngReg), Pre_AdamWPleProjRefIdeal m →
    θ_run (Cert.AdamWPleProjRefIdeal.defs (F := Ideal)) (onTc (τ := Cert.AdamWPleProjRefIdeal.τ) (Cert.AdamWPleProjRefIdeal.main (F := Ideal))) ⟨m, fun _ => 0, g⟩ (fun r => (∀ c : Dev Cert.AdamWPleProjRefIdeal.nD,
      r.2.mem ((c.tc : Thread Cert.AdamWPleProjRefIdeal.nD Cert.AdamWPleProjRefIdeal.τ).loc Cert.AdamWPleProjRefIdeal.main_arg0) = m ((c.tc : Thread Cert.AdamWPleProjRefIdeal.nD Cert.AdamWPleProjRefIdeal.τ).loc Cert.AdamWPleProjRefIdeal.main_arg0)
      ∧ r.2.mem ((c.tc : Thread Cert.AdamWPleProjRefIdeal.nD Cert.AdamWPleProjRefIdeal.τ).loc Cert.AdamWPleProjRefIdeal.main_arg1) = m ((c.tc : Thread Cert.AdamWPleProjRefIdeal.nD Cert.AdamWPleProjRefIdeal.τ).loc Cert.AdamWPleProjRefIdeal.main_arg1)
      ∧ r.2.mem ((c.tc : Thread Cert.AdamWPleProjRefIdeal.nD Cert.AdamWPleProjRefIdeal.τ).loc Cert.AdamWPleProjRefIdeal.main_arg2) = m ((c.tc : Thread Cert.AdamWPleProjRefIdeal.nD Cert.AdamWPleProjRefIdeal.τ).loc Cert.AdamWPleProjRefIdeal.main_arg2)
      ∧ r.2.mem ((c.tc : Thread Cert.AdamWPleProjRefIdeal.nD Cert.AdamWPleProjRefIdeal.τ).loc Cert.AdamWPleProjRefIdeal.main_arg3) = m ((c.tc : Thread Cert.AdamWPleProjRefIdeal.nD Cert.AdamWPleProjRefIdeal.τ).loc Cert.AdamWPleProjRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)) (v7 : (c : Dev Cert.KernelIdeal.nD) → Buf (Elt Ideal) ((c.tc : Thread Cert.KernelIdeal.nD Cert.KernelIdeal.τ).loc Cert.KernelIdeal.main_v1_6)) (v8 : (c : Dev Cert.KernelIdeal.nD) → Buf (Elt Ideal) ((c.tc : Thread Cert.KernelIdeal.nD Cert.KernelIdeal.τ).loc Cert.KernelIdeal.main_v1_7)) (v9 : (c : Dev Cert.KernelIdeal.nD) → Buf (Elt Ideal) ((c.tc : Thread Cert.KernelIdeal.nD Cert.KernelIdeal.τ).loc Cert.KernelIdeal.main_v1_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_v1_6) = v7 c
          ∧ r.2.mem ((c.tc : Thread Cert.KernelIdeal.nD Cert.KernelIdeal.τ).loc Cert.KernelIdeal.main_v1_7) = v8 c
          ∧ r.2.mem ((c.tc : Thread Cert.KernelIdeal.nD Cert.KernelIdeal.τ).loc Cert.KernelIdeal.main_v1_8) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_v143) = v6 c
          ∧ r.2.mem ((c.tc : Thread Cert.ReferenceIdeal.nD Cert.ReferenceIdeal.τ).loc Cert.ReferenceIdeal.main_v145) = v7 c
          ∧ r.2.mem ((c.tc : Thread Cert.ReferenceIdeal.nD Cert.ReferenceIdeal.τ).loc Cert.ReferenceIdeal.main_v146) = v8 c
          ∧ r.2.mem ((c.tc : Thread Cert.ReferenceIdeal.nD Cert.ReferenceIdeal.τ).loc Cert.ReferenceIdeal.main_v147) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DHMix_DHMixIdeal : Prop :=
  True

def algebraic_DHMixIdeal_DHMixRefIdeal [hDHMixIdeal : Cert.DHMixIdeal.Facts] [hDHMixRefIdeal : Cert.DHMixRefIdeal.Facts] : Prop :=
  ∀ (m : (ℓ : Loc Cert.DHMixIdeal.nD Cert.DHMixIdeal.τ Cert.DHMixIdeal.sig) → Buf (Elt Ideal) ℓ) (g : Dev Cert.DHMixIdeal.nD → PrngReg)
    (m' : (ℓ : Loc Cert.DHMixRefIdeal.nD Cert.DHMixRefIdeal.τ Cert.DHMixRefIdeal.sig) → Buf (Elt Ideal) ℓ) (g' : Dev Cert.DHMixRefIdeal.nD → PrngReg), Pre_DHMixIdeal m →
    (∀ c : Dev Cert.DHMixIdeal.nD,
      m' ((c.tc : Thread Cert.DHMixRefIdeal.nD Cert.DHMixRefIdeal.τ).loc Cert.DHMixRefIdeal.main_arg0) = m ((c.tc : Thread Cert.DHMixIdeal.nD Cert.DHMixIdeal.τ).loc Cert.DHMixIdeal.main_arg0)
      ∧ m' ((c.tc : Thread Cert.DHMixRefIdeal.nD Cert.DHMixRefIdeal.τ).loc Cert.DHMixRefIdeal.main_arg1) = m ((c.tc : Thread Cert.DHMixIdeal.nD Cert.DHMixIdeal.τ).loc Cert.DHMixIdeal.main_arg1)
      ∧ m' ((c.tc : Thread Cert.DHMixRefIdeal.nD Cert.DHMixRefIdeal.τ).loc Cert.DHMixRefIdeal.main_arg2) = m ((c.tc : Thread Cert.DHMixIdeal.nD Cert.DHMixIdeal.τ).loc Cert.DHMixIdeal.main_arg2)) →
    ∃ (v0 : (c : Dev Cert.DHMixIdeal.nD) → Buf (Elt Ideal) ((c.tc : Thread Cert.DHMixIdeal.nD Cert.DHMixIdeal.τ).loc Cert.DHMixIdeal.main_v0)),
      θ_run (Cert.DHMixIdeal.defs (F := Ideal)) (onTc (τ := Cert.DHMixIdeal.τ) (Cert.DHMixIdeal.main (F := Ideal))) ⟨m, fun _ => 0, g⟩ (fun r => ∀ c : Dev Cert.DHMixIdeal.nD,
          r.2.mem ((c.tc : Thread Cert.DHMixIdeal.nD Cert.DHMixIdeal.τ).loc Cert.DHMixIdeal.main_v0) = v0 c
          ∧ r.2.mem ((c.tc : Thread Cert.DHMixIdeal.nD Cert.DHMixIdeal.τ).loc Cert.DHMixIdeal.main_arg0) = m ((c.tc : Thread Cert.DHMixIdeal.nD Cert.DHMixIdeal.τ).loc Cert.DHMixIdeal.main_arg0)
          ∧ r.2.mem ((c.tc : Thread Cert.DHMixIdeal.nD Cert.DHMixIdeal.τ).loc Cert.DHMixIdeal.main_arg1) = m ((c.tc : Thread Cert.DHMixIdeal.nD Cert.DHMixIdeal.τ).loc Cert.DHMixIdeal.main_arg1)
          ∧ r.2.mem ((c.tc : Thread Cert.DHMixIdeal.nD Cert.DHMixIdeal.τ).loc Cert.DHMixIdeal.main_arg2) = m ((c.tc : Thread Cert.DHMixIdeal.nD Cert.DHMixIdeal.τ).loc Cert.DHMixIdeal.main_arg2))
      ∧ θ_run (Cert.DHMixRefIdeal.defs (F := Ideal)) (onTc (τ := Cert.DHMixRefIdeal.τ) (Cert.DHMixRefIdeal.main (F := Ideal))) ⟨m', fun _ => 0, g'⟩ (fun r => ∀ c : Dev Cert.DHMixRefIdeal.nD,
          r.2.mem ((c.tc : Thread Cert.DHMixRefIdeal.nD Cert.DHMixRefIdeal.τ).loc Cert.DHMixRefIdeal.main_v18) = v0 c
          ∧ r.2.mem ((c.tc : Thread Cert.DHMixRefIdeal.nD Cert.DHMixRefIdeal.τ).loc Cert.DHMixRefIdeal.main_arg0) = m' ((c.tc : Thread Cert.DHMixRefIdeal.nD Cert.DHMixRefIdeal.τ).loc Cert.DHMixRefIdeal.main_arg0)
          ∧ r.2.mem ((c.tc : Thread Cert.DHMixRefIdeal.nD Cert.DHMixRefIdeal.τ).loc Cert.DHMixRefIdeal.main_arg1) = m' ((c.tc : Thread Cert.DHMixRefIdeal.nD Cert.DHMixRefIdeal.τ).loc Cert.DHMixRefIdeal.main_arg1)
          ∧ r.2.mem ((c.tc : Thread Cert.DHMixRefIdeal.nD Cert.DHMixRefIdeal.τ).loc Cert.DHMixRefIdeal.main_arg2) = m' ((c.tc : Thread Cert.DHMixRefIdeal.nD Cert.DHMixRefIdeal.τ).loc Cert.DHMixRefIdeal.main_arg2))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v8) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v0_1)) (v1 : (c : Dev Cert.HiddenIdeal.nD) → Buf (Elt Ideal) ((c.tc : Thread Cert.HiddenIdeal.nD Cert.HiddenIdeal.τ).loc Cert.HiddenIdeal.main_v1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0_1) = v0 c
          ∧ r.2.mem ((c.tc : Thread Cert.HiddenIdeal.nD Cert.HiddenIdeal.τ).loc Cert.HiddenIdeal.main_v1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v12) = v0 c
          ∧ r.2.mem ((c.tc : Thread Cert.HiddenRefIdeal.nD Cert.HiddenRefIdeal.τ).loc Cert.HiddenRefIdeal.main_v18) = v1 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DWUp_DWUpIdeal : Prop :=
  True

def algebraic_DWUpIdeal_DWUpRefIdeal [hDWUpIdeal : Cert.DWUpIdeal.Facts] [hDWUpRefIdeal : Cert.DWUpRefIdeal.Facts] : Prop :=
  ∀ (m : (ℓ : Loc Cert.DWUpIdeal.nD Cert.DWUpIdeal.τ Cert.DWUpIdeal.sig) → Buf (Elt Ideal) ℓ) (g : Dev Cert.DWUpIdeal.nD → PrngReg)
    (m' : (ℓ : Loc Cert.DWUpRefIdeal.nD Cert.DWUpRefIdeal.τ Cert.DWUpRefIdeal.sig) → Buf (Elt Ideal) ℓ) (g' : Dev Cert.DWUpRefIdeal.nD → PrngReg), Pre_DWUpIdeal m →
    (∀ c : Dev Cert.DWUpIdeal.nD,
      m' ((c.tc : Thread Cert.DWUpRefIdeal.nD Cert.DWUpRefIdeal.τ).loc Cert.DWUpRefIdeal.main_arg0) = m ((c.tc : Thread Cert.DWUpIdeal.nD Cert.DWUpIdeal.τ).loc Cert.DWUpIdeal.main_arg0)
      ∧ m' ((c.tc : Thread Cert.DWUpRefIdeal.nD Cert.DWUpRefIdeal.τ).loc Cert.DWUpRefIdeal.main_arg1) = m ((c.tc : Thread Cert.DWUpIdeal.nD Cert.DWUpIdeal.τ).loc Cert.DWUpIdeal.main_arg1)) →
    ∃ (v0 : (c : Dev Cert.DWUpIdeal.nD) → Buf (Elt Ideal) ((c.tc : Thread Cert.DWUpIdeal.nD Cert.DWUpIdeal.τ).loc Cert.DWUpIdeal.main_v0)),
      θ_run (Cert.DWUpIdeal.defs (F := Ideal)) (onTc (τ := Cert.DWUpIdeal.τ) (Cert.DWUpIdeal.main (F := Ideal))) ⟨m, fun _ => 0, g⟩ (fun r => ∀ c : Dev Cert.DWUpIdeal.nD,
          r.2.mem ((c.tc : Thread Cert.DWUpIdeal.nD Cert.DWUpIdeal.τ).loc Cert.DWUpIdeal.main_v0) = v0 c
          ∧ r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
          ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ θ_run (Cert.DWUpRefIdeal.defs (F := Ideal)) (onTc (τ := Cert.DWUpRefIdeal.τ) (Cert.DWUpRefIdeal.main (F := Ideal))) ⟨m', fun _ => 0, g'⟩ (fun r => ∀ c : Dev Cert.DWUpRefIdeal.nD,
          r.2.mem ((c.tc : Thread Cert.DWUpRefIdeal.nD Cert.DWUpRefIdeal.τ).loc Cert.DWUpRefIdeal.main_v6) = v0 c
          ∧ r.2.mem ((c.tc : Thread Cert.DWUpRefIdeal.nD Cert.DWUpRefIdeal.τ).loc Cert.DWUpRefIdeal.main_arg0) = m' ((c.tc : Thread Cert.DWUpRefIdeal.nD Cert.DWUpRefIdeal.τ).loc Cert.DWUpRefIdeal.main_arg0)
          ∧ r.2.mem ((c.tc : Thread Cert.DWUpRefIdeal.nD Cert.DWUpRefIdeal.τ).loc Cert.DWUpRefIdeal.main_arg1) = m' ((c.tc : Thread Cert.DWUpRefIdeal.nD Cert.DWUpRefIdeal.τ).loc Cert.DWUpRefIdeal.main_arg1))

def preserves_DHMlp_DHMlpIdeal : Prop :=
  True

def algebraic_DHMlpIdeal_DHMlpRefIdeal [hDHMlpIdeal : Cert.DHMlpIdeal.Facts] [hDHMlpRefIdeal : Cert.DHMlpRefIdeal.Facts] : Prop :=
  ∀ (m : (ℓ : Loc Cert.DHMlpIdeal.nD Cert.DHMlpIdeal.τ Cert.DHMlpIdeal.sig) → Buf (Elt Ideal) ℓ) (g : Dev Cert.DHMlpIdeal.nD → PrngReg)
    (m' : (ℓ : Loc Cert.DHMlpRefIdeal.nD Cert.DHMlpRefIdeal.τ Cert.DHMlpRefIdeal.sig) → Buf (Elt Ideal) ℓ) (g' : Dev Cert.DHMlpRefIdeal.nD → PrngReg), Pre_DHMlpIdeal m →
    (∀ c : Dev Cert.DHMlpIdeal.nD,
      m' ((c.tc : Thread Cert.DHMlpRefIdeal.nD Cert.DHMlpRefIdeal.τ).loc Cert.DHMlpRefIdeal.main_arg0) = m ((c.tc : Thread Cert.DHMlpIdeal.nD Cert.DHMlpIdeal.τ).loc Cert.DHMlpIdeal.main_arg0)
      ∧ m' ((c.tc : Thread Cert.DHMlpRefIdeal.nD Cert.DHMlpRefIdeal.τ).loc Cert.DHMlpRefIdeal.main_arg1) = m ((c.tc : Thread Cert.DHMlpIdeal.nD Cert.DHMlpIdeal.τ).loc Cert.DHMlpIdeal.main_arg1)) →
    ∃ (v0 : (c : Dev Cert.DHMlpIdeal.nD) → Buf (Elt Ideal) ((c.tc : Thread Cert.DHMlpIdeal.nD Cert.DHMlpIdeal.τ).loc Cert.DHMlpIdeal.main_v0)),
      θ_run (Cert.DHMlpIdeal.defs (F := Ideal)) (onTc (τ := Cert.DHMlpIdeal.τ) (Cert.DHMlpIdeal.main (F := Ideal))) ⟨m, fun _ => 0, g⟩ (fun r => ∀ c : Dev Cert.DHMlpIdeal.nD,
          r.2.mem ((c.tc : Thread Cert.DHMlpIdeal.nD Cert.DHMlpIdeal.τ).loc Cert.DHMlpIdeal.main_v0) = v0 c
          ∧ r.2.mem ((c.tc : Thread Cert.DHMlpIdeal.nD Cert.DHMlpIdeal.τ).loc Cert.DHMlpIdeal.main_arg0) = m ((c.tc : Thread Cert.DHMlpIdeal.nD Cert.DHMlpIdeal.τ).loc Cert.DHMlpIdeal.main_arg0)
          ∧ r.2.mem ((c.tc : Thread Cert.DHMlpIdeal.nD Cert.DHMlpIdeal.τ).loc Cert.DHMlpIdeal.main_arg1) = m ((c.tc : Thread Cert.DHMlpIdeal.nD Cert.DHMlpIdeal.τ).loc Cert.DHMlpIdeal.main_arg1))
      ∧ θ_run (Cert.DHMlpRefIdeal.defs (F := Ideal)) (onTc (τ := Cert.DHMlpRefIdeal.τ) (Cert.DHMlpRefIdeal.main (F := Ideal))) ⟨m', fun _ => 0, g'⟩ (fun r => ∀ c : Dev Cert.DHMlpRefIdeal.nD,
          r.2.mem ((c.tc : Thread Cert.DHMlpRefIdeal.nD Cert.DHMlpRefIdeal.τ).loc Cert.DHMlpRefIdeal.main_v4) = v0 c
          ∧ r.2.mem ((c.tc : Thread Cert.DHMlpRefIdeal.nD Cert.DHMlpRefIdeal.τ).loc Cert.DHMlpRefIdeal.main_arg0) = m' ((c.tc : Thread Cert.DHMlpRefIdeal.nD Cert.DHMlpRefIdeal.τ).loc Cert.DHMlpRefIdeal.main_arg0)
          ∧ r.2.mem ((c.tc : Thread Cert.DHMlpRefIdeal.nD Cert.DHMlpRefIdeal.τ).loc Cert.DHMlpRefIdeal.main_arg1) = m' ((c.tc : Thread Cert.DHMlpRefIdeal.nD Cert.DHMlpRefIdeal.τ).loc Cert.DHMlpRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v5) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v6) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v1_1)) (v1 : (c : Dev Cert.PleIdeal.nD) → Buf (Elt Ideal) ((c.tc : Thread Cert.PleIdeal.nD Cert.PleIdeal.τ).loc Cert.PleIdeal.main_v2_0)) (v2 : (c : Dev Cert.PleIdeal.nD) → Buf (Elt Ideal) ((c.tc : Thread Cert.PleIdeal.nD Cert.PleIdeal.τ).loc Cert.PleIdeal.main_v2_1)) (v3 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1_1) = v0 c
          ∧ r.2.mem ((c.tc : Thread Cert.PleIdeal.nD Cert.PleIdeal.τ).loc Cert.PleIdeal.main_v2_0) = v1 c
          ∧ r.2.mem ((c.tc : Thread Cert.PleIdeal.nD Cert.PleIdeal.τ).loc Cert.PleIdeal.main_v2_1) = v2 c
          ∧ r.2.mem ((c.tc : Thread Cert.PleIdeal.nD Cert.PleIdeal.τ).loc Cert.PleIdeal.main_v3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v18) = v0 c
          ∧ r.2.mem ((c.tc : Thread Cert.PleRefIdeal.nD Cert.PleRefIdeal.τ).loc Cert.PleRefIdeal.main_v19) = v1 c
          ∧ r.2.mem ((c.tc : Thread Cert.PleRefIdeal.nD Cert.PleRefIdeal.τ).loc Cert.PleRefIdeal.main_v20) = v2 c
          ∧ r.2.mem ((c.tc : Thread Cert.PleRefIdeal.nD Cert.PleRefIdeal.τ).loc Cert.PleRefIdeal.main_v21) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_DWPleProj_DWPleProjIdeal : Prop :=
  True

def algebraic_DWPleProjIdeal_DWPleProjRefIdeal [hDWPleProjIdeal : Cert.DWPleProjIdeal.Facts] [hDWPleProjRefIdeal : Cert.DWPleProjRefIdeal.Facts] : Prop :=
  ∀ (m : (ℓ : Loc Cert.DWPleProjIdeal.nD Cert.DWPleProjIdeal.τ Cert.DWPleProjIdeal.sig) → Buf (Elt Ideal) ℓ) (g : Dev Cert.DWPleProjIdeal.nD → PrngReg)
    (m' : (ℓ : Loc Cert.DWPleProjRefIdeal.nD Cert.DWPleProjRefIdeal.τ Cert.DWPleProjRefIdeal.sig) → Buf (Elt Ideal) ℓ) (g' : Dev Cert.DWPleProjRefIdeal.nD → PrngReg), Pre_DWPleProjIdeal m →
    (∀ c : Dev Cert.DWPleProjIdeal.nD,
      m' ((c.tc : Thread Cert.DWPleProjRefIdeal.nD Cert.DWPleProjRefIdeal.τ).loc Cert.DWPleProjRefIdeal.main_arg0) = m ((c.tc : Thread Cert.DWPleProjIdeal.nD Cert.DWPleProjIdeal.τ).loc Cert.DWPleProjIdeal.main_arg0)
      ∧ m' ((c.tc : Thread Cert.DWPleProjRefIdeal.nD Cert.DWPleProjRefIdeal.τ).loc Cert.DWPleProjRefIdeal.main_arg1) = m ((c.tc : Thread Cert.DWPleProjIdeal.nD Cert.DWPleProjIdeal.τ).loc Cert.DWPleProjIdeal.main_arg1)) →
    ∃ (v0 : (c : Dev Cert.DWPleProjIdeal.nD) → Buf (Elt Ideal) ((c.tc : Thread Cert.DWPleProjIdeal.nD Cert.DWPleProjIdeal.τ).loc Cert.DWPleProjIdeal.main_v0)),
      θ_run (Cert.DWPleProjIdeal.defs (F := Ideal)) (onTc (τ := Cert.DWPleProjIdeal.τ) (Cert.DWPleProjIdeal.main (F := Ideal))) ⟨m, fun _ => 0, g⟩ (fun r => ∀ c : Dev Cert.DWPleProjIdeal.nD,
          r.2.mem ((c.tc : Thread Cert.DWPleProjIdeal.nD Cert.DWPleProjIdeal.τ).loc Cert.DWPleProjIdeal.main_v0) = v0 c
          ∧ r.2.mem ((c.tc : Thread Cert.DWPleProjIdeal.nD Cert.DWPleProjIdeal.τ).loc Cert.DWPleProjIdeal.main_arg0) = m ((c.tc : Thread Cert.DWPleProjIdeal.nD Cert.DWPleProjIdeal.τ).loc Cert.DWPleProjIdeal.main_arg0)
          ∧ r.2.mem ((c.tc : Thread Cert.DWPleProjIdeal.nD Cert.DWPleProjIdeal.τ).loc Cert.DWPleProjIdeal.main_arg1) = m ((c.tc : Thread Cert.DWPleProjIdeal.nD Cert.DWPleProjIdeal.τ).loc Cert.DWPleProjIdeal.main_arg1))
      ∧ θ_run (Cert.DWPleProjRefIdeal.defs (F := Ideal)) (onTc (τ := Cert.DWPleProjRefIdeal.τ) (Cert.DWPleProjRefIdeal.main (F := Ideal))) ⟨m', fun _ => 0, g'⟩ (fun r => ∀ c : Dev Cert.DWPleProjRefIdeal.nD,
          r.2.mem ((c.tc : Thread Cert.DWPleProjRefIdeal.nD Cert.DWPleProjRefIdeal.τ).loc Cert.DWPleProjRefIdeal.main_v5) = v0 c
          ∧ r.2.mem ((c.tc : Thread Cert.DWPleProjRefIdeal.nD Cert.DWPleProjRefIdeal.τ).loc Cert.DWPleProjRefIdeal.main_arg0) = m' ((c.tc : Thread Cert.DWPleProjRefIdeal.nD Cert.DWPleProjRefIdeal.τ).loc Cert.DWPleProjRefIdeal.main_arg0)
          ∧ r.2.mem ((c.tc : Thread Cert.DWPleProjRefIdeal.nD Cert.DWPleProjRefIdeal.τ).loc Cert.DWPleProjRefIdeal.main_arg1) = m' ((c.tc : Thread Cert.DWPleProjRefIdeal.nD Cert.DWPleProjRefIdeal.τ).loc Cert.DWPleProjRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v2) = v0 c
          ∧ r.2.mem ((c.tc : Thread Cert.AdamWOutRefIdeal.nD Cert.AdamWOutRefIdeal.τ).loc Cert.AdamWOutRefIdeal.main_v26) = v1 c
          ∧ r.2.mem ((c.tc : Thread Cert.AdamWOutRefIdeal.nD Cert.AdamWOutRefIdeal.τ).loc Cert.AdamWOutRefIdeal.main_v7) = v2 c
          ∧ r.2.mem ((c.tc : Thread Cert.AdamWOutRefIdeal.nD Cert.AdamWOutRefIdeal.τ).loc Cert.AdamWOutRefIdeal.main_v13) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWPleGate_AdamWPleGateIdeal : Prop :=
  True

def algebraic_AdamWPleGateIdeal_AdamWPleGateRefIdeal [hAdamWPleGateIdeal : Cert.AdamWPleGateIdeal.Facts] [hAdamWPleGateRefIdeal : Cert.AdamWPleGateRefIdeal.Facts] : Prop :=
  ∀ (m : (ℓ : Loc Cert.AdamWPleGateIdeal.nD Cert.AdamWPleGateIdeal.τ Cert.AdamWPleGateIdeal.sig) → Buf (Elt Ideal) ℓ) (g : Dev Cert.AdamWPleGateIdeal.nD → PrngReg)
    (m' : (ℓ : Loc Cert.AdamWPleGateRefIdeal.nD Cert.AdamWPleGateRefIdeal.τ Cert.AdamWPleGateRefIdeal.sig) → Buf (Elt Ideal) ℓ) (g' : Dev Cert.AdamWPleGateRefIdeal.nD → PrngReg), Pre_AdamWPleGateIdeal m →
    (∀ c : Dev Cert.AdamWPleGateIdeal.nD,
      m' ((c.tc : Thread Cert.AdamWPleGateRefIdeal.nD Cert.AdamWPleGateRefIdeal.τ).loc Cert.AdamWPleGateRefIdeal.main_arg0) = m ((c.tc : Thread Cert.AdamWPleGateIdeal.nD Cert.AdamWPleGateIdeal.τ).loc Cert.AdamWPleGateIdeal.main_arg0)
      ∧ m' ((c.tc : Thread Cert.AdamWPleGateRefIdeal.nD Cert.AdamWPleGateRefIdeal.τ).loc Cert.AdamWPleGateRefIdeal.main_arg1) = m ((c.tc : Thread Cert.AdamWPleGateIdeal.nD Cert.AdamWPleGateIdeal.τ).loc Cert.AdamWPleGateIdeal.main_arg1)
      ∧ m' ((c.tc : Thread Cert.AdamWPleGateRefIdeal.nD Cert.AdamWPleGateRefIdeal.τ).loc Cert.AdamWPleGateRefIdeal.main_arg2) = m ((c.tc : Thread Cert.AdamWPleGateIdeal.nD Cert.AdamWPleGateIdeal.τ).loc Cert.AdamWPleGateIdeal.main_arg2)
      ∧ m' ((c.tc : Thread Cert.AdamWPleGateRefIdeal.nD Cert.AdamWPleGateRefIdeal.τ).loc Cert.AdamWPleGateRefIdeal.main_arg3) = m ((c.tc : Thread Cert.AdamWPleGateIdeal.nD Cert.AdamWPleGateIdeal.τ).loc Cert.AdamWPleGateIdeal.main_arg3)) →
    ∃ (v0 : (c : Dev Cert.AdamWPleGateIdeal.nD) → Buf (Elt Ideal) ((c.tc : Thread Cert.AdamWPleGateIdeal.nD Cert.AdamWPleGateIdeal.τ).loc Cert.AdamWPleGateIdeal.main_v0_0)) (v1 : (c : Dev Cert.AdamWPleGateIdeal.nD) → Buf (Elt Ideal) ((c.tc : Thread Cert.AdamWPleGateIdeal.nD Cert.AdamWPleGateIdeal.τ).loc Cert.AdamWPleGateIdeal.main_v0_1)) (v2 : (c : Dev Cert.AdamWPleGateIdeal.nD) → Buf (Elt Ideal) ((c.tc : Thread Cert.AdamWPleGateIdeal.nD Cert.AdamWPleGateIdeal.τ).loc Cert.AdamWPleGateIdeal.main_v0_2)) (v3 : (c : Dev Cert.AdamWPleGateIdeal.nD) → Buf (Elt Ideal) ((c.tc : Thread Cert.AdamWPleGateIdeal.nD Cert.AdamWPleGateIdeal.τ).loc Cert.AdamWPleGateIdeal.main_v0_3)),
      θ_run (Cert.AdamWPleGateIdeal.defs (F := Ideal)) (onTc (τ := Cert.AdamWPleGateIdeal.τ) (Cert.AdamWPleGateIdeal.main (F := Ideal))) ⟨m, fun _ => 0, g⟩ (fun r => ∀ c : Dev Cert.AdamWPleGateIdeal.nD,
          r.2.mem ((c.tc : Thread Cert.AdamWPleGateIdeal.nD Cert.AdamWPleGateIdeal.τ).loc Cert.AdamWPleGateIdeal.main_v0_0) = v0 c
          ∧ r.2.mem ((c.tc : Thread Cert.AdamWPleGateIdeal.nD Cert.AdamWPleGateIdeal.τ).loc Cert.AdamWPleGateIdeal.main_v0_1) = v1 c
          ∧ r.2.mem ((c.tc : Thread Cert.AdamWPleGateIdeal.nD Cert.AdamWPleGateIdeal.τ).loc Cert.AdamWPleGateIdeal.main_v0_2) = v2 c
          ∧ r.2.mem ((c.tc : Thread Cert.AdamWPleGateIdeal.nD Cert.AdamWPleGateIdeal.τ).loc Cert.AdamWPleGateIdeal.main_v0_3) = v3 c
          ∧ r.2.mem ((c.tc : Thread Cert.AdamWPleGateIdeal.nD Cert.AdamWPleGateIdeal.τ).loc Cert.AdamWPleGateIdeal.main_arg0) = m ((c.tc : Thread Cert.AdamWPleGateIdeal.nD Cert.AdamWPleGateIdeal.τ).loc Cert.AdamWPleGateIdeal.main_arg0)
          ∧ r.2.mem ((c.tc : Thread Cert.AdamWPleGateIdeal.nD Cert.AdamWPleGateIdeal.τ).loc Cert.AdamWPleGateIdeal.main_arg1) = m ((c.tc : Thread Cert.AdamWPleGateIdeal.nD Cert.AdamWPleGateIdeal.τ).loc Cert.AdamWPleGateIdeal.main_arg1)
          ∧ r.2.mem ((c.tc : Thread Cert.AdamWPleGateIdeal.nD Cert.AdamWPleGateIdeal.τ).loc Cert.AdamWPleGateIdeal.main_arg2) = m ((c.tc : Thread Cert.AdamWPleGateIdeal.nD Cert.AdamWPleGateIdeal.τ).loc Cert.AdamWPleGateIdeal.main_arg2)
          ∧ r.2.mem ((c.tc : Thread Cert.AdamWPleGateIdeal.nD Cert.AdamWPleGateIdeal.τ).loc Cert.AdamWPleGateIdeal.main_arg3) = m ((c.tc : Thread Cert.AdamWPleGateIdeal.nD Cert.AdamWPleGateIdeal.τ).loc Cert.AdamWPleGateIdeal.main_arg3))
      ∧ θ_run (Cert.AdamWPleGateRefIdeal.defs (F := Ideal)) (onTc (τ := Cert.AdamWPleGateRefIdeal.τ) (Cert.AdamWPleGateRefIdeal.main (F := Ideal))) ⟨m', fun _ => 0, g'⟩ (fun r => ∀ c : Dev Cert.AdamWPleGateRefIdeal.nD,
          r.2.mem ((c.tc : Thread Cert.AdamWPleGateRefIdeal.nD Cert.AdamWPleGateRefIdeal.τ).loc Cert.AdamWPleGateRefIdeal.main_v2) = v0 c
          ∧ r.2.mem ((c.tc : Thread Cert.AdamWPleGateRefIdeal.nD Cert.AdamWPleGateRefIdeal.τ).loc Cert.AdamWPleGateRefIdeal.main_v26) = v1 c
          ∧ r.2.mem ((c.tc : Thread Cert.AdamWPleGateRefIdeal.nD Cert.AdamWPleGateRefIdeal.τ).loc Cert.AdamWPleGateRefIdeal.main_v7) = v2 c
          ∧ r.2.mem ((c.tc : Thread Cert.AdamWPleGateRefIdeal.nD Cert.AdamWPleGateRefIdeal.τ).loc Cert.AdamWPleGateRefIdeal.main_v13) = v3 c
          ∧ r.2.mem ((c.tc : Thread Cert.AdamWPleGateRefIdeal.nD Cert.AdamWPleGateRefIdeal.τ).loc Cert.AdamWPleGateRefIdeal.main_arg0) = m' ((c.tc : Thread Cert.AdamWPleGateRefIdeal.nD Cert.AdamWPleGateRefIdeal.τ).loc Cert.AdamWPleGateRefIdeal.main_arg0)
          ∧ r.2.mem ((c.tc : Thread Cert.AdamWPleGateRefIdeal.nD Cert.AdamWPleGateRefIdeal.τ).loc Cert.AdamWPleGateRefIdeal.main_arg1) = m' ((c.tc : Thread Cert.AdamWPleGateRefIdeal.nD Cert.AdamWPleGateRefIdeal.τ).loc Cert.AdamWPleGateRefIdeal.main_arg1)
          ∧ r.2.mem ((c.tc : Thread Cert.AdamWPleGateRefIdeal.nD Cert.AdamWPleGateRefIdeal.τ).loc Cert.AdamWPleGateRefIdeal.main_arg2) = m' ((c.tc : Thread Cert.AdamWPleGateRefIdeal.nD Cert.AdamWPleGateRefIdeal.τ).loc Cert.AdamWPleGateRefIdeal.main_arg2)
          ∧ r.2.mem ((c.tc : Thread Cert.AdamWPleGateRefIdeal.nD Cert.AdamWPleGateRefIdeal.τ).loc Cert.AdamWPleGateRefIdeal.main_arg3) = m' ((c.tc : Thread Cert.AdamWPleGateRefIdeal.nD Cert.AdamWPleGateRefIdeal.τ).loc Cert.AdamWPleGateRefIdeal.main_arg3))

def preserves_AdamWDown_AdamWDownIdeal : Prop :=
  True

def algebraic_AdamWDownIdeal_AdamWDownRefIdeal [hAdamWDownIdeal : Cert.AdamWDownIdeal.Facts] [hAdamWDownRefIdeal : Cert.AdamWDownRefIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.AdamWDownRefIdeal.nD Cert.AdamWDownRefIdeal.τ Cert.AdamWDownRefIdeal.sig) → Buf (Elt Ideal) ℓ) (g' : Dev Cert.AdamWDownRefIdeal.nD → PrngReg), Pre_AdamWDownIdeal m →
    (∀ c : Dev Cert.AdamWDownIdeal.nD,
      m' ((c.tc : Thread Cert.AdamWDownRefIdeal.nD Cert.AdamWDownRefIdeal.τ).loc Cert.AdamWDownRefIdeal.main_arg0) = m ((c.tc : Thread Cert.AdamWDownIdeal.nD Cert.AdamWDownIdeal.τ).loc Cert.AdamWDownIdeal.main_arg0)
      ∧ m' ((c.tc : Thread Cert.AdamWDownRefIdeal.nD Cert.AdamWDownRefIdeal.τ).loc Cert.AdamWDownRefIdeal.main_arg1) = m ((c.tc : Thread Cert.AdamWDownIdeal.nD Cert.AdamWDownIdeal.τ).loc Cert.AdamWDownIdeal.main_arg1)
      ∧ m' ((c.tc : Thread Cert.AdamWDownRefIdeal.nD Cert.AdamWDownRefIdeal.τ).loc Cert.AdamWDownRefIdeal.main_arg2) = m ((c.tc : Thread Cert.AdamWDownIdeal.nD Cert.AdamWDownIdeal.τ).loc Cert.AdamWDownIdeal.main_arg2)
      ∧ m' ((c.tc : Thread Cert.AdamWDownRefIdeal.nD Cert.AdamWDownRefIdeal.τ).loc Cert.AdamWDownRefIdeal.main_arg3) = m ((c.tc : Thread Cert.AdamWDownIdeal.nD Cert.AdamWDownIdeal.τ).loc Cert.AdamWDownIdeal.main_arg3)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)) (v3 : (c : Dev Cert.AdamWDownIdeal.nD) → Buf (Elt Ideal) ((c.tc : Thread Cert.AdamWDownIdeal.nD Cert.AdamWDownIdeal.τ).loc Cert.AdamWDownIdeal.main_v0_3)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_v0_3) = v3 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ θ_run (Cert.AdamWDownRefIdeal.defs (F := Ideal)) (onTc (τ := Cert.AdamWDownRefIdeal.τ) (Cert.AdamWDownRefIdeal.main (F := Ideal))) ⟨m', fun _ => 0, g'⟩ (fun r => ∀ c : Dev Cert.AdamWDownRefIdeal.nD,
          r.2.mem ((c.tc : Thread Cert.AdamWDownRefIdeal.nD Cert.AdamWDownRefIdeal.τ).loc Cert.AdamWDownRefIdeal.main_v2) = v0 c
          ∧ r.2.mem ((c.tc : Thread Cert.AdamWDownRefIdeal.nD Cert.AdamWDownRefIdeal.τ).loc Cert.AdamWDownRefIdeal.main_v26) = v1 c
          ∧ r.2.mem ((c.tc : Thread Cert.AdamWDownRefIdeal.nD Cert.AdamWDownRefIdeal.τ).loc Cert.AdamWDownRefIdeal.main_v7) = v2 c
          ∧ r.2.mem ((c.tc : Thread Cert.AdamWDownRefIdeal.nD Cert.AdamWDownRefIdeal.τ).loc Cert.AdamWDownRefIdeal.main_v13) = v3 c
          ∧ r.2.mem ((c.tc : Thread Cert.AdamWDownRefIdeal.nD Cert.AdamWDownRefIdeal.τ).loc Cert.AdamWDownRefIdeal.main_arg0) = m' ((c.tc : Thread Cert.AdamWDownRefIdeal.nD Cert.AdamWDownRefIdeal.τ).loc Cert.AdamWDownRefIdeal.main_arg0)
          ∧ r.2.mem ((c.tc : Thread Cert.AdamWDownRefIdeal.nD Cert.AdamWDownRefIdeal.τ).loc Cert.AdamWDownRefIdeal.main_arg1) = m' ((c.tc : Thread Cert.AdamWDownRefIdeal.nD Cert.AdamWDownRefIdeal.τ).loc Cert.AdamWDownRefIdeal.main_arg1)
          ∧ r.2.mem ((c.tc : Thread Cert.AdamWDownRefIdeal.nD Cert.AdamWDownRefIdeal.τ).loc Cert.AdamWDownRefIdeal.main_arg2) = m' ((c.tc : Thread Cert.AdamWDownRefIdeal.nD Cert.AdamWDownRefIdeal.τ).loc Cert.AdamWDownRefIdeal.main_arg2)
          ∧ r.2.mem ((c.tc : Thread Cert.AdamWDownRefIdeal.nD Cert.AdamWDownRefIdeal.τ).loc Cert.AdamWDownRefIdeal.main_arg3) = m' ((c.tc : Thread Cert.AdamWDownRefIdeal.nD Cert.AdamWDownRefIdeal.τ).loc Cert.AdamWDownRefIdeal.main_arg3))

def preserves_AdamWUp_AdamWUpIdeal : Prop :=
  True

def algebraic_AdamWUpIdeal_AdamWUpRefIdeal [hAdamWUpIdeal : Cert.AdamWUpIdeal.Facts] [hAdamWUpRefIdeal : Cert.AdamWUpRefIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg)
    (m' : (ℓ : Loc Cert.AdamWUpRefIdeal.nD Cert.AdamWUpRefIdeal.τ Cert.AdamWUpRefIdeal.sig) → Buf (Elt Ideal) ℓ) (g' : Dev Cert.AdamWUpRefIdeal.nD → PrngReg), Pre_AdamWUpIdeal m →
    (∀ c : Dev Cert.AdamWUpIdeal.nD,
      m' ((c.tc : Thread Cert.AdamWUpRefIdeal.nD Cert.AdamWUpRefIdeal.τ).loc Cert.AdamWUpRefIdeal.main_arg0) = m ((c.tc : Thread Cert.AdamWUpIdeal.nD Cert.AdamWUpIdeal.τ).loc Cert.AdamWUpIdeal.main_arg0)
      ∧ m' ((c.tc : Thread Cert.AdamWUpRefIdeal.nD Cert.AdamWUpRefIdeal.τ).loc Cert.AdamWUpRefIdeal.main_arg1) = m ((c.tc : Thread Cert.AdamWUpIdeal.nD Cert.AdamWUpIdeal.τ).loc Cert.AdamWUpIdeal.main_arg1)
      ∧ m' ((c.tc : Thread Cert.AdamWUpRefIdeal.nD Cert.AdamWUpRefIdeal.τ).loc Cert.AdamWUpRefIdeal.main_arg2) = m ((c.tc : Thread Cert.AdamWUpIdeal.nD Cert.AdamWUpIdeal.τ).loc Cert.AdamWUpIdeal.main_arg2)
      ∧ m' ((c.tc : Thread Cert.AdamWUpRefIdeal.nD Cert.AdamWUpRefIdeal.τ).loc Cert.AdamWUpRefIdeal.main_arg3) = m ((c.tc : Thread Cert.AdamWUpIdeal.nD Cert.AdamWUpIdeal.τ).loc Cert.AdamWUpIdeal.main_arg3)) →
    ∃ (v0 : (c : Dev Cert.AdamWUpIdeal.nD) → Buf (Elt Ideal) ((c.tc : Thread Cert.AdamWUpIdeal.nD Cert.AdamWUpIdeal.τ).loc Cert.AdamWUpIdeal.main_v0_0)) (v1 : (c : Dev Cert.AdamWUpIdeal.nD) → Buf (Elt Ideal) ((c.tc : Thread Cert.AdamWUpIdeal.nD Cert.AdamWUpIdeal.τ).loc Cert.AdamWUpIdeal.main_v0_1)) (v2 : (c : Dev Cert.AdamWUpIdeal.nD) → Buf (Elt Ideal) ((c.tc : Thread Cert.AdamWUpIdeal.nD Cert.AdamWUpIdeal.τ).loc Cert.AdamWUpIdeal.main_v0_2)) (v3 : (c : Dev Cert.AdamWUpIdeal.nD) → Buf (Elt Ideal) ((c.tc : Thread Cert.AdamWUpIdeal.nD Cert.AdamWUpIdeal.τ).loc Cert.AdamWUpIdeal.main_v0_3)),
      θ_run (Cert.AdamWUpIdeal.defs (F := Ideal)) (onTc (τ := Cert.AdamWUpIdeal.τ) (Cert.AdamWUpIdeal.main (F := Ideal))) ⟨m, fun _ => 0, g⟩ (fun r => ∀ c : Dev Cert.AdamWUpIdeal.nD,
          r.2.mem ((c.tc : Thread Cert.AdamWUpIdeal.nD Cert.AdamWUpIdeal.τ).loc Cert.AdamWUpIdeal.main_v0_0) = v0 c
          ∧ r.2.mem ((c.tc : Thread Cert.AdamWUpIdeal.nD Cert.AdamWUpIdeal.τ).loc Cert.AdamWUpIdeal.main_v0_1) = v1 c
          ∧ r.2.mem ((c.tc : Thread Cert.AdamWUpIdeal.nD Cert.AdamWUpIdeal.τ).loc Cert.AdamWUpIdeal.main_v0_2) = v2 c
          ∧ r.2.mem ((c.tc : Thread Cert.AdamWUpIdeal.nD Cert.AdamWUpIdeal.τ).loc Cert.AdamWUpIdeal.main_v0_3) = v3 c
          ∧ r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
          ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
          ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
          ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ θ_run (Cert.AdamWUpRefIdeal.defs (F := Ideal)) (onTc (τ := Cert.AdamWUpRefIdeal.τ) (Cert.AdamWUpRefIdeal.main (F := Ideal))) ⟨m', fun _ => 0, g'⟩ (fun r => ∀ c : Dev Cert.AdamWUpRefIdeal.nD,
          r.2.mem ((c.tc : Thread Cert.AdamWUpRefIdeal.nD Cert.AdamWUpRefIdeal.τ).loc Cert.AdamWUpRefIdeal.main_v1) = v0 c
          ∧ r.2.mem ((c.tc : Thread Cert.AdamWUpRefIdeal.nD Cert.AdamWUpRefIdeal.τ).loc Cert.AdamWUpRefIdeal.main_v25) = v1 c
          ∧ r.2.mem ((c.tc : Thread Cert.AdamWUpRefIdeal.nD Cert.AdamWUpRefIdeal.τ).loc Cert.AdamWUpRefIdeal.main_v6) = v2 c
          ∧ r.2.mem ((c.tc : Thread Cert.AdamWUpRefIdeal.nD Cert.AdamWUpRefIdeal.τ).loc Cert.AdamWUpRefIdeal.main_v12) = v3 c
          ∧ r.2.mem ((c.tc : Thread Cert.AdamWUpRefIdeal.nD Cert.AdamWUpRefIdeal.τ).loc Cert.AdamWUpRefIdeal.main_arg0) = m' ((c.tc : Thread Cert.AdamWUpRefIdeal.nD Cert.AdamWUpRefIdeal.τ).loc Cert.AdamWUpRefIdeal.main_arg0)
          ∧ r.2.mem ((c.tc : Thread Cert.AdamWUpRefIdeal.nD Cert.AdamWUpRefIdeal.τ).loc Cert.AdamWUpRefIdeal.main_arg1) = m' ((c.tc : Thread Cert.AdamWUpRefIdeal.nD Cert.AdamWUpRefIdeal.τ).loc Cert.AdamWUpRefIdeal.main_arg1)
          ∧ r.2.mem ((c.tc : Thread Cert.AdamWUpRefIdeal.nD Cert.AdamWUpRefIdeal.τ).loc Cert.AdamWUpRefIdeal.main_arg2) = m' ((c.tc : Thread Cert.AdamWUpRefIdeal.nD Cert.AdamWUpRefIdeal.τ).loc Cert.AdamWUpRefIdeal.main_arg2)
          ∧ r.2.mem ((c.tc : Thread Cert.AdamWUpRefIdeal.nD Cert.AdamWUpRefIdeal.τ).loc Cert.AdamWUpRefIdeal.main_arg3) = m' ((c.tc : Thread Cert.AdamWUpRefIdeal.nD Cert.AdamWUpRefIdeal.τ).loc Cert.AdamWUpRefIdeal.main_arg3))

def preserves_AdamWPleProj_AdamWPleProjIdeal : Prop :=
  True

def algebraic_AdamWPleProjIdeal_AdamWPleProjRefIdeal [hAdamWPleProjIdeal : Cert.AdamWPleProjIdeal.Facts] [hAdamWPleProjRefIdeal : Cert.AdamWPleProjRefIdeal.Facts] : Prop :=
  ∀ (m : (ℓ : Loc Cert.AdamWPleProjIdeal.nD Cert.AdamWPleProjIdeal.τ Cert.AdamWPleProjIdeal.sig) → Buf (Elt Ideal) ℓ) (g : Dev Cert.AdamWPleProjIdeal.nD → PrngReg)
    (m' : (ℓ : Loc Cert.AdamWPleProjRefIdeal.nD Cert.AdamWPleProjRefIdeal.τ Cert.AdamWPleProjRefIdeal.sig) → Buf (Elt Ideal) ℓ) (g' : Dev Cert.AdamWPleProjRefIdeal.nD → PrngReg), Pre_AdamWPleProjIdeal m →
    (∀ c : Dev Cert.AdamWPleProjIdeal.nD,
      m' ((c.tc : Thread Cert.AdamWPleProjRefIdeal.nD Cert.AdamWPleProjRefIdeal.τ).loc Cert.AdamWPleProjRefIdeal.main_arg0) = m ((c.tc : Thread Cert.AdamWPleProjIdeal.nD Cert.AdamWPleProjIdeal.τ).loc Cert.AdamWPleProjIdeal.main_arg0)
      ∧ m' ((c.tc : Thread Cert.AdamWPleProjRefIdeal.nD Cert.AdamWPleProjRefIdeal.τ).loc Cert.AdamWPleProjRefIdeal.main_arg1) = m ((c.tc : Thread Cert.AdamWPleProjIdeal.nD Cert.AdamWPleProjIdeal.τ).loc Cert.AdamWPleProjIdeal.main_arg1)
      ∧ m' ((c.tc : Thread Cert.AdamWPleProjRefIdeal.nD Cert.AdamWPleProjRefIdeal.τ).loc Cert.AdamWPleProjRefIdeal.main_arg2) = m ((c.tc : Thread Cert.AdamWPleProjIdeal.nD Cert.AdamWPleProjIdeal.τ).loc Cert.AdamWPleProjIdeal.main_arg2)
      ∧ m' ((c.tc : Thread Cert.AdamWPleProjRefIdeal.nD Cert.AdamWPleProjRefIdeal.τ).loc Cert.AdamWPleProjRefIdeal.main_arg3) = m ((c.tc : Thread Cert.AdamWPleProjIdeal.nD Cert.AdamWPleProjIdeal.τ).loc Cert.AdamWPleProjIdeal.main_arg3)) →
    ∃ (v0 : (c : Dev Cert.AdamWPleProjIdeal.nD) → Buf (Elt Ideal) ((c.tc : Thread Cert.AdamWPleProjIdeal.nD Cert.AdamWPleProjIdeal.τ).loc Cert.AdamWPleProjIdeal.main_v0_0)) (v1 : (c : Dev Cert.AdamWPleProjIdeal.nD) → Buf (Elt Ideal) ((c.tc : Thread Cert.AdamWPleProjIdeal.nD Cert.AdamWPleProjIdeal.τ).loc Cert.AdamWPleProjIdeal.main_v0_1)) (v2 : (c : Dev Cert.AdamWPleProjIdeal.nD) → Buf (Elt Ideal) ((c.tc : Thread Cert.AdamWPleProjIdeal.nD Cert.AdamWPleProjIdeal.τ).loc Cert.AdamWPleProjIdeal.main_v0_2)) (v3 : (c : Dev Cert.AdamWPleProjIdeal.nD) → Buf (Elt Ideal) ((c.tc : Thread Cert.AdamWPleProjIdeal.nD Cert.AdamWPleProjIdeal.τ).loc Cert.AdamWPleProjIdeal.main_v0_3)),
      θ_run (Cert.AdamWPleProjIdeal.defs (F := Ideal)) (onTc (τ := Cert.AdamWPleProjIdeal.τ) (Cert.AdamWPleProjIdeal.main (F := Ideal))) ⟨m, fun _ => 0, g⟩ (fun r => ∀ c : Dev Cert.AdamWPleProjIdeal.nD,
          r.2.mem ((c.tc : Thread Cert.AdamWPleProjIdeal.nD Cert.AdamWPleProjIdeal.τ).loc Cert.AdamWPleProjIdeal.main_v0_0) = v0 c
          ∧ r.2.mem ((c.tc : Thread Cert.AdamWPleProjIdeal.nD Cert.AdamWPleProjIdeal.τ).loc Cert.AdamWPleProjIdeal.main_v0_1) = v1 c
          ∧ r.2.mem ((c.tc : Thread Cert.AdamWPleProjIdeal.nD Cert.AdamWPleProjIdeal.τ).loc Cert.AdamWPleProjIdeal.main_v0_2) = v2 c
          ∧ r.2.mem ((c.tc : Thread Cert.AdamWPleProjIdeal.nD Cert.AdamWPleProjIdeal.τ).loc Cert.AdamWPleProjIdeal.main_v0_3) = v3 c
          ∧ r.2.mem ((c.tc : Thread Cert.AdamWPleProjIdeal.nD Cert.AdamWPleProjIdeal.τ).loc Cert.AdamWPleProjIdeal.main_arg0) = m ((c.tc : Thread Cert.AdamWPleProjIdeal.nD Cert.AdamWPleProjIdeal.τ).loc Cert.AdamWPleProjIdeal.main_arg0)
          ∧ r.2.mem ((c.tc : Thread Cert.AdamWPleProjIdeal.nD Cert.AdamWPleProjIdeal.τ).loc Cert.AdamWPleProjIdeal.main_arg1) = m ((c.tc : Thread Cert.AdamWPleProjIdeal.nD Cert.AdamWPleProjIdeal.τ).loc Cert.AdamWPleProjIdeal.main_arg1)
          ∧ r.2.mem ((c.tc : Thread Cert.AdamWPleProjIdeal.nD Cert.AdamWPleProjIdeal.τ).loc Cert.AdamWPleProjIdeal.main_arg2) = m ((c.tc : Thread Cert.AdamWPleProjIdeal.nD Cert.AdamWPleProjIdeal.τ).loc Cert.AdamWPleProjIdeal.main_arg2)
          ∧ r.2.mem ((c.tc : Thread Cert.AdamWPleProjIdeal.nD Cert.AdamWPleProjIdeal.τ).loc Cert.AdamWPleProjIdeal.main_arg3) = m ((c.tc : Thread Cert.AdamWPleProjIdeal.nD Cert.AdamWPleProjIdeal.τ).loc Cert.AdamWPleProjIdeal.main_arg3))
      ∧ θ_run (Cert.AdamWPleProjRefIdeal.defs (F := Ideal)) (onTc (τ := Cert.AdamWPleProjRefIdeal.τ) (Cert.AdamWPleProjRefIdeal.main (F := Ideal))) ⟨m', fun _ => 0, g'⟩ (fun r => ∀ c : Dev Cert.AdamWPleProjRefIdeal.nD,
          r.2.mem ((c.tc : Thread Cert.AdamWPleProjRefIdeal.nD Cert.AdamWPleProjRefIdeal.τ).loc Cert.AdamWPleProjRefIdeal.main_v1) = v0 c
          ∧ r.2.mem ((c.tc : Thread Cert.AdamWPleProjRefIdeal.nD Cert.AdamWPleProjRefIdeal.τ).loc Cert.AdamWPleProjRefIdeal.main_v25) = v1 c
          ∧ r.2.mem ((c.tc : Thread Cert.AdamWPleProjRefIdeal.nD Cert.AdamWPleProjRefIdeal.τ).loc Cert.AdamWPleProjRefIdeal.main_v6) = v2 c
          ∧ r.2.mem ((c.tc : Thread Cert.AdamWPleProjRefIdeal.nD Cert.AdamWPleProjRefIdeal.τ).loc Cert.AdamWPleProjRefIdeal.main_v12) = v3 c
          ∧ r.2.mem ((c.tc : Thread Cert.AdamWPleProjRefIdeal.nD Cert.AdamWPleProjRefIdeal.τ).loc Cert.AdamWPleProjRefIdeal.main_arg0) = m' ((c.tc : Thread Cert.AdamWPleProjRefIdeal.nD Cert.AdamWPleProjRefIdeal.τ).loc Cert.AdamWPleProjRefIdeal.main_arg0)
          ∧ r.2.mem ((c.tc : Thread Cert.AdamWPleProjRefIdeal.nD Cert.AdamWPleProjRefIdeal.τ).loc Cert.AdamWPleProjRefIdeal.main_arg1) = m' ((c.tc : Thread Cert.AdamWPleProjRefIdeal.nD Cert.AdamWPleProjRefIdeal.τ).loc Cert.AdamWPleProjRefIdeal.main_arg1)
          ∧ r.2.mem ((c.tc : Thread Cert.AdamWPleProjRefIdeal.nD Cert.AdamWPleProjRefIdeal.τ).loc Cert.AdamWPleProjRefIdeal.main_arg2) = m' ((c.tc : Thread Cert.AdamWPleProjRefIdeal.nD Cert.AdamWPleProjRefIdeal.τ).loc Cert.AdamWPleProjRefIdeal.main_arg2)
          ∧ r.2.mem ((c.tc : Thread Cert.AdamWPleProjRefIdeal.nD Cert.AdamWPleProjRefIdeal.τ).loc Cert.AdamWPleProjRefIdeal.main_arg3) = m' ((c.tc : Thread Cert.AdamWPleProjRefIdeal.nD Cert.AdamWPleProjRefIdeal.τ).loc Cert.AdamWPleProjRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v1) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v6) = v2 c
          ∧ r.2.mem ((c.tc : Thread Cert.AdamWInRefIdeal.nD Cert.AdamWInRefIdeal.τ).loc Cert.AdamWInRefIdeal.main_v12) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hDHMix : Cert.DHMix.Facts) (hDHMixIdeal : Cert.DHMixIdeal.Facts) (hDHMixRefIdeal : Cert.DHMixRefIdeal.Facts) (hDWIn : Cert.DWIn.Facts) (hDWInIdeal : Cert.DWInIdeal.Facts) (hDWInRefIdeal : Cert.DWInRefIdeal.Facts) (hHidden : Cert.Hidden.Facts) (hHiddenIdeal : Cert.HiddenIdeal.Facts) (hHiddenRefIdeal : Cert.HiddenRefIdeal.Facts) (hDown : Cert.Down.Facts) (hDownIdeal : Cert.DownIdeal.Facts) (hDownRefIdeal : Cert.DownRefIdeal.Facts) (hDWDown : Cert.DWDown.Facts) (hDWDownIdeal : Cert.DWDownIdeal.Facts) (hDWDownRefIdeal : Cert.DWDownRefIdeal.Facts) (hDWUp : Cert.DWUp.Facts) (hDWUpIdeal : Cert.DWUpIdeal.Facts) (hDWUpRefIdeal : Cert.DWUpRefIdeal.Facts) (hDHMlp : Cert.DHMlp.Facts) (hDHMlpIdeal : Cert.DHMlpIdeal.Facts) (hDHMlpRefIdeal : Cert.DHMlpRefIdeal.Facts) (hOutProj : Cert.OutProj.Facts) (hOutProjIdeal : Cert.OutProjIdeal.Facts) (hOutProjRefIdeal : Cert.OutProjRefIdeal.Facts) (hDMixed : Cert.DMixed.Facts) (hDMixedIdeal : Cert.DMixedIdeal.Facts) (hDMixedRefIdeal : Cert.DMixedRefIdeal.Facts) (hDWOut : Cert.DWOut.Facts) (hDWOutIdeal : Cert.DWOutIdeal.Facts) (hDWOutRefIdeal : Cert.DWOutRefIdeal.Facts) (hPle : Cert.Ple.Facts) (hPleIdeal : Cert.PleIdeal.Facts) (hPleRefIdeal : Cert.PleRefIdeal.Facts) (hDWPleProj : Cert.DWPleProj.Facts) (hDWPleProjIdeal : Cert.DWPleProjIdeal.Facts) (hDWPleProjRefIdeal : Cert.DWPleProjRefIdeal.Facts) (hAdamSmall : Cert.AdamSmall.Facts) (hAdamSmallIdeal : Cert.AdamSmallIdeal.Facts) (hAdamSmallRefIdeal : Cert.AdamSmallRefIdeal.Facts) (hAdamWOut : Cert.AdamWOut.Facts) (hAdamWOutIdeal : Cert.AdamWOutIdeal.Facts) (hAdamWOutRefIdeal : Cert.AdamWOutRefIdeal.Facts) (hAdamWPleGate : Cert.AdamWPleGate.Facts) (hAdamWPleGateIdeal : Cert.AdamWPleGateIdeal.Facts) (hAdamWPleGateRefIdeal : Cert.AdamWPleGateRefIdeal.Facts) (hAdamWDown : Cert.AdamWDown.Facts) (hAdamWDownIdeal : Cert.AdamWDownIdeal.Facts) (hAdamWDownRefIdeal : Cert.AdamWDownRefIdeal.Facts) (hAdamWUp : Cert.AdamWUp.Facts) (hAdamWUpIdeal : Cert.AdamWUpIdeal.Facts) (hAdamWUpRefIdeal : Cert.AdamWUpRefIdeal.Facts) (hAdamWPleProj : Cert.AdamWPleProj.Facts) (hAdamWPleProjIdeal : Cert.AdamWPleProjIdeal.Facts) (hAdamWPleProjRefIdeal : Cert.AdamWPleProjRefIdeal.Facts) (hAdamWIn : Cert.AdamWIn.Facts) (hAdamWInIdeal : Cert.AdamWInIdeal.Facts) (hAdamWInRefIdeal : Cert.AdamWInRefIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ quiescent_InProj (hInProj := hInProj)
    ∧ quiescent_InProjIdeal (hInProjIdeal := hInProjIdeal)
    ∧ quiescent_InProjRefIdeal (hInProjRefIdeal := hInProjRefIdeal)
    ∧ quiescent_DHMix (hDHMix := hDHMix)
    ∧ quiescent_DHMixIdeal (hDHMixIdeal := hDHMixIdeal)
    ∧ quiescent_DHMixRefIdeal (hDHMixRefIdeal := hDHMixRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Down (hDown := hDown)
    ∧ quiescent_DownIdeal (hDownIdeal := hDownIdeal)
    ∧ quiescent_DownRefIdeal (hDownRefIdeal := hDownRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DWUp (hDWUp := hDWUp)
    ∧ quiescent_DWUpIdeal (hDWUpIdeal := hDWUpIdeal)
    ∧ quiescent_DWUpRefIdeal (hDWUpRefIdeal := hDWUpRefIdeal)
    ∧ quiescent_DHMlp (hDHMlp := hDHMlp)
    ∧ quiescent_DHMlpIdeal (hDHMlpIdeal := hDHMlpIdeal)
    ∧ quiescent_DHMlpRefIdeal (hDHMlpRefIdeal := hDHMlpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_Ple (hPle := hPle)
    ∧ quiescent_PleIdeal (hPleIdeal := hPleIdeal)
    ∧ quiescent_PleRefIdeal (hPleRefIdeal := hPleRefIdeal)
    ∧ quiescent_DWPleProj (hDWPleProj := hDWPleProj)
    ∧ quiescent_DWPleProjIdeal (hDWPleProjIdeal := hDWPleProjIdeal)
    ∧ quiescent_DWPleProjRefIdeal (hDWPleProjRefIdeal := hDWPleProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWPleGate (hAdamWPleGate := hAdamWPleGate)
    ∧ quiescent_AdamWPleGateIdeal (hAdamWPleGateIdeal := hAdamWPleGateIdeal)
    ∧ quiescent_AdamWPleGateRefIdeal (hAdamWPleGateRefIdeal := hAdamWPleGateRefIdeal)
    ∧ quiescent_AdamWDown (hAdamWDown := hAdamWDown)
    ∧ quiescent_AdamWDownIdeal (hAdamWDownIdeal := hAdamWDownIdeal)
    ∧ quiescent_AdamWDownRefIdeal (hAdamWDownRefIdeal := hAdamWDownRefIdeal)
    ∧ quiescent_AdamWUp (hAdamWUp := hAdamWUp)
    ∧ quiescent_AdamWUpIdeal (hAdamWUpIdeal := hAdamWUpIdeal)
    ∧ quiescent_AdamWUpRefIdeal (hAdamWUpRefIdeal := hAdamWUpRefIdeal)
    ∧ quiescent_AdamWPleProj (hAdamWPleProj := hAdamWPleProj)
    ∧ quiescent_AdamWPleProjIdeal (hAdamWPleProjIdeal := hAdamWPleProjIdeal)
    ∧ quiescent_AdamWPleProjRefIdeal (hAdamWPleProjRefIdeal := hAdamWPleProjRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ preserves_Kernel_KernelIdeal
    ∧ algebraic_KernelIdeal_ReferenceIdeal_pre_regular (hKernelIdeal := hKernelIdeal) (hReferenceIdeal := hReferenceIdeal) (hPre_regular := hPre_regular)
    ∧ preserves_InProj_InProjIdeal
    ∧ algebraic_InProjIdeal_InProjRefIdeal (hInProjIdeal := hInProjIdeal) (hInProjRefIdeal := hInProjRefIdeal)
    ∧ preserves_DHMix_DHMixIdeal
    ∧ algebraic_DHMixIdeal_DHMixRefIdeal (hDHMixIdeal := hDHMixIdeal) (hDHMixRefIdeal := hDHMixRefIdeal)
    ∧ preserves_DWIn_DWInIdeal
    ∧ algebraic_DWInIdeal_DWInRefIdeal (hDWInIdeal := hDWInIdeal) (hDWInRefIdeal := hDWInRefIdeal)
    ∧ preserves_Hidden_HiddenIdeal
    ∧ algebraic_HiddenIdeal_HiddenRefIdeal (hHiddenIdeal := hHiddenIdeal) (hHiddenRefIdeal := hHiddenRefIdeal)
    ∧ preserves_Down_DownIdeal
    ∧ algebraic_DownIdeal_DownRefIdeal (hDownIdeal := hDownIdeal) (hDownRefIdeal := hDownRefIdeal)
    ∧ preserves_DWDown_DWDownIdeal
    ∧ algebraic_DWDownIdeal_DWDownRefIdeal (hDWDownIdeal := hDWDownIdeal) (hDWDownRefIdeal := hDWDownRefIdeal)
    ∧ preserves_DWUp_DWUpIdeal
    ∧ algebraic_DWUpIdeal_DWUpRefIdeal (hDWUpIdeal := hDWUpIdeal) (hDWUpRefIdeal := hDWUpRefIdeal)
    ∧ preserves_DHMlp_DHMlpIdeal
    ∧ algebraic_DHMlpIdeal_DHMlpRefIdeal (hDHMlpIdeal := hDHMlpIdeal) (hDHMlpRefIdeal := hDHMlpRefIdeal)
    ∧ preserves_OutProj_OutProjIdeal
    ∧ algebraic_OutProjIdeal_OutProjRefIdeal (hOutProjIdeal := hOutProjIdeal) (hOutProjRefIdeal := hOutProjRefIdeal)
    ∧ preserves_DMixed_DMixedIdeal
    ∧ algebraic_DMixedIdeal_DMixedRefIdeal (hDMixedIdeal := hDMixedIdeal) (hDMixedRefIdeal := hDMixedRefIdeal)
    ∧ preserves_DWOut_DWOutIdeal
    ∧ algebraic_DWOutIdeal_DWOutRefIdeal (hDWOutIdeal := hDWOutIdeal) (hDWOutRefIdeal := hDWOutRefIdeal)
    ∧ preserves_Ple_PleIdeal
    ∧ algebraic_PleIdeal_PleRefIdeal (hPleIdeal := hPleIdeal) (hPleRefIdeal := hPleRefIdeal)
    ∧ preserves_DWPleProj_DWPleProjIdeal
    ∧ algebraic_DWPleProjIdeal_DWPleProjRefIdeal (hDWPleProjIdeal := hDWPleProjIdeal) (hDWPleProjRefIdeal := hDWPleProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWPleGate_AdamWPleGateIdeal
    ∧ algebraic_AdamWPleGateIdeal_AdamWPleGateRefIdeal (hAdamWPleGateIdeal := hAdamWPleGateIdeal) (hAdamWPleGateRefIdeal := hAdamWPleGateRefIdeal)
    ∧ preserves_AdamWDown_AdamWDownIdeal
    ∧ algebraic_AdamWDownIdeal_AdamWDownRefIdeal (hAdamWDownIdeal := hAdamWDownIdeal) (hAdamWDownRefIdeal := hAdamWDownRefIdeal)
    ∧ preserves_AdamWUp_AdamWUpIdeal
    ∧ algebraic_AdamWUpIdeal_AdamWUpRefIdeal (hAdamWUpIdeal := hAdamWUpIdeal) (hAdamWUpRefIdeal := hAdamWUpRefIdeal)
    ∧ preserves_AdamWPleProj_AdamWPleProjIdeal
    ∧ algebraic_AdamWPleProjIdeal_AdamWPleProjRefIdeal (hAdamWPleProjIdeal := hAdamWPleProjIdeal) (hAdamWPleProjRefIdeal := hAdamWPleProjRefIdeal)
    ∧ preserves_AdamWIn_AdamWInIdeal
    ∧ algebraic_AdamWInIdeal_AdamWInRefIdeal (hAdamWInIdeal := hAdamWInIdeal) (hAdamWInRefIdeal := hAdamWInRefIdeal)
-- ==== Pre_regular.lean ====
abbrev S4096x18432 : Shape := ⟨2, ![4096, 18432]⟩
abbrev S4096x384 : Shape := ⟨2, ![4096, 384]⟩
abbrev S128x1024 : Shape := ⟨2, ![128, 1024]⟩
abbrev S1x1024 : Shape := ⟨2, ![1, 1024]⟩
abbrev S1x512 : Shape := ⟨2, ![1, 512]⟩
abbrev S4096x2048 : Shape := ⟨2, ![4096, 2048]⟩
abbrev S4096x6144 : Shape := ⟨2, ![4096, 6144]⟩
abbrev S_ : Shape := ⟨0, ![]⟩
abbrev S4096x128 : Shape := ⟨2, ![4096, 128]⟩
abbrev S4096x1024 : Shape := ⟨2, ![4096, 1024]⟩

class Facts : Prop where
  slices_S4096x18432_S4096x6144_0_0 : S4096x18432.Slices ![0, 0] S4096x6144
  bcast_S_S4096x6144 : S_.BroadcastsInDim S4096x6144 (![] : Fin 0 → Fin S4096x6144.rank)
  reducesTo_S4096x6144_S_d0_1 : S4096x6144.ReducesTo [0, 1] S_
  h_S_ : 0 < S_.numel
  slices_S4096x18432_S4096x2048_0_14336 : S4096x18432.Slices ![0, 14336] S4096x2048
  bcast_S_S4096x2048 : S_.BroadcastsInDim S4096x2048 (![] : Fin 0 → Fin S4096x2048.rank)
  reducesTo_S4096x2048_S_d0_1 : S4096x2048.ReducesTo [0, 1] S_
  slices_S4096x384_S4096x128_0_0 : S4096x384.Slices ![0, 0] S4096x128
  bcast_S_S4096x128 : S_.BroadcastsInDim S4096x128 (![] : Fin 0 → Fin S4096x128.rank)
  reducesTo_S4096x128_S_d0_1 : S4096x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x512 : S_.BroadcastsInDim S1x512 (![] : Fin 0 → Fin S1x512.rank)
  reducesTo_S1x512_S_d0_1 : S1x512.ReducesTo [0, 1] S_
  bitsLt_bf16_f32 : FTy.bits .bf16 < FTy.bits .f32
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  reducesTo_S4096x1024_S_d0_1 : S4096x1024.ReducesTo [0, 1] S_
  dot_S4096x128_S128x1024_S4096x1024_1_0_0_1_n_n_wf : DotDims.WF S4096x128 S128x1024 S4096x1024 [1] [0] [0] [1] [] []

variable [Facts]

def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def fn_part2 {F : FTy → Type} [FloatOps F] (main_arg1 : FVec F S4096x384 .f32) (main_arg2 : FVec F S128x1024 .f32) (main_arg3 : FVec F S1x1024 .f32) (main_v31 : IVec S_ 1) (main_v33 : FVec F S4096x2048 .f32) (main_v34 : FVec F S4096x2048 .f32) : IVec S_ 1 :=
  let main_v35 : IVec S4096x2048 1 := cmpf .olt main_v33 main_v34
  let main_c_11 : IVec S_ 1 := constantI S_ 1 1#1
  let main_v36 : IVec S_ 1 := (fun x v => Host.reduce IntOp.andi x v reducesTo_S4096x2048_S_d0_1 h_S_) main_v35 main_c_11
  let main_v37 : IVec S_ 1 := andi main_v31 main_v36
  let main_v38 : FVec F S4096x128 .f32 := (extractStridedSlice S4096x128 ![0, 0] · slices_S4096x384_S4096x128_0_0) main_arg1
  let main_v39 : FVec F S4096x1024 .f32 := (fun l r => Host.dotGeneral dot_S4096x128_S128x1024_S4096x1024_1_0_0_1_n_n none l r) main_v38 main_arg2
  let main_v40 : FVec F S4096x1024 .f32 := broadcastInDim S4096x1024 ![0, 1] bcast_S1x1024_S4096x1024_0_1 main_arg3
  let main_v41 : FVec F S4096x1024 .f32 := addf main_v39 main_v40
  let main_cst_12 : FVec F S_ .f32 := constant S_ .f32 0x00000000#32
  let main_v42 : FVec F S4096x1024 .f32 := broadcastInDim S4096x1024 ![] bcast_S_S4096x1024 main_cst_12
  let main_v43 : IVec S4096x1024 1 := cmpf .une main_v41 main_v42
  let main_c_13 : IVec S_ 1 := constantI S_ 1 1#1
  let main_v44 : IVec S_ 1 := (fun x v => Host.reduce IntOp.andi x v reducesTo_S4096x1024_S_d0_1 h_S_) main_v43 main_c_13
  let main_v45 : IVec S_ 1 := andi main_v37 main_v44
  main_v45

def fn_part1 {F : FTy → Type} [FloatOps F] (main_arg1 : FVec F S4096x384 .f32) (main_arg2 : FVec F S128x1024 .f32) (main_arg3 : FVec F S1x1024 .f32) (main_arg4 : FVec F S1x512 .f32) (main_arg5 : FVec F S4096x2048 .bf16) (main_v16 : IVec S_ 1) (main_v17 : FVec F S128x1024 .f32) : IVec S_ 1 :=
  let main_cst_4 : FVec F S_ .f32 := constant S_ .f32 0x7F800000#32
  let main_v18 : FVec F S128x1024 .f32 := broadcastInDim S128x1024 ![] bcast_S_S128x1024 main_cst_4
  let main_v19 : IVec S128x1024 1 := cmpf .olt main_v17 main_v18
  let main_c_5 : IVec S_ 1 := constantI S_ 1 1#1
  let main_v20 : IVec S_ 1 := (fun x v => Host.reduce IntOp.andi x v reducesTo_S128x1024_S_d0_1 h_S_) main_v19 main_c_5
  let main_v21 : IVec S_ 1 := andi main_v16 main_v20
  let main_v22 : FVec F S1x1024 .f32 := Host.absf main_arg3
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  let main_v27 : FVec F S1x512 .f32 := Host.absf main_arg4
  let main_cst_8 : FVec F S_ .f32 := constant S_ .f32 0x7F800000#32
  let main_v28 : FVec F S1x512 .f32 := broadcastInDim S1x512 ![] bcast_S_S1x512 main_cst_8
  let main_v29 : IVec S1x512 1 := cmpf .olt main_v27 main_v28
  let main_c_9 : IVec S_ 1 := constantI S_ 1 1#1
  let main_v30 : IVec S_ 1 := (fun x v => Host.reduce IntOp.andi x v reducesTo_S1x512_S_d0_1 h_S_) main_v29 main_c_9
  let main_v31 : IVec S_ 1 := andi main_v26 main_v30
  let main_v32 : FVec F S4096x2048 .f32 := (extf .f32 · bitsLt_bf16_f32) main_arg5
  let main_v33 : FVec F S4096x2048 .f32 := Host.absf main_v32
  let main_cst_10 : FVec F S_ .f32 := constant S_ .f32 0x7F800000#32
  let main_v34 : FVec F S4096x2048 .f32 := broadcastInDim S4096x2048 ![] bcast_S_S4096x2048 main_cst_10
  fn_part2 (F := F) main_arg1 main_arg2 main_arg3 main_v31 main_v33 main_v34

def fn {F : FTy → Type} [FloatOps F] (main_arg0 : FVec F S4096x18432 .f32) (main_arg1 : FVec F S4096x384 .f32) (main_arg2 : FVec F S128x1024 .f32) (main_arg3 : FVec F S1x1024 .f32) (main_arg4 : FVec F S1x512 .f32) (main_arg5 : FVec F S4096x2048 .bf16) : IVec S_ 1 :=
  let main_v0 : FVec F S4096x6144 .f32 := (extractStridedSlice S4096x6144 ![0, 0] · slices_S4096x18432_S4096x6144_0_0) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x2048 .f32 := (extractStridedSlice S4096x2048 ![0, 14336] · slices_S4096x18432_S4096x2048_0_14336) main_arg0
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x128 .f32 := (extractStridedSlice S4096x128 ![0, 0] · slices_S4096x384_S4096x128_0_0) main_arg1
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S128x1024 .f32 := Host.absf main_arg2
  fn_part1 (F := F) main_arg1 main_arg2 main_arg3 main_arg4 main_arg5 main_v16 main_v17
-- ==== Kernel.lean ====
abbrev S4096x18432 : Shape := ⟨2, ![4096, 18432]⟩
abbrev S4096x384 : Shape := ⟨2, ![4096, 384]⟩
abbrev S128x1024 : Shape := ⟨2, ![128, 1024]⟩
abbrev S1x1024 : Shape := ⟨2, ![1, 1024]⟩
abbrev S1x512 : Shape := ⟨2, ![1, 512]⟩
abbrev S4096x2048 : Shape := ⟨2, ![4096, 2048]⟩
abbrev S2x32x4x512x256 : Shape := ⟨5, ![2, 32, 4, 512, 256]⟩
abbrev S64x1024 : Shape := ⟨2, ![64, 1024]⟩
abbrev S64x2048 : Shape := ⟨2, ![64, 2048]⟩
abbrev S64x128 : Shape := ⟨2, ![64, 128]⟩
abbrev S1x1x4x512x256 : Shape := ⟨5, ![1, 1, 4, 512, 256]⟩
abbrev S4x512x256 : Shape := ⟨3, ![4, 512, 256]⟩
abbrev S64x256 : Shape := ⟨2, ![64, 256]⟩
abbrev S1x64x256 : Shape := ⟨3, ![1, 64, 256]⟩
abbrev S4x64x256 : Shape := ⟨3, ![4, 64, 256]⟩
abbrev S64x512 : Shape := ⟨2, ![64, 512]⟩
abbrev S1x64x512 : Shape := ⟨3, ![1, 64, 512]⟩
abbrev S4x64x512 : Shape := ⟨3, ![4, 64, 512]⟩
abbrev S128x256 : Shape := ⟨2, ![128, 256]⟩
abbrev S1x128x256 : Shape := ⟨3, ![1, 128, 256]⟩
abbrev S4x128x256 : Shape := ⟨3, ![4, 128, 256]⟩
abbrev S1x256 : Shape := ⟨2, ![1, 256]⟩
abbrev S1x1x256 : Shape := ⟨3, ![1, 1, 256]⟩
abbrev S4x1x256 : Shape := ⟨3, ![4, 1, 256]⟩
abbrev S64x64 : Shape := ⟨2, ![64, 64]⟩
abbrev S1x64x64 : Shape := ⟨3, ![1, 64, 64]⟩
abbrev S4x64x64 : Shape := ⟨3, ![4, 64, 64]⟩
abbrev S1x64x128 : Shape := ⟨3, ![1, 64, 128]⟩
abbrev S4x64x128 : Shape := ⟨3, ![4, 64, 128]⟩
abbrev S4x256 : Shape := ⟨2, ![4, 256]⟩
abbrev S4x64 : Shape := ⟨2, ![4, 64]⟩
abbrev S4x64x1 : Shape := ⟨3, ![4, 64, 1]⟩
abbrev S1x1x512 : Shape := ⟨3, ![1, 1, 512]⟩
abbrev S4096x1024 : Shape := ⟨2, ![4096, 1024]⟩
abbrev S4096x128 : Shape := ⟨2, ![4096, 128]⟩
abbrev S512 : Shape := ⟨1, ![512]⟩
abbrev S4x256x64 : Shape := ⟨3, ![4, 256, 64]⟩
abbrev S4x512x64 : Shape := ⟨3, ![4, 512, 64]⟩
abbrev S4x256x128 : Shape := ⟨3, ![4, 256, 128]⟩

abbrev nBuf : Space → Nat
  | .hbm => 17
  | .vmem => 55
  | .smem => 0
  | _ => 0

abbrev bufTy : (tb : Table) → Fin (tcTables nBuf tb) → BufTy
  | .hbm, ⟨0, _⟩ => ⟨S4096x18432, .f32⟩
  | .hbm, ⟨1, _⟩ => ⟨S4096x384, .f32⟩
  | .hbm, ⟨2, _⟩ => ⟨S128x1024, .f32⟩
  | .hbm, ⟨3, _⟩ => ⟨S1x1024, .f32⟩
  | .hbm, ⟨4, _⟩ => ⟨S1x512, .f32⟩
  | .hbm, ⟨5, _⟩ => ⟨S4096x2048, .bf16⟩
  | .hbm, ⟨6, _⟩ => ⟨S4096x2048, .f32⟩
  | .hbm, ⟨7, _⟩ => ⟨S2x32x4x512x256, .f32⟩
  | .hbm, ⟨8, _⟩ => ⟨S4096x1024, .bf16⟩
  | .hbm, ⟨9, _⟩ => ⟨S4096x1024, .bf16⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x128, .f32⟩
  | .hbm, ⟨14, _⟩ => ⟨S4x128x256, .f32⟩
  | .hbm, ⟨15, _⟩ => ⟨S4x1x256, .f32⟩
  | .hbm, ⟨16, _⟩ => ⟨S1x512, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x128, .f32⟩
  | .local _ .vmem, ⟨11, _⟩ => ⟨S64x128, .f32⟩
  | .local _ .vmem, ⟨12, _⟩ => ⟨S128x1024, .f32⟩
  | .local _ .vmem, ⟨13, _⟩ => ⟨S1x1024, .f32⟩
  | .local _ .vmem, ⟨14, _⟩ => ⟨S1x512, .f32⟩
  | .local _ .vmem, ⟨15, _⟩ => ⟨S64x2048, .f32⟩
  | .local _ .vmem, ⟨16, _⟩ => ⟨S64x2048, .f32⟩
  | .local _ .vmem, ⟨17, _⟩ => ⟨S1x1x4x512x256, .f32⟩
  | .local _ .vmem, ⟨18, _⟩ => ⟨S1x1x4x512x256, .f32⟩
  | .local _ .vmem, ⟨19, _⟩ => ⟨S4x512x256, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S64x2048, .f32⟩
  | .local _ .vmem, ⟨29, _⟩ => ⟨S64x2048, .f32⟩
  | .local _ .vmem, ⟨30, _⟩ => ⟨S64x128, .f32⟩
  | .local _ .vmem, ⟨31, _⟩ => ⟨S64x128, .f32⟩
  | .local _ .vmem, ⟨32, _⟩ => ⟨S128x1024, .f32⟩
  | .local _ .vmem, ⟨33, _⟩ => ⟨S1x1024, .f32⟩
  | .local _ .vmem, ⟨34, _⟩ => ⟨S1x512, .f32⟩
  | .local _ .vmem, ⟨35, _⟩ => ⟨S1x1x4x512x256, .f32⟩
  | .local _ .vmem, ⟨36, _⟩ => ⟨S1x1x4x512x256, .f32⟩
  | .local _ .vmem, ⟨37, _⟩ => ⟨S64x2048, .bf16⟩
  | .local _ .vmem, ⟨38, _⟩ => ⟨S64x2048, .bf16⟩
  | .local _ .vmem, ⟨39, _⟩ => ⟨S64x1024, .bf16⟩
  | .local _ .vmem, ⟨40, _⟩ => ⟨S64x1024, .bf16⟩
  | .local _ .vmem, ⟨41, _⟩ => ⟨S64x1024, .bf16⟩
  | .local _ .vmem, ⟨42, _⟩ => ⟨S64x1024, .bf16⟩
  | .local _ .vmem, ⟨43, _⟩ => ⟨S64x2048, .bf16⟩
  | .local _ .vmem, ⟨44, _⟩ => ⟨S64x2048, .bf16⟩
  | .local _ .vmem, ⟨45, _⟩ => ⟨S64x2048, .bf16⟩
  | .local _ .vmem, ⟨46, _⟩ => ⟨S64x2048, .bf16⟩
  | .local _ .vmem, ⟨47, _⟩ => ⟨S64x2048, .bf16⟩
  | .local _ .vmem, ⟨48, _⟩ => ⟨S64x2048, .bf16⟩
  | .local _ .vmem, ⟨49, _⟩ => ⟨S64x128, .f32⟩
  | .local _ .vmem, ⟨50, _⟩ => ⟨S64x128, .f32⟩
  | .local _ .vmem, ⟨51, _⟩ => ⟨S4x128x256, .f32⟩
  | .local _ .vmem, ⟨52, _⟩ => ⟨S4x1x256, .f32⟩
  | .local _ .vmem, ⟨53, _⟩ => ⟨S1x512, .f32⟩
  | .local _ .vmem, ⟨54, _⟩ => ⟨S4x512x256, .f32⟩
  | _, _ => ⟨S4096x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev main_v1_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_stg14_0 : Ref sig .tc := ⟨.vmem, 45, rfl⟩
abbrev cc1_stg14_1 : Ref sig .tc := ⟨.vmem, 46, rfl⟩
abbrev cc1_stg15_0 : Ref sig .tc := ⟨.vmem, 47, rfl⟩
abbrev cc1_stg15_1 : Ref sig .tc := ⟨.vmem, 48, rfl⟩
abbrev cc1_stg16_0 : Ref sig .tc := ⟨.vmem, 49, rfl⟩
abbrev cc1_stg16_1 : Ref sig .tc := ⟨.vmem, 50, rfl⟩
abbrev cc1_stg17_0 : Ref sig .tc := ⟨.vmem, 51, rfl⟩
abbrev cc1_stg18_0 : Ref sig .tc := ⟨.vmem, 52, rfl⟩
abbrev cc1_stg19_0 : Ref sig .tc := ⟨.vmem, 53, rfl⟩
abbrev cc1_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45
abbrev cc1_sem15_0 : DmaSem sig := 46
abbrev cc1_sem15_1 : DmaSem sig := 47
abbrev cc1_sem16_0 : DmaSem sig := 48
abbrev cc1_sem16_1 : DmaSem sig := 49
abbrev cc1_sem17_0 : DmaSem sig := 50
abbrev cc1_sem18_0 : DmaSem sig := 51
abbrev cc1_sem19_0 : DmaSem sig := 52

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c1_i32 : BitVec 32 := 1#32
  let c0_i32 : BitVec 32 := 0#32
  ![v2.toNat, c1_i32.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c1_i32 : BitVec 32 := 1#32
  let c0_i32 : BitVec 32 := 0#32
  ![v2.toNat, c1_i32.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c2_i32 : BitVec 32 := 2#32
  let c0_i32 : BitVec 32 := 0#32
  ![v2.toNat, c2_i32.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c7_i32 : BitVec 32 := 7#32
  let c0_i32 : BitVec 32 := 0#32
  ![v2.toNat, c7_i32.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc1_transform_10 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_11 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_12 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_13 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_14 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_15 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_16 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_18 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1x4x512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S64x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S64x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S64x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S64x2048 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S64x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S64x2048 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S64x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 1 → Memref sig .tc .vmem S4x128x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S4x1x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]
-- ==== ReferenceIdeal.lean ====
abbrev S4096x18432 : Shape := ⟨2, ![4096, 18432]⟩
abbrev S4096x384 : Shape := ⟨2, ![4096, 384]⟩
abbrev S128x1024 : Shape := ⟨2, ![128, 1024]⟩
abbrev S1x1024 : Shape := ⟨2, ![1, 1024]⟩
abbrev S1x512 : Shape := ⟨2, ![1, 512]⟩
abbrev S4096x2048 : Shape := ⟨2, ![4096, 2048]⟩
abbrev S2x2048x18432 : Shape := ⟨3, ![2, 2048, 18432]⟩
abbrev S2x2048x384 : Shape := ⟨3, ![2, 2048, 384]⟩
abbrev S2x2048x128 : Shape := ⟨3, ![2, 2048, 128]⟩
abbrev S2x2048x1024 : Shape := ⟨3, ![2, 2048, 1024]⟩
abbrev S2x2048x2048 : Shape := ⟨3, ![2, 2048, 2048]⟩
abbrev S1024 : Shape := ⟨1, ![1024]⟩
abbrev S512 : Shape := ⟨1, ![512]⟩
abbrev S1x1x1024 : Shape := ⟨3, ![1, 1, 1024]⟩
abbrev S_ : Shape := ⟨0, ![]⟩
abbrev S2x2048x4x256 : Shape := ⟨4, ![2, 2048, 4, 256]⟩
abbrev S2x4x2048x256 : Shape := ⟨4, ![2, 4, 2048, 256]⟩
abbrev S2x2048x4x512 : Shape := ⟨4, ![2, 2048, 4, 512]⟩
abbrev S2x4x2048x512 : Shape := ⟨4, ![2, 4, 2048, 512]⟩
abbrev S2048x2048 : Shape := ⟨2, ![2048, 2048]⟩
abbrev S2x4x2048x2048 : Shape := ⟨4, ![2, 4, 2048, 2048]⟩
abbrev S2x4x2048 : Shape := ⟨3, ![2, 4, 2048]⟩
abbrev S2x4x2048x1 : Shape := ⟨4, ![2, 4, 2048, 1]⟩
abbrev S1x1x1x512 : Shape := ⟨4, ![1, 1, 1, 512]⟩
abbrev S2x4x512x2048 : Shape := ⟨4, ![2, 4, 512, 2048]⟩
abbrev S1024x128 : Shape := ⟨2, ![1024, 128]⟩
abbrev S4096x1024 : Shape := ⟨2, ![4096, 1024]⟩
abbrev S4096x128 : Shape := ⟨2, ![4096, 128]⟩
abbrev S128x4x256 : Shape := ⟨3, ![128, 4, 256]⟩
abbrev S4x128x256 : Shape := ⟨3, ![4, 128, 256]⟩
abbrev S4x1x256 : Shape := ⟨3, ![4, 1, 256]⟩

abbrev nBuf : Space → Nat
  | .hbm => 257
  | .vmem => 0
  | .smem => 0
  | _ => 0

abbrev hbmTy0_0 (i : Nat) : BufTy := match i % 128 with
  | 0 => ⟨S4096x18432, .f32⟩
  | 1 => ⟨S4096x384, .f32⟩
  | 2 => ⟨S128x1024, .f32⟩
  | 3 => ⟨S1x1024, .f32⟩
  | 4 => ⟨S1x512, .f32⟩
  | 5 => ⟨S4096x2048, .bf16⟩
  | 6 => ⟨S2x2048x18432, .f32⟩
  | 7 => ⟨S2x2048x384, .f32⟩
  | 8 => ⟨S2x2048x128, .f32⟩
  | 9 => ⟨S2x2048x1024, .f32⟩
  | 10 => ⟨S2x2048x1024, .f32⟩
  | 11 => ⟨S2x2048x2048, .f32⟩
  | 12 => ⟨S2x2048x2048, .f32⟩
  | 13 => ⟨S2x2048x2048, .f32⟩
  | 14 => ⟨S4096x2048, .f32⟩
  | 15 => ⟨S2x2048x2048, .f32⟩
  | 16 => ⟨S1024, .f32⟩
  | 17 => ⟨S512, .f32⟩
  | 18 => ⟨S2x2048x1024, .f32⟩
  | 19 => ⟨S1x1x1024, .f32⟩
  | 20 => ⟨S2x2048x1024, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .i1⟩
  | 29 => ⟨S2x2048x1024, .f32⟩
  | 30 => ⟨S2x2048x1024, .f32⟩
  | 31 => ⟨S2x2048x1024, .f32⟩
  | 32 => ⟨S2x2048x1024, .f32⟩
  | 33 => ⟨S2x2048x1024, .f32⟩
  | 34 => ⟨S2x2048x1024, .f32⟩
  | 35 => ⟨S2x2048x1024, .f32⟩
  | 36 => ⟨S2x2048x1024, .f32⟩
  | 37 => ⟨S_, .f32⟩
  | 38 => ⟨S2x2048x1024, .f32⟩
  | 39 => ⟨S2x2048x1024, .i1⟩
  | 40 => ⟨S_, .f32⟩
  | 41 => ⟨S2x2048x1024, .f32⟩
  | 42 => ⟨S2x2048x1024, .f32⟩
  | 43 => ⟨S_, .f32⟩
  | 44 => ⟨S2x2048x1024, .f32⟩
  | 45 => ⟨S2x2048x1024, .i1⟩
  | 46 => ⟨S_, .f32⟩
  | 47 => ⟨S2x2048x1024, .f32⟩
  | 48 => ⟨S2x2048x1024, .f32⟩
  | 49 => ⟨S2x2048x1024, .f32⟩
  | 50 => ⟨S2x2048x1024, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x2048x1024, .f32⟩
  | 59 => ⟨S2x2048x1024, .i1⟩
  | 60 => ⟨S_, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S_, .f32⟩
  | 67 => ⟨S2x2048x1024, .f32⟩
  | 68 => ⟨S2x2048x1024, .f32⟩
  | 69 => ⟨S2x2048x1024, .f32⟩
  | 70 => ⟨S_, .f32⟩
  | 71 => ⟨S2x2048x1024, .f32⟩
  | 72 => ⟨S2x2048x1024, .f32⟩
  | 73 => ⟨S2x2048x4x256, .f32⟩
  | 74 => ⟨S2x4x2048x256, .f32⟩
  | 75 => ⟨S_, .f32⟩
  | 76 => ⟨S2x4x2048x256, .f32⟩
  | 77 => ⟨S2x4x2048x256, .f32⟩
  | 78 => ⟨S2x2048x4x256, .f32⟩
  | 79 => ⟨S2x4x2048x256, .f32⟩
  | 80 => ⟨S2x2048x4x512, .f32⟩
  | 81 => ⟨S2x4x2048x512, .f32⟩
  | 82 => ⟨S2x2048x4x256, .f32⟩
  | 83 => ⟨S2x4x2048x256, .f32⟩
  | 84 => ⟨S_, .f32⟩
  | 85 => ⟨S_, .f32⟩
  | 86 => ⟨S2x4x2048x256, .f32⟩
  | 87 => ⟨S2x4x2048x256, .f32⟩
  | 88 => ⟨S2x4x2048x256, .f32⟩
  | 89 => ⟨S2x4x2048x256, .f32⟩
  | 90 => ⟨S2x4x2048x256, .f32⟩
  | 91 => ⟨S2x4x2048x256, .f32⟩
  | 92 => ⟨S_, .i1⟩
  | 93 => ⟨S2048x2048, .i1⟩
  | 94 => ⟨S2048x2048, .i32⟩
  | 95 => ⟨S_, .i32⟩
  | 96 => ⟨S2048x2048, .i32⟩
  | 97 => ⟨S2048x2048, .i32⟩
  | 98 => ⟨S2048x2048, .i32⟩
  | 99 => ⟨S2048x2048, .i1⟩
  | 100 => ⟨S_, .i1⟩
  | 101 => ⟨S2048x2048, .i1⟩
  | 102 => ⟨S2048x2048, .i1⟩
  | 103 => ⟨S2x4x2048x2048, .f32⟩
  | 104 => ⟨S_, .f32⟩
  | 105 => ⟨S_, .f32⟩
  | 106 => ⟨S2x4x2048x2048, .i1⟩
  | 107 => ⟨S2x4x2048x2048, .f32⟩
  | 108 => ⟨S2x4x2048x2048, .f32⟩
  | 109 => ⟨S_, .f32⟩
  | 110 => ⟨S2x4x2048x2048, .f32⟩
  | 111 => ⟨S2x4x2048x512, .f32⟩
  | 112 => ⟨S2x4x2048x512, .f32⟩
  | 113 => ⟨S_, .f32⟩
  | 114 => ⟨S2x4x2048, .f32⟩
  | 115 => ⟨S2x4x2048x1, .f32⟩
  | 116 => ⟨S_, .f32⟩
  | 117 => ⟨S2x4x2048x1, .f32⟩
  | 118 => ⟨S2x4x2048x1, .f32⟩
  | 119 => ⟨S_, .f32⟩
  | 120 => ⟨S2x4x2048x1, .f32⟩
  | 121 => ⟨S2x4x2048x1, .f32⟩
  | 122 => ⟨S2x4x2048x1, .f32⟩
  | 123 => ⟨S2x4x2048x1, .f32⟩
  | 124 => ⟨S_, .f32⟩
  | 125 => ⟨S2x4x2048x1, .f32⟩
  | 126 => ⟨S2x4x2048x1, .f32⟩
  | 127 => ⟨S2x4x2048x512, .f32⟩
  | _ => ⟨S4096x18432, .f32⟩

abbrev hbmTy0_1 (i : Nat) : BufTy := match i % 128 with
  | 0 => ⟨S2x4x2048x512, .f32⟩
  | 1 => ⟨S1x1x1x512, .f32⟩
  | 2 => ⟨S2x4x2048x512, .f32⟩
  | 3 => ⟨S2x4x2048x512, .f32⟩
  | 4 => ⟨S2x2048x4x512, .f32⟩
  | 5 => ⟨S2x2048x2048, .f32⟩
  | 6 => ⟨S2x2048x2048, .f32⟩
  | 7 => ⟨S2x2048x2048, .f32⟩
  | 8 => ⟨S_, .f32⟩
  | 9 => ⟨S2x2048x2048, .f32⟩
  | 10 => ⟨S2x2048x2048, .f32⟩
  | 11 => ⟨S_, .f32⟩
  | 12 => ⟨S2x2048x2048, .f32⟩
  | 13 => ⟨S2x2048x2048, .f32⟩
  | 14 => ⟨S_, .f32⟩
  | 15 => ⟨S2x2048x2048, .f32⟩
  | 16 => ⟨S2x2048x2048, .f32⟩
  | 17 => ⟨S2x2048x2048, .f32⟩
  | 18 => ⟨S2x2048x2048, .f32⟩
  | 19 => ⟨S2x2048x2048, .f32⟩
  | 20 => ⟨S2x2048x2048, .f32⟩
  | 21 => ⟨S2x2048x2048, .f32⟩
  | 22 => ⟨S_, .f32⟩
  | 23 => ⟨S2x2048x2048, .f32⟩
  | 24 => ⟨S2x2048x2048, .f32⟩
  | 25 => ⟨S_, .f32⟩
  | 26 => ⟨S2x2048x2048, .f32⟩
  | 27 => ⟨S2x2048x2048, .f32⟩
  | 28 => ⟨S_, .f32⟩
  | 29 => ⟨S2x2048x2048, .f32⟩
  | 30 => ⟨S2x2048x2048, .f32⟩
  | 31 => ⟨S2x2048x2048, .f32⟩
  | 32 => ⟨S2x2048x2048, .f32⟩
  | 33 => ⟨S2x2048x2048, .f32⟩
  | 34 => ⟨S2x2048x2048, .f32⟩
  | 35 => ⟨S2x2048x2048, .f32⟩
  | 36 => ⟨S2x2048x2048, .f32⟩
  | 37 => ⟨S2x2048x2048, .f32⟩
  | 38 => ⟨S2x2048x2048, .f32⟩
  | 39 => ⟨S2x2048x2048, .f32⟩
  | 40 => ⟨S2x2048x2048, .f32⟩
  | 41 => ⟨S2x2048x2048, .f32⟩
  | 42 => ⟨S2x2048x4x512, .f32⟩
  | 43 => ⟨S2x4x2048x512, .f32⟩
  | 44 => ⟨S2x4x2048x512, .f32⟩
  | 45 => ⟨S_, .f32⟩
  | 46 => ⟨S512, .f32⟩
  | 47 => ⟨S1x1x1x512, .f32⟩
  | 48 => ⟨S2x4x2048x512, .f32⟩
  | 49 => ⟨S2x4x2048x512, .f32⟩
  | 50 => ⟨S_, .f32⟩
  | 51 => ⟨S512, .f32⟩
  | 52 => ⟨S2x4x2048x512, .f32⟩
  | 53 => ⟨S_, .f32⟩
  | 54 => ⟨S2x4x2048, .f32⟩
  | 55 => ⟨S2x4x2048x1, .f32⟩
  | 56 => ⟨S2x4x2048x512, .f32⟩
  | 57 => ⟨S2x4x2048x512, .f32⟩
  | 58 => ⟨S2x4x2048x1, .f32⟩
  | 59 => ⟨S_, .f32⟩
  | 60 => ⟨S2x4x2048x1, .f32⟩
  | 61 => ⟨S2x4x2048x1, .f32⟩
  | 62 => ⟨S_, .f32⟩
  | 63 => ⟨S2x4x2048, .f32⟩
  | 64 => ⟨S2x4x2048x512, .f32⟩
  | 65 => ⟨S2x4x2048x512, .f32⟩
  | 66 => ⟨S2x4x2048x512, .f32⟩
  | 67 => ⟨S2x4x2048x512, .f32⟩
  | 68 => ⟨S2x4x2048x512, .f32⟩
  | 69 => ⟨S2x4x512x2048, .f32⟩
  | 70 => ⟨S2x4x2048x512, .f32⟩
  | 71 => ⟨S2x4x2048x2048, .f32⟩
  | 72 => ⟨S_, .f32⟩
  | 73 => ⟨S2x4x2048x2048, .f32⟩
  | 74 => ⟨S2x4x2048x2048, .f32⟩
  | 75 => ⟨S2x4x2048x256, .f32⟩
  | 76 => ⟨S2x4x2048x256, .f32⟩
  | 77 => ⟨S2x4x2048x256, .f32⟩
  | 78 => ⟨S2x4x2048x256, .f32⟩
  | 79 => ⟨S2x4x2048x256, .f32⟩
  | 80 => ⟨S2x4x2048x256, .f32⟩
  | 81 => ⟨S2x4x2048x256, .f32⟩
  | 82 => ⟨S2x4x2048x256, .f32⟩
  | 83 => ⟨S2x4x2048x256, .f32⟩
  | 84 => ⟨S2x4x2048x256, .f32⟩
  | 85 => ⟨S_, .f32⟩
  | 86 => ⟨S_, .f32⟩
  | 87 => ⟨S2x4x2048x256, .f32⟩
  | 88 => ⟨S2x2048x4x256, .f32⟩
  | 89 => ⟨S2x2048x1024, .f32⟩
  | 90 => ⟨S2x2048x4x512, .f32⟩
  | 91 => ⟨S2x2048x2048, .f32⟩
  | 92 => ⟨S2x2048x4x256, .f32⟩
  | 93 => ⟨S2x2048x1024, .f32⟩
  | 94 => ⟨S_, .f32⟩
  | 95 => ⟨S2x4x2048x256, .f32⟩
  | 96 => ⟨S2x4x2048x256, .f32⟩
  | 97 => ⟨S2x2048x4x256, .f32⟩
  | 98 => ⟨S2x2048x1024, .f32⟩
  | 99 => ⟨S_, .f32⟩
  | 100 => ⟨S2x2048x1024, .f32⟩
  | 101 => ⟨S2x2048x1024, .f32⟩
  | 102 => ⟨S2x2048x1024, .f32⟩
  | 103 => ⟨S2x2048x1024, .f32⟩
  | 104 => ⟨S2x2048x1024, .f32⟩
  | 105 => ⟨S_, .f32⟩
  | 106 => ⟨S1024, .f32⟩
  | 107 => ⟨S1x1x1024, .f32⟩
  | 108 => ⟨S_, .f32⟩
  | 109 => ⟨S1024, .f32⟩
  | 110 => ⟨S1024x128, .f32⟩
  | 111 => ⟨S128x1024, .f32⟩
  | 112 => ⟨S2x2048x128, .f32⟩
  | 113 => ⟨S4096x2048, .f32⟩
  | 114 => ⟨S4096x1024, .f32⟩
  | 115 => ⟨S4096x1024, .bf16⟩
  | 116 => ⟨S4096x1024, .f32⟩
  | 117 => ⟨S4096x1024, .bf16⟩
  | 118 => ⟨S4096x2048, .f32⟩
  | 119 => ⟨S4096x2048, .bf16⟩
  | 120 => ⟨S4096x2048, .f32⟩
  | 121 => ⟨S4096x2048, .bf16⟩
  | 122 => ⟨S4096x2048, .f32⟩
  | 123 => ⟨S4096x2048, .bf16⟩
  | 124 => ⟨S4096x128, .f32⟩
  | 125 => ⟨S128x4x256, .f32⟩
  | 126 => ⟨S4x128x256, .f32⟩
  | 127 => ⟨S4x1x256, .f32⟩
  | _ => ⟨S4096x18432, .f32⟩

abbrev hbmTy0_2 (i : Nat) : BufTy := match i % 128 with
  | 0 => ⟨S1x512, .f32⟩
  | _ => ⟨S4096x18432, .f32⟩

abbrev hbmTy (i : Nat) : BufTy := match i / 128 with
  | 0 => hbmTy0_0 i
  | 1 => hbmTy0_1 i
  | 2 => hbmTy0_2 i
  | _ => ⟨S4096x18432, .f32⟩

abbrev bufTy : (tb : Table) → Fin (tcTables nBuf tb) → BufTy
  | .hbm, ⟨i, _⟩ => hbmTy i
  | _, _ => ⟨S4096x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v16_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v16_2 : Ref sig .tc := ⟨.hbm, 68, rfl⟩
abbrev main_v16_0 : Ref sig .tc := ⟨.hbm, 69, rfl⟩
abbrev main_cst : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst_0 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_call1_call0_cst : Ref sig .tc := ⟨.hbm, 84, rfl⟩
abbrev main_call1_call0_v0 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_c : Ref sig .tc := ⟨.hbm, 92, rfl⟩
abbrev main_v35 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_0 : Ref sig .tc := ⟨.hbm, 100, rfl⟩
abbrev main_call2_v5 : Ref sig .tc := ⟨.hbm, 101, rfl⟩
abbrev main_v36 : Ref sig .tc := ⟨.hbm, 102, rfl⟩
abbrev main_v37 : Ref sig .tc := ⟨.hbm, 103, rfl⟩
abbrev main_cst_1 : Ref sig .tc := ⟨.hbm, 104, rfl⟩
abbrev main_call3_v0 : Ref sig .tc := ⟨.hbm, 105, rfl⟩
abbrev main_v38_1 : Ref sig .tc := ⟨.hbm, 106, rfl⟩
abbrev main_call3_v2 : Ref sig .tc := ⟨.hbm, 107, rfl⟩
abbrev main_v38_0 : Ref sig .tc := ⟨.hbm, 108, rfl⟩
abbrev main_call3_cst : Ref sig .tc := ⟨.hbm, 109, rfl⟩
abbrev main_v38_2 : Ref sig .tc := ⟨.hbm, 110, rfl⟩
abbrev main_v39 : Ref sig .tc := ⟨.hbm, 111, rfl⟩
abbrev main_v40 : Ref sig .tc := ⟨.hbm, 112, rfl⟩
abbrev main_cst_2 : Ref sig .tc := ⟨.hbm, 113, rfl⟩
abbrev main_v41 : Ref sig .tc := ⟨.hbm, 114, rfl⟩
abbrev main_v42 : Ref sig .tc := ⟨.hbm, 115, rfl⟩
abbrev main_cst_3 : Ref sig .tc := ⟨.hbm, 116, rfl⟩
abbrev main_v43 : Ref sig .tc := ⟨.hbm, 117, rfl⟩
abbrev main_v44 : Ref sig .tc := ⟨.hbm, 118, rfl⟩
abbrev main_cst_4 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_cst_5 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_v58_2 : Ref sig .tc := ⟨.hbm, 141, rfl⟩
abbrev main_call4_cst_1 : Ref sig .tc := ⟨.hbm, 142, rfl⟩
abbrev main_call4_v6 : Ref sig .tc := ⟨.hbm, 143, rfl⟩
abbrev main_call4_v7 : Ref sig .tc := ⟨.hbm, 144, rfl⟩
abbrev main_v58_1 : Ref sig .tc := ⟨.hbm, 145, rfl⟩
abbrev main_v58_0 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_cst_6 : Ref sig .tc := ⟨.hbm, 150, rfl⟩
abbrev main_v62 : Ref sig .tc := ⟨.hbm, 151, rfl⟩
abbrev main_v63 : Ref sig .tc := ⟨.hbm, 152, rfl⟩
abbrev main_cst_7 : Ref sig .tc := ⟨.hbm, 153, rfl⟩
abbrev main_v64 : Ref sig .tc := ⟨.hbm, 154, rfl⟩
abbrev main_v65 : Ref sig .tc := ⟨.hbm, 155, rfl⟩
abbrev main_cst_8 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_cst_9 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_10 : Ref sig .tc := ⟨.hbm, 178, rfl⟩
abbrev main_v83 : Ref sig .tc := ⟨.hbm, 179, rfl⟩
abbrev main_v84 : Ref sig .tc := ⟨.hbm, 180, rfl⟩
abbrev main_cst_11 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_cst_12 : Ref sig .tc := ⟨.hbm, 187, rfl⟩
abbrev main_v90 : Ref sig .tc := ⟨.hbm, 188, rfl⟩
abbrev main_v91 : Ref sig .tc := ⟨.hbm, 189, rfl⟩
abbrev main_cst_13 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_call6_cst : Ref sig .tc := ⟨.hbm, 200, rfl⟩
abbrev main_call6_v0 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_call7_call0_cst : Ref sig .tc := ⟨.hbm, 213, rfl⟩
abbrev main_call7_call0_v0 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_cst_14 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_cst_15 : Ref sig .tc := ⟨.hbm, 227, rfl⟩
abbrev main_v123 : Ref sig .tc := ⟨.hbm, 228, rfl⟩
abbrev main_v124 : Ref sig .tc := ⟨.hbm, 229, rfl⟩
abbrev main_call8_v0 : Ref sig .tc := ⟨.hbm, 230, rfl⟩
abbrev main_call8_v1 : Ref sig .tc := ⟨.hbm, 231, rfl⟩
abbrev main_v125 : Ref sig .tc := ⟨.hbm, 232, rfl⟩
abbrev main_cst_16 : Ref sig .tc := ⟨.hbm, 233, rfl⟩
abbrev main_v126 : Ref sig .tc := ⟨.hbm, 234, rfl⟩
abbrev main_v127 : Ref sig .tc := ⟨.hbm, 235, rfl⟩
abbrev main_cst_17 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩

abbrev nD : Nat := 1
abbrev τ : Topo := Topo.v7x

variable {F : FTy → Type} [FloatOps F]
-- ==== InProj.lean ====
abbrev S4096x2048 : Shape := ⟨2, ![4096, 2048]⟩
abbrev S18480x2048 : Shape := ⟨2, ![18480, 2048]⟩
abbrev S4096x18432 : Shape := ⟨2, ![4096, 18432]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S18480x2048, .bf16⟩
  | .hbm, ⟨2, _⟩ => ⟨S4096x18432, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 18, 1], ![false, false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  let c14_i32 : BitVec 32 := 14#32
  let v0 : BitVec 1 := Scalar.cmpi .sge arg1 c14_i32
  let c48_i32 : BitVec 32 := 48#32
  let c6_i32 : BitVec 32 := 6#32
  let v1 : BitVec 1 := Scalar.cmpi .sge arg1 c6_i32
  let c16_i32 : BitVec 32 := 16#32
  let c0_i32 : BitVec 32 := 0#32
  let v2 : BitVec 32 := Scalar.select v1 c16_i32 c0_i32
  let v3 : BitVec 32 := Scalar.select v0 c48_i32 v2
  let v5 : BitVec 32 := Scalar.addi v4 v3
  v5
def k0_mult2 (i : grid0.Coords) : BitVec 32 :=
  let arg2 : BitVec 32 := BitVec.ofNat 32 (i 2).val
  let c2048_i32 : BitVec 32 := 2048#32
  let v7 : BitVec 32 := Scalar.muli arg2 c2048_i32
  v7
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 1 := Scalar.cmpi .sge arg1 c14_i32
  let c6_i32 : BitVec 32 := 6#32
  let v1 : BitVec 1 := Scalar.cmpi .sge arg1 c6_i32
  let c16_i32 : BitVec 32 := 16#32
  let c0_i32 : BitVec 32 := 0#32
  let v2 : BitVec 32 := Scalar.select v1 c16_i32 c0_i32
  let c48_i32 : BitVec 32 := 48#32
  let v3 : BitVec 32 := Scalar.select v0 c48_i32 v2
  let c1024_i32 : BitVec 32 := 1024#32
  let v4 : BitVec 32 := Scalar.muli arg1 c1024_i32
  let v5 : BitVec 32 := Scalar.addi v4 v3
  let v6 : BitVec 32 := v5
  let c2048_i32 : BitVec 32 := 2048#32
  let v7 : BitVec 32 := Scalar.muli arg2 c2048_i32
  let v8 : BitVec 32 := v7
  let c0_i32_0 : BitVec 32 := 0#32
  ![v6.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S18480x2048 : Shape := ⟨2, ![18480, 2048]⟩
abbrev S2048x18480 : Shape := ⟨2, ![2048, 18480]⟩
abbrev S4096x18480 : Shape := ⟨2, ![4096, 18480]⟩
abbrev S4096x6144 : Shape := ⟨2, ![4096, 6144]⟩
abbrev S4096x8192 : Shape := ⟨2, ![4096, 8192]⟩
abbrev S4096x4096 : Shape := ⟨2, ![4096, 4096]⟩
abbrev S4096x18432 : Shape := ⟨2, ![4096, 18432]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S18480x2048, .bf16⟩
  | .hbm, ⟨2, _⟩ => ⟨S4096x2048, .f32⟩
  | .hbm, ⟨3, _⟩ => ⟨S18480x2048, .f32⟩
  | .hbm, ⟨4, _⟩ => ⟨S2048x18480, .f32⟩
  | .hbm, ⟨5, _⟩ => ⟨S4096x18480, .f32⟩
  | .hbm, ⟨6, _⟩ => ⟨S4096x6144, .f32⟩
  | .hbm, ⟨7, _⟩ => ⟨S4096x8192, .f32⟩
  | .hbm, ⟨8, _⟩ => ⟨S4096x4096, .f32⟩
  | .hbm, ⟨9, _⟩ => ⟨S4096x18432, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DHMix.lean ====
abbrev S4096x18432 : Shape := ⟨2, ![4096, 18432]⟩
abbrev S18480x2048 : Shape := ⟨2, ![18480, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x18432, .bf16⟩
  | .hbm, ⟨1, _⟩ => ⟨S18480x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 9], ![false, false, false]⟩

def k0_mult1 (i : grid0.Coords) : BitVec 32 :=
  let arg2 : BitVec 32 := BitVec.ofNat 32 (i 2).val
  let c2048_i32 : BitVec 32 := 2048#32
  let v4 : BitVec 32 := Scalar.muli arg2 c2048_i32
  let c7_i32 : BitVec 32 := 7#32
  let v0 : BitVec 1 := Scalar.cmpi .sge arg2 c7_i32
  let c48_i32 : BitVec 32 := 48#32
  let c3_i32 : BitVec 32 := 3#32
  let v1 : BitVec 1 := Scalar.cmpi .sge arg2 c3_i32
  let c16_i32 : BitVec 32 := 16#32
  let c0_i32 : BitVec 32 := 0#32
  let v2 : BitVec 32 := Scalar.select v1 c16_i32 c0_i32
  let v3 : BitVec 32 := Scalar.select v0 c48_i32 v2
  let v5 : BitVec 32 := Scalar.addi v4 v3
  v5
def k0_mult2 (i : grid0.Coords) : BitVec 32 :=
  let arg1 : BitVec 32 := BitVec.ofNat 32 (i 1).val
  let c1024_i32 : BitVec 32 := 1024#32
  let v7 : BitVec 32 := Scalar.muli arg1 c1024_i32
  v7
def k0_cond3 (i : grid0.Coords) : BitVec 1 :=
  let arg2 : BitVec 32 := BitVec.ofNat 32 (i 2).val
  let c8_i32 : BitVec 32 := 8#32
  let v6 : BitVec 1 := Scalar.cmpi .eq arg2 c8_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .sge arg2 c7_i32
  let c3_i32 : BitVec 32 := 3#32
  let v1 : BitVec 1 := Scalar.cmpi .sge arg2 c3_i32
  let c16_i32 : BitVec 32 := 16#32
  let c0_i32 : BitVec 32 := 0#32
  let v2 : BitVec 32 := Scalar.select v1 c16_i32 c0_i32
  let c48_i32 : BitVec 32 := 48#32
  let v3 : BitVec 32 := Scalar.select v0 c48_i32 v2
  let c2048_i32 : BitVec 32 := 2048#32
  let v4 : BitVec 32 := Scalar.muli arg2 c2048_i32
  let v5 : BitVec 32 := Scalar.addi v4 v3
  let v6 : BitVec 32 := v5
  let c1024_i32 : BitVec 32 := 1024#32
  let v7 : BitVec 32 := Scalar.muli arg1 c1024_i32
  let v8 : BitVec 32 := v7
  let c0_i32_0 : BitVec 32 := 0#32
  ![v6.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHMixRefIdeal.lean ====
abbrev S4096x18432 : Shape := ⟨2, ![4096, 18432]⟩
abbrev S18480x2048 : Shape := ⟨2, ![18480, 2048]⟩
abbrev S4096x2048 : Shape := ⟨2, ![4096, 2048]⟩
abbrev S_ : Shape := ⟨0, ![]⟩
abbrev S2048x18480 : Shape := ⟨2, ![2048, 18480]⟩
abbrev S4096x18480 : Shape := ⟨2, ![4096, 18480]⟩
abbrev S4096x6144 : Shape := ⟨2, ![4096, 6144]⟩
abbrev S4096x8192 : Shape := ⟨2, ![4096, 8192]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x18432, .bf16⟩
  | .hbm, ⟨1, _⟩ => ⟨S18480x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S18480x2048, .f32⟩
  | .hbm, ⟨6, _⟩ => ⟨S2048x18480, .f32⟩
  | .hbm, ⟨7, _⟩ => ⟨S4096x18480, .f32⟩
  | .hbm, ⟨8, _⟩ => ⟨S4096x6144, .f32⟩
  | .hbm, ⟨9, _⟩ => ⟨S4096x8192, .f32⟩
  | .hbm, ⟨10, _⟩ => ⟨S4096x4096, .f32⟩
  | .hbm, ⟨11, _⟩ => ⟨S4096x18432, .f32⟩
  | .hbm, ⟨12, _⟩ => ⟨S4096x18432, .f32⟩
  | .hbm, ⟨13, _⟩ => ⟨S4096x6144, .f32⟩
  | .hbm, ⟨14, _⟩ => ⟨S4096x8192, .f32⟩
  | .hbm, ⟨15, _⟩ => ⟨S4096x4096, .f32⟩
  | .hbm, ⟨16, _⟩ => ⟨S_, .f32⟩
  | .hbm, ⟨17, _⟩ => ⟨S4096x18480, .f32⟩
  | .hbm, ⟨18, _⟩ => ⟨S_, .f32⟩
  | .hbm, ⟨19, _⟩ => ⟨S4096x18480, .f32⟩
  | .hbm, ⟨20, _⟩ => ⟨S4096x18480, .f32⟩
  | .hbm, ⟨21, _⟩ => ⟨S_, .f32⟩
  | .hbm, ⟨22, _⟩ => ⟨S4096x18480, .f32⟩
  | .hbm, ⟨23, _⟩ => ⟨S4096x18480, .f32⟩
  | .hbm, ⟨24, _⟩ => ⟨S4096x2048, .f32⟩
  | .hbm, ⟨25, _⟩ => ⟨S4096x2048, .f32⟩
  | _, _ => ⟨S4096x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DWIn.lean ====
abbrev S4096x18432 : Shape := ⟨2, ![4096, 18432]⟩
abbrev S4096x2048 : Shape := ⟨2, ![4096, 2048]⟩
abbrev S18432x2048 : Shape := ⟨2, ![18432, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x18432, .bf16⟩
  | .hbm, ⟨1, _⟩ => ⟨S4096x2048, .bf16⟩
  | .hbm, ⟨2, _⟩ => ⟨S18432x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![18, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S4096x18432 : Shape := ⟨2, ![4096, 18432]⟩
abbrev S4096x2048 : Shape := ⟨2, ![4096, 2048]⟩
abbrev S_ : Shape := ⟨0, ![]⟩
abbrev S18432x2048 : Shape := ⟨2, ![18432, 2048]⟩
abbrev S2048x18432 : Shape := ⟨2, ![2048, 18432]⟩

abbrev nBuf : Space → Nat
  | .hbm => 12
  | .vmem => 0
  | .smem => 0
  | _ => 0

abbrev bufTy : (tb : Table) → Fin (tcTables nBuf tb) → BufTy
  | .hbm, ⟨0, _⟩ => ⟨S4096x18432, .bf16⟩
  | .hbm, ⟨1, _⟩ => ⟨S4096x2048, .bf16⟩
  | .hbm, ⟨2, _⟩ => ⟨S_, .f32⟩
  | .hbm, ⟨3, _⟩ => ⟨S18432x2048, .f32⟩
  | .hbm, ⟨4, _⟩ => ⟨S4096x2048, .f32⟩
  | .hbm, ⟨5, _⟩ => ⟨S2048x18432, .f32⟩
  | .hbm, ⟨6, _⟩ => ⟨S4096x18432, .f32⟩
  | .hbm, ⟨7, _⟩ => ⟨S4096x18432, .f32⟩
  | .hbm, ⟨8, _⟩ => ⟨S18432x2048, .f32⟩
  | .hbm, ⟨9, _⟩ => ⟨S2048x18432, .f32⟩
  | .hbm, ⟨10, _⟩ => ⟨S18432x2048, .f32⟩
  | .hbm, ⟨11, _⟩ => ⟨S18432x2048, .bf16⟩
  | _, _ => ⟨S4096x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Hidden.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x8192, .bf16⟩
  | .hbm, ⟨5, _⟩ => ⟨S4096x8192, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== HiddenRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S8192x2048, .f32⟩
  | .hbm, ⟨20, _⟩ => ⟨S4096x2048, .f32⟩
  | .hbm, ⟨21, _⟩ => ⟨S4096x8192, .bf16⟩
  | .hbm, ⟨22, _⟩ => ⟨S4096x2048, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWDown.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWUp.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DHMlp.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHMlpRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMixed.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ple.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S1024x256 : Shape := ⟨2, ![1024, 256]⟩
abbrev S256x1024 : Shape := ⟨2, ![256, 1024]⟩
abbrev S1024x1024 : Shape := ⟨2, ![1024, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 12
  | .vmem => 34
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x256, .f32⟩
  | .hbm, ⟨3, _⟩ => ⟨S256x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S4096x2048, .bf16⟩
  | .hbm, ⟨11, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x1024, .f32⟩
  | .local _ .vmem, ⟨33, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== PleRefIdeal.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x256, .f32⟩
  | .hbm, ⟨3, _⟩ => ⟨S256x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S256x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S4096x2048, .bf16⟩
  | .hbm, ⟨30, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== DWPleProj.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWPleProjRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamSmall.lean ====
abbrev S120x128 : Shape := ⟨2, ![120, 128]⟩

abbrev nBuf : Space → Nat
  | .hbm => 7
  | .vmem => 7
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S120x128 : Shape := ⟨2, ![120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S120x128, .f32⟩
  | .hbm, ⟨7, _⟩ => ⟨S_, .f32⟩
  | .hbm, ⟨8, _⟩ => ⟨S120x128, .f32⟩
  | .hbm, ⟨9, _⟩ => ⟨S120x128, .f32⟩
  | .hbm, ⟨10, _⟩ => ⟨S120x128, .f32⟩
  | .hbm, ⟨11, _⟩ => ⟨S_, .f32⟩
  | .hbm, ⟨12, _⟩ => ⟨S120x128, .f32⟩
  | .hbm, ⟨13, _⟩ => ⟨S120x128, .f32⟩
  | .hbm, ⟨14, _⟩ => ⟨S120x128, .f32⟩
  | .hbm, ⟨15, _⟩ => ⟨S_, .f32⟩
  | .hbm, ⟨16, _⟩ => ⟨S120x128, .f32⟩
  | .hbm, ⟨17, _⟩ => ⟨S120x128, .f32⟩
  | .hbm, ⟨18, _⟩ => ⟨S120x128, .f32⟩
  | .hbm, ⟨19, _⟩ => ⟨S_, .f32⟩
  | .hbm, ⟨20, _⟩ => ⟨S120x128, .f32⟩
  | .hbm, ⟨21, _⟩ => ⟨S120x128, .f32⟩
  | .hbm, ⟨22, _⟩ => ⟨S_, .f32⟩
  | .hbm, ⟨23, _⟩ => ⟨S120x128, .f32⟩
  | .hbm, ⟨24, _⟩ => ⟨S120x128, .f32⟩
  | .hbm, ⟨25, _⟩ => ⟨S120x128, .f32⟩
  | .hbm, ⟨26, _⟩ => ⟨S_, .f32⟩
  | .hbm, ⟨27, _⟩ => ⟨S120x128, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S256x2048 : Shape := ⟨2, ![256, 2048]⟩
abbrev S8x1536x2048 : Shape := ⟨3, ![8, 1536, 2048]⟩
abbrev S128x2048 : Shape := ⟨2, ![128, 2048]⟩
abbrev S1x128x2048 : Shape := ⟨3, ![1, 128, 2048]⟩

abbrev nBuf : Space → Nat
  | .hbm => 8
  | .vmem => 30
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x1536x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S1x128x2048, .bf16⟩
  | .local _ .vmem, ⟨17, _⟩ => ⟨S1x128x2048, .bf16⟩
  | .local _ .vmem, ⟨18, _⟩ => ⟨S1x128x2048, .bf16⟩
  | .local _ .vmem, ⟨19, _⟩ => ⟨S1x128x2048, .bf16⟩
  | .local _ .vmem, ⟨20, _⟩ => ⟨S1x128x2048, .bf16⟩
  | .local _ .vmem, ⟨21, _⟩ => ⟨S1x128x2048, .bf16⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  ![c2_i32.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  ![c3_i32.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let c0_i32_0 : BitVec 32 := 0#32
  ![c4_i32.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let c0_i32_0 : BitVec 32 := 0#32
  ![c5_i32.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let c0_i32_0 : BitVec 32 := 0#32
  ![c6_i32.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let c0_i32_0 : BitVec 32 := 0#32
  ![c7_i32.toNat, v0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AdamWOutRefIdeal.lean ====
abbrev S256x2048 : Shape := ⟨2, ![256, 2048]⟩
abbrev S8x1536x2048 : Shape := ⟨3, ![8, 1536, 2048]⟩
abbrev S8x256x2048 : Shape := ⟨3, ![8, 256, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x1536x2048, .bf16⟩
  | .hbm, ⟨4, _⟩ => ⟨S8x256x2048, .bf16⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWPleGate.lean ====
abbrev S256x2048 : Shape := ⟨2, ![256, 2048]⟩
abbrev S8x1536x2048 : Shape := ⟨3, ![8, 1536, 2048]⟩
abbrev S128x2048 : Shape := ⟨2, ![128, 2048]⟩
abbrev S1x128x2048 : Shape := ⟨3, ![1, 128, 2048]⟩

abbrev nBuf : Space → Nat
  | .hbm => 8
  | .vmem => 30
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x1536x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S1x128x2048, .bf16⟩
  | .local _ .vmem, ⟨17, _⟩ => ⟨S1x128x2048, .bf16⟩
  | .local _ .vmem, ⟨18, _⟩ => ⟨S1x128x2048, .bf16⟩
  | .local _ .vmem, ⟨19, _⟩ => ⟨S1x128x2048, .bf16⟩
  | .local _ .vmem, ⟨20, _⟩ => ⟨S1x128x2048, .bf16⟩
  | .local _ .vmem, ⟨21, _⟩ => ⟨S1x128x2048, .bf16⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let c0_i32 : BitVec 32 := 0#32
  ![c1_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let c0_i32 : BitVec 32 := 0#32
  ![c2_i32_0.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c3_i32 : BitVec 32 := 3#32
  let c0_i32 : BitVec 32 := 0#32
  ![c3_i32.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c4_i32 : BitVec 32 := 4#32
  let c0_i32 : BitVec 32 := 0#32
  ![c4_i32.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c5_i32 : BitVec 32 := 5#32
  let c0_i32 : BitVec 32 := 0#32
  ![c5_i32.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c6_i32 : BitVec 32 := 6#32
  let c0_i32 : BitVec 32 := 0#32
  ![c6_i32.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c7_i32 : BitVec 32 := 7#32
  let c0_i32 : BitVec 32 := 0#32
  ![c7_i32.toNat, v0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AdamWPleGateRefIdeal.lean ====
abbrev S256x2048 : Shape := ⟨2, ![256, 2048]⟩
abbrev S8x1536x2048 : Shape := ⟨3, ![8, 1536, 2048]⟩
abbrev S8x256x2048 : Shape := ⟨3, ![8, 256, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x1536x2048, .bf16⟩
  | .hbm, ⟨4, _⟩ => ⟨S8x256x2048, .bf16⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWDown.lean ====
abbrev S1024x2048 : Shape := ⟨2, ![1024, 2048]⟩
abbrev S8x1536x2048 : Shape := ⟨3, ![8, 1536, 2048]⟩
abbrev S128x2048 : Shape := ⟨2, ![128, 2048]⟩
abbrev S1x128x2048 : Shape := ⟨3, ![1, 128, 2048]⟩

abbrev nBuf : Space → Nat
  | .hbm => 8
  | .vmem => 30
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8x1536x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S1x128x2048, .bf16⟩
  | .local _ .vmem, ⟨17, _⟩ => ⟨S1x128x2048, .bf16⟩
  | .local _ .vmem, ⟨18, _⟩ => ⟨S1x128x2048, .bf16⟩
  | .local _ .vmem, ⟨19, _⟩ => ⟨S1x128x2048, .bf16⟩
  | .local _ .vmem, ⟨20, _⟩ => ⟨S1x128x2048, .bf16⟩
  | .local _ .vmem, ⟨21, _⟩ => ⟨S1x128x2048, .bf16⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c1_i32 : BitVec 32 := 1#32
  let c0_i32 : BitVec 32 := 0#32
  ![c1_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c2_i32 : BitVec 32 := 2#32
  let c0_i32 : BitVec 32 := 0#32
  ![c2_i32.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c3_i32 : BitVec 32 := 3#32
  let c0_i32 : BitVec 32 := 0#32
  ![c3_i32.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c4_i32_0 : BitVec 32 := 4#32
  let c0_i32 : BitVec 32 := 0#32
  ![c4_i32_0.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c5_i32 : BitVec 32 := 5#32
  let c0_i32 : BitVec 32 := 0#32
  ![c5_i32.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c6_i32 : BitVec 32 := 6#32
  let c0_i32 : BitVec 32 := 0#32
  ![c6_i32.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c7_i32 : BitVec 32 := 7#32
  let c0_i32 : BitVec 32 := 0#32
  ![c7_i32.toNat, v0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AdamWDownRefIdeal.lean ====
abbrev S1024x2048 : Shape := ⟨2, ![1024, 2048]⟩
abbrev S8x1536x2048 : Shape := ⟨3, ![8, 1536, 2048]⟩
abbrev S8x1024x2048 : Shape := ⟨3, ![8, 1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8x1536x2048, .bf16⟩
  | .hbm, ⟨4, _⟩ => ⟨S8x1024x2048, .bf16⟩
  | .hbm, ⟨5, _⟩ => ⟨S8x1024x2048, .f32⟩
  | .hbm, ⟨6, _⟩ => ⟨S_, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWUp.lean ====
abbrev S2048x1024 : Shape := ⟨2, ![2048, 1024]⟩
abbrev S8x2048x1024 : Shape := ⟨3, ![8, 2048, 1024]⟩
abbrev S128x1024 : Shape := ⟨2, ![128, 1024]⟩
abbrev S1x128x1024 : Shape := ⟨3, ![1, 128, 1024]⟩

abbrev nBuf : Space → Nat
  | .hbm => 8
  | .vmem => 30
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x128x1024, .bf16⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  ![c2_i32.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  ![c3_i32.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let c0_i32_0 : BitVec 32 := 0#32
  ![c4_i32.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let c0_i32_0 : BitVec 32 := 0#32
  ![c5_i32.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let c0_i32_0 : BitVec 32 := 0#32
  ![c6_i32.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let c0_i32_0 : BitVec 32 := 0#32
  ![c7_i32.toNat, v0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AdamWUpRefIdeal.lean ====
abbrev S2048x1024 : Shape := ⟨2, ![2048, 1024]⟩
abbrev S8x2048x1024 : Shape := ⟨3, ![8, 2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWPleProj.lean ====
abbrev S256x256 : Shape := ⟨2, ![256, 256]⟩
abbrev S8x256x256 : Shape := ⟨3, ![8, 256, 256]⟩
abbrev S128x256 : Shape := ⟨2, ![128, 256]⟩
abbrev S1x128x256 : Shape := ⟨3, ![1, 128, 256]⟩

abbrev nBuf : Space → Nat
  | .hbm => 8
  | .vmem => 30
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .bf16⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  ![c2_i32.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  ![c3_i32.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let c0_i32_0 : BitVec 32 := 0#32
  ![c4_i32.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let c0_i32_0 : BitVec 32 := 0#32
  ![c5_i32.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let c0_i32_0 : BitVec 32 := 0#32
  ![c6_i32.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let c0_i32_0 : BitVec 32 := 0#32
  ![c7_i32.toNat, v0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AdamWPleProjRefIdeal.lean ====
abbrev S256x256 : Shape := ⟨2, ![256, 256]⟩
abbrev S8x256x256 : Shape := ⟨3, ![8, 256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .bf16⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWIn.lean ====
abbrev S2310x2048 : Shape := ⟨2, ![2310, 2048]⟩
abbrev S4x2310x2048 : Shape := ⟨3, ![4, 2310, 2048]⟩
abbrev S2310x256 : Shape := ⟨2, ![2310, 256]⟩
abbrev S1x2310x256 : Shape := ⟨3, ![1, 2310, 256]⟩

abbrev nBuf : Space → Nat
  | .hbm => 8
  | .vmem => 22
  | .smem => 0
  | _ => 0

abbrev bufTy : (tb : Table) → Fin (tcTables nBuf tb) → BufTy
  | .hbm, ⟨0, _⟩ => ⟨S2310x2048, .f32⟩
  | .hbm, ⟨1, _⟩ => ⟨S2310x2048, .f32⟩
  | .hbm, ⟨2, _⟩ => ⟨S2310x2048, .f32⟩
  | .hbm, ⟨3, _⟩ => ⟨S4x2310x2048, .bf16⟩
  | .hbm, ⟨4, _⟩ => ⟨S2310x2048, .f32⟩
  | .hbm, ⟨5, _⟩ => ⟨S2310x2048, .f32⟩
  | .hbm, ⟨6, _⟩ => ⟨S2310x2048, .f32⟩
  | .hbm, ⟨7, _⟩ => ⟨S2310x2048, .f32⟩
  | .local _ .vmem, ⟨0, _⟩ => ⟨S2310x256, .f32⟩
  | .local _ .vmem, ⟨1, _⟩ => ⟨S2310x256, .f32⟩
  | .local _ .vmem, ⟨2, _⟩ => ⟨S2310x256, .f32⟩
  | .local _ .vmem, ⟨3, _⟩ => ⟨S2310x256, .f32⟩
  | .local _ .vmem, ⟨4, _⟩ => ⟨S2310x256, .f32⟩
  | .local _ .vmem, ⟨5, _⟩ => ⟨S2310x256, .f32⟩
  | .local _ .vmem, ⟨6, _⟩ => ⟨S1x2310x256, .bf16⟩
  | .local _ .vmem, ⟨7, _⟩ => ⟨S1x2310x256, .bf16⟩
  | .local _ .vmem, ⟨8, _⟩ => ⟨S1x2310x256, .bf16⟩
  | .local _ .vmem, ⟨9, _⟩ => ⟨S1x2310x256, .bf16⟩
  | .local _ .vmem, ⟨10, _⟩ => ⟨S1x2310x256, .bf16⟩
  | .local _ .vmem, ⟨11, _⟩ => ⟨S1x2310x256, .bf16⟩
  | .local _ .vmem, ⟨12, _⟩ => ⟨S1x2310x256, .bf16⟩
  | .local _ .vmem, ⟨13, _⟩ => ⟨S1x2310x256, .bf16⟩
  | .local _ .vmem, ⟨14, _⟩ => ⟨S2310x256, .f32⟩
  | .local _ .vmem, ⟨15, _⟩ => ⟨S2310x256, .f32⟩
  | .local _ .vmem, ⟨16, _⟩ => ⟨S2310x256, .f32⟩
  | .local _ .vmem, ⟨17, _⟩ => ⟨S2310x256, .f32⟩
  | .local _ .vmem, ⟨18, _⟩ => ⟨S2310x256, .f32⟩
  | .local _ .vmem, ⟨19, _⟩ => ⟨S2310x256, .f32⟩
  | .local _ .vmem, ⟨20, _⟩ => ⟨S2310x256, .f32⟩
  | .local _ .vmem, ⟨21, _⟩ => ⟨S2310x256, .f32⟩
  | _, _ => ⟨S2310x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  ![c2_i32.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  ![c3_i32.toNat, v0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2310x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2310x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2310x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2310x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2310x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2310x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2310x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2310x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2310x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2310x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2310x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamWInRefIdeal.lean ====
abbrev S2310x2048 : Shape := ⟨2, ![2310, 2048]⟩
abbrev S4x2310x2048 : Shape := ⟨3, ![4, 2310, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2310x2048, .f32⟩
  | .hbm, ⟨1, _⟩ => ⟨S2310x2048, .f32⟩
  | .hbm, ⟨2, _⟩ => ⟨S2310x2048, .f32⟩
  | .hbm, ⟨3, _⟩ => ⟨S4x2310x2048, .bf16⟩
  | .hbm, ⟨4, _⟩ => ⟨S4x2310x2048, .f32⟩
  | .hbm, ⟨5, _⟩ => ⟨S_, .f32⟩
  | .hbm, ⟨6, _⟩ => ⟨S2310x2048, .f32⟩
  | .hbm, ⟨7, _⟩ => ⟨S_, .f32⟩
  | .hbm, ⟨8, _⟩ => ⟨S2310x2048, .f32⟩
  | .hbm, ⟨9, _⟩ => ⟨S2310x2048, .f32⟩
  | .hbm, ⟨10, _⟩ => ⟨S_, .f32⟩
  | .hbm, ⟨11, _⟩ => ⟨S2310x2048, .f32⟩
  | .hbm, ⟨12, _⟩ => ⟨S2310x2048, .f32⟩
  | .hbm, ⟨13, _⟩ => ⟨S2310x2048, .f32⟩
  | .hbm, ⟨14, _⟩ => ⟨S_, .f32⟩
  | .hbm, ⟨15, _⟩ => ⟨S2310x2048, .f32⟩
  | .hbm, ⟨16, _⟩ => ⟨S2310x2048, .f32⟩
  | .hbm, ⟨17, _⟩ => ⟨S2310x2048, .f32⟩
  | .hbm, ⟨18, _⟩ => ⟨S_, .f32⟩
  | .hbm, ⟨19, _⟩ => ⟨S2310x2048, .f32⟩
  | .hbm, ⟨20, _⟩ => ⟨S2310x2048, .f32⟩
  | .hbm, ⟨21, _⟩ => ⟨S2310x2048, .f32⟩
  | .hbm, ⟨22, _⟩ => ⟨S_, .f32⟩
  | .hbm, ⟨23, _⟩ => ⟨S2310x2048, .f32⟩
  | .hbm, ⟨24, _⟩ => ⟨S2310x2048, .f32⟩
  | .hbm, ⟨25, _⟩ => ⟨S_, .f32⟩
  | .hbm, ⟨26, _⟩ => ⟨S2310x2048, .f32⟩
  | .hbm, ⟨27, _⟩ => ⟨S2310x2048, .f32⟩
  | .hbm, ⟨28, _⟩ => ⟨S2310x2048, .f32⟩
  | .hbm, ⟨29, _⟩ => ⟨S_, .f32⟩
  | .hbm, ⟨30, _⟩ => ⟨S2310x2048, .f32⟩
  | .hbm, ⟨31, _⟩ => ⟨S2310x2048, .f32⟩
  | .hbm, ⟨32, _⟩ => ⟨S2310x2048, .f32⟩
  | .hbm, ⟨33, _⟩ => ⟨S_, .f32⟩
  | .hbm, ⟨34, _⟩ => ⟨S2310x2048, .f32⟩
  | .hbm, ⟨35, _⟩ => ⟨S2310x2048, .f32⟩
  | .hbm, ⟨36, _⟩ => ⟨S2310x2048, .f32⟩
  | .hbm, ⟨37, _⟩ => ⟨S_, .f32⟩
  | .hbm, ⟨38, _⟩ => ⟨S2310x2048, .f32⟩
  | .hbm, ⟨39, _⟩ => ⟨S2310x2048, .f32⟩
  | _, _ => ⟨S2310x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.Pipeline.FrameBody

/-!
The words a grid point of the two kernels computes, as plain functions of what the point finds: its nine input
blocks (`In`), the state it carries, and — for the backward kernel — the saved state, the incoming gradient and the
accumulators. `fv…` are the words of the forward kernel `cc0_gla_fwd`, `bv…` those of the backward kernel
`cc1_gla_bwd`; the numbers are the printed programs'.
-/

@[expose] public section

set_option maxRecDepth 16384

noncomputable section

namespace Cert.KernelIdeal.Gla

open Idealize.ShloMosaic Idealize.ShloMosaic.TcCoe
open Cert.KernelIdeal.Gen

variable {F : FTy → Type} [FloatOps F]

/-- The nine blocks a grid point reads: query, key, value, output gate, attention gate, low-rank rows, second
    low-rank factor, its bias, the norm's weight. -/
structure In (F : FTy → Type) where
  x0 : Vec F S64x1024 .f32
  x1 : Vec F S64x1024 .f32
  x2 : Vec F S64x2048 .f32
  x3 : Vec F S64x2048 .f32
  x4 : Vec F S64x2048 .f32
  x5 : Vec F S64x128 .f32
  x6 : Vec F S128x1024 .f32
  x7 : Vec F S1x1024 .f32
  x8 : Vec F S1x512 .f32

/-! ## The forward kernel -/

def fv15 (I : In F) : FVec F S4x64x256 .f32 :=
  k0_pay5 (View.ld I.x0 (Rect.unit (s := S64x1024) ![0, 0] S64x256.size inb_S64x1024_S64x256_0_0)) (View.ld I.x0 (Rect.unit (s := S64x1024) ![0, 256] S64x256.size inb_S64x1024_S64x256_0_256)) (View.ld I.x0 (Rect.unit (s := S64x1024) ![0, 512] S64x256.size inb_S64x1024_S64x256_0_512)) (View.ld I.x0 (Rect.unit (s := S64x1024) ![0, 768] S64x256.size inb_S64x1024_S64x256_0_768))

def fv24 (I : In F) : FVec F S4x64x256 .f32 :=
  k0_pay6 (View.ld I.x1 (Rect.unit (s := S64x1024) ![0, 0] S64x256.size inb_S64x1024_S64x256_0_0)) (View.ld I.x1 (Rect.unit (s := S64x1024) ![0, 256] S64x256.size inb_S64x1024_S64x256_0_256)) (View.ld I.x1 (Rect.unit (s := S64x1024) ![0, 512] S64x256.size inb_S64x1024_S64x256_0_512)) (View.ld I.x1 (Rect.unit (s := S64x1024) ![0, 768] S64x256.size inb_S64x1024_S64x256_0_768))

def fv33 (I : In F) : FVec F S4x64x512 .f32 :=
  k0_pay7 (View.ld I.x2 (Rect.unit (s := S64x2048) ![0, 0] S64x512.size inb_S64x2048_S64x512_0_0)) (View.ld I.x2 (Rect.unit (s := S64x2048) ![0, 512] S64x512.size inb_S64x2048_S64x512_0_512)) (View.ld I.x2 (Rect.unit (s := S64x2048) ![0, 1024] S64x512.size inb_S64x2048_S64x512_0_1024)) (View.ld I.x2 (Rect.unit (s := S64x2048) ![0, 1536] S64x512.size inb_S64x2048_S64x512_0_1536))

def fv43 (I : In F) : FVec F S4x128x256 .f32 :=
  k0_pay8 (View.ld I.x6 (Rect.unit (s := S128x1024) ![0, 0] S128x256.size inb_S128x1024_S128x256_0_0)) (View.ld I.x6 (Rect.unit (s := S128x1024) ![0, 256] S128x256.size inb_S128x1024_S128x256_0_256)) (View.ld I.x6 (Rect.unit (s := S128x1024) ![0, 512] S128x256.size inb_S128x1024_S128x256_0_512)) (View.ld I.x6 (Rect.unit (s := S128x1024) ![0, 768] S128x256.size inb_S128x1024_S128x256_0_768))

def fv52 (I : In F) : FVec F S4x1x256 .f32 :=
  k0_pay9 (View.ld I.x7 (Rect.unit (s := S1x1024) ![0, 0] S1x256.size inb_S1x1024_S1x256_0_0)) (View.ld I.x7 (Rect.unit (s := S1x1024) ![0, 256] S1x256.size inb_S1x1024_S1x256_0_256)) (View.ld I.x7 (Rect.unit (s := S1x1024) ![0, 512] S1x256.size inb_S1x1024_S1x256_0_512)) (View.ld I.x7 (Rect.unit (s := S1x1024) ![0, 768] S1x256.size inb_S1x1024_S1x256_0_768))

def fv61 (I : In F) : FVec F S4x64x512 .f32 :=
  k0_pay10 (View.ld I.x3 (Rect.unit (s := S64x2048) ![0, 0] S64x512.size inb_S64x2048_S64x512_0_0)) (View.ld I.x3 (Rect.unit (s := S64x2048) ![0, 512] S64x512.size inb_S64x2048_S64x512_0_512)) (View.ld I.x3 (Rect.unit (s := S64x2048) ![0, 1024] S64x512.size inb_S64x2048_S64x512_0_1024)) (View.ld I.x3 (Rect.unit (s := S64x2048) ![0, 1536] S64x512.size inb_S64x2048_S64x512_0_1536))

def fv70 (I : In F) : FVec F S4x64x512 .f32 :=
  k0_pay11 (View.ld I.x4 (Rect.unit (s := S64x2048) ![0, 0] S64x512.size inb_S64x2048_S64x512_0_0)) (View.ld I.x4 (Rect.unit (s := S64x2048) ![0, 512] S64x512.size inb_S64x2048_S64x512_0_512)) (View.ld I.x4 (Rect.unit (s := S64x2048) ![0, 1024] S64x512.size inb_S64x2048_S64x512_0_1024)) (View.ld I.x4 (Rect.unit (s := S64x2048) ![0, 1536] S64x512.size inb_S64x2048_S64x512_0_1536))

def fv75 : IVec S1x64x64 1 :=
  k0_pay12

def fv79 : FVec F S4x64x64 .f32 :=
  k0_pay13 (F := F)

def fv81 (I : In F) : FVec F S4x64x256 .f32 :=
  k0_pay14 (fv15 I)

def fv93 (I : In F) : FVec F S4x64x256 .f32 :=
  k0_pay16 (View.ld I.x5 (Rect.unit (s := S64x128) ![0, 0] S64x128.size inb_S64x128_S64x128_0_0)) (fv43 I) (fv52 I)

def fv100 (I : In F) : FVec F S4x64x256 .f32 :=
  k0_pay17 (View.ld I.x5 (Rect.unit (s := S64x128) ![0, 0] S64x128.size inb_S64x128_S64x128_0_0)) (fv43 I) (fv52 I)

def fv140 (I : In F) (st : Vec F S4x512x256 .f32) : FVec F S4x64x512 .f32 :=
  k0_pay21 st (fv24 I) (fv33 I) (fv75) (fv79) (fv81 I) (fv93 I) (fv100 I)

def fv147 (I : In F) (st : Vec F S4x512x256 .f32) : FVec F S4x512x256 .f32 :=
  k0_pay22 st (fv93 I) (fv100 I)

def fv148 (I : In F) : FVec F S4x64x512 .bf16 :=
  k0_pay23 (fv33 I)

def fv149 (I : In F) : FVec F S4x64x256 .bf16 :=
  k0_pay24 (fv24 I) (fv79) (fv93 I) (fv100 I)

def fv151 (I : In F) (st : Vec F S4x512x256 .f32) : FVec F S4x512x256 .f32 :=
  k0_pay25 (fv147 I st) (fv148 I) (fv149 I)

def fv181 (I : In F) (st : Vec F S4x512x256 .f32) : FVec F S4x64x512 .f32 :=
  k0_pay26 (fv61 I) (fv70 I) (View.ld I.x8 (Rect.unit (s := S1x512) ![0, 0] S1x512.size inb_S1x512_S1x512_0_0)) (fv140 I st)

def fMix (I : In F) (st : Vec F S4x512x256 .f32) : Vec F S64x2048 .f32 :=
  View.canon [
    ⟨Rect.unit (s := S64x2048) ![0, 1536] S64x512.size inb_S64x2048_S64x512_0_1536, (k0_pay1 (fv181 I st))⟩,
    ⟨Rect.unit (s := S64x2048) ![0, 1024] S64x512.size inb_S64x2048_S64x512_0_1024, (k0_pay29 (fv61 I) (fv70 I) (View.ld I.x8 (Rect.unit (s := S1x512) ![0, 0] S1x512.size inb_S1x512_S1x512_0_0)) (fv140 I st))⟩,
    ⟨Rect.unit (s := S64x2048) ![0, 512] S64x512.size inb_S64x2048_S64x512_0_512, (k0_pay28 (fv61 I) (fv70 I) (View.ld I.x8 (Rect.unit (s := S1x512) ![0, 0] S1x512.size inb_S1x512_S1x512_0_0)) (fv140 I st))⟩,
    ⟨Rect.unit (s := S64x2048) ![0, 0] S64x512.size inb_S64x2048_S64x512_0_0, (k0_pay27 (fv61 I) (fv70 I) (View.ld I.x8 (Rect.unit (s := S1x512) ![0, 0] S1x512.size inb_S1x512_S1x512_0_0)) (fv140 I st))⟩]

def fStates (st : Vec F S4x512x256 .f32) : Vec F S1x1x4x512x256 .f32 :=
  (shapeCast S1x1x4x512x256 st shapeCasts_S4x512x256_S1x1x4x512x256)

def fNew (I : In F) (st : Vec F S4x512x256 .f32) : Vec F S4x512x256 .f32 :=
  (k0_pay2 (fv151 I st))

/-! ## The backward kernel -/

def bv6 (st : Vec F S1x1x4x512x256 .f32) : FVec F S4x512x256 .f32 :=
  k1_pay8 (View.ld st (Rect.unit (s := S1x1x4x512x256) ![0, 0, 0, 0, 0] S1x1x4x512x256.size inb_S1x1x4x512x256_S1x1x4x512x256_0_0_0_0_0))

def bv15 (I : In F) : FVec F S4x64x256 .f32 :=
  k1_pay9 (View.ld I.x0 (Rect.unit (s := S64x1024) ![0, 0] S64x256.size inb_S64x1024_S64x256_0_0)) (View.ld I.x0 (Rect.unit (s := S64x1024) ![0, 256] S64x256.size inb_S64x1024_S64x256_0_256)) (View.ld I.x0 (Rect.unit (s := S64x1024) ![0, 512] S64x256.size inb_S64x1024_S64x256_0_512)) (View.ld I.x0 (Rect.unit (s := S64x1024) ![0, 768] S64x256.size inb_S64x1024_S64x256_0_768))

def bv24 (I : In F) : FVec F S4x64x256 .f32 :=
  k1_pay10 (View.ld I.x1 (Rect.unit (s := S64x1024) ![0, 0] S64x256.size inb_S64x1024_S64x256_0_0)) (View.ld I.x1 (Rect.unit (s := S64x1024) ![0, 256] S64x256.size inb_S64x1024_S64x256_0_256)) (View.ld I.x1 (Rect.unit (s := S64x1024) ![0, 512] S64x256.size inb_S64x1024_S64x256_0_512)) (View.ld I.x1 (Rect.unit (s := S64x1024) ![0, 768] S64x256.size inb_S64x1024_S64x256_0_768))

def bv33 (I : In F) : FVec F S4x64x512 .f32 :=
  k1_pay11 (View.ld I.x2 (Rect.unit (s := S64x2048) ![0, 0] S64x512.size inb_S64x2048_S64x512_0_0)) (View.ld I.x2 (Rect.unit (s := S64x2048) ![0, 512] S64x512.size inb_S64x2048_S64x512_0_512)) (View.ld I.x2 (Rect.unit (s := S64x2048) ![0, 1024] S64x512.size inb_S64x2048_S64x512_0_1024)) (View.ld I.x2 (Rect.unit (s := S64x2048) ![0, 1536] S64x512.size inb_S64x2048_S64x512_0_1536))

def bv43 (I : In F) : FVec F S4x128x256 .f32 :=
  k1_pay12 (View.ld I.x6 (Rect.unit (s := S128x1024) ![0, 0] S128x256.size inb_S128x1024_S128x256_0_0)) (View.ld I.x6 (Rect.unit (s := S128x1024) ![0, 256] S128x256.size inb_S128x1024_S128x256_0_256)) (View.ld I.x6 (Rect.unit (s := S128x1024) ![0, 512] S128x256.size inb_S128x1024_S128x256_0_512)) (View.ld I.x6 (Rect.unit (s := S128x1024) ![0, 768] S128x256.size inb_S128x1024_S128x256_0_768))

def bv52 (I : In F) : FVec F S4x1x256 .f32 :=
  k1_pay13 (View.ld I.x7 (Rect.unit (s := S1x1024) ![0, 0] S1x256.size inb_S1x1024_S1x256_0_0)) (View.ld I.x7 (Rect.unit (s := S1x1024) ![0, 256] S1x256.size inb_S1x1024_S1x256_0_256)) (View.ld I.x7 (Rect.unit (s := S1x1024) ![0, 512] S1x256.size inb_S1x1024_S1x256_0_512)) (View.ld I.x7 (Rect.unit (s := S1x1024) ![0, 768] S1x256.size inb_S1x1024_S1x256_0_768))

def bv57 (I : In F) : FVec F S1x64x512 .f32 :=
  k1_pay14 (View.ld I.x3 (Rect.unit (s := S64x2048) ![0, 0] S64x512.size inb_S64x2048_S64x512_0_0))

def bv58 (I : In F) : FVec F S1x64x512 .f32 :=
  k1_pay15 (View.ld I.x3 (Rect.unit (s := S64x2048) ![0, 512] S64x512.size inb_S64x2048_S64x512_0_512))

def bcst_68 : F .f32 :=
  Scalar.ofBits .f32 0x3F000000#32

def bv61 (I : In F) : FVec F S4x64x512 .f32 :=
  k1_pay16 (View.ld I.x3 (Rect.unit (s := S64x2048) ![0, 1024] S64x512.size inb_S64x2048_S64x512_0_1024)) (View.ld I.x3 (Rect.unit (s := S64x2048) ![0, 1536] S64x512.size inb_S64x2048_S64x512_0_1536)) (bv57 I) (bv58 I)

def bv70 (I : In F) : FVec F S4x64x512 .f32 :=
  k1_pay17 (View.ld I.x4 (Rect.unit (s := S64x2048) ![0, 0] S64x512.size inb_S64x2048_S64x512_0_0)) (View.ld I.x4 (Rect.unit (s := S64x2048) ![0, 512] S64x512.size inb_S64x2048_S64x512_0_512)) (View.ld I.x4 (Rect.unit (s := S64x2048) ![0, 1024] S64x512.size inb_S64x2048_S64x512_0_1024)) (View.ld I.x4 (Rect.unit (s := S64x2048) ![0, 1536] S64x512.size inb_S64x2048_S64x512_0_1536))

def bv75 : IVec S1x64x64 1 :=
  k1_pay18

def bv79 : FVec F S4x64x64 .f32 :=
  k1_pay19 (F := F)

def bv81 (I : In F) : FVec F S4x64x256 .f32 :=
  k1_pay20 (bv15 I)

def bv85 (I : In F) : FVec F S4x64x128 .bf16 :=
  k1_pay21 (View.ld I.x5 (Rect.unit (s := S64x128) ![0, 0] S64x128.size inb_S64x128_S64x128_0_0))

def bv86 (I : In F) : FVec F S4x128x256 .bf16 :=
  k1_pay22 (bv43 I)

def bv91 (I : In F) : FVec F S4x64x256 .f32 :=
  k1_pay23 (View.ld I.x5 (Rect.unit (s := S64x128) ![0, 0] S64x128.size inb_S64x128_S64x128_0_0)) (bv43 I) (bv52 I)

def bv93 (I : In F) : FVec F S4x64x256 .f32 :=
  k1_pay24 (View.ld I.x5 (Rect.unit (s := S64x128) ![0, 0] S64x128.size inb_S64x128_S64x128_0_0)) (bv43 I) (bv52 I)

def bv95 (I : In F) : IVec S4x64x256 1 :=
  k1_pay25 (View.ld I.x5 (Rect.unit (s := S64x128) ![0, 0] S64x128.size inb_S64x128_S64x128_0_0)) (bv43 I) (bv52 I)

def bv97 (I : In F) : IVec S4x64x256 1 :=
  k1_pay26 (View.ld I.x5 (Rect.unit (s := S64x128) ![0, 0] S64x128.size inb_S64x128_S64x128_0_0)) (bv43 I) (bv52 I)

def bv98 : FVec F S4x64x256 .f32 :=
  k1_pay27 (F := F)

def bv99 : FVec F S4x64x256 .f32 :=
  k1_pay28 (F := F)

def bcst_81 : FVec F S4x64x512 .f32 :=
  constant S4x64x512 .f32 0x00000000#32

def bv102 (I : In F) : FVec F S4x64x256 .f32 :=
  k1_pay29 (bv95 I) (bv97 I) (bv98) (bv99) (bcst_68)

def bv105 (I : In F) : IVec S4x64x256 1 :=
  k1_pay30 (bv91 I)

def bv108 (I : In F) : FVec F S4x64x256 .f32 :=
  k1_pay31 (bv91 I)

def bv110 (I : In F) : FVec F S4x64x256 .f32 :=
  k1_pay32 (bv91 I)

def bv129 (I : In F) : FVec F S4x64x256 .f32 :=
  k1_pay34 (bv79) (bv91 I) (bv93 I)

def bv131 (I : In F) : FVec F S4x1x256 .f32 :=
  k1_pay35 (bv91 I) (bv93 I)

def bv132 (I : In F) : FVec F S4x64x256 .f32 :=
  k1_pay36 (bv79) (bv91 I) (bv93 I)

def bv133 (I : In F) : FVec F S4x64x256 .f32 :=
  k1_pay37 (bv79) (bv81 I) (bv91 I) (bv93 I)

def bv136 (I : In F) : FVec F S4x64x256 .f32 :=
  k1_pay38 (bv79) (bv91 I) (bv93 I)

def bv138 (I : In F) : FVec F S4x64x256 .bf16 :=
  k1_pay39 (bv79) (bv81 I) (bv91 I) (bv93 I)

def bv139 (I : In F) : FVec F S4x64x256 .bf16 :=
  k1_pay40 (bv24 I) (bv79) (bv91 I) (bv93 I)

def bv142 : IVec S4x64x64 1 :=
  k1_pay41 (bv75)

def bv145 (I : In F) : FVec F S4x64x64 .bf16 :=
  k1_pay42 (bv24 I) (bv75) (bv79) (bv81 I) (bv91 I) (bv93 I)

def bv146 (I : In F) : FVec F S4x64x512 .bf16 :=
  k1_pay43 (bv33 I)

def bcst_94 : F .f32 :=
  Scalar.ofBits .f32 0x3F800000#32

def bv148 (I : In F) : FVec F S4x64x256 .bf16 :=
  k1_pay44 (bv133 I)

def bv149 (st : Vec F S1x1x4x512x256 .f32) : FVec F S4x512x256 .bf16 :=
  k1_pay45 (bv6 st)

def bv151 (I : In F) (st : Vec F S1x1x4x512x256 .f32) : FVec F S4x64x512 .f32 :=
  k1_pay46 (bv6 st) (bv133 I) (bv145 I) (bv146 I) (bcst_81)

def bv154 (I : In F) : FVec F S4x64x256 .f32 :=
  k1_pay47 (bv129 I) (bv131 I)

def bv156 (I : In F) : FVec F S4x1x256 .f32 :=
  k1_pay48 (bv131 I)

def bv157 (I : In F) : FVec F S4x64x512 .bf16 :=
  k1_pay49 (bv33 I)

def bv158 (I : In F) : FVec F S4x64x256 .bf16 :=
  k1_pay50 (bv24 I) (bv129 I) (bv131 I)

def bv166 (I : In F) (st : Vec F S1x1x4x512x256 .f32) : FVec F S4x64x1 .f32 :=
  k1_pay52 (bv6 st) (bv133 I) (bv145 I) (bv146 I) (bcst_81)

def bv169 (I : In F) (st : Vec F S1x1x4x512x256 .f32) : FVec F S4x64x1 .f32 :=
  k1_pay53 (bv6 st) (bv133 I) (bv145 I) (bv146 I) (bcst_81)

def bv171 (I : In F) (st : Vec F S1x1x4x512x256 .f32) : FVec F S4x64x512 .f32 :=
  k1_pay54 (bv6 st) (bv133 I) (bv145 I) (bv146 I) (bcst_81)

def bv172 (I : In F) : FVec F S1x1x512 .f32 :=
  k1_pay55 (View.ld I.x8 (Rect.unit (s := S1x512) ![0, 0] S1x512.size inb_S1x512_S1x512_0_0))

def bv174 (I : In F) (st : Vec F S1x1x4x512x256 .f32) : FVec F S4x64x512 .f32 :=
  k1_pay56 (bv6 st) (View.ld I.x8 (Rect.unit (s := S1x512) ![0, 0] S1x512.size inb_S1x512_S1x512_0_0)) (bv133 I) (bv145 I) (bv146 I) (bcst_81)

def bv177 (I : In F) : FVec F S4x64x512 .f32 :=
  k1_pay57 (bv70 I)

def bv181 (I : In F) : FVec F S4x64x512 .f32 :=
  k1_pay59 (bv70 I)

def bv184 (I : In F) : FVec F S4x64x512 .f32 :=
  k1_pay60 (bv70 I)

def bv185 (I : In F) (st : Vec F S1x1x4x512x256 .f32) : FVec F S4x64x512 .f32 :=
  k1_pay61 (bv6 st) (bv70 I) (View.ld I.x8 (Rect.unit (s := S1x512) ![0, 0] S1x512.size inb_S1x512_S1x512_0_0)) (bv133 I) (bv145 I) (bv146 I) (bcst_81)

def bv188 (I : In F) : FVec F S4x64x512 .f32 :=
  k1_pay62 (bv61 I)

def bv192 (I : In F) : FVec F S4x64x512 .f32 :=
  k1_pay64 (bv61 I)

def bv193 (I : In F) : FVec F S4x64x512 .f32 :=
  k1_pay65 (bv61 I)

def bv223 (I : In F) (st : Vec F S1x1x4x512x256 .f32) (dm : Vec F S64x2048 .bf16) : FVec F S4x64x512 .f32 :=
  k1_pay69 (bv61 I) (bv185 I st) (bv188 I) (bv192 I) (bv193 I) (bcst_94) (View.ld dm (Rect.unit (s := S64x2048) ![0, 0] S64x512.size inb_S64x2048_S64x512_0_0)) (View.ld dm (Rect.unit (s := S64x2048) ![0, 512] S64x512.size inb_S64x2048_S64x512_0_512)) (View.ld dm (Rect.unit (s := S64x2048) ![0, 1024] S64x512.size inb_S64x2048_S64x512_0_1024)) (View.ld dm (Rect.unit (s := S64x2048) ![0, 1536] S64x512.size inb_S64x2048_S64x512_0_1536))

def bv224 (I : In F) (dm : Vec F S64x2048 .bf16) : FVec F S4x64x512 .f32 :=
  k1_pay70 (bv61 I) (bv181 I) (bv192 I) (View.ld dm (Rect.unit (s := S64x2048) ![0, 0] S64x512.size inb_S64x2048_S64x512_0_0)) (View.ld dm (Rect.unit (s := S64x2048) ![0, 512] S64x512.size inb_S64x2048_S64x512_0_512)) (View.ld dm (Rect.unit (s := S64x2048) ![0, 1024] S64x512.size inb_S64x2048_S64x512_0_1024)) (View.ld dm (Rect.unit (s := S64x2048) ![0, 1536] S64x512.size inb_S64x2048_S64x512_0_1536))

def bv233 (I : In F) (st : Vec F S1x1x4x512x256 .f32) (dm : Vec F S64x2048 .bf16) : FVec F S4x64x512 .f32 :=
  k1_pay71 (bv61 I) (bv174 I st) (bv177 I) (bv184 I) (bv192 I) (View.ld dm (Rect.unit (s := S64x2048) ![0, 0] S64x512.size inb_S64x2048_S64x512_0_0)) (View.ld dm (Rect.unit (s := S64x2048) ![0, 512] S64x512.size inb_S64x2048_S64x512_0_512)) (View.ld dm (Rect.unit (s := S64x2048) ![0, 1024] S64x512.size inb_S64x2048_S64x512_0_1024)) (View.ld dm (Rect.unit (s := S64x2048) ![0, 1536] S64x512.size inb_S64x2048_S64x512_0_1536))

def bv234 (I : In F) (st : Vec F S1x1x4x512x256 .f32) (dm : Vec F S64x2048 .bf16) : FVec F S4x64x512 .f32 :=
  k1_pay72 (bv61 I) (bv171 I st) (bv181 I) (bv192 I) (View.ld dm (Rect.unit (s := S64x2048) ![0, 0] S64x512.size inb_S64x2048_S64x512_0_0)) (View.ld dm (Rect.unit (s := S64x2048) ![0, 512] S64x512.size inb_S64x2048_S64x512_0_512)) (View.ld dm (Rect.unit (s := S64x2048) ![0, 1024] S64x512.size inb_S64x2048_S64x512_0_1024)) (View.ld dm (Rect.unit (s := S64x2048) ![0, 1536] S64x512.size inb_S64x2048_S64x512_0_1536))

def bv240 (I : In F) (st : Vec F S1x1x4x512x256 .f32) (dm : Vec F S64x2048 .bf16) : FVec F S1x512 .f32 :=
  k1_pay73 (bv234 I st dm)

def bv255 (I : In F) (st : Vec F S1x1x4x512x256 .f32) (dm : Vec F S64x2048 .bf16) : FVec F S4x64x512 .f32 :=
  k1_pay74 (bv151 I st) (bv166 I st) (bv169 I st) (bv172 I) (bv224 I dm)

def bv263 (I : In F) (ds : Vec F S4x512x256 .f32) : FVec F S4x64x512 .f32 :=
  k1_pay76 (bv158 I) ds

def bv268 (I : In F) (ds : Vec F S4x512x256 .f32) : FVec F S4x512x256 .f32 :=
  k1_pay77 (bv156 I) ds

def bv271 (I : In F) (ds : Vec F S4x512x256 .f32) : FVec F S4x64x256 .f32 :=
  k1_pay78 (bv154 I) (bv157 I) ds

def bv276 (I : In F) (ds : Vec F S4x512x256 .f32) : FVec F S4x64x256 .f32 :=
  k1_pay80 (bv24 I) (bv154 I) (bv157 I) ds

def bv277 (I : In F) (st : Vec F S1x1x4x512x256 .f32) (ds : Vec F S4x512x256 .f32) : FVec F S4x1x256 .f32 :=
  k1_pay81 (bv6 st) (bv24 I) (bv154 I) (bv156 I) (bv157 I) ds

def bv281 (I : In F) (st : Vec F S1x1x4x512x256 .f32) (dm : Vec F S64x2048 .bf16) : FVec F S4x64x256 .bf16 :=
  k1_pay82 (bv149 st) (bv151 I st) (bv166 I st) (bv169 I st) (bv172 I) (bv224 I dm)

def bv282 (I : In F) (st : Vec F S1x1x4x512x256 .f32) (dm : Vec F S64x2048 .bf16) : FVec F S4x512x256 .f32 :=
  k1_pay83 (bv148 I) (bv151 I st) (bv166 I st) (bv169 I st) (bv172 I) (bv224 I dm)

def bv283 (I : In F) (st : Vec F S1x1x4x512x256 .f32) (dm : Vec F S64x2048 .bf16) (ds : Vec F S4x512x256 .f32) : FVec F S4x512x256 .f32 :=
  k1_pay84 (bv268 I ds) (bv282 I st dm)

def bv291 (I : In F) (st : Vec F S1x1x4x512x256 .f32) (dm : Vec F S64x2048 .bf16) (ds : Vec F S4x512x256 .f32) : FVec F S4x64x512 .f32 :=
  k1_pay85 (bv145 I) (bv255 I st dm) (bv263 I ds)

def bv304 (I : In F) (st : Vec F S1x1x4x512x256 .f32) (dm : Vec F S64x2048 .bf16) (ds : Vec F S4x512x256 .f32) : FVec F S4x64x256 .f32 :=
  k1_pay89 (bv136 I) (bv138 I) (bv142) (bv146 I) (bv255 I st dm) (bv271 I ds)

def bv310 (I : In F) (st : Vec F S1x1x4x512x256 .f32) (dm : Vec F S64x2048 .bf16) : FVec F S4x64x256 .f32 :=
  k1_pay90 (bv132 I) (bv139 I) (bv142) (bv146 I) (bv255 I st dm) (bv281 I st dm)

def bv331 (I : In F) (st : Vec F S1x1x4x512x256 .f32) (dm : Vec F S64x2048 .bf16) (ds : Vec F S4x512x256 .f32) : FVec F S4x64x256 .f32 :=
  k1_pay91 (bv24 I) (bv79) (bv81 I) (bv132 I) (bv136 I) (bv138 I) (bv139 I) (bv142) (bv146 I) (bv255 I st dm) (bv276 I ds) (bv277 I st ds) (bv281 I st dm)

def bv349 (I : In F) (st : Vec F S1x1x4x512x256 .f32) (dm : Vec F S64x2048 .bf16) (ds : Vec F S4x512x256 .f32) : FVec F S4x1x256 .f32 :=
  k1_pay93 (bv102 I) (bv105 I) (bv108 I) (bv110 I) (bv331 I st dm ds)

def bv355 (I : In F) (st : Vec F S1x1x4x512x256 .f32) (dm : Vec F S64x2048 .bf16) (ds : Vec F S4x512x256 .f32) : FVec F S4x128x256 .f32 :=
  k1_pay94 (bv85 I) (bv102 I) (bv105 I) (bv108 I) (bv110 I) (bv331 I st dm ds)

def bv359 (I : In F) (st : Vec F S1x1x4x512x256 .f32) (dm : Vec F S64x2048 .bf16) (ds : Vec F S4x512x256 .f32) : FVec F S64x128 .f32 :=
  k1_pay95 (bv86 I) (bv102 I) (bv105 I) (bv108 I) (bv110 I) (bv331 I st dm ds)

def bv361 (I : In F) (st : Vec F S1x1x4x512x256 .f32) (dm : Vec F S64x2048 .bf16) : FVec F S4x64x256 .f32 :=
  k1_pay96 (bv310 I st dm)

def bv371 (I : In F) (st : Vec F S1x1x4x512x256 .f32) (dm : Vec F S64x2048 .bf16) (ds : Vec F S4x512x256 .f32) : FVec F S64x256 .bf16 :=
  k1_pay99 (bv304 I st dm ds)

def bv406 (I : In F) (st : Vec F S1x1x4x512x256 .f32) (dm : Vec F S64x2048 .bf16) : FVec F S64x256 .f32 :=
  (k1_pay108 (bv361 I st dm))

def bv439 (I : In F) (st : Vec F S1x1x4x512x256 .f32) (dm : Vec F S64x2048 .bf16) : FVec F S64x512 .bf16 :=
  (k1_pay117 (bv223 I st dm))

def bDq (I : In F) (st : Vec F S1x1x4x512x256 .f32) (dm : Vec F S64x2048 .bf16) : Vec F S64x1024 .bf16 :=
  View.canon [
    ⟨Rect.unit (s := S64x1024) ![0, 768] S64x256.size inb_S64x1024_S64x256_0_768, (k1_pay114 (bv361 I st dm))⟩,
    ⟨Rect.unit (s := S64x1024) ![0, 512] S64x256.size inb_S64x1024_S64x256_0_512, (k1_pay109 (bv406 I st dm))⟩,
    ⟨Rect.unit (s := S64x1024) ![0, 256] S64x256.size inb_S64x1024_S64x256_0_256, (k1_pay103 (bv361 I st dm))⟩,
    ⟨Rect.unit (s := S64x1024) ![0, 0] S64x256.size inb_S64x1024_S64x256_0_0, (k1_pay98 (bv310 I st dm))⟩]

def bDk (I : In F) (st : Vec F S1x1x4x512x256 .f32) (dm : Vec F S64x2048 .bf16) (ds : Vec F S4x512x256 .f32) : Vec F S64x1024 .bf16 :=
  View.canon [
    ⟨Rect.unit (s := S64x1024) ![0, 768] S64x256.size inb_S64x1024_S64x256_0_768, (k1_pay115 (bv304 I st dm ds))⟩,
    ⟨Rect.unit (s := S64x1024) ![0, 512] S64x256.size inb_S64x1024_S64x256_0_512, (k1_pay110 (bv304 I st dm ds))⟩,
    ⟨Rect.unit (s := S64x1024) ![0, 256] S64x256.size inb_S64x1024_S64x256_0_256, (k1_pay104 (bv304 I st dm ds))⟩,
    ⟨Rect.unit (s := S64x1024) ![0, 0] S64x256.size inb_S64x1024_S64x256_0_0, (bv371 I st dm ds)⟩]

def bDv (I : In F) (st : Vec F S1x1x4x512x256 .f32) (dm : Vec F S64x2048 .bf16) (ds : Vec F S4x512x256 .f32) : Vec F S64x2048 .bf16 :=
  View.canon [
    ⟨Rect.unit (s := S64x2048) ![0, 1536] S64x512.size inb_S64x2048_S64x512_0_1536, (k1_pay116 (bv291 I st dm ds))⟩,
    ⟨Rect.unit (s := S64x2048) ![0, 1024] S64x512.size inb_S64x2048_S64x512_0_1024, (k1_pay111 (bv291 I st dm ds))⟩,
    ⟨Rect.unit (s := S64x2048) ![0, 512] S64x512.size inb_S64x2048_S64x512_0_512, (k1_pay105 (bv291 I st dm ds))⟩,
    ⟨Rect.unit (s := S64x2048) ![0, 0] S64x512.size inb_S64x2048_S64x512_0_0, (k1_pay100 (bv291 I st dm ds))⟩]

def bDg (I : In F) (st : Vec F S1x1x4x512x256 .f32) (dm : Vec F S64x2048 .bf16) : Vec F S64x2048 .bf16 :=
  View.canon [
    ⟨Rect.unit (s := S64x2048) ![0, 1536] S64x512.size inb_S64x2048_S64x512_0_1536, (bv439 I st dm)⟩,
    ⟨Rect.unit (s := S64x2048) ![0, 1024] S64x512.size inb_S64x2048_S64x512_0_1024, (k1_pay112 (bv223 I st dm))⟩,
    ⟨Rect.unit (s := S64x2048) ![0, 512] S64x512.size inb_S64x2048_S64x512_0_512, (k1_pay106 (bv223 I st dm))⟩,
    ⟨Rect.unit (s := S64x2048) ![0, 0] S64x512.size inb_S64x2048_S64x512_0_0, (k1_pay101 (bv223 I st dm))⟩]

def bDga (I : In F) (st : Vec F S1x1x4x512x256 .f32) (dm : Vec F S64x2048 .bf16) : Vec F S64x2048 .bf16 :=
  View.canon [
    ⟨Rect.unit (s := S64x2048) ![0, 1536] S64x512.size inb_S64x2048_S64x512_0_1536, (k1_pay1 (bv233 I st dm))⟩,
    ⟨Rect.unit (s := S64x2048) ![0, 1024] S64x512.size inb_S64x2048_S64x512_0_1024, (k1_pay113 (bv233 I st dm))⟩,
    ⟨Rect.unit (s := S64x2048) ![0, 512] S64x512.size inb_S64x2048_S64x512_0_512, (k1_pay107 (bv233 I st dm))⟩,
    ⟨Rect.unit (s := S64x2048) ![0, 0] S64x512.size inb_S64x2048_S64x512_0_0, (k1_pay102 (bv233 I st dm))⟩]

def bDlr (I : In F) (st : Vec F S1x1x4x512x256 .f32) (dm : Vec F S64x2048 .bf16) (ds : Vec F S4x512x256 .f32) : Vec F S64x128 .f32 :=
  (bv359 I st dm ds)

def bNew (I : In F) (st : Vec F S1x1x4x512x256 .f32) (dm : Vec F S64x2048 .bf16) (ds : Vec F S4x512x256 .f32) : Vec F S4x512x256 .f32 :=
  (k1_pay97 (bv283 I st dm ds))

def bDw2 (I : In F) (st : Vec F S1x1x4x512x256 .f32) (dm : Vec F S64x2048 .bf16) (ds : Vec F S4x512x256 .f32) (acc : Vec F S4x128x256 .f32) : Vec F S4x128x256 .f32 :=
  k1_pay2 (bv355 I st dm ds) acc

def bDb (I : In F) (st : Vec F S1x1x4x512x256 .f32) (dm : Vec F S64x2048 .bf16) (ds : Vec F S4x512x256 .f32) (acc : Vec F S4x1x256 .f32) : Vec F S4x1x256 .f32 :=
  k1_pay3 (bv349 I st dm ds) acc

def bDgn (I : In F) (st : Vec F S1x1x4x512x256 .f32) (dm : Vec F S64x2048 .bf16) (acc : Vec F S1x512 .f32) : Vec F S1x512 .f32 :=
  k1_pay4 (bv240 I st dm) acc

end Cert.KernelIdeal.Gla

end
-- ==== Proof.Run0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Words
public import Idealize.ShloMosaic.Lib.Pipeline.FrameBody
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The forward kernel, grid point by grid point: what the body leaves as functions of its blocks and of the state it
carries in its scratch buffer, and the pipeline's proof data that say so.
-/

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole load of the carried state's buffer. -/
abbrev ldS (s : Vec F S4x512x256 .f32) : Vec F S4x512x256 .f32 :=
  View.ld s (Rect.unit (s := S4x512x256) ![0, 0, 0] S4x512x256.size inb_S4x512x256_S4x512x256_0_0_0)

/-- It is the contents. -/
theorem ldS_eq (s : Vec F S4x512x256 .f32) : ldS s = s := View.ld_unit_lit _ s (by decide)

/-- After a store of the whole shape a buffer reads as the stored value. -/
theorem read_whole_piece {sg : RefSig} {κ : Kind} {sp : Space} {S : Shape} {e : EltTy} (v : View sg κ sp S e)
    (f : v.ty.Contents (Elt F)) {off : Fin S.rank → ℕ} (inb : ∀ a, off a + S.size a ≤ S.size a)
    (h : ∀ a, off a = 0) (w : S.Idx → Elt F e) (L : List (View.Piece (Elt F) S e)) :
    v.read (Elt F) (v.writes (Elt F) f ((⟨Rect.unit off S.size inb, w⟩ : View.Piece (Elt F) S e) :: L)) = w := by
  funext y
  have hy : (Rect.unit (s := S) off S.size inb).emb y = y := by
    funext a; apply Fin.ext; simp [Rect.emb, Rect.unit, h a]
  have := View.read_writes_cons_emb v f (Rect.unit off S.size inb) w L y
  rw [hy] at this; exact this

/-- A buffer whose contents read as `X` is owned at `X`. -/
theorem reads {c : Thread nD τ} {sp : Space} {S : Shape} {e : EltTy} {m : Memref sig c.2.kind sp S e} {q : PosShare TreeShare}
    {f : m.view.ty.Contents (Elt F)} {X : S.Idx → Elt F e} (h : m.view.read (Elt F) f = X) :
    (m.view.loc c ↦[m.view.set]{q} f : sProp 𝕄) ⊢
      iprop(∃ g, ⌜m.view.read (Elt F) g = X⌝ ∗ (m.view.loc c ↦[m.view.set]{q} g)) := by
  iintro H
  iexists _; isplitr; swap; · iexact H
  ipureintro; exact h

set_option maxHeartbeats 4000000 in
/-- One run of the forward body. From the inputs at their blocks, the outputs' buffers at anything and the scratch
    at `s`, it leaves the mixed rows, the state it found and, in the scratch, the next state. -/
theorem run0 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x128 .f32) (harg7 : arg7.IsWhole) (arg8 : Memref sig .tc .vmem S128x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S64x2048 .f32) (harg11 : arg11.IsWhole) (arg12 : Memref sig .tc .vmem S1x1x4x512x256 .f32) (harg12 : arg12.IsWhole) (arg13 : Memref sig .tc .vmem S4x512x256 .f32) (harg13 : arg13.IsWhole)
    (I : In F) (s : Vec F S4x512x256 .f32) (E : Set ℕ) (K : PUnit → sProp 𝕄) :
    iprop(owns (c : Thread nD τ) arg2 fullShare I.x0 ∗
        owns (c : Thread nD τ) arg3 fullShare I.x1 ∗
        owns (c : Thread nD τ) arg4 fullShare I.x2 ∗
        owns (c : Thread nD τ) arg5 fullShare I.x3 ∗
        owns (c : Thread nD τ) arg6 fullShare I.x4 ∗
        owns (c : Thread nD τ) arg7 fullShare I.x5 ∗
        owns (c : Thread nD τ) arg8 fullShare I.x6 ∗
        owns (c : Thread nD τ) arg9 fullShare I.x7 ∗
        owns (c : Thread nD τ) arg10 fullShare I.x8 ∗
        (∃ d, owns (c : Thread nD τ) arg11 fullShare d) ∗
        (∃ d, owns (c : Thread nD τ) arg12 fullShare d) ∗
        owns (c : Thread nD τ) arg13 fullShare s ∗
        (iprop(owns (c : Thread nD τ) arg2 fullShare I.x0 ∗
        owns (c : Thread nD τ) arg3 fullShare I.x1 ∗
        owns (c : Thread nD τ) arg4 fullShare I.x2 ∗
        owns (c : Thread nD τ) arg5 fullShare I.x3 ∗
        owns (c : Thread nD τ) arg6 fullShare I.x4 ∗
        owns (c : Thread nD τ) arg7 fullShare I.x5 ∗
        owns (c : Thread nD τ) arg8 fullShare I.x6 ∗
        owns (c : Thread nD τ) arg9 fullShare I.x7 ∗
        owns (c : Thread nD τ) arg10 fullShare I.x8 ∗
        owns (c : Thread nD τ) arg11 fullShare (fMix I (k0_pay3 i (ldS s))) ∗
        owns (c : Thread nD τ) arg12 fullShare (fStates (k0_pay3 i (ldS s))) ∗
        owns (c : Thread nD τ) arg13 fullShare (fNew I (k0_pay3 i (ldS s)))) -∗ K ⟨⟩))
      ⊢ wp frame (wpE (defs₀ (F := F)) Variants.none c none) E (cc0_gla_fwd i arg2 harg2 arg3 harg3 arg4 harg4 arg5 harg5 arg6 harg6 arg7 harg7 arg8 harg8 arg9 harg9 arg10 harg10 arg11 harg11 arg12 harg12 arg13 harg13) K := by
  simp only [cc0_gla_fwd_eq_skeleton]; unfold cc0_gla_fwd_skel
  simp only [k0_part1_eq_skeleton, k0_part2_eq_skeleton, k0_part3_eq_skeleton, k0_part4_eq_skeleton, k0_part5_eq_skeleton]
  obtain ⟨x0, x1, x2, x3, x4, x5, x6, x7, x8⟩ := I
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
  subst hf0 hf1 hf2 hf3 hf4 hf5 hf6 hf7 hf8 hfs0
  sl_exec
  sl_step
  iapply Hk

  isplitl [H0]; · iapply (reads rfl); iexact H0
  isplitl [H1]; · iapply (reads rfl); iexact H1
  isplitl [H2]; · iapply (reads rfl); iexact H2
  isplitl [H3]; · iapply (reads rfl); iexact H3
  isplitl [H4]; · iapply (reads rfl); iexact H4
  isplitl [H5]; · iapply (reads rfl); iexact H5
  isplitl [H6]; · iapply (reads rfl); iexact H6
  isplitl [H7]; · iapply (reads rfl); iexact H7
  isplitl [H8]; · iapply (reads rfl); iexact H8
  isplitl [H9]
  · iexists _; isplitr; swap; · iexact H9
    ipureintro
    refine Eq.trans (View.read_writes_eq_canon _ _ _ ?_) ?_
    · exact View.cover_of_tiledL _ S64x512.size (by sl_kernel_rfl)
    · sl_kernel_rfl
  isplitl [H10]
  · iexists _; isplitr; swap; · iexact H10
    ipureintro
    refine Eq.trans (read_whole_piece _ _ _ (by decide) _ _) ?_
    sl_kernel_rfl
  iexists _; isplitr; swap; · iexact HS0
  ipureintro
  refine Eq.trans (read_whole_piece _ _ _ (by decide) _ _) ?_
  sl_kernel_rfl

end Cert.KernelIdeal.Gla

end
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Words
public import proofs.«01_k».proof.Proof.Run0
public import Idealize.ShloMosaic.Lib.Pipeline.FrameBody
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The forward kernel as a pipeline: its blocks, the state carried over its grid points, the proof data and the
body obligation.
-/

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the TensorCore's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The inputs of a grid point. -/
def in0 (c : Dev nD) (t : Fin cfg0.N) : In F :=
  ⟨iblk0 V c 0 t, iblk0 V c 1 t, iblk0 V c 2 t, iblk0 V c 3 t, iblk0 V c 4 t, iblk0 V c 5 t, iblk0 V c 6 t, iblk0 V c 7 t, iblk0 V c 8 t⟩

/-- Grid point number `t`, counted round. -/
def pt0 (t : ℕ) : Fin cfg0.N := ⟨t % 64, Nat.lt_of_lt_of_eq (Nat.mod_lt _ (by decide)) N_0.symm⟩

theorem pt0_val (t : Fin cfg0.N) : pt0 t.val = t := by
  apply Fin.ext
  exact Nat.mod_eq_of_lt (Nat.lt_of_lt_of_eq t.isLt N_0)

/-- The state a sequence starts from. -/
def zeroS : Vec F S4x512x256 .f32 := broadcast S4x512x256 (Scalar.ofBits .f32 0x00000000#32 : F .f32)

/-- The state that grid point `t` starts from: zero at a sequence's first chunk, what the point before it left
    elsewhere. -/
def E0 (c : Dev nD) : ℕ → Vec F S4x512x256 .f32
  | 0 => zeroS
  | t + 1 => if (t + 1) % 32 = 0 then zeroS else fNew (in0 V c (pt0 t)) (E0 c t)

theorem E0_first (c : Dev nD) (t : ℕ) (h : t % 32 = 0) : E0 V c t = zeroS := by
  cases t with
  | zero => rfl
  | succ t => rw [E0, if_pos h]

/-- The choice the bodies make at a sequence's first chunk. -/
theorem sgt_ofNat : ∀ n : Fin 32, Scalar.cmpi .sgt (BitVec.ofNat 32 n.val) 0#32 = if n.val = 0 then 0#1 else 1#1 := by
  decide

/-- The body's selection is the state the point starts from. -/
theorem pick0 (c : Dev nD) (t : Fin cfg0.N) (d : Vec F S4x512x256 .f32) (h : t.val % 32 ≠ 0 → d = E0 V c t.val) :
    k0_pay3 (grid0.coords t) (ldS d) = E0 V c t.val := by
  have e1 : (grid0.coords t 1).val = t.val / 1 % 32 := Pipeline.Grid.coords_val t 1 (by decide) rfl
  rw [Nat.div_one] at e1
  rw [ldS_eq]
  have hs := sgt_ofNat ⟨t.val % 32, Nat.mod_lt _ (by decide)⟩
  show Scalar.select (Scalar.cmpi .sgt (BitVec.ofNat 32 (grid0.coords t 1).val) 0#32) d zeroS = _
  rw [e1, hs]
  by_cases h0 : t.val % 32 = 0
  · rw [if_pos h0, E0_first V c _ h0]; rfl
  · rw [if_neg h0, h h0]; rfl

abbrev ms0_0 (t : Fin cfg0.N) : Memref sig .tc .vmem S64x1024 .f32 := win0_0.stage (cfg0.slots t 0)
abbrev ms0_1 (t : Fin cfg0.N) : Memref sig .tc .vmem S64x1024 .f32 := win0_1.stage (cfg0.slots t 1)
abbrev ms0_2 (t : Fin cfg0.N) : Memref sig .tc .vmem S64x2048 .f32 := win0_2.stage (cfg0.slots t 2)
abbrev ms0_3 (t : Fin cfg0.N) : Memref sig .tc .vmem S64x2048 .f32 := win0_3.stage (cfg0.slots t 3)
abbrev ms0_4 (t : Fin cfg0.N) : Memref sig .tc .vmem S64x2048 .f32 := win0_4.stage (cfg0.slots t 4)
abbrev ms0_5 (t : Fin cfg0.N) : Memref sig .tc .vmem S64x128 .f32 := win0_5.stage (cfg0.slots t 5)
abbrev ms0_6 (t : Fin cfg0.N) : Memref sig .tc .vmem S128x1024 .f32 := win0_6.stage (cfg0.slots t 6)
abbrev ms0_7 (t : Fin cfg0.N) : Memref sig .tc .vmem S1x1024 .f32 := win0_7.stage (cfg0.slots t 7)
abbrev ms0_8 (t : Fin cfg0.N) : Memref sig .tc .vmem S1x512 .f32 := win0_8.stage (cfg0.slots t 8)
abbrev ms0_9 (t : Fin cfg0.N) : Memref sig .tc .vmem S64x2048 .f32 := win0_9.stage (cfg0.slots t 9)
abbrev ms0_10 (t : Fin cfg0.N) : Memref sig .tc .vmem S1x1x4x512x256 .f32 := win0_10.stage (cfg0.slots t 10)
/-- The kernel's scratch buffer: the carried state. -/
abbrev scM0 : Memref sig .tc .vmem S4x512x256 .f32 := Memref.whole cc0_scratch0

/-- The pipeline's invariant at point `t`: the scratch holds the state the point starts from — at a sequence's first
    chunk, anything —, and the other scoped buffers and the generator register ride along. -/
def inv0 (c : Dev nD) (t : ℕ) : sProp 𝕄 :=
  iprop(iprop((∃ d, ⌜t % 32 ≠ 0 → d = E0 V c t⌝ ∗ owns (c : Thread nD τ) scM0 fullShare d)
    ∗ Pipeline.scopedRestBut spec0 c [cc0_scratch0]) ∗ (∃ r, prngReg c r))

/-- Between sequences the invariant is the class's plain one. -/
theorem inv0_of (c : Dev nD) (t : ℕ) (h : t % 32 = 0) : (Pipeline.ΦA spec0 c : sProp 𝕄) ⊢ inv0 V c t := by
  unfold Pipeline.ΦA inv0; rw [scopedRest0_split]
  simp only [scM0, owns_whole]
  iintro ⟨⟨⟨%f, H⟩, Hr⟩, Hg⟩
  isplitl [H Hr]
  · isplitl [H]
    · iexists _; isplitr; swap; · iexact H
      ipureintro; exact fun h' => absurd h h'
    iexact Hr
  iexact Hg

theorem of_inv0 (c : Dev nD) (t : ℕ) : inv0 V c t ⊢ (Pipeline.ΦA spec0 c : sProp 𝕄) := by
  unfold Pipeline.ΦA inv0; rw [scopedRest0_split]
  simp only [scM0, owns_whole]
  iintro ⟨⟨⟨%f, -, H⟩, Hr⟩, Hg⟩
  isplitl [H Hr]
  · isplitl [H]
    · iexists _; iexact H
    iexact Hr
  iexact Hg

/-- The pipeline's proof data: each input's buffer at its block, the two outputs' at the body's words, the invariant
    above, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => fMix (in0 V c t) (E0 V c t.val)
    | ⟨10, _⟩ => fStates (E0 V c t.val)
  Φ t := inv0 V c t.val
  q w := Pipeline.shareOf spec0 w
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = fMix (in0 V c t) (E0 V c t.val) := by dsimp only [dat0]
theorem after0_10 (c : Dev nD) (t : Fin cfg0.N) : (dat0 V c).after 10 t = fStates (E0 V c t.val) := by dsimp only [dat0]

/-! An input's staging buffer holds its block at every point, fetched there or not. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 1200000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = inv0 V c (t.val + 1) from rfl, show (dat0 V c).Φ t.castSucc = inv0 V c t.val from rfl,
    show (dat0 V c).owesAt () t.succ = (dat0 V c).owesAt () t.castSucc from rfl,
    after0_0, after0_1, after0_2, after0_3, after0_4, after0_5, after0_6, after0_7, after0_8, after0_9, after0_10]
  unfold inv0
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run0 c (grid0.coords t) _ _ _ _ _ _ _ _ _ _ _ _ _ _ _ _ _ _ _ _ _ _ _ _ (in0 V c t) d Set.univ _)
  rw [pick0 V c t d hd]

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  iintro ⟨H0, H1, H2, H3, H4, H5, H6, H7, H8, H9, H10, HS⟩
  isplitl [HS HR Hg]
  · isplitl [HS HR]
    · isplitl [HS]
      · iexists _; isplitr; swap; · iexact HS
        ipureintro; intro h; rw [E0, if_neg h, pt0_val]
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point is the body there. -/
theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gla

end
-- ==== Proof.Run1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Words
public import proofs.«01_k».proof.Proof.Run0
public import Idealize.ShloMosaic.Lib.Pipeline.FrameBody
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The backward kernel's body: one run, at the first grid point or at a later one.
-/

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whole loads of the three accumulators. -/
abbrev ldA17 (a : Vec F S4x128x256 .f32) : Vec F S4x128x256 .f32 :=
  View.ld a (Rect.unit (s := S4x128x256) ![0, 0, 0] S4x128x256.size inb_S4x128x256_S4x128x256_0_0_0)
abbrev ldA18 (a : Vec F S4x1x256 .f32) : Vec F S4x1x256 .f32 :=
  View.ld a (Rect.unit (s := S4x1x256) ![0, 0, 0] S4x1x256.size inb_S4x1x256_S4x1x256_0_0_0)
abbrev ldA19 (a : Vec F S1x512 .f32) : Vec F S1x512 .f32 :=
  View.ld a (Rect.unit (s := S1x512) ![0, 0] S1x512.size inb_S1x512_S1x512_0_0)
theorem ldA17_eq (a : Vec F S4x128x256 .f32) : ldA17 a = a := View.ld_unit_lit _ a (by decide)
theorem ldA18_eq (a : Vec F S4x1x256 .f32) : ldA18 a = a := View.ld_unit_lit _ a (by decide)
theorem ldA19_eq (a : Vec F S1x512 .f32) : ldA19 a = a := View.ld_unit_lit _ a (by decide)

/-- The condition under which the accumulators are cleared, as the body computes it from its grid coordinates, -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- which holds at the first point only. -/
theorem hcond1_0 (t : Fin cfg1.N) : cond1_0 (grid1.coords t) ↔ t.val = 0 := by
  have ht : t.val < 64 := Nat.lt_of_lt_of_eq t.isLt N_1
  have e0 : (grid1.coords t 0).val = t.val / 32 % 2 := Pipeline.Grid.coords_val t 0 (by decide) rfl
  have e1 : (grid1.coords t 1).val = t.val / 1 % 32 := Pipeline.Grid.coords_val t 1 (by decide) rfl
  simp only [cond1_0, e0, e1]
  have : t.val = 0 ↔ t.val % 64 = 0 := by omega
  rw [this]
  word_cmp

/-- What the body adds to: the accumulators cleared at the first point, as found at a later one. -/
def start17 (i : grid1.Coords) (a : Vec F S4x128x256 .f32) : Vec F S4x128x256 .f32 := if cond1_0 i then k1_pay5 else ldA17 a
def start18 (i : grid1.Coords) (a : Vec F S4x1x256 .f32) : Vec F S4x1x256 .f32 := if cond1_0 i then k1_pay6 else ldA18 a
def start19 (i : grid1.Coords) (a : Vec F S1x512 .f32) : Vec F S1x512 .f32 := if cond1_0 i then k1_pay7 else ldA19 a

set_option maxHeartbeats 8000000 in
/-- The backward body. The three accumulators, found at `a17`, `a18` and `a19`, are added to from where they start. -/
theorem run1 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x128 .f32) (harg7 : arg7.IsWhole) (arg8 : Memref sig .tc .vmem S128x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S1x1x4x512x256 .f32) (harg11 : arg11.IsWhole) (arg12 : Memref sig .tc .vmem S64x2048 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x2048 .bf16) (harg17 : arg17.IsWhole) (arg18 : Memref sig .tc .vmem S64x128 .f32) (harg18 : arg18.IsWhole) (arg19 : Memref sig .tc .vmem S4x128x256 .f32) (harg19 : arg19.IsWhole) (arg20 : Memref sig .tc .vmem S4x1x256 .f32) (harg20 : arg20.IsWhole) (arg21 : Memref sig .tc .vmem S1x512 .f32) (harg21 : arg21.IsWhole) (arg22 : Memref sig .tc .vmem S4x512x256 .f32) (harg22 : arg22.IsWhole)
    (I : In F) (st : Vec F S1x1x4x512x256 .f32) (dm : Vec F S64x2048 .bf16) (a17 : Vec F S4x128x256 .f32) (a18 : Vec F S4x1x256 .f32) (a19 : Vec F S1x512 .f32) (s : Vec F S4x512x256 .f32) (E : Set ℕ) (K : PUnit → sProp 𝕄) :
    iprop(owns (c : Thread nD τ) arg2 fullShare I.x0 ∗
        owns (c : Thread nD τ) arg3 fullShare I.x1 ∗
        owns (c : Thread nD τ) arg4 fullShare I.x2 ∗
        owns (c : Thread nD τ) arg5 fullShare I.x3 ∗
        owns (c : Thread nD τ) arg6 fullShare I.x4 ∗
        owns (c : Thread nD τ) arg7 fullShare I.x5 ∗
        owns (c : Thread nD τ) arg8 fullShare I.x6 ∗
        owns (c : Thread nD τ) arg9 fullShare I.x7 ∗
        owns (c : Thread nD τ) arg10 fullShare I.x8 ∗
        owns (c : Thread nD τ) arg11 fullShare st ∗
        owns (c : Thread nD τ) arg12 fullShare dm ∗
        (∃ d, owns (c : Thread nD τ) arg13 fullShare d) ∗
        (∃ d, owns (c : Thread nD τ) arg14 fullShare d) ∗
        (∃ d, owns (c : Thread nD τ) arg15 fullShare d) ∗
        (∃ d, owns (c : Thread nD τ) arg16 fullShare d) ∗
        (∃ d, owns (c : Thread nD τ) arg17 fullShare d) ∗
        (∃ d, owns (c : Thread nD τ) arg18 fullShare d) ∗
        owns (c : Thread nD τ) arg19 fullShare a17 ∗
        owns (c : Thread nD τ) arg20 fullShare a18 ∗
        owns (c : Thread nD τ) arg21 fullShare a19 ∗
        owns (c : Thread nD τ) arg22 fullShare s ∗
        (iprop(owns (c : Thread nD τ) arg2 fullShare I.x0 ∗
        owns (c : Thread nD τ) arg3 fullShare I.x1 ∗
        owns (c : Thread nD τ) arg4 fullShare I.x2 ∗
        owns (c : Thread nD τ) arg5 fullShare I.x3 ∗
        owns (c : Thread nD τ) arg6 fullShare I.x4 ∗
        owns (c : Thread nD τ) arg7 fullShare I.x5 ∗
        owns (c : Thread nD τ) arg8 fullShare I.x6 ∗
        owns (c : Thread nD τ) arg9 fullShare I.x7 ∗
        owns (c : Thread nD τ) arg10 fullShare I.x8 ∗
        owns (c : Thread nD τ) arg11 fullShare st ∗
        owns (c : Thread nD τ) arg12 fullShare dm ∗
        owns (c : Thread nD τ) arg13 fullShare (bDq I st dm) ∗
        owns (c : Thread nD τ) arg14 fullShare (bDk I st dm (k1_pay66 (BitVec.ofNat 32 (i 1).val) (ldS s))) ∗
        owns (c : Thread nD τ) arg15 fullShare (bDv I st dm (k1_pay66 (BitVec.ofNat 32 (i 1).val) (ldS s))) ∗
        owns (c : Thread nD τ) arg16 fullShare (bDg I st dm) ∗
        owns (c : Thread nD τ) arg17 fullShare (bDga I st dm) ∗
        owns (c : Thread nD τ) arg18 fullShare (bDlr I st dm (k1_pay66 (BitVec.ofNat 32 (i 1).val) (ldS s))) ∗
        owns (c : Thread nD τ) arg19 fullShare (bDw2 I st dm (k1_pay66 (BitVec.ofNat 32 (i 1).val) (ldS s)) (start17 i a17)) ∗
        owns (c : Thread nD τ) arg20 fullShare (bDb I st dm (k1_pay66 (BitVec.ofNat 32 (i 1).val) (ldS s)) (start18 i a18)) ∗
        owns (c : Thread nD τ) arg21 fullShare (bDgn I st dm (start19 i a19)) ∗
        owns (c : Thread nD τ) arg22 fullShare (bNew I st dm (k1_pay66 (BitVec.ofNat 32 (i 1).val) (ldS s)))) -∗ K ⟨⟩))
      ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1_gla_bwd_eq_skeleton]; unfold cc1_gla_bwd_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  obtain ⟨x0, x1, x2, x3, x4, x5, x6, x7, x8⟩ := I
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%fs0, %hfs0, HS0⟩, Hk⟩
  subst hf0 hf1 hf2 hf3 hf4 hf5 hf6 hf7 hf8 hf9 hf10 hf17 hf18 hf19 hfs0
  by_cases hc : cond1_0 i
  on_goal 1 => rw [start17, start18, start19, if_pos hc, if_pos hc, if_pos hc]
  on_goal 2 => rw [start17, start18, start19, if_neg hc, if_neg hc, if_neg hc]
  all_goals
    sl_exec (disch := first | sl_exact hc)
    sl_step
    iapply Hk
    isplitl [H0]; · iapply (reads rfl); iexact H0
    isplitl [H1]; · iapply (reads rfl); iexact H1
    isplitl [H2]; · iapply (reads rfl); iexact H2
    isplitl [H3]; · iapply (reads rfl); iexact H3
    isplitl [H4]; · iapply (reads rfl); iexact H4
    isplitl [H5]; · iapply (reads rfl); iexact H5
    isplitl [H6]; · iapply (reads rfl); iexact H6
    isplitl [H7]; · iapply (reads rfl); iexact H7
    isplitl [H8]; · iapply (reads rfl); iexact H8
    isplitl [H9]; · iapply (reads rfl); iexact H9
    isplitl [H10]; · iapply (reads rfl); iexact H10
    isplitl [H11]
    · iexists _; isplitr; swap; · iexact H11
      ipureintro
      refine Eq.trans (View.read_writes_eq_canon _ _ _ ?_) ?_
      · exact View.cover_of_tiledL _ S64x256.size (by sl_kernel_rfl)
      · sl_kernel_rfl
    isplitl [H12]
    · iexists _; isplitr; swap; · iexact H12
      ipureintro
      refine Eq.trans (View.read_writes_eq_canon _ _ _ ?_) ?_
      · exact View.cover_of_tiledL _ S64x256.size (by sl_kernel_rfl)
      · sl_kernel_rfl
    isplitl [H13]
    · iexists _; isplitr; swap; · iexact H13
      ipureintro
      refine Eq.trans (View.read_writes_eq_canon _ _ _ ?_) ?_
      · exact View.cover_of_tiledL _ S64x512.size (by sl_kernel_rfl)
      · sl_kernel_rfl
    isplitl [H14]
    · iexists _; isplitr; swap; · iexact H14
      ipureintro
      refine Eq.trans (View.read_writes_eq_canon _ _ _ ?_) ?_
      · exact View.cover_of_tiledL _ S64x512.size (by sl_kernel_rfl)
      · sl_kernel_rfl
    isplitl [H15]
    · iexists _; isplitr; swap; · iexact H15
      ipureintro
      refine Eq.trans (View.read_writes_eq_canon _ _ _ ?_) ?_
      · exact View.cover_of_tiledL _ S64x512.size (by sl_kernel_rfl)
      · sl_kernel_rfl
    isplitl [H16]
    · iexists _; isplitr; swap; · iexact H16
      ipureintro
      refine Eq.trans (read_whole_piece _ _ _ (by decide) _ _) ?_
      sl_kernel_rfl
    isplitl [H17]
    · iexists _; isplitr; swap; · iexact H17
      ipureintro
      refine Eq.trans (read_whole_piece _ _ _ (by decide) _ _) ?_
      try refine Eq.trans (congrArg (k1_pay2 _) (View.readCov_cons_toLoadRect _ _ _ _)) ?_
      sl_kernel_rfl
    isplitl [H18]
    · iexists _; isplitr; swap; · iexact H18
      ipureintro
      refine Eq.trans (read_whole_piece _ _ _ (by decide) _ _) ?_
      try refine Eq.trans (congrArg (k1_pay3 _) (View.readCov_cons_toLoadRect _ _ _ _)) ?_
      sl_kernel_rfl
    isplitl [H19]
    · iexists _; isplitr; swap; · iexact H19
      ipureintro
      refine Eq.trans (read_whole_piece _ _ _ (by decide) _ _) ?_
      try refine Eq.trans (congrArg (k1_pay4 _) (View.readCov_cons_toLoadRect _ _ _ _)) ?_
      sl_kernel_rfl
    iexists _; isplitr; swap; · iexact HS0
    ipureintro
    refine Eq.trans (read_whole_piece _ _ _ (by decide) _ _) ?_
    sl_kernel_rfl

end Cert.KernelIdeal.Gla

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region0
public import proofs.«01_k».proof.Proof.Run1
public import Idealize.ShloMosaic.Lib.Pipeline.FrameBody
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The backward kernel as a pipeline: its blocks, the gradient state and the three accumulators carried over its grid
points, the proof data and the body obligation.
-/

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the TensorCore's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The inputs of a grid point, -/
def in1 (c : Dev nD) (t : Fin cfg1.N) : In F :=
  ⟨iblk1 V c 0 t, iblk1 V c 1 t, iblk1 V c 2 t, iblk1 V c 3 t, iblk1 V c 4 t, iblk1 V c 5 t, iblk1 V c 6 t, iblk1 V c 7 t, iblk1 V c 8 t⟩

/-- the saved state and the incoming gradient there. -/
def st1 (c : Dev nD) (t : Fin cfg1.N) : Vec F S1x1x4x512x256 .f32 := iblk1 V c 9 t
def dm1 (c : Dev nD) (t : Fin cfg1.N) : Vec F S64x2048 .bf16 := iblk1 V c 10 t

/-- Grid point number `t`, counted round. -/
def pt1 (t : ℕ) : Fin cfg1.N := ⟨t % 64, Nat.lt_of_lt_of_eq (Nat.mod_lt _ (by decide)) N_1.symm⟩

theorem pt1_val (t : Fin cfg1.N) : pt1 t.val = t := by
  apply Fin.ext
  exact Nat.mod_eq_of_lt (Nat.lt_of_lt_of_eq t.isLt N_1)

/-- The gradient state that grid point `t` starts from: zero at a sequence's last chunk (the chunks come last first),
    what the point before it left elsewhere. -/
def E1 (c : Dev nD) : ℕ → Vec F S4x512x256 .f32
  | 0 => zeroS
  | t + 1 => if (t + 1) % 32 = 0 then zeroS
      else bNew (in1 V c (pt1 t)) (st1 V c (pt1 t)) (dm1 V c (pt1 t)) (E1 c t)

theorem E1_first (c : Dev nD) (t : ℕ) (h : t % 32 = 0) : E1 V c t = zeroS := by
  cases t with
  | zero => rfl
  | succ t => rw [E1, if_pos h]

/-- The body's selection is the gradient state the point starts from. -/
theorem pick1 (c : Dev nD) (t : Fin cfg1.N) (d : Vec F S4x512x256 .f32) (h : t.val % 32 ≠ 0 → d = E1 V c t.val) :
    k1_pay66 (BitVec.ofNat 32 (grid1.coords t 1).val) (ldS d) = E1 V c t.val := by
  have e1 : (grid1.coords t 1).val = t.val / 1 % 32 := Pipeline.Grid.coords_val t 1 (by decide) rfl
  rw [Nat.div_one] at e1
  rw [ldS_eq]
  have hs := sgt_ofNat ⟨t.val % 32, Nat.mod_lt _ (by decide)⟩
  show Scalar.select (Scalar.cmpi .sgt (BitVec.ofNat 32 (grid1.coords t 1).val) 0#32) d zeroS = _
  rw [e1, hs]
  by_cases h0 : t.val % 32 = 0
  · rw [if_pos h0, E1_first V c _ h0]; rfl
  · rw [if_neg h0, h h0]; rfl

/-- The three accumulators after point `t`. -/
def A17 (c : Dev nD) : ℕ → Vec F S4x128x256 .f32
  | 0 => bDw2 (in1 V c (pt1 0)) (st1 V c (pt1 0)) (dm1 V c (pt1 0)) (E1 V c 0) k1_pay5
  | t + 1 => bDw2 (in1 V c (pt1 (t + 1))) (st1 V c (pt1 (t + 1))) (dm1 V c (pt1 (t + 1))) (E1 V c (t + 1)) (A17 c t)
def A18 (c : Dev nD) : ℕ → Vec F S4x1x256 .f32
  | 0 => bDb (in1 V c (pt1 0)) (st1 V c (pt1 0)) (dm1 V c (pt1 0)) (E1 V c 0) k1_pay6
  | t + 1 => bDb (in1 V c (pt1 (t + 1))) (st1 V c (pt1 (t + 1))) (dm1 V c (pt1 (t + 1))) (E1 V c (t + 1)) (A18 c t)
def A19 (c : Dev nD) : ℕ → Vec F S1x512 .f32
  | 0 => bDgn (in1 V c (pt1 0)) (st1 V c (pt1 0)) (dm1 V c (pt1 0)) k1_pay7
  | t + 1 => bDgn (in1 V c (pt1 (t + 1))) (st1 V c (pt1 (t + 1))) (dm1 V c (pt1 (t + 1))) (A19 c t)

theorem acc_zero (c : Dev nD) (t : Fin cfg1.N) (h : t.val = 0) :
    A17 V c t.val = bDw2 (in1 V c t) (st1 V c t) (dm1 V c t) (E1 V c t.val) k1_pay5 ∧
    A18 V c t.val = bDb (in1 V c t) (st1 V c t) (dm1 V c t) (E1 V c t.val) k1_pay6 ∧
    A19 V c t.val = bDgn (in1 V c t) (st1 V c t) (dm1 V c t) k1_pay7 := by
  have hp : pt1 0 = t := by rw [← h]; exact pt1_val t
  rw [h]; simp only [A17, A18, A19, hp, and_self]

theorem acc_succ (c : Dev nD) (t : Fin cfg1.N) (h : t.val ≠ 0) :
    A17 V c t.val = bDw2 (in1 V c t) (st1 V c t) (dm1 V c t) (E1 V c t.val) (A17 V c (t.val - 1)) ∧
    A18 V c t.val = bDb (in1 V c t) (st1 V c t) (dm1 V c t) (E1 V c t.val) (A18 V c (t.val - 1)) ∧
    A19 V c t.val = bDgn (in1 V c t) (st1 V c t) (dm1 V c t) (A19 V c (t.val - 1)) := by
  obtain ⟨n, hn⟩ := Nat.exists_eq_succ_of_ne_zero h
  have hp : pt1 (n + 1) = t := by rw [← Nat.succ_eq_add_one, ← hn]; exact pt1_val t
  rw [hn]; simp only [Nat.succ_eq_add_one, Nat.add_sub_cancel, A17, A18, A19, hp, and_self]

abbrev ms1_0 (t : Fin cfg1.N) : Memref sig .tc .vmem S64x1024 .f32 := win1_0.stage (cfg1.slots t 0)
abbrev ms1_1 (t : Fin cfg1.N) : Memref sig .tc .vmem S64x1024 .f32 := win1_1.stage (cfg1.slots t 1)
abbrev ms1_2 (t : Fin cfg1.N) : Memref sig .tc .vmem S64x2048 .f32 := win1_2.stage (cfg1.slots t 2)
abbrev ms1_3 (t : Fin cfg1.N) : Memref sig .tc .vmem S64x2048 .f32 := win1_3.stage (cfg1.slots t 3)
abbrev ms1_4 (t : Fin cfg1.N) : Memref sig .tc .vmem S64x2048 .f32 := win1_4.stage (cfg1.slots t 4)
abbrev ms1_5 (t : Fin cfg1.N) : Memref sig .tc .vmem S64x128 .f32 := win1_5.stage (cfg1.slots t 5)
abbrev ms1_6 (t : Fin cfg1.N) : Memref sig .tc .vmem S128x1024 .f32 := win1_6.stage (cfg1.slots t 6)
abbrev ms1_7 (t : Fin cfg1.N) : Memref sig .tc .vmem S1x1024 .f32 := win1_7.stage (cfg1.slots t 7)
abbrev ms1_8 (t : Fin cfg1.N) : Memref sig .tc .vmem S1x512 .f32 := win1_8.stage (cfg1.slots t 8)
abbrev ms1_9 (t : Fin cfg1.N) : Memref sig .tc .vmem S1x1x4x512x256 .f32 := win1_9.stage (cfg1.slots t 9)
abbrev ms1_10 (t : Fin cfg1.N) : Memref sig .tc .vmem S64x2048 .bf16 := win1_10.stage (cfg1.slots t 10)
abbrev ms1_11 (t : Fin cfg1.N) : Memref sig .tc .vmem S64x1024 .bf16 := win1_11.stage (cfg1.slots t 11)
abbrev ms1_12 (t : Fin cfg1.N) : Memref sig .tc .vmem S64x1024 .bf16 := win1_12.stage (cfg1.slots t 12)
abbrev ms1_13 (t : Fin cfg1.N) : Memref sig .tc .vmem S64x2048 .bf16 := win1_13.stage (cfg1.slots t 13)
abbrev ms1_14 (t : Fin cfg1.N) : Memref sig .tc .vmem S64x2048 .bf16 := win1_14.stage (cfg1.slots t 14)
abbrev ms1_15 (t : Fin cfg1.N) : Memref sig .tc .vmem S64x2048 .bf16 := win1_15.stage (cfg1.slots t 15)
abbrev ms1_16 (t : Fin cfg1.N) : Memref sig .tc .vmem S64x128 .f32 := win1_16.stage (cfg1.slots t 16)
abbrev ms1_17 (t : Fin cfg1.N) : Memref sig .tc .vmem S4x128x256 .f32 := win1_17.stage (cfg1.slots t 17)
abbrev ms1_18 (t : Fin cfg1.N) : Memref sig .tc .vmem S4x1x256 .f32 := win1_18.stage (cfg1.slots t 18)
abbrev ms1_19 (t : Fin cfg1.N) : Memref sig .tc .vmem S1x512 .f32 := win1_19.stage (cfg1.slots t 19)
/-- The kernel's scratch buffer: the carried gradient state. -/
abbrev scM1 : Memref sig .tc .vmem S4x512x256 .f32 := Memref.whole cc1_scratch0

/-- The other scoped buffers split off the kernel's own scratch. -/
theorem scoped1_split (c : Dev nD) :
    (Pipeline.scopedRest spec1 c : sProp 𝕄)
      = iprop(iprop((∃ f : Buf (Elt F) ((c : Thread nD τ).loc cc1_scratch0), ((c : Thread nD τ).loc cc1_scratch0) ↦{fullShare} f))
          ∗ Pipeline.scopedRestBut spec1 c [cc1_scratch0]) :=
  Pipeline.scopedRest_split_of_list spec1 c [cc1_scratch0] (by decide) (by decide)

/-- The pipeline's invariant at point `t`: the scratch holds the gradient state the point starts from — at a
    sequence's last chunk, anything —, and the other scoped buffers and the generator register ride along. -/
def inv1 (c : Dev nD) (t : ℕ) : sProp 𝕄 :=
  iprop(iprop((∃ d, ⌜t % 32 ≠ 0 → d = E1 V c t⌝ ∗ owns (c : Thread nD τ) scM1 fullShare d)
    ∗ Pipeline.scopedRestBut spec1 c [cc1_scratch0]) ∗ (∃ r, prngReg c r))

theorem inv1_of (c : Dev nD) (t : ℕ) (h : t % 32 = 0) : (Pipeline.ΦA spec1 c : sProp 𝕄) ⊢ inv1 V c t := by
  unfold Pipeline.ΦA inv1; rw [scoped1_split]
  simp only [scM1, owns_whole]
  iintro ⟨⟨⟨%f, H⟩, Hr⟩, Hg⟩
  isplitl [H Hr]
  · isplitl [H]
    · iexists _; isplitr; swap; · iexact H
      ipureintro; exact fun h' => absurd h h'
    iexact Hr
  iexact Hg

theorem of_inv1 (c : Dev nD) (t : ℕ) : inv1 V c t ⊢ (Pipeline.ΦA spec1 c : sProp 𝕄) := by
  unfold Pipeline.ΦA inv1; rw [scoped1_split]
  simp only [scM1, owns_whole]
  iintro ⟨⟨⟨%f, -, H⟩, Hr⟩, Hg⟩
  isplitl [H Hr]
  · isplitl [H]
    · iexists _; iexact H
    iexact Hr
  iexact Hg

/-- The pipeline's proof data: each input's buffer at its block, the outputs' at the body's words, the invariant
    above, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => st1 V c t
    | ⟨10, _⟩ => dm1 V c t
    | ⟨11, _⟩ => bDq (in1 V c t) (st1 V c t) (dm1 V c t)
    | ⟨12, _⟩ => bDk (in1 V c t) (st1 V c t) (dm1 V c t) (E1 V c t.val)
    | ⟨13, _⟩ => bDv (in1 V c t) (st1 V c t) (dm1 V c t) (E1 V c t.val)
    | ⟨14, _⟩ => bDg (in1 V c t) (st1 V c t) (dm1 V c t)
    | ⟨15, _⟩ => bDga (in1 V c t) (st1 V c t) (dm1 V c t)
    | ⟨16, _⟩ => bDlr (in1 V c t) (st1 V c t) (dm1 V c t) (E1 V c t.val)
    | ⟨17, _⟩ => A17 V c t.val
    | ⟨18, _⟩ => A18 V c t.val
    | ⟨19, _⟩ => A19 V c t.val
    | ⟨_ + 20, h⟩ => absurd h (Nat.not_lt.2 (Nat.le_add_left _ _))
  Φ t := inv1 V c t.val
  q w := Pipeline.shareOf spec1 w
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = st1 V c t := by dsimp only [dat1]
theorem after1_10 (c : Dev nD) (t : Fin cfg1.N) : (dat1 V c).after 10 t = dm1 V c t := by dsimp only [dat1]
theorem after1_11 (c : Dev nD) (t : Fin cfg1.N) : (dat1 V c).after 11 t = bDq (in1 V c t) (st1 V c t) (dm1 V c t) := by dsimp only [dat1]
theorem after1_12 (c : Dev nD) (t : Fin cfg1.N) : (dat1 V c).after 12 t = bDk (in1 V c t) (st1 V c t) (dm1 V c t) (E1 V c t.val) := by dsimp only [dat1]
theorem after1_13 (c : Dev nD) (t : Fin cfg1.N) : (dat1 V c).after 13 t = bDv (in1 V c t) (st1 V c t) (dm1 V c t) (E1 V c t.val) := by dsimp only [dat1]
theorem after1_14 (c : Dev nD) (t : Fin cfg1.N) : (dat1 V c).after 14 t = bDg (in1 V c t) (st1 V c t) (dm1 V c t) := by dsimp only [dat1]
theorem after1_15 (c : Dev nD) (t : Fin cfg1.N) : (dat1 V c).after 15 t = bDga (in1 V c t) (st1 V c t) (dm1 V c t) := by dsimp only [dat1]
theorem after1_16 (c : Dev nD) (t : Fin cfg1.N) : (dat1 V c).after 16 t = bDlr (in1 V c t) (st1 V c t) (dm1 V c t) (E1 V c t.val) := by dsimp only [dat1]
theorem after1_17 (c : Dev nD) (t : Fin cfg1.N) : (dat1 V c).after 17 t = A17 V c t.val := by dsimp only [dat1]
theorem after1_18 (c : Dev nD) (t : Fin cfg1.N) : (dat1 V c).after 18 t = A18 V c t.val := by dsimp only [dat1]
theorem after1_19 (c : Dev nD) (t : Fin cfg1.N) : (dat1 V c).after 19 t = A19 V c t.val := by dsimp only [dat1]

/-! An input's staging buffer holds its block at every point, fetched there or not; an accumulator's what the point
before left. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = st1 V c t :=
  ((dat1 V c).before_in_eq_fetched 9 rfl (fun _ => rfl) (fun _ _ _ => rfl)
    (fun t => by rw [after1_9]; unfold st1 Dat.blockOf iblk1; rw [A_eq1]; try rfl) t d).trans
    (by unfold st1 Dat.fetched Dat.blockOf iblk1; rw [A_eq1]; try rfl)
theorem before1_10 (c : Dev nD) (t : Fin cfg1.N) (d) : (dat1 V c).before 10 t d = dm1 V c t :=
  ((dat1 V c).before_in_eq_fetched 10 rfl (fun _ => rfl) (fun _ _ _ => rfl)
    (fun t => by rw [after1_10]; unfold dm1 Dat.blockOf iblk1; rw [A_eq1]; try rfl) t d).trans
    (by unfold dm1 Dat.fetched Dat.blockOf iblk1; rw [A_eq1]; try rfl)
theorem before1_17 (c : Dev nD) (t : Fin cfg1.N) (h0 : t.val ≠ 0) (d) : (dat1 V c).before 17 t d = A17 V c (t.val - 1) := by
  have hN : t.val < 64 := Nat.lt_of_lt_of_eq t.isLt N_1
  rw [Dat.before_out_kept _ 17 rfl t (by omega)
    (Bool.eq_false_iff.mpr fun h => by have := (flush1_17 _).mp h; dsimp only at this; omega) (fun _ => rfl) (fun _ _ => rfl)]
  dsimp only [dat1]
theorem before1_18 (c : Dev nD) (t : Fin cfg1.N) (h0 : t.val ≠ 0) (d) : (dat1 V c).before 18 t d = A18 V c (t.val - 1) := by
  have hN : t.val < 64 := Nat.lt_of_lt_of_eq t.isLt N_1
  rw [Dat.before_out_kept _ 18 rfl t (by omega)
    (Bool.eq_false_iff.mpr fun h => by have := (flush1_18 _).mp h; dsimp only at this; omega) (fun _ => rfl) (fun _ _ => rfl)]
  dsimp only [dat1]
theorem before1_19 (c : Dev nD) (t : Fin cfg1.N) (h0 : t.val ≠ 0) (d) : (dat1 V c).before 19 t d = A19 V c (t.val - 1) := by
  have hN : t.val < 64 := Nat.lt_of_lt_of_eq t.isLt N_1
  rw [Dat.before_out_kept _ 19 rfl t (by omega)
    (Bool.eq_false_iff.mpr fun h => by have := (flush1_19 _).mp h; dsimp only at this; omega) (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t))

/-- At any point the accumulators are added to from where they start. -/
theorem acc17_at (c : Dev nD) (t : Fin cfg1.N) (d) : A17 V c t.val
    = bDw2 (in1 V c t) (st1 V c t) (dm1 V c t) (E1 V c t.val) (start17 (grid1.coords t) ((dat1 V c).before 17 t d)) := by
  unfold start17
  by_cases h : t.val = 0
  · rw [if_pos ((hcond1_0 t).mpr h), (acc_zero V c t h).1]
  · rw [if_neg (mt (hcond1_0 t).mp h), ldA17_eq, before1_17 V c t h, (acc_succ V c t h).1]
theorem acc18_at (c : Dev nD) (t : Fin cfg1.N) (d) : A18 V c t.val
    = bDb (in1 V c t) (st1 V c t) (dm1 V c t) (E1 V c t.val) (start18 (grid1.coords t) ((dat1 V c).before 18 t d)) := by
  unfold start18
  by_cases h : t.val = 0
  · rw [if_pos ((hcond1_0 t).mpr h), (acc_zero V c t h).2.1]
  · rw [if_neg (mt (hcond1_0 t).mp h), ldA18_eq, before1_18 V c t h, (acc_succ V c t h).2.1]
theorem acc19_at (c : Dev nD) (t : Fin cfg1.N) (d) : A19 V c t.val
    = bDgn (in1 V c t) (st1 V c t) (dm1 V c t) (start19 (grid1.coords t) ((dat1 V c).before 19 t d)) := by
  unfold start19
  by_cases h : t.val = 0
  · rw [if_pos ((hcond1_0 t).mpr h), (acc_zero V c t h).2.2]
  · rw [if_neg (mt (hcond1_0 t).mp h), ldA19_eq, before1_19 V c t h, (acc_succ V c t h).2.2]

set_option maxHeartbeats 2400000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = inv1 V c (t.val + 1) from rfl, show (dat1 V c).Φ t.castSucc = inv1 V c t.val from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  unfold inv1
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  rw [acc17_at V c t d17, acc18_at V c t d18, acc19_at V c t d19]
  iapply (run1 c (grid1.coords t) _ _ _ _ _ _ _ _ _ _ _ _ _ _ _ _ _ _ _ _ _ _ _ _ _ _ _ _ _ _ _ _ _ _ _ _ _ _ _ _ _ _ (in1 V c t) (st1 V c t) (dm1 V c t) _ _ _ d Set.univ _)
  rw [pick1 V c t d hd]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [H19]; · iexact H19
  isplitl [HS]; · iexact HS
  iintro ⟨H0, H1, H2, H3, H4, H5, H6, H7, H8, H9, H10, H11, H12, H13, H14, H15, H16, H17, H18, H19, HS⟩
  isplitl [HS HR Hg]
  · isplitl [HS HR]
    · isplitl [HS]
      · iexists _; isplitr; swap; · iexact HS
        ipureintro; intro h; rw [E1, if_neg h, pt1_val]
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at a point is the body there. -/
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gla

end
-- ==== Proof.Main.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region0
public import proofs.«01_k».proof.Proof.Region1
public import Idealize.ShloMosaic.Lib.Pipeline.FrameBody
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The two kernels one after the other: the buffers between them, the regions as segments, and the run of the whole
program.
-/

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5]

/-! ## The buffers at the launch, between the two kernels and at the end -/

/-- A core's buffers at the launch, -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- after kernel 0: its arrays at what its pipeline leaves, every other buffer as before. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b

theorem W1_arr (c : Dev nD) (w : Fin cfg0.W) :
    W1 m ρ c (Proc.devRef .tc (Pipeline.arrRef spec0 w)) = (dat0 (V0 m ρ) c).arrAt w cfg0.N := by
  unfold W1; exact (dat0 (V0 m ρ) c).withArrays_arrAt launch₀0.sharedIn _ (A_eq0 (V0 m ρ) c) w

theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

/-- A buffer that is no output of kernel 0 is left as it was. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)

theorem W1_args (c : Dev nD) : ∀ a ∈ argRefs, W1 m ρ c (Proc.devRef .tc a) = m ((c : Thread nD τ).loc a) :=
  fun a ha => (W1_of m ρ c a (argsIn0 a ha)).trans rfl

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- after kernel 1: its arrays at what its pipeline leaves, every other buffer as before. -/
def W2 (c : Dev nD) : Valuation τ sig (Elt F) :=
  Pipeline.withArrays spec1 c (W1 m ρ c) fun w => (dat1 (V1 m ρ) c).arrAt w cfg1.N
abbrev V2 : (c : Dev nD) → (b : Ref sig .tc) → Buf (Elt F) ((c : Thread nD τ).loc b) := fun c b => W2 m ρ c b

theorem W2_arr (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w

theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb

/-- A buffer that is no output of kernel 1 is left as it was. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)

theorem W2_args (c : Dev nD) : ∀ a ∈ argRefs, W2 m ρ c (Proc.devRef .tc a) = m ((c : Thread nD τ).loc a) :=
  fun a ha => (W2_of m ρ c a (argsIn1 a ha)).trans (W1_args m ρ c a ha)

theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The two regions as segments -/

abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register and a core that owes nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

-- the library's lemmas are stated over the pinned configurations, which unification has to unfold
set_option backward.isDefEq.respectTransparency.types false in
/-- Kernel 0 as a segment of the program. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec0 c : sProp 𝕄) ⊢ (pdats m ρ 0 c).Φ 0 from inv0_of (V0 m ρ) c 0 rfl)
    unfold Pipeline.ΦA
    iintro ⟨Hp, -, Hr⟩
    isplitl [Hr]; · iexact Hr
    iexact Hp
  hout c := by
    refine .trans (show (pdats m ρ 0 c).Φ (Fin.last _) ⊢ (Pipeline.ΦA spec0 c : sProp 𝕄) from of_inv0 (V0 m ρ) c _) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configurations, which unification has to unfold
set_option backward.isDefEq.respectTransparency.types false in
/-- Kernel 1 as a segment of the program. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from inv1_of (V1 m ρ) c 0 rfl)
    unfold Pipeline.ΦA
    iintro ⟨Hp, -, Hr⟩
    isplitl [Hr]; · iexact Hr
    iexact Hp
  hout c := by
    refine .trans (show (pdats m ρ 1 c).Φ (Fin.last _) ⊢ (Pipeline.ΦA spec1 c : sProp 𝕄) from of_inv1 (V1 m ρ) c _) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's two segments in order, -/
abbrev segs : List (Pipeline.Seg (pcfgs (F := F)) adm (pdats m ρ) () defs₀ 𝒱₀ L lv) :=
  [ .region (reg0 m ρ), .region (reg1 m ρ) ]
/-- whose run the program is. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole program: it terminates from any memory with zero counters, leaves every buffer that is not a kernel's
    own at `W2`, and every counter at zero. -/
theorem run_main : θ_run defs (onTc (τ := τ) (main (F := F))) ⟨m, fun _ => 0, ρ⟩ (fun r =>
      (∀ c : Dev nD, ∀ b : Ref sig .tc, ¬ (Proc.devRef .tc b : DevRef τ sig).isScoped →
        r.2.mem ((c.tc : Thread nD τ).loc b) = W2 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c b hb => h c _ (mem_uc b hb), funext fun g => hz g (.inr (no_unscoped g.2))⟩)

/-- The frame: the argument arrays end as they began and every counter is at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c main_arg0 (by decide)).trans (W2_args m ρ c main_arg0 (by decide)),
     (h.1 c main_arg1 (by decide)).trans (W2_args m ρ c main_arg1 (by decide)),
     (h.1 c main_arg2 (by decide)).trans (W2_args m ρ c main_arg2 (by decide)),
     (h.1 c main_arg3 (by decide)).trans (W2_args m ρ c main_arg3 (by decide)),
     (h.1 c main_arg4 (by decide)).trans (W2_args m ρ c main_arg4 (by decide)),
     (h.1 c main_arg5 (by decide)).trans (W2_args m ρ c main_arg5 (by decide))⟩, h.2⟩) (run_main m ρ)

end Cert.KernelIdeal.Gla

end
-- ==== Proof.Real.lean ====
module

public import proofs.«01_k».proof.Proof.Words
public import Idealize.ShloMosaic.Lib.Pointwise

/-!
Reading extended reals that are real: the coercion lemmas that carry the exact operations to `ℝ`, the constants of
the two programs, and `Is2`/`Is3`, which say that every entry of a vector is a given real.
-/

@[expose] public section

set_option maxRecDepth 16384

noncomputable section

namespace Cert.KernelIdeal.Gla

open Idealize.ShloMosaic Idealize.ShloMosaic.TcCoe

/-- Every entry of the matrix `x` is the real `f` gives. -/
def Is2 {a b : ℕ} (x : (⟨2, ![a, b]⟩ : Shape).Idx → EReal) (f : Fin a → Fin b → ℝ) : Prop :=
  ∀ i j, x (ix2 i j) = ((f i j : ℝ) : EReal)

/-- Every entry of the rank-three array `x` is the real `f` gives. -/
def Is3 {a b c : ℕ} (x : (⟨3, ![a, b, c]⟩ : Shape).Idx → EReal) (f : Fin a → Fin b → Fin c → ℝ) : Prop :=
  ∀ i j k, x (ix3 i j k) = ((f i j k : ℝ) : EReal)

theorem exp_coe (x : ℝ) : Ideal.exp (x : EReal) = ((Real.exp x : ℝ) : EReal) := rfl

theorem log_coe {x : ℝ} (h : 0 < x) : Ideal.log (x : EReal) = ((Real.log x : ℝ) : EReal) :=
  if_neg (not_le.mpr h)

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem div_coe' (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem max_coe (x y : ℝ) : max (x : EReal) (y : EReal) = ((max x y : ℝ) : EReal) :=
  (EReal.coe_strictMono.monotone.map_max (a := x) (b := y)).symm

theorem cst_zero : Ideal.ofBits .f32 0x00000000#32 = ((0 : ℝ) : EReal) := by simp
theorem cst_one : Ideal.ofBits .f32 0x3F800000#32 = ((1 : ℝ) : EReal) := by simp

theorem cst_sixteenth : Ideal.ofBits .f32 0x3D800000#32 = ((1 / 16 : ℝ) : EReal) := by
  simp [Ideal.ofBits, Ideal.ieee]; rw [← EReal.coe_mul]; norm_num
theorem cst_sixteen : Ideal.ofBits .f32 0x41800000#32 = ((16 : ℝ) : EReal) := by
  simp [Ideal.ofBits, Ideal.ieee]; rw [← EReal.coe_mul]; norm_num
theorem cst_512 : Ideal.ofBits .f32 0x44000000#32 = ((512 : ℝ) : EReal) := by
  simp [Ideal.ofBits, Ideal.ieee]; rw [← EReal.coe_mul]; norm_num
theorem cst_half : Ideal.ofBits .f32 0x3F000000#32 = ((1 / 2 : ℝ) : EReal) := by
  simp [Ideal.ofBits, Ideal.ieee]; rw [← EReal.coe_mul]; norm_num
theorem cst_neg_half : Ideal.ofBits .f32 0xBF000000#32 = ((-(1 / 2) : ℝ) : EReal) := by
  simp [Ideal.ofBits, Ideal.ieee]; rw [← EReal.coe_mul]; norm_num

/-- The norm's small constant, `9.99999997e-7`. -/
def eps : ℝ := 8796093 * (2 : ℝ) ^ (-43 : ℤ)

theorem eps_pos : 0 < eps := by unfold eps; positivity

theorem cst_eps : Ideal.ofBits .f32 0x358637BD#32 = ((eps : ℝ) : EReal) := by
  unfold eps; simp [Ideal.ofBits, Ideal.ieee]

theorem cst_inf : Ideal.ofBits .f32 0x7F800000#32 = ⊤ := by simp [Ideal.ofBits, Ideal.ieee]

theorem sel_ofBool {α : Type} (p : Prop) [Decidable p] (x y : α) :
    Scalar.select (BitVec.ofBool (decide p)) x y = if p then x else y := by
  by_cases h : p <;> simp [h, Scalar.select]

theorem ite_coe (p : Prop) [Decidable p] (x y : ℝ) :
    (if p then (x : EReal) else (y : EReal)) = ((if p then x else y : ℝ) : EReal) := by
  split <;> rfl

/-! ## Rewriting forms -/

theorem one_add_coe (x : ℝ) : (1 : EReal) + (x : EReal) = ((1 + x : ℝ) : EReal) := by
  rw [EReal.coe_add, EReal.coe_one]

theorem max_zero_coe (x : ℝ) : max (x : EReal) 0 = ((max x 0 : ℝ) : EReal) := by
  rw [← max_coe, EReal.coe_zero]

theorem max_neg_coe (x : ℝ) : max (x : EReal) (-(x : EReal)) = ((|x| : ℝ) : EReal) := by
  rw [← EReal.coe_neg, max_coe, abs_eq_max_neg]

theorem abs_coe (x : ℝ) : FloatOps.absf (F := Ideal) (φ := .f32) (x : EReal) = ((|x| : ℝ) : EReal) :=
  max_neg_coe x

theorem log_one_add_exp (x : ℝ) :
    Ideal.log ((1 + Real.exp x : ℝ) : EReal) = ((Real.log (1 + Real.exp x) : ℝ) : EReal) :=
  log_coe (by positivity)

theorem div_sixteen (x : ℝ) : Ideal.div (x : EReal) ((16 : ℝ) : EReal) = ((x / 16 : ℝ) : EReal) :=
  div_coe' x (by norm_num)

theorem div_512 (x : ℝ) : Ideal.div (x : EReal) ((512 : ℝ) : EReal) = ((x / 512 : ℝ) : EReal) :=
  div_coe' x (by norm_num)

theorem div_one_add_exp (y x : ℝ) :
    Ideal.div (y : EReal) ((1 + Real.exp x : ℝ) : EReal) = ((y / (1 + Real.exp x) : ℝ) : EReal) :=
  div_coe' y (by positivity)

theorem one_div_one_add_exp (x : ℝ) :
    Ideal.div 1 ((1 + Real.exp x : ℝ) : EReal) = ((1 / (1 + Real.exp x) : ℝ) : EReal) := by
  rw [← div_one_add_exp, EReal.coe_one]

theorem one_div_sq (x : ℝ) :
    Ideal.div 1 (((1 + Real.exp x) * (1 + Real.exp x) : ℝ) : EReal)
      = ((1 / ((1 + Real.exp x) * (1 + Real.exp x)) : ℝ) : EReal) := by
  rw [← div_coe' 1 (by positivity), EReal.coe_one]

/-- The mean of squares plus the small constant. -/
def msq {n : ℕ} (f : Fin n → ℝ) : ℝ := (∑ e, f e * f e) / 512 + eps

theorem msq_pos {n : ℕ} (f : Fin n → ℝ) : 0 < msq f := by
  unfold msq
  have := eps_pos
  have : 0 ≤ ∑ e, f e * f e := Finset.sum_nonneg fun e _ => mul_self_nonneg _
  positivity

theorem rsqrt_msq {n : ℕ} (f : Fin n → ℝ) :
    Ideal.rsqrt ((msq f : ℝ) : EReal) = (((Real.sqrt (msq f))⁻¹ : ℝ) : EReal) := rsqrt_coe (msq_pos f)

theorem div_msq {n : ℕ} (x : ℝ) (f : Fin n → ℝ) :
    Ideal.div (x : EReal) ((msq f : ℝ) : EReal) = ((x / msq f : ℝ) : EReal) := div_coe' x (msq_pos f).ne'

theorem toInt_small {a : ℕ} (ha : a < 2 ^ 31) : (BitVec.ofNat 32 a).toInt = (a : ℤ) := by
  have h : (BitVec.ofNat 32 a).toNat = a := by
    rw [BitVec.toNat_ofNat]; exact Nat.mod_eq_of_lt (by omega)
  rw [BitVec.toInt_eq_toNat_of_lt (by omega), h]

theorem sge_ofNat {a b : ℕ} (ha : a < 2 ^ 31) (hb : b < 2 ^ 31) :
    IntOp.cmpi .sge (BitVec.ofNat 32 a) (BitVec.ofNat 32 b) = BitVec.ofBool (decide (b ≤ a)) := by
  show BitVec.ofBool _ = _
  congr 1
  show BitVec.sle _ _ = _
  rw [BitVec.sle, toInt_small ha, toInt_small hb]
  simp

theorem sitofp_mask (p : Prop) [Decidable p] :
    FloatOps.sitofp (F := Ideal) .f32 (BitVec.setWidth 32 (BitVec.ofBool (decide p)))
      = ((if p then 1 else 0 : ℝ) : EReal) := by
  by_cases h : p
  · simp only [h, decide_true, if_true]
    show ((((BitVec.setWidth 32 (BitVec.ofBool true)).toInt : ℝ)) : EReal) = _
    rw [show (BitVec.setWidth 32 (BitVec.ofBool true)).toInt = 1 from by decide]; norm_num
  · simp only [h, decide_false, if_false]
    show ((((BitVec.setWidth 32 (BitVec.ofBool false)).toInt : ℝ)) : EReal) = _
    rw [show (BitVec.setWidth 32 (BitVec.ofBool false)).toInt = 0 from by decide]; norm_num

theorem sel_zero (p : Prop) [Decidable p] (x : ℝ) :
    Scalar.select (BitVec.ofBool (decide p)) (x : EReal) (0 : EReal) = ((if p then x else 0 : ℝ) : EReal) := by
  rw [sel_ofBool]; split <;> simp

/-! ## Sums over several leading axes -/

variable {a b c d : ℕ}

theorem reduceAdd_01 (h : (⟨3, ![a, b, c]⟩ : Shape).Reduces [0, 1] ⟨1, ![c]⟩)
    (v : (⟨3, ![a, b, c]⟩ : Shape).Idx → EReal) (k : Fin c) :
    Ideal.reduceAdd h v (ix1 k) = ∑ i, ∑ j, v (ix3 i j k) := by
  refine (Finset.sum_filter_eq_sum_of_fiber _ (fun p : Fin a × Fin b => ix3 p.1 p.2 k)
    (fun _ _ e => Prod.ext (congrFun e 0) (congrFun e 1)) (fun i => ?_) v).trans (Fintype.sum_prod_type _)
  constructor
  · intro e
    refine ⟨(i 0, i 1), ?_⟩
    funext x; apply Fin.ext
    match x with
    | ⟨0, _⟩ => rfl
    | ⟨1, _⟩ => rfl
    | ⟨2, _⟩ => exact (congrArg Fin.val (congrFun e ⟨0, Nat.one_pos⟩)).symm
  · rintro ⟨p, rfl⟩
    funext x; apply Fin.ext
    match x with
    | ⟨0, _⟩ => rfl

theorem hostReduceAdd_01 (h : (⟨3, ![a, b, c]⟩ : Shape).ReducesTo [0, 1] ⟨1, ![c]⟩)
    (v : (⟨3, ![a, b, c]⟩ : Shape).Idx → EReal) (z : EReal) (k : Fin c) :
    Ideal.hostReduceAdd h v z (ix1 k) = z + ∑ i, ∑ j, v (ix3 i j k) := by
  refine congrArg (z + ·) ((Finset.sum_filter_eq_sum_of_fiber _ (fun p : Fin a × Fin b => ix3 p.1 p.2 k)
    (fun _ _ e => Prod.ext (congrFun e 0) (congrFun e 1)) (fun i => ?_) v).trans (Fintype.sum_prod_type _))
  constructor
  · intro e
    refine ⟨(i 0, i 1), ?_⟩
    funext x; apply Fin.ext
    match x with
    | ⟨0, _⟩ => rfl
    | ⟨1, _⟩ => rfl
    | ⟨2, _⟩ => exact (congrArg Fin.val (congrFun e ⟨0, Nat.one_pos⟩)).symm
  · rintro ⟨p, rfl⟩
    funext x; apply Fin.ext
    match x with
    | ⟨0, _⟩ => rfl

theorem hostReduceAdd_012 (h : (⟨4, ![a, b, c, d]⟩ : Shape).ReducesTo [0, 1, 2] ⟨1, ![d]⟩)
    (v : (⟨4, ![a, b, c, d]⟩ : Shape).Idx → EReal) (z : EReal) (l : Fin d) :
    Ideal.hostReduceAdd h v z (ix1 l) = z + ∑ i, ∑ j, ∑ k, v (ix4 i j k l) := by
  refine congrArg (z + ·) ((Finset.sum_filter_eq_sum_of_fiber _ (fun p : Fin a × Fin b × Fin c => ix4 p.1 p.2.1 p.2.2 l)
    (fun _ _ e => Prod.ext (congrFun e 0) (Prod.ext (congrFun e 1) (congrFun e 2))) (fun i => ?_) v).trans ?_)
  · constructor
    · intro e
      refine ⟨(i 0, i 1, i 2), ?_⟩
      funext x; apply Fin.ext
      match x with
      | ⟨0, _⟩ => rfl
      | ⟨1, _⟩ => rfl
      | ⟨2, _⟩ => rfl
      | ⟨3, _⟩ => exact (congrArg Fin.val (congrFun e ⟨0, Nat.one_pos⟩)).symm
    · rintro ⟨p, rfl⟩
      funext x; apply Fin.ext
      match x with
      | ⟨0, _⟩ => rfl
  · simp only [Fintype.sum_prod_type]

end Cert.KernelIdeal.Gla

end
-- ==== Proof.ValFwd.lean ====
module

public import proofs.«01_k».proof.Proof.Real
public import Idealize.ShloMosaic.Lib.Pipeline.ValueKit.Tiles

/-!
The chunk over the reals (`RIn`: its inputs by head, row and column), and the forward kernel's words at an index.
-/

@[expose] public section

set_option maxRecDepth 16384

noncomputable section

namespace Cert.KernelIdeal.Gla

open Idealize.ShloMosaic Idealize.ShloMosaic.TcCoe
open Cert.KernelIdeal.Gen

/-- Column `256 h + d` of a row of four heads of 256. -/
abbrev cK (h : Fin 4) (d : Fin 256) : Fin 1024 := ⟨h * 256 + d, by omega⟩
/-- Column `512 h + e` of a row of four heads of 512. -/
abbrev cV (h : Fin 4) (e : Fin 512) : Fin 2048 := ⟨h * 512 + e, by omega⟩

/-! ## The chunk over the reals -/

def sp (x : ℝ) : ℝ := max x 0 + Real.log (1 + Real.exp (-|x|))
def sg (x : ℝ) : ℝ := 1 / (1 + Real.exp (-x))
/-- The reciprocal root of the mean of squares. -/
def rms {n : ℕ} (f : Fin n → ℝ) : ℝ := (Real.sqrt (msq f))⁻¹

/-- A chunk's inputs: query, key, value, output gate, attention gate, low-rank rows, second factor, bias, weight. -/
structure RIn where
  q : Fin 4 → Fin 64 → Fin 256 → ℝ
  k : Fin 4 → Fin 64 → Fin 256 → ℝ
  v : Fin 4 → Fin 64 → Fin 512 → ℝ
  g : Fin 4 → Fin 64 → Fin 512 → ℝ
  a : Fin 4 → Fin 64 → Fin 512 → ℝ
  lr : Fin 64 → Fin 128 → ℝ
  w2 : Fin 4 → Fin 128 → Fin 256 → ℝ
  b : Fin 4 → Fin 256 → ℝ
  gn : Fin 512 → ℝ

abbrev Kf := Fin 4 → Fin 64 → Fin 256 → ℝ
abbrev Vf := Fin 4 → Fin 64 → Fin 512 → ℝ
abbrev Sf := Fin 4 → Fin 512 → Fin 256 → ℝ

namespace RIn
variable (r : RIn)

/-- The low-rank gate before the softplus, negated. -/
def nu : Kf := fun h t d => -((∑ j, r.lr t j * r.w2 h j d) + r.b h d)
/-- The log decay. -/
def lf : Kf := fun h t d => -(sp (r.nu h t d)) / 16
/-- The log decay summed from the chunk's start. -/
def bc : Kf := fun h t d => ∑ s, (if s ≤ t then 1 else 0) * r.lf h s d
/-- The log decay summed over the chunk. -/
def bl (h : Fin 4) (d : Fin 256) : ℝ := ∑ t, r.lf h t d
def qin : Kf := fun h t d => r.q h t d * (1 / 16) * Real.exp (r.bc h t d)
def kin : Kf := fun h t d => r.k h t d * Real.exp (-(r.bc h t d))
def kdec : Kf := fun h t d => r.k h t d * Real.exp (r.bl h d - r.bc h t d)
def att (h : Fin 4) (t s : Fin 64) : ℝ := if s ≤ t then ∑ d, r.qin h t d * r.kin h s d else 0
/-- The attention's output before the norm. -/
def o (st : Sf) : Vf := fun h t e => (∑ s, r.att h t s * r.v h s e) + ∑ d, r.qin h t d * st h e d
/-- The state after the chunk. -/
def new (st : Sf) : Sf := fun h e d => st h e d * Real.exp (r.bl h d) + ∑ s, r.v h s e * r.kdec h s d
/-- The branch's output. -/
def mix (st : Sf) : Vf := fun h t e =>
  sg (r.a h t e) * (r.o st h t e * rms (r.o st h t) * r.gn e) * (r.g h t e * sg (r.g h t e))

end RIn

/-- The blocks of `I` hold the reals of `r`. -/
structure In.Is (I : In Ideal) (r : RIn) : Prop where
  q : ∀ h t d, I.x0 (ix2 t (cK h d)) = ((r.q h t d : ℝ) : EReal)
  k : ∀ h t d, I.x1 (ix2 t (cK h d)) = ((r.k h t d : ℝ) : EReal)
  v : ∀ h t e, I.x2 (ix2 t (cV h e)) = ((r.v h t e : ℝ) : EReal)
  g : ∀ h t e, I.x3 (ix2 t (cV h e)) = ((r.g h t e : ℝ) : EReal)
  a : ∀ h t e, I.x4 (ix2 t (cV h e)) = ((r.a h t e : ℝ) : EReal)
  lr : ∀ t j, I.x5 (ix2 t j) = ((r.lr t j : ℝ) : EReal)
  w2 : ∀ h j d, I.x6 (ix2 j (cK h d)) = ((r.w2 h j d : ℝ) : EReal)
  b : ∀ h d, I.x7 (ix2 0 (cK h d)) = ((r.b h d : ℝ) : EReal)
  gn : ∀ e, I.x8 (ix2 0 e) = ((r.gn e : ℝ) : EReal)

/-! ## The inputs by head -/

theorem heads_q (I : In Ideal) (h : Fin 4) (t : Fin 64) (d : Fin 256) :
    fv15 I (ix3 h t d) = I.x0 (ix2 t (cK h d)) := by
  unfold fv15; pointwise [k0_pay5]; fin_vals h with hk
  all_goals simp only [hk, Nat.reduceSub, Nat.reduceLT, ↓reduceDIte]
  all_goals exact congrArg (fun c => I.x0 (ix2 t c)) (Fin.ext (by simp [hk]))

theorem heads_k (I : In Ideal) (h : Fin 4) (t : Fin 64) (d : Fin 256) :
    fv24 I (ix3 h t d) = I.x1 (ix2 t (cK h d)) := by
  unfold fv24; pointwise [k0_pay6]; fin_vals h with hk
  all_goals simp only [hk, Nat.reduceSub, Nat.reduceLT, ↓reduceDIte]
  all_goals exact congrArg (fun c => I.x1 (ix2 t c)) (Fin.ext (by simp [hk]))

theorem heads_v (I : In Ideal) (h : Fin 4) (t : Fin 64) (e : Fin 512) :
    fv33 I (ix3 h t e) = I.x2 (ix2 t (cV h e)) := by
  unfold fv33; pointwise [k0_pay7]; fin_vals h with hk
  all_goals simp only [hk, Nat.reduceSub, Nat.reduceLT, ↓reduceDIte]
  all_goals exact congrArg (fun c => I.x2 (ix2 t c)) (Fin.ext (by simp [hk]))

theorem heads_w2 (I : In Ideal) (h : Fin 4) (j : Fin 128) (d : Fin 256) :
    fv43 I (ix3 h j d) = I.x6 (ix2 j (cK h d)) := by
  unfold fv43; pointwise [k0_pay8]; fin_vals h with hk
  all_goals simp only [hk, Nat.reduceSub, Nat.reduceLT, ↓reduceDIte]
  all_goals exact congrArg (fun c => I.x6 (ix2 j c)) (Fin.ext (by simp [hk]))

theorem heads_b (I : In Ideal) (h : Fin 4) (d : Fin 256) :
    fv52 I (ix3 h 0 d) = I.x7 (ix2 0 (cK h d)) := by
  unfold fv52; pointwise [k0_pay9]; fin_vals h with hk
  all_goals simp only [hk, Nat.reduceSub, Nat.reduceLT, ↓reduceDIte]
  all_goals exact congrArg (fun c => I.x7 (ix2 0 c)) (Fin.ext (by simp [hk]))

theorem heads_g (I : In Ideal) (h : Fin 4) (t : Fin 64) (e : Fin 512) :
    fv61 I (ix3 h t e) = I.x3 (ix2 t (cV h e)) := by
  unfold fv61; pointwise [k0_pay10]; fin_vals h with hk
  all_goals simp only [hk, Nat.reduceSub, Nat.reduceLT, ↓reduceDIte]
  all_goals exact congrArg (fun c => I.x3 (ix2 t c)) (Fin.ext (by simp [hk]))

theorem heads_a (I : In Ideal) (h : Fin 4) (t : Fin 64) (e : Fin 512) :
    fv70 I (ix3 h t e) = I.x4 (ix2 t (cV h e)) := by
  unfold fv70; pointwise [k0_pay11]; fin_vals h with hk
  all_goals simp only [hk, Nat.reduceSub, Nat.reduceLT, ↓reduceDIte]
  all_goals exact congrArg (fun c => I.x4 (ix2 t c)) (Fin.ext (by simp [hk]))

/-- Equal coordinates, equal values. -/
theorem coe_at3 {a b c : ℕ} (f : Fin a → Fin b → Fin c → ℝ) {i i' : Fin a} {j j' : Fin b} {k k' : Fin c}
    (hi : i.val = i'.val) (hj : j.val = j'.val) (hk : k.val = k'.val) :
    ((f i j k : ℝ) : EReal) = ((f i' j' k' : ℝ) : EReal) := by
  rw [Fin.ext hi, Fin.ext hj, Fin.ext hk]

/-! ## The words -/

variable {I : In Ideal} {r : RIn}

theorem is_mask (h : Fin 4) (t s : Fin 64) :
    fv79 (F := Ideal) (ix3 h t s) = ((if s ≤ t then 1 else 0 : ℝ) : EReal) := by
  unfold fv79; pointwise [k0_pay13, k0_pay12]
  rw [sge_ofNat (by omega) (by omega), sitofp_mask]; rfl

theorem is_fv15 (hI : I.Is r) (h t d) : fv15 I (ix3 h t d) = ((r.q h t d : ℝ) : EReal) :=
  (heads_q I h t d).trans (hI.q h t d)
theorem is_fv24 (hI : I.Is r) (h t d) : fv24 I (ix3 h t d) = ((r.k h t d : ℝ) : EReal) :=
  (heads_k I h t d).trans (hI.k h t d)
theorem is_fv33 (hI : I.Is r) (h t e) : fv33 I (ix3 h t e) = ((r.v h t e : ℝ) : EReal) :=
  (heads_v I h t e).trans (hI.v h t e)
theorem is_fv43 (hI : I.Is r) (h j d) : fv43 I (ix3 h j d) = ((r.w2 h j d : ℝ) : EReal) :=
  (heads_w2 I h j d).trans (hI.w2 h j d)
theorem is_fv52 (hI : I.Is r) (h d) : fv52 I (ix3 h 0 d) = ((r.b h d : ℝ) : EReal) :=
  (heads_b I h d).trans (hI.b h d)
theorem is_fv61 (hI : I.Is r) (h t e) : fv61 I (ix3 h t e) = ((r.g h t e : ℝ) : EReal) :=
  (heads_g I h t e).trans (hI.g h t e)
theorem is_fv70 (hI : I.Is r) (h t e) : fv70 I (ix3 h t e) = ((r.a h t e : ℝ) : EReal) :=
  (heads_a I h t e).trans (hI.a h t e)

theorem is_fv81 (hI : I.Is r) (h t d) : fv81 I (ix3 h t d) = ((r.q h t d * (1 / 16) : ℝ) : EReal) := by
  unfold fv81; pointwise [k0_pay14]
  simp only [is_fv15 hI, cst_sixteenth, ← EReal.coe_mul]

theorem is_fv93 (hI : I.Is r) (h t d) : fv93 I (ix3 h t d) = ((max (r.nu h t d) 0 : ℝ) : EReal) := by
  unfold fv93; pointwise [k0_pay16, k0_pay15]
  simp only [is_fv43 hI, is_fv52 hI, hI.lr, ← EReal.coe_mul, sum_coe, ← EReal.coe_add, zero_sub, ← EReal.coe_neg,
    max_zero_coe]
  rfl

theorem is_fv100 (hI : I.Is r) (h t d) :
    fv100 I (ix3 h t d) = ((Real.log (1 + Real.exp (-|r.nu h t d|)) : ℝ) : EReal) := by
  unfold fv100; pointwise [k0_pay17, k0_pay15]
  simp only [is_fv43 hI, is_fv52 hI, hI.lr, ← EReal.coe_mul, sum_coe, ← EReal.coe_add, zero_sub, ← EReal.coe_neg,
    abs_coe, max_coe, exp_coe, one_add_coe, log_one_add_exp]
  rfl

theorem is_lf (hI : I.Is r) (h t d) : k0_pay18 (fv93 I) (fv100 I) (ix3 h t d) = ((r.lf h t d : ℝ) : EReal) := by
  pointwise [k0_pay18]
  simp only [is_fv93 hI, is_fv100 hI, ← EReal.coe_add, zero_sub, ← EReal.coe_neg, cst_sixteen, div_sixteen]
  rfl

theorem is_bc (hI : I.Is r) (h t d) :
    k0_pay19 fv79 (fv93 I) (fv100 I) (ix3 h t d) = ((r.bc h t d : ℝ) : EReal) := by
  pointwise [k0_pay19]
  simp only [is_mask, is_lf hI, ← EReal.coe_sub, ← EReal.coe_mul, sum_coe, ← EReal.coe_add]
  congr 1
  simp only [sub_self, mul_zero, Finset.sum_const_zero, add_zero]
  rfl

theorem is_bl (hI : I.Is r) (h d) :
    k0_pay20 (fv93 I) (fv100 I) (ix3 h 0 d) = ((r.bl h d : ℝ) : EReal) := by
  pointwise [k0_pay20]
  simp only [is_lf hI, sum_coe]
  rfl

theorem is_fv140 (hI : I.Is r) {st : Vec Ideal S4x512x256 .f32} {s : Sf} (hs : Is3 st s) (h t e) :
    fv140 I st (ix3 h t e) = ((r.o s h t e : ℝ) : EReal) := by
  unfold fv140 fv75; pointwise [k0_pay21, k0_pay12]
  simp only [is_fv81 hI, is_bc hI, is_fv24 hI, is_fv33 hI, hs _ _ _, zero_sub, ← EReal.coe_neg, exp_coe,
    ← EReal.coe_mul, sum_coe, ← EReal.coe_add, sge_ofNat (Nat.lt_trans (Fin.isLt _) (by norm_num : 64 < 2 ^ 31))
      (Nat.lt_trans (Fin.isLt _) (by norm_num : 64 < 2 ^ 31)), sel_zero]
  refine congrArg Real.toEReal ?_
  simp only [RIn.o, RIn.att, ite_mul, zero_mul, Fin.le_def]
  rfl

theorem is_fv151 (hI : I.Is r) {st : Vec Ideal S4x512x256 .f32} {s : Sf} (hs : Is3 st s) (h e d) :
    fv151 I st (ix3 h e d) = ((r.new s h e d : ℝ) : EReal) := by
  unfold fv151 fv147 fv148 fv149; pointwise [k0_pay25, k0_pay22, k0_pay23, k0_pay24]
  simp only [is_bl hI, is_bc hI, is_fv24 hI, is_fv33 hI, hs _ _ _, ← EReal.coe_sub, exp_coe,
    ← EReal.coe_mul, sum_coe, ← EReal.coe_add]
  rfl

theorem is_fNew (hI : I.Is r) {st : Vec Ideal S4x512x256 .f32} {s : Sf} (hs : Is3 st s) :
    Is3 (fNew I st) (r.new s) := by
  intro h e d
  unfold fNew; pointwise [k0_pay2]
  exact is_fv151 hI hs h e d

theorem is_fv181 (hI : I.Is r) {st : Vec Ideal S4x512x256 .f32} {s : Sf} (hs : Is3 st s) (h t e) :
    fv181 I st (ix3 h t e) = ((r.mix s h t e : ℝ) : EReal) := by
  unfold fv181; pointwise [k0_pay26]
  simp only [is_fv140 hI hs, is_fv61 hI, is_fv70 hI, hI.gn, zero_sub, ← EReal.coe_neg, exp_coe, one_add_coe,
    one_div_one_add_exp, ← EReal.coe_mul, sum_coe, cst_512, div_512, cst_eps, ← EReal.coe_add]
  rw [show ((∑ x, r.o s h t x * r.o s h t x) / 512 + eps) = msq (r.o s h t) from rfl, rsqrt_msq]
  simp only [← EReal.coe_mul]
  rfl

theorem is_fMix (hI : I.Is r) {st : Vec Ideal S4x512x256 .f32} {s : Sf} (hs : Is3 st s) (h t e) :
    fMix I st (ix2 t (cV h e)) = ((r.mix s h t e : ℝ) : EReal) := by
  unfold fMix
  canon_tiles x hx
  all_goals idx_vars x
  all_goals pointwise [k0_pay1, k0_pay27, k0_pay28, k0_pay29]
  all_goals refine (is_fv181 hI hs _ _ _).trans (coe_at3 _ ?_ ?_ ?_)
  all_goals first
    | omega
    | (simp only [Fin.isValue, Fin.coe_ofNat_eq_mod, Nat.reduceMod]; omega)

end Cert.KernelIdeal.Gla

end
-- ==== Proof.ValBwd.lean ====
module

public import proofs.«01_k».proof.Proof.ValFwd

/-!
The gradient of a chunk over the reals, and the backward kernel's words at an index.
-/

@[expose] public section

set_option maxRecDepth 16384

noncomputable section

namespace Cert.KernelIdeal.Gla

open Idealize.ShloMosaic Idealize.ShloMosaic.TcCoe
open Cert.KernelIdeal.Gen

/-- The softplus' derivative as the kernel writes it, from the two parts' derivatives. -/
def spGrad (x y : ℝ) : ℝ :=
  (if 0 ≤ x then -(y / (1 + Real.exp (-|x|)) * Real.exp (-|x|)) else 0)
    + -(if 0 ≤ x then 0 else -(y / (1 + Real.exp (-|x|)) * Real.exp (-|x|)))
    + y * (if 0 < x then 1 else if x = 0 then 1 / 2 else 0)

namespace RIn
variable (r : RIn)

/-- The silu gate. -/
def silu : Vf := fun h t e => r.g h t e * sg (r.g h t e)
/-- The gradient at the scaled, normalised output. -/
def c1 (m : Vf) : Vf := fun h t e => sg (r.a h t e) * (m h t e * r.silu h t e)
def on (s : Sf) : Vf := fun h t e => r.o s h t e * rms (r.o s h t)
def dgn (s : Sf) (m : Vf) (e : Fin 512) : ℝ := ∑ h, ∑ t, r.on s h t e * r.c1 m h t e
def dg (s : Sf) (m : Vf) : Vf := fun h t e =>
  sg (r.a h t e) * (r.on s h t e * r.gn e) * m h t e * sg (r.g h t e)
    + -(-(r.g h t e * (sg (r.a h t e) * (r.on s h t e * r.gn e) * m h t e)
          * (1 / ((1 + Real.exp (-r.g h t e)) * (1 + Real.exp (-r.g h t e))))) * Real.exp (-r.g h t e))
def da (s : Sf) (m : Vf) : Vf := fun h t e =>
  -(-(m h t e * r.silu h t e * (r.on s h t e * r.gn e)
      * (1 / ((1 + Real.exp (-r.a h t e)) * (1 + Real.exp (-r.a h t e))))) * Real.exp (-r.a h t e))
/-- The norm's correction. -/
def wn (s : Sf) (m : Vf) (h : Fin 4) (t : Fin 64) : ℝ :=
  (∑ e, r.o s h t e * (r.c1 m h t e * r.gn e)) * (-(1 / 2) * (rms (r.o s h t) / msq (r.o s h t))) / 512
/-- The gradient at the attention's output. -/
def dO (s : Sf) (m : Vf) : Vf := fun h t e =>
  r.c1 m h t e * r.gn e * rms (r.o s h t) + r.o s h t e * r.wn s m h t + r.wn s m h t * r.o s h t e
def dkd (D : Sf) : Kf := fun h t d => ∑ e, D h e d * r.v h t e
def dv (s : Sf) (m : Vf) (D : Sf) : Vf := fun h t e =>
  (∑ d, D h e d * r.kdec h t d) + ∑ u, r.dO s m h u e * r.att h u t
def dA (s : Sf) (m : Vf) (h : Fin 4) (t u : Fin 64) : ℝ :=
  if u ≤ t then ∑ e, r.dO s m h t e * r.v h u e else 0
def dkin (s : Sf) (m : Vf) : Kf := fun h t d => ∑ u, r.dA s m h u t * r.qin h u d
def dqin (s : Sf) (m : Vf) : Kf := fun h t d =>
  (∑ e, r.dO s m h t e * s h e d) + ∑ u, r.dA s m h t u * r.kin h u d
def dk (s : Sf) (m : Vf) (D : Sf) : Kf := fun h t d =>
  r.dkd D h t d * Real.exp (r.bl h d - r.bc h t d) + r.dkin s m h t d * Real.exp (-(r.bc h t d))
def dq (s : Sf) (m : Vf) : Kf := fun h t d => r.dqin s m h t d * Real.exp (r.bc h t d)
def dnew (s : Sf) (m : Vf) (D : Sf) : Sf := fun h e d =>
  D h e d * Real.exp (r.bl h d) + ∑ t, r.dO s m h t e * r.qin h t d
def dbl (s : Sf) (D : Sf) (h : Fin 4) (d : Fin 256) : ℝ :=
  (∑ e, s h e d * D h e d) * Real.exp (r.bl h d)
    + ∑ t, r.k h t d * r.dkd D h t d * Real.exp (r.bl h d - r.bc h t d)
def dbc (s : Sf) (m : Vf) (D : Sf) : Kf := fun h t d =>
  -(r.k h t d * r.dkd D h t d * Real.exp (r.bl h d - r.bc h t d))
    + -(r.k h t d * r.dkin s m h t d * Real.exp (-(r.bc h t d)))
    + r.q h t d * (1 / 16) * r.dqin s m h t d * Real.exp (r.bc h t d)
/-- The gradient at the softplus. -/
def dlf (s : Sf) (m : Vf) (D : Sf) : Kf := fun h t d =>
  (r.dbl s D h d + ∑ u, (if t ≤ u then 1 else 0) * r.dbc s m D h u d) / 16
def du (s : Sf) (m : Vf) (D : Sf) : Kf := fun h t d => -(spGrad (r.nu h t d) (-(r.dlf s m D h t d)))
def db (s : Sf) (m : Vf) (D : Sf) (h : Fin 4) (d : Fin 256) : ℝ := ∑ t, r.du s m D h t d
def dw2 (s : Sf) (m : Vf) (D : Sf) (h : Fin 4) (j : Fin 128) (d : Fin 256) : ℝ :=
  ∑ t, r.du s m D h t d * r.lr t j
def dlr (s : Sf) (m : Vf) (D : Sf) (t : Fin 64) (j : Fin 128) : ℝ :=
  ∑ h, ∑ d, r.du s m D h t d * r.w2 h j d

end RIn

variable {I : In Ideal} {r : RIn}

/-! ## The inputs -/

theorem is_bv15 (hI : I.Is r) (h t d) : bv15 I (ix3 h t d) = ((r.q h t d : ℝ) : EReal) := is_fv15 hI h t d
theorem is_bv24 (hI : I.Is r) (h t d) : bv24 I (ix3 h t d) = ((r.k h t d : ℝ) : EReal) := is_fv24 hI h t d
theorem is_bv33 (hI : I.Is r) (h t e) : bv33 I (ix3 h t e) = ((r.v h t e : ℝ) : EReal) := is_fv33 hI h t e
theorem is_bv43 (hI : I.Is r) (h j d) : bv43 I (ix3 h j d) = ((r.w2 h j d : ℝ) : EReal) := is_fv43 hI h j d
theorem is_bv52 (hI : I.Is r) (h d) : bv52 I (ix3 h 0 d) = ((r.b h d : ℝ) : EReal) := is_fv52 hI h d
theorem is_bv61 (hI : I.Is r) (h t e) : bv61 I (ix3 h t e) = ((r.g h t e : ℝ) : EReal) := is_fv61 hI h t e
theorem is_bv70 (hI : I.Is r) (h t e) : bv70 I (ix3 h t e) = ((r.a h t e : ℝ) : EReal) := is_fv70 hI h t e
theorem is_bmask (h : Fin 4) (t s : Fin 64) :
    bv79 (F := Ideal) (ix3 h t s) = ((if s ≤ t then 1 else 0 : ℝ) : EReal) := is_mask h t s
theorem is_bv81 (hI : I.Is r) (h t d) : bv81 I (ix3 h t d) = ((r.q h t d * (1 / 16) : ℝ) : EReal) := is_fv81 hI h t d

/-- The block of a cotangent holds `m` by head. -/
def IsM (dm : Vec Ideal S64x2048 .bf16) (m : Vf) : Prop := ∀ h t e, dm (ix2 t (cV h e)) = ((m h t e : ℝ) : EReal)
/-- The block of saved states holds `s`. -/
def IsS (st : Vec Ideal S1x1x4x512x256 .f32) (s : Sf) : Prop :=
  ∀ h e d, st (ix5 0 0 h e d) = ((s h e d : ℝ) : EReal)

theorem is_pay67 {dm : Vec Ideal S64x2048 .bf16} {m : Vf} (hm : IsM dm m) (h t e) :
    k1_pay67 (View.ld dm (Rect.unit (s := S64x2048) ![0, 0] S64x512.size inb_S64x2048_S64x512_0_0)) (View.ld dm (Rect.unit (s := S64x2048) ![0, 512] S64x512.size inb_S64x2048_S64x512_0_512)) (View.ld dm (Rect.unit (s := S64x2048) ![0, 1024] S64x512.size inb_S64x2048_S64x512_0_1024)) (View.ld dm (Rect.unit (s := S64x2048) ![0, 1536] S64x512.size inb_S64x2048_S64x512_0_1536)) (ix3 h t e)
      = ((m h t e : ℝ) : EReal) := by
  rw [← hm h t e]
  pointwise [k1_pay67]; fin_vals h with hk
  all_goals simp only [hk, Nat.reduceSub, Nat.reduceLT, ↓reduceDIte]
  all_goals exact congrArg (fun c => dm (ix2 t c)) (Fin.ext (by simp [hk]))

theorem is_bv6 {st : Vec Ideal S1x1x4x512x256 .f32} {s : Sf} (hs : IsS st s) (h e d) :
    bv6 st (ix3 h e d) = ((s h e d : ℝ) : EReal) := by
  rw [← hs h e d]
  unfold bv6; pointwise [k1_pay8]

/-! ## The decay -/

theorem is_bv91 (hI : I.Is r) (h t d) : bv91 I (ix3 h t d) = ((r.nu h t d : ℝ) : EReal) := by
  unfold bv91; pointwise [k1_pay23, k1_pay21, k1_pay22]
  simp only [is_bv43 hI, is_bv52 hI, hI.lr, ← EReal.coe_mul, sum_coe, ← EReal.coe_add, zero_sub, ← EReal.coe_neg]
  rfl

theorem is_bv93 (hI : I.Is r) (h t d) : bv93 I (ix3 h t d) = ((max (r.nu h t d) 0 : ℝ) : EReal) := is_fv93 hI h t d

theorem is_blf (hI : I.Is r) (h t d) : k1_pay33 (bv91 I) (bv93 I) (ix3 h t d) = ((r.lf h t d : ℝ) : EReal) := by
  pointwise [k1_pay33, k1_pay32, k1_pay31]
  simp only [is_bv91 hI, is_bv93 hI, zero_sub, ← EReal.coe_neg, abs_coe, max_coe, exp_coe, one_add_coe,
    log_one_add_exp, ← EReal.coe_add, cst_sixteen, div_sixteen]
  rfl

theorem is_bv129 (hI : I.Is r) (h t d) : bv129 I (ix3 h t d) = ((r.bc h t d : ℝ) : EReal) := by
  unfold bv129; pointwise [k1_pay34]
  simp only [is_bmask, is_blf hI, ← EReal.coe_sub, ← EReal.coe_mul, sum_coe, ← EReal.coe_add]
  refine congrArg Real.toEReal ?_
  simp only [sub_self, mul_zero, Finset.sum_const_zero, add_zero]
  rfl

theorem is_bv131 (hI : I.Is r) (h d) : bv131 I (ix3 h 0 d) = ((r.bl h d : ℝ) : EReal) := by
  unfold bv131; pointwise [k1_pay35]
  simp only [is_blf hI, sum_coe]
  rfl

theorem is_bv132 (hI : I.Is r) (h t d) : bv132 I (ix3 h t d) = ((Real.exp (r.bc h t d) : ℝ) : EReal) := by
  unfold bv132; pointwise [k1_pay36]
  exact congrArg Ideal.exp (is_bv129 hI h t d)

theorem is_bv133 (hI : I.Is r) (h t d) : bv133 I (ix3 h t d) = ((r.qin h t d : ℝ) : EReal) := by
  unfold bv133; pointwise [k1_pay37]
  exact (congrArg₂ (· * ·) (is_bv81 hI h t d) (is_bv132 hI h t d)).trans (EReal.coe_mul _ _).symm

theorem is_bv136 (hI : I.Is r) (h t d) : bv136 I (ix3 h t d) = ((Real.exp (-(r.bc h t d)) : ℝ) : EReal) := by
  unfold bv136; pointwise [k1_pay38]
  have e := is_bv129 hI h t d
  unfold bv129 at e
  rw [e, zero_sub, ← EReal.coe_neg, exp_coe]

theorem is_bv138 (hI : I.Is r) (h t d) : bv138 I (ix3 h t d) = ((r.qin h t d : ℝ) : EReal) := is_bv133 hI h t d

theorem is_bv139 (hI : I.Is r) (h t d) : bv139 I (ix3 h t d) = ((r.kin h t d : ℝ) : EReal) := by
  unfold bv139; pointwise [k1_pay40]
  exact (congrArg₂ (· * ·) (is_bv24 hI h t d) (is_bv136 hI h t d)).trans (EReal.coe_mul _ _).symm

theorem is_bv145 (hI : I.Is r) (h t s) : bv145 I (ix3 h t s) = ((r.att h t s : ℝ) : EReal) := by
  have eq' : ∀ h t d, k1_pay39 bv79 (bv81 I) (bv91 I) (bv93 I) (ix3 h t d) = _ := is_bv138 hI
  have ek' : ∀ h t d, k1_pay40 (bv24 I) bv79 (bv91 I) (bv93 I) (ix3 h t d) = _ := is_bv139 hI
  unfold bv145 bv75; pointwise [k1_pay42, k1_pay41, k1_pay18]
  simp only [eq', ek', ← EReal.coe_mul, sum_coe, sge_ofNat (Nat.lt_trans (Fin.isLt _) (by norm_num : 64 < 2 ^ 31))
      (Nat.lt_trans (Fin.isLt _) (by norm_num : 64 < 2 ^ 31)), sel_zero]
  rfl

theorem is_bv151 (hI : I.Is r) {st : Vec Ideal S1x1x4x512x256 .f32} {s : Sf} (hs : IsS st s) (h t e) :
    bv151 I st (ix3 h t e) = ((r.o s h t e : ℝ) : EReal) := by
  unfold bv151 bv146 bcst_81; pointwise [k1_pay46, k1_pay44, k1_pay45, k1_pay43]
  simp only [is_bv145 hI, is_bv33 hI, is_bv133 hI, is_bv6 hs, ← EReal.coe_mul, sum_coe, ← EReal.coe_add]
  rfl

theorem is_bv154 (hI : I.Is r) (h t d) :
    bv154 I (ix3 h t d) = ((Real.exp (r.bl h d - r.bc h t d) : ℝ) : EReal) := by
  unfold bv154; pointwise [k1_pay47]
  simp only [is_bv131 hI, is_bv129 hI, ← EReal.coe_sub, exp_coe]

theorem is_bv156 (hI : I.Is r) (h d) : bv156 I (ix3 h 0 d) = ((Real.exp (r.bl h d) : ℝ) : EReal) := by
  unfold bv156; pointwise [k1_pay48]
  simp only [is_bv131 hI, exp_coe]

theorem is_bv158 (hI : I.Is r) (h t d) : bv158 I (ix3 h t d) = ((r.kdec h t d : ℝ) : EReal) := by
  unfold bv158; pointwise [k1_pay50, k1_pay47]
  simp only [is_bv24 hI, is_bv131 hI, is_bv129 hI, ← EReal.coe_sub, exp_coe, ← EReal.coe_mul]
  rfl

/-! ## The norm and the gates -/

variable {st : Vec Ideal S1x1x4x512x256 .f32} {s : Sf} {dm : Vec Ideal S64x2048 .bf16} {m : Vf}
  {ds : Vec Ideal S4x512x256 .f32} {D : Sf}

theorem is_o46 (hI : I.Is r) (hs : IsS st s) (h t e) :
    k1_pay46 (bv6 st) (bv133 I) (bv145 I) (bv146 I) bcst_81 (ix3 h t e) = ((r.o s h t e : ℝ) : EReal) :=
  is_bv151 hI hs h t e

theorem is_msq (hI : I.Is r) (hs : IsS st s) (h t) :
    k1_pay51 (bv6 st) (bv133 I) (bv145 I) (bv146 I) bcst_81 (ix3 h t 0) = ((msq (r.o s h t) : ℝ) : EReal) := by
  pointwise [k1_pay51]
  simp only [is_o46 hI hs, ← EReal.coe_mul, sum_coe, cst_512, div_512, cst_eps, ← EReal.coe_add]
  rfl

theorem is_bv166 (hI : I.Is r) (hs : IsS st s) (h t) :
    bv166 I st (ix3 h t 0) = ((rms (r.o s h t) : ℝ) : EReal) := by
  unfold bv166; pointwise [k1_pay52]
  rw [is_msq hI hs, rsqrt_msq]; rfl

theorem is_bv169 (hI : I.Is r) (hs : IsS st s) (h t) :
    bv169 I st (ix3 h t 0) = ((-(1 / 2) * (rms (r.o s h t) / msq (r.o s h t)) : ℝ) : EReal) := by
  have e : k1_pay52 (bv6 st) (bv133 I) (bv145 I) (bv146 I) bcst_81 (ix3 h t 0) = _ := is_bv166 hI hs h t
  unfold bv169; pointwise [k1_pay53]
  rw [e, is_msq hI hs, div_msq, cst_neg_half, ← EReal.coe_mul]

theorem is_bv171 (hI : I.Is r) (hs : IsS st s) (h t e) :
    bv171 I st (ix3 h t e) = ((r.on s h t e : ℝ) : EReal) := by
  have e' : k1_pay52 (bv6 st) (bv133 I) (bv145 I) (bv146 I) bcst_81 (ix3 h t 0) = _ := is_bv166 hI hs h t
  unfold bv171; pointwise [k1_pay54]
  rw [e', is_o46 hI hs, ← EReal.coe_mul]; rfl

theorem is_bv174 (hI : I.Is r) (hs : IsS st s) (h t e) :
    bv174 I st (ix3 h t e) = ((r.on s h t e * r.gn e : ℝ) : EReal) := by
  have e' : k1_pay54 (bv6 st) (bv133 I) (bv145 I) (bv146 I) bcst_81 (ix3 h t e) = _ := is_bv171 hI hs h t e
  unfold bv174; pointwise [k1_pay56, k1_pay55]
  rw [e', hI.gn, ← EReal.coe_mul]

theorem is_bv177 (hI : I.Is r) (h t e) : bv177 I (ix3 h t e) = ((Real.exp (-(r.a h t e)) : ℝ) : EReal) := by
  unfold bv177; pointwise [k1_pay57]
  simp only [is_bv70 hI, zero_sub, ← EReal.coe_neg, exp_coe]

theorem is_bv181 (hI : I.Is r) (h t e) : bv181 I (ix3 h t e) = ((sg (r.a h t e) : ℝ) : EReal) := by
  unfold bv181; pointwise [k1_pay59, k1_pay58, k1_pay57]
  simp only [is_bv70 hI, zero_sub, ← EReal.coe_neg, exp_coe, one_add_coe, one_div_one_add_exp]
  rfl

theorem is_bv184 (hI : I.Is r) (h t e) :
    bv184 I (ix3 h t e)
      = ((1 / ((1 + Real.exp (-(r.a h t e))) * (1 + Real.exp (-(r.a h t e)))) : ℝ) : EReal) := by
  unfold bv184; pointwise [k1_pay60, k1_pay58, k1_pay57]
  simp only [is_bv70 hI, zero_sub, ← EReal.coe_neg, exp_coe, one_add_coe, ← EReal.coe_mul, one_div_sq]

theorem is_bv185 (hI : I.Is r) (hs : IsS st s) (h t e) :
    bv185 I st (ix3 h t e) = ((sg (r.a h t e) * (r.on s h t e * r.gn e) : ℝ) : EReal) := by
  unfold bv185; pointwise [k1_pay61]
  exact (congrArg₂ (· * ·) (is_bv181 hI h t e) (is_bv174 hI hs h t e)).trans (EReal.coe_mul _ _).symm

theorem is_bv188 (hI : I.Is r) (h t e) : bv188 I (ix3 h t e) = ((Real.exp (-(r.g h t e)) : ℝ) : EReal) := by
  unfold bv188; pointwise [k1_pay62]
  simp only [is_bv61 hI, zero_sub, ← EReal.coe_neg, exp_coe]

theorem is_bv192 (hI : I.Is r) (h t e) : bv192 I (ix3 h t e) = ((sg (r.g h t e) : ℝ) : EReal) := by
  unfold bv192; pointwise [k1_pay64, k1_pay63, k1_pay62]
  simp only [is_bv61 hI, zero_sub, ← EReal.coe_neg, exp_coe, one_add_coe, one_div_one_add_exp]
  rfl

theorem is_bv193 (hI : I.Is r) (h t e) :
    bv193 I (ix3 h t e) = (((1 + Real.exp (-(r.g h t e))) * (1 + Real.exp (-(r.g h t e))) : ℝ) : EReal) := by
  unfold bv193; pointwise [k1_pay65, k1_pay63, k1_pay62]
  simp only [is_bv61 hI, zero_sub, ← EReal.coe_neg, exp_coe, one_add_coe, ← EReal.coe_mul]

theorem is_bv223 (hI : I.Is r) (hs : IsS st s) (hm : IsM dm m) (h t e) :
    bv223 I st dm (ix3 h t e) = ((r.dg s m h t e : ℝ) : EReal) := by
  unfold bv223 bcst_94; pointwise [k1_pay69]
  simp only [is_pay67 hm, is_bv61 hI, is_bv185 hI hs, is_bv188 hI, is_bv192 hI, is_bv193 hI, ← EReal.coe_mul,
    one_div_sq, zero_sub, ← EReal.coe_neg, ← EReal.coe_add]
  rfl

theorem is_bv224 (hI : I.Is r) (hm : IsM dm m) (h t e) :
    bv224 I dm (ix3 h t e) = ((r.c1 m h t e : ℝ) : EReal) := by
  unfold bv224; pointwise [k1_pay70, k1_pay68]
  simp only [is_pay67 hm, is_bv61 hI, is_bv181 hI, is_bv192 hI, ← EReal.coe_mul]
  rfl

theorem is_bv233 (hI : I.Is r) (hs : IsS st s) (hm : IsM dm m) (h t e) :
    bv233 I st dm (ix3 h t e) = ((r.da s m h t e : ℝ) : EReal) := by
  unfold bv233; pointwise [k1_pay71, k1_pay68]
  simp only [is_pay67 hm, is_bv61 hI, is_bv174 hI hs, is_bv177 hI, is_bv184 hI, is_bv192 hI, ← EReal.coe_mul,
    zero_sub, ← EReal.coe_neg]
  rfl

theorem is_bv234 (hI : I.Is r) (hs : IsS st s) (hm : IsM dm m) (h t e) :
    bv234 I st dm (ix3 h t e) = ((r.on s h t e * r.c1 m h t e : ℝ) : EReal) := by
  unfold bv234; pointwise [k1_pay72]
  exact (congrArg₂ (· * ·) (is_bv171 hI hs h t e) (is_bv224 hI hm h t e)).trans (EReal.coe_mul _ _).symm

theorem is_bv240 (hI : I.Is r) (hs : IsS st s) (hm : IsM dm m) (e) :
    bv240 I st dm (ix2 0 e) = ((r.dgn s m e : ℝ) : EReal) := by
  unfold bv240; pointwise [k1_pay73]
  rw [reduceAdd_01]
  pointwise []
  simp only [reduceAdd_01, is_bv234 hI hs hm, sum_coe, Finset.univ_unique, Finset.sum_singleton]
  rfl

theorem is_bv255 (hI : I.Is r) (hs : IsS st s) (hm : IsM dm m) (h t e) :
    bv255 I st dm (ix3 h t e) = ((r.dO s m h t e : ℝ) : EReal) := by
  unfold bv255 bv172; pointwise [k1_pay74, k1_pay55]
  simp only [is_bv151 hI hs, is_bv166 hI hs, is_bv169 hI hs, is_bv224 hI hm, hI.gn, ← EReal.coe_mul, sum_coe,
    Finset.univ_unique, Finset.sum_singleton, Fin.default_eq_zero, cst_512, div_512, ← EReal.coe_add]
  rfl

/-! ## The attention's gradient -/

theorem is_dkd (hI : I.Is r) (hd : Is3 ds D) (h t d) :
    k1_pay75 (bv157 I) ds (ix3 h t d) = ((r.dkd D h t d : ℝ) : EReal) := by
  unfold bv157; pointwise [k1_pay75, k1_pay49]
  simp only [is_bv33 hI, hd _ _ _, ← EReal.coe_mul, sum_coe]
  rfl

theorem is_bv263 (hI : I.Is r) (hd : Is3 ds D) (h t e) :
    bv263 I ds (ix3 h t e) = ((∑ d, D h e d * r.kdec h t d : ℝ) : EReal) := by
  unfold bv263; pointwise [k1_pay76]
  simp only [is_bv158 hI, hd _ _ _, ← EReal.coe_mul, sum_coe]

theorem is_bv268 (hI : I.Is r) (hd : Is3 ds D) (h e d) :
    bv268 I ds (ix3 h e d) = ((D h e d * Real.exp (r.bl h d) : ℝ) : EReal) := by
  unfold bv268; pointwise [k1_pay77]
  simp only [is_bv156 hI, hd _ _ _, ← EReal.coe_mul]

theorem is_bv271 (hI : I.Is r) (hd : Is3 ds D) (h t d) :
    bv271 I ds (ix3 h t d) = ((r.dkd D h t d * Real.exp (r.bl h d - r.bc h t d) : ℝ) : EReal) := by
  unfold bv271; pointwise [k1_pay78]
  simp only [is_dkd hI hd, is_bv154 hI, ← EReal.coe_mul]

theorem is_kdkd (hI : I.Is r) (hd : Is3 ds D) (h t d) :
    k1_pay79 (bv24 I) (bv154 I) (bv157 I) ds (ix3 h t d)
      = ((r.k h t d * r.dkd D h t d * Real.exp (r.bl h d - r.bc h t d) : ℝ) : EReal) := by
  pointwise [k1_pay79]
  simp only [is_dkd hI hd, is_bv24 hI, is_bv154 hI, ← EReal.coe_mul]

theorem is_bv276 (hI : I.Is r) (hd : Is3 ds D) (h t d) :
    bv276 I ds (ix3 h t d)
      = ((-(r.k h t d * r.dkd D h t d * Real.exp (r.bl h d - r.bc h t d)) : ℝ) : EReal) := by
  unfold bv276; pointwise [k1_pay80]
  simp only [is_kdkd hI hd, zero_sub, ← EReal.coe_neg]

theorem is_bv277 (hI : I.Is r) (hs : IsS st s) (hd : Is3 ds D) (h d) :
    bv277 I st ds (ix3 h 0 d) = ((r.dbl s D h d : ℝ) : EReal) := by
  unfold bv277; pointwise [k1_pay81]
  simp only [is_kdkd hI hd, is_bv6 hs, hd _ _ _, is_bv156 hI, ← EReal.coe_mul, sum_coe, ← EReal.coe_add]
  rfl

theorem is_dO74 (hI : I.Is r) (hs : IsS st s) (hm : IsM dm m) (h t e) :
    k1_pay74 (bv151 I st) (bv166 I st) (bv169 I st) (bv172 I) (bv224 I dm) (ix3 h t e)
      = ((r.dO s m h t e : ℝ) : EReal) := is_bv255 hI hs hm h t e

theorem is_bv281 (hI : I.Is r) (hs : IsS st s) (hm : IsM dm m) (h t d) :
    bv281 I st dm (ix3 h t d) = ((∑ e, r.dO s m h t e * s h e d : ℝ) : EReal) := by
  unfold bv281 bv149; pointwise [k1_pay82, k1_pay45]
  simp only [is_dO74 hI hs hm, is_bv6 hs, ← EReal.coe_mul, sum_coe]

theorem is_bv282 (hI : I.Is r) (hs : IsS st s) (hm : IsM dm m) (h e d) :
    bv282 I st dm (ix3 h e d) = ((∑ t, r.dO s m h t e * r.qin h t d : ℝ) : EReal) := by
  unfold bv282 bv148; pointwise [k1_pay83, k1_pay44]
  simp only [is_dO74 hI hs hm, is_bv133 hI, ← EReal.coe_mul, sum_coe]

theorem is_bNew (hI : I.Is r) (hs : IsS st s) (hm : IsM dm m) (hd : Is3 ds D) :
    Is3 (bNew I st dm ds) (r.dnew s m D) := by
  intro h e d
  unfold bNew bv283; pointwise [k1_pay97, k1_pay84]
  simp only [is_bv268 hI hd, is_bv282 hI hs hm, ← EReal.coe_add]
  rfl

theorem is_bv291 (hI : I.Is r) (hs : IsS st s) (hm : IsM dm m) (hd : Is3 ds D) (h t e) :
    bv291 I st dm ds (ix3 h t e) = ((r.dv s m D h t e : ℝ) : EReal) := by
  unfold bv291; pointwise [k1_pay85]
  simp only [is_bv263 hI hd, is_bv255 hI hs hm, is_bv145 hI, ← EReal.coe_mul, sum_coe, ← EReal.coe_add]
  rfl

theorem is_dA (hI : I.Is r) (hs : IsS st s) (hm : IsM dm m) (h t u) :
    k1_pay86 bv142 (bv146 I) (bv255 I st dm) (ix3 h t u) = ((r.dA s m h t u : ℝ) : EReal) := by
  unfold bv146 bv142 bv75; pointwise [k1_pay86, k1_pay43, k1_pay41, k1_pay18]
  simp only [is_bv255 hI hs hm, is_bv33 hI, ← EReal.coe_mul, sum_coe,
    sge_ofNat (Nat.lt_trans (Fin.isLt _) (by norm_num : 64 < 2 ^ 31))
      (Nat.lt_trans (Fin.isLt _) (by norm_num : 64 < 2 ^ 31)), sel_zero]
  rfl

theorem is_dkin (hI : I.Is r) (hs : IsS st s) (hm : IsM dm m) (h t d) :
    k1_pay87 (bv138 I) bv142 (bv146 I) (bv255 I st dm) (ix3 h t d) = ((r.dkin s m h t d : ℝ) : EReal) := by
  pointwise [k1_pay87]
  simp only [is_dA hI hs hm, is_bv138 hI, ← EReal.coe_mul, sum_coe]
  rfl

theorem is_dqin (hI : I.Is r) (hs : IsS st s) (hm : IsM dm m) (h t d) :
    k1_pay88 (bv139 I) bv142 (bv146 I) (bv255 I st dm) (bv281 I st dm) (ix3 h t d)
      = ((r.dqin s m h t d : ℝ) : EReal) := by
  pointwise [k1_pay88]
  simp only [is_dA hI hs hm, is_bv139 hI, is_bv281 hI hs hm, ← EReal.coe_mul, sum_coe, ← EReal.coe_add]
  rfl

theorem is_bv304 (hI : I.Is r) (hs : IsS st s) (hm : IsM dm m) (hd : Is3 ds D) (h t d) :
    bv304 I st dm ds (ix3 h t d) = ((r.dk s m D h t d : ℝ) : EReal) := by
  unfold bv304; pointwise [k1_pay89]
  simp only [is_dkin hI hs hm, is_bv136 hI, is_bv271 hI hd, ← EReal.coe_mul, ← EReal.coe_add]
  rfl

theorem is_bv310 (hI : I.Is r) (hs : IsS st s) (hm : IsM dm m) (h t d) :
    bv310 I st dm (ix3 h t d) = ((r.dq s m h t d : ℝ) : EReal) := by
  unfold bv310; pointwise [k1_pay90]
  simp only [is_dqin hI hs hm, is_bv132 hI, ← EReal.coe_mul]
  rfl

theorem is_pay96 (hI : I.Is r) (hs : IsS st s) (hm : IsM dm m) (h t d) :
    k1_pay96 (bv310 I st dm) (ix3 h t d) = ((r.dq s m h t d * (1 / 16) : ℝ) : EReal) := by
  pointwise [k1_pay96]
  simp only [is_bv310 hI hs hm, cst_sixteenth, ← EReal.coe_mul]

theorem is_bv361 (hI : I.Is r) (hs : IsS st s) (hm : IsM dm m) (h t d) :
    bv361 I st dm (ix3 h t d) = ((r.dq s m h t d * (1 / 16) : ℝ) : EReal) := by
  exact is_pay96 hI hs hm h t d

theorem is_bv331 (hI : I.Is r) (hs : IsS st s) (hm : IsM dm m) (hd : Is3 ds D) (h t d) :
    bv331 I st dm ds (ix3 h t d) = ((r.dlf s m D h t d : ℝ) : EReal) := by
  unfold bv331; pointwise [k1_pay91]
  simp only [is_dqin hI hs hm, is_dkin hI hs hm, is_bv132 hI, is_bv136 hI, is_bv24 hI, is_bv81 hI, is_bv276 hI hd,
    is_bv277 hI hs hd, is_bmask, zero_sub, ← EReal.coe_neg, ← EReal.coe_mul, ← EReal.coe_add, ← EReal.coe_sub,
    sum_coe, Finset.univ_unique, Finset.sum_singleton, Fin.default_eq_zero, cst_sixteen, div_sixteen]
  refine congrArg Real.toEReal ?_
  simp only [sub_self, mul_zero, Finset.sum_const_zero, add_zero]
  rfl

theorem is_du (hI : I.Is r) (hs : IsS st s) (hm : IsM dm m) (hd : Is3 ds D) (h t d) :
    k1_pay92 (bv102 I) (bv105 I) (bv108 I) (bv110 I) (bv331 I st dm ds) (ix3 h t d)
      = ((r.du s m D h t d : ℝ) : EReal) := by
  unfold bv102 bv105 bv108 bv110 bv95 bv97 bv98 bv99 bcst_68
  have en : ∀ h t d, k1_pay23 (View.ld I.x5 (Rect.unit (s := S64x128) ![0, 0] S64x128.size inb_S64x128_S64x128_0_0))
    (bv43 I) (bv52 I) (ix3 h t d) = ((r.nu h t d : ℝ) : EReal) := is_bv91 hI
  pointwise [k1_pay92, k1_pay29, k1_pay30, k1_pay31, k1_pay32, k1_pay25, k1_pay26, k1_pay27, k1_pay28]
  simp only [is_bv331 hI hs hm hd, is_bv91 hI, en, zero_sub, ← EReal.coe_neg, abs_coe, exp_coe, one_add_coe,
    div_one_add_exp, ← EReal.coe_mul, EReal.coe_nonneg, EReal.coe_pos, EReal.coe_eq_zero, cst_half]
  unfold RIn.du spGrad
  split_ifs <;> simp [← EReal.coe_neg, ← EReal.coe_mul, ← EReal.coe_add]

theorem is_bv349 (hI : I.Is r) (hs : IsS st s) (hm : IsM dm m) (hd : Is3 ds D) (h d) :
    bv349 I st dm ds (ix3 h 0 d) = ((r.db s m D h d : ℝ) : EReal) := by
  unfold bv349; pointwise [k1_pay93]
  simp only [is_du hI hs hm hd, sum_coe]
  rfl

theorem is_bv355 (hI : I.Is r) (hs : IsS st s) (hm : IsM dm m) (hd : Is3 ds D) (h j d) :
    bv355 I st dm ds (ix3 h j d) = ((r.dw2 s m D h j d : ℝ) : EReal) := by
  unfold bv355 bv85; pointwise [k1_pay94, k1_pay21]
  simp only [is_du hI hs hm hd, hI.lr, ← EReal.coe_mul, sum_coe]
  rfl

theorem is_bDlr (hI : I.Is r) (hs : IsS st s) (hm : IsM dm m) (hd : Is3 ds D) :
    Is2 (bDlr I st dm ds) (r.dlr s m D) := by
  intro t j
  unfold bDlr bv359 bv86; pointwise [k1_pay95, k1_pay22]
  simp only [is_du hI hs hm hd, is_bv43 hI, ← EReal.coe_mul, sum_coe, Finset.univ_unique, Finset.sum_singleton]
  rfl

/-! ## The blocks and the sums -/

theorem is_bDq (hI : I.Is r) (hs : IsS st s) (hm : IsM dm m) (h t d) :
    bDq I st dm (ix2 t (cK h d)) = ((r.dq s m h t d * (1 / 16) : ℝ) : EReal) := by
  unfold bDq
  canon_tiles x hx
  all_goals idx_vars x
  all_goals pointwise [k1_pay98, k1_pay103, k1_pay109, bv406, k1_pay108, k1_pay114]
  all_goals refine (is_pay96 hI hs hm _ _ _).trans (coe_at3 (fun h t d => r.dq s m h t d * (1 / 16)) ?_ ?_ ?_)
  all_goals first
    | omega
    | (simp only [Fin.isValue, Fin.coe_ofNat_eq_mod, Nat.reduceMod]; omega)

theorem is_bDk (hI : I.Is r) (hs : IsS st s) (hm : IsM dm m) (hd : Is3 ds D) (h t d) :
    bDk I st dm ds (ix2 t (cK h d)) = ((r.dk s m D h t d : ℝ) : EReal) := by
  unfold bDk
  canon_tiles x hx
  all_goals idx_vars x
  all_goals pointwise [bv371, k1_pay99, k1_pay104, k1_pay110, k1_pay115]
  all_goals refine (is_bv304 hI hs hm hd _ _ _).trans (coe_at3 _ ?_ ?_ ?_)
  all_goals first
    | omega
    | (simp only [Fin.isValue, Fin.coe_ofNat_eq_mod, Nat.reduceMod]; omega)

theorem is_bDv (hI : I.Is r) (hs : IsS st s) (hm : IsM dm m) (hd : Is3 ds D) (h t e) :
    bDv I st dm ds (ix2 t (cV h e)) = ((r.dv s m D h t e : ℝ) : EReal) := by
  unfold bDv
  canon_tiles x hx
  all_goals idx_vars x
  all_goals pointwise [k1_pay100, k1_pay105, k1_pay111, k1_pay116]
  all_goals refine (is_bv291 hI hs hm hd _ _ _).trans (coe_at3 _ ?_ ?_ ?_)
  all_goals first
    | omega
    | (simp only [Fin.isValue, Fin.coe_ofNat_eq_mod, Nat.reduceMod]; omega)

theorem is_bDg (hI : I.Is r) (hs : IsS st s) (hm : IsM dm m) (h t e) :
    bDg I st dm (ix2 t (cV h e)) = ((r.dg s m h t e : ℝ) : EReal) := by
  unfold bDg
  canon_tiles x hx
  all_goals idx_vars x
  all_goals pointwise [bv439, k1_pay101, k1_pay106, k1_pay112, k1_pay117]
  all_goals refine (is_bv223 hI hs hm _ _ _).trans (coe_at3 _ ?_ ?_ ?_)
  all_goals first
    | omega
    | (simp only [Fin.isValue, Fin.coe_ofNat_eq_mod, Nat.reduceMod]; omega)

theorem is_bDga (hI : I.Is r) (hs : IsS st s) (hm : IsM dm m) (h t e) :
    bDga I st dm (ix2 t (cV h e)) = ((r.da s m h t e : ℝ) : EReal) := by
  unfold bDga
  canon_tiles x hx
  all_goals idx_vars x
  all_goals pointwise [k1_pay1, k1_pay102, k1_pay107, k1_pay113]
  all_goals refine (is_bv233 hI hs hm _ _ _).trans (coe_at3 _ ?_ ?_ ?_)
  all_goals first
    | omega
    | (simp only [Fin.isValue, Fin.coe_ofNat_eq_mod, Nat.reduceMod]; omega)

theorem is_bDw2 (hI : I.Is r) (hs : IsS st s) (hm : IsM dm m) (hd : Is3 ds D) {acc : Vec Ideal S4x128x256 .f32}
    {A : Fin 4 → Fin 128 → Fin 256 → ℝ} (ha : Is3 acc A) :
    Is3 (bDw2 I st dm ds acc) (fun h j d => A h j d + r.dw2 s m D h j d) := by
  intro h j d
  unfold bDw2; pointwise [k1_pay2]
  simp only [is_bv355 hI hs hm hd, ha _ _ _, ← EReal.coe_add]

theorem is_bDb (hI : I.Is r) (hs : IsS st s) (hm : IsM dm m) (hd : Is3 ds D) {acc : Vec Ideal S4x1x256 .f32}
    {A : Fin 4 → Fin 1 → Fin 256 → ℝ} (ha : Is3 acc A) :
    Is3 (bDb I st dm ds acc) (fun h j d => A h j d + r.db s m D h d) := by
  intro h j d
  obtain rfl : j = 0 := Subsingleton.elim _ _
  unfold bDb; pointwise [k1_pay3]
  simp only [is_bv349 hI hs hm hd, ha _ _ _, ← EReal.coe_add]

theorem is_bDgn (hI : I.Is r) (hs : IsS st s) (hm : IsM dm m) {acc : Vec Ideal S1x512 .f32}
    {A : Fin 1 → Fin 512 → ℝ} (ha : Is2 acc A) :
    Is2 (bDgn I st dm acc) (fun j e => A j e + r.dgn s m e) := by
  intro j e
  obtain rfl : j = 0 := Subsingleton.elim _ _
  unfold bDgn; pointwise [k1_pay4]
  simp only [is_bv240 hI hs hm, ha _ _, ← EReal.coe_add]

end Cert.KernelIdeal.Gla

end
-- ==== Proof.Math.lean ====
module

public import proofs.«01_k».proof.Proof.ValBwd

/-!
The gated linear attention over one whole sequence of 2048 positions, and its gradient, as real functions; and the
theorem that the chunks of 64 positions, chained by the state forwards and by its gradient backwards, give the same.
-/

@[expose] public section

noncomputable section

namespace Cert.KernelIdeal.Gla

open Finset

/-- One sequence's inputs, with the cotangent `m`. -/
structure GIn where
  q : Fin 4 → ℕ → Fin 256 → ℝ
  k : Fin 4 → ℕ → Fin 256 → ℝ
  v : Fin 4 → ℕ → Fin 512 → ℝ
  g : Fin 4 → ℕ → Fin 512 → ℝ
  a : Fin 4 → ℕ → Fin 512 → ℝ
  lr : ℕ → Fin 128 → ℝ
  w2 : Fin 4 → Fin 128 → Fin 256 → ℝ
  b : Fin 4 → Fin 256 → ℝ
  gn : Fin 512 → ℝ
  m : Fin 4 → ℕ → Fin 512 → ℝ

namespace GIn
variable (G : GIn)

/-! ## The whole sequence -/

def nu (h : Fin 4) (s : ℕ) (d : Fin 256) : ℝ := -((∑ j, G.lr s j * G.w2 h j d) + G.b h d)
def lf (h : Fin 4) (s : ℕ) (d : Fin 256) : ℝ := -(sp (G.nu h s d)) / 16
/-- The log decay summed from the sequence's start. -/
def B (h : Fin 4) (t : ℕ) (d : Fin 256) : ℝ := ∑ s ∈ range 2048, if s ≤ t then G.lf h s d else 0
def qin (h : Fin 4) (t : ℕ) (d : Fin 256) : ℝ := G.q h t d * (1 / 16) * Real.exp (G.B h t d)
def kin (h : Fin 4) (t : ℕ) (d : Fin 256) : ℝ := G.k h t d * Real.exp (-(G.B h t d))
def att (h : Fin 4) (t s : ℕ) : ℝ := if s ≤ t then ∑ d, G.qin h t d * G.kin h s d else 0
def o (h : Fin 4) (t : ℕ) (e : Fin 512) : ℝ := ∑ s ∈ range 2048, G.att h t s * G.v h s e
def on (h : Fin 4) (t : ℕ) (e : Fin 512) : ℝ := G.o h t e * rms (G.o h t)
def silu (h : Fin 4) (t : ℕ) (e : Fin 512) : ℝ := G.g h t e * sg (G.g h t e)
def out (h : Fin 4) (t : ℕ) (e : Fin 512) : ℝ := sg (G.a h t e) * (G.on h t e * G.gn e * G.silu h t e)
def am (h : Fin 4) (t : ℕ) (e : Fin 512) : ℝ := sg (G.a h t e) * G.m h t e
def x (h : Fin 4) (t : ℕ) (e : Fin 512) : ℝ := G.on h t e * G.gn e * G.am h t e
def dg (h : Fin 4) (t : ℕ) (e : Fin 512) : ℝ :=
  G.x h t e * sg (G.g h t e) + G.g h t e * G.x h t e * (sg (G.g h t e) * (1 - sg (G.g h t e)))
def da (h : Fin 4) (t : ℕ) (e : Fin 512) : ℝ :=
  G.m h t e * (G.on h t e * G.gn e * G.silu h t e) * (sg (G.a h t e) * (1 - sg (G.a h t e)))
def c1 (h : Fin 4) (t : ℕ) (e : Fin 512) : ℝ := G.am h t e * G.silu h t e
def wn (h : Fin 4) (t : ℕ) : ℝ :=
  (∑ e, G.o h t e * (G.c1 h t e * G.gn e)) * (-(1 / 2) * (rms (G.o h t) / msq (G.o h t))) / 512
def dO (h : Fin 4) (t : ℕ) (e : Fin 512) : ℝ :=
  G.c1 h t e * G.gn e * rms (G.o h t) + G.o h t e * G.wn h t + G.wn h t * G.o h t e
def dv (h : Fin 4) (s : ℕ) (e : Fin 512) : ℝ := ∑ t ∈ range 2048, G.dO h t e * G.att h t s
def dA (h : Fin 4) (t s : ℕ) : ℝ := if s ≤ t then ∑ e, G.dO h t e * G.v h s e else 0
def dkin (h : Fin 4) (s : ℕ) (d : Fin 256) : ℝ := ∑ t ∈ range 2048, G.dA h t s * G.qin h t d
def dqin (h : Fin 4) (t : ℕ) (d : Fin 256) : ℝ := ∑ s ∈ range 2048, G.dA h t s * G.kin h s d
def dk (h : Fin 4) (s : ℕ) (d : Fin 256) : ℝ := G.dkin h s d * Real.exp (-(G.B h s d))
def dq (h : Fin 4) (t : ℕ) (d : Fin 256) : ℝ := G.dqin h t d * Real.exp (G.B h t d)
def dB (h : Fin 4) (t : ℕ) (d : Fin 256) : ℝ :=
  -(G.k h t d * G.dkin h t d * Real.exp (-(G.B h t d))) + G.q h t d * (1 / 16) * G.dqin h t d * Real.exp (G.B h t d)
def dlf (h : Fin 4) (t : ℕ) (d : Fin 256) : ℝ := (∑ u ∈ range 2048, if t ≤ u then G.dB h u d else 0) / 16
def du (h : Fin 4) (t : ℕ) (d : Fin 256) : ℝ := G.dlf h t d * sg (G.nu h t d)
def dgn (e : Fin 512) : ℝ := ∑ h, ∑ t ∈ range 2048, G.on h t e * G.c1 h t e

/-! ## The chunks -/

/-- The inputs of chunk `n`. -/
def chunk (n : ℕ) : RIn where
  q := fun h t d => G.q h (64 * n + t) d
  k := fun h t d => G.k h (64 * n + t) d
  v := fun h t e => G.v h (64 * n + t) e
  g := fun h t e => G.g h (64 * n + t) e
  a := fun h t e => G.a h (64 * n + t) e
  lr := fun t j => G.lr (64 * n + t) j
  w2 := G.w2
  b := G.b
  gn := G.gn

/-- The cotangent of chunk `n`. -/
def cm (n : ℕ) : Vf := fun h t e => G.m h (64 * n + t) e

/-- The state before chunk `n`. -/
def st : ℕ → Sf
  | 0 => fun _ _ _ => 0
  | n + 1 => (G.chunk n).new (st n)

/-- The state's gradient after chunk `31 - i`, `i` chunks from the end. -/
def ds : ℕ → Sf
  | 0 => fun _ _ _ => 0
  | i + 1 => (G.chunk (31 - i)).dnew (G.st (31 - i)) (G.cm (31 - i)) (ds i)

/-! ## Sums over a sequence of 32 chunks -/

theorem sum_chunk (f : ℕ → ℝ) (n : ℕ) :
    ∑ s ∈ range (64 * (n + 1)), f s = ∑ s ∈ range (64 * n), f s + ∑ t : Fin 64, f (64 * n + t) := by
  rw [Nat.mul_succ, sum_range_add, ← sum_range (fun t => f (64 * n + t))]

theorem sum_Ico_chunk (f : ℕ → ℝ) {n : ℕ} (hn : n < 32) :
    ∑ s ∈ Ico (64 * n) 2048, f s = ∑ t : Fin 64, f (64 * n + t) + ∑ s ∈ Ico (64 * (n + 1)) 2048, f s := by
  rw [← sum_Ico_consecutive f (show 64 * n ≤ 64 * (n + 1) by omega) (show 64 * (n + 1) ≤ 2048 by omega),
    sum_Ico_eq_sum_range, show 64 * (n + 1) - 64 * n = 64 by omega, ← sum_range (fun t => f (64 * n + t))]

theorem sum_split (f : ℕ → ℝ) {n : ℕ} (hn : n < 32) :
    ∑ s ∈ range 2048, f s
      = ∑ s ∈ range (64 * n), f s + (∑ t : Fin 64, f (64 * n + t) + ∑ s ∈ Ico (64 * (n + 1)) 2048, f s) := by
  rw [← sum_Ico_chunk f hn, range_eq_Ico, range_eq_Ico, sum_Ico_consecutive f (Nat.zero_le _) (by omega)]

theorem sum_causal (f : ℕ → ℝ) {n : ℕ} (hn : n < 32) (t : Fin 64) :
    ∑ s ∈ range 2048, (if s ≤ 64 * n + t then f s else 0)
      = ∑ s ∈ range (64 * n), f s + ∑ s : Fin 64, if s ≤ t then f (64 * n + s) else 0 := by
  rw [sum_split _ hn, sum_congr rfl (g := f), sum_congr rfl (g := fun s : Fin 64 => if s ≤ t then f (64 * n + s) else 0),
    sum_eq_zero (s := Ico _ _), add_zero]
  · intro s hs; rw [mem_Ico] at hs; exact if_neg (by omega)
  · intro s _; exact if_congr (by rw [Fin.le_def]; omega) rfl rfl
  · intro s hs; rw [mem_range] at hs; exact if_pos (by omega)

theorem sum_later (f : ℕ → ℝ) {n : ℕ} (hn : n < 32) (t : Fin 64) :
    ∑ s ∈ range 2048, (if 64 * n + t ≤ s then f s else 0)
      = (∑ s : Fin 64, if t ≤ s then f (64 * n + s) else 0) + ∑ s ∈ Ico (64 * (n + 1)) 2048, f s := by
  rw [sum_split _ hn, sum_eq_zero (s := range _), zero_add,
    sum_congr rfl (g := fun s : Fin 64 => if t ≤ s then f (64 * n + s) else 0), sum_congr (s₁ := Ico _ _) rfl (g := f)]
  · intro s hs; rw [mem_Ico] at hs; exact if_pos (by omega)
  · intro s _; exact if_congr (by rw [Fin.le_def]; omega) rfl rfl
  · intro s hs; rw [mem_range] at hs; exact if_neg (by omega)

/-! ## The decay -/

/-- The log decay summed over the chunks before `n`. -/
def base (n : ℕ) (h : Fin 4) (d : Fin 256) : ℝ := ∑ s ∈ range (64 * n), G.lf h s d

theorem base_succ (n h d) : G.base (n + 1) h d = G.base n h d + (G.chunk n).bl h d := sum_chunk _ n

theorem B_chunk {n : ℕ} (hn : n < 32) (h t d) :
    G.B h (64 * n + (t : Fin 64)) d = G.base n h d + (G.chunk n).bc h t d := by
  unfold B base RIn.bc
  rw [sum_causal _ hn]
  simp only [ite_mul, one_mul, zero_mul]
  rfl

/-! ## The state -/

theorem st_eq {n : ℕ} (hn : n ≤ 32) (h e d) :
    G.st n h e d = ∑ s ∈ range (64 * n), G.v h s e * (G.k h s d * Real.exp (G.base n h d - G.B h s d)) := by
  induction n with
  | zero => simp [st]
  | succ n ih =>
    rw [sum_chunk]
    show G.st n h e d * Real.exp ((G.chunk n).bl h d) + _ = _
    rw [ih (by omega), sum_mul]
    refine congrArg₂ (· + ·) (sum_congr rfl fun s _ => ?_) (sum_congr rfl fun s _ => ?_)
    · rw [G.base_succ, show G.base n h d + (G.chunk n).bl h d - G.B h s d
          = (G.base n h d - G.B h s d) + (G.chunk n).bl h d by ring, Real.exp_add]
      ring
    · rw [G.base_succ, G.B_chunk (by omega), show G.base n h d + (G.chunk n).bl h d - (G.base n h d + (G.chunk n).bc h s d)
          = (G.chunk n).bl h d - (G.chunk n).bc h s d by ring]
      rfl

/-- The scores of a chunk are the sequence's. -/
theorem att_eq {n : ℕ} (hn : n < 32) (h) (t s : Fin 64) :
    (G.chunk n).att h t s = G.att h (64 * n + t) (64 * n + s) := by
  unfold RIn.att att
  refine if_congr (by rw [Fin.le_def]; omega) (sum_congr rfl fun d _ => ?_) rfl
  unfold RIn.qin RIn.kin qin kin
  rw [G.B_chunk hn, G.B_chunk hn, neg_add, Real.exp_add, Real.exp_add]
  have e := Real.exp_add (G.base n h d) (-(G.base n h d))
  rw [add_neg_cancel, Real.exp_zero] at e
  show G.q h _ d * (1 / 16) * _ * (G.k h _ d * _) = _
  linear_combination (G.q h (64 * n + t) d * (1 / 16) * Real.exp ((G.chunk n).bc h t d)
    * (G.k h (64 * n + s) d * Real.exp (-((G.chunk n).bc h s d)))) * e

/-- The state read by a chunk's query: the scores against the positions before the chunk. -/
theorem qin_st {n : ℕ} (hn : n < 32) (h) (t : Fin 64) (e) :
    ∑ d, (G.chunk n).qin h t d * G.st n h e d
      = ∑ s ∈ range (64 * n), (∑ d, G.qin h (64 * n + t) d * G.kin h s d) * G.v h s e := by
  simp only [G.st_eq hn.le, mul_sum, sum_mul]
  rw [sum_comm]
  refine sum_congr rfl fun s _ => sum_congr rfl fun d _ => ?_
  unfold RIn.qin qin kin
  rw [G.B_chunk hn, sub_eq_add_neg, Real.exp_add, Real.exp_add]
  show G.q h _ d * (1 / 16) * _ * _ = _
  ring

theorem o_eq {n : ℕ} (hn : n < 32) (h) (t : Fin 64) :
    (G.chunk n).o (G.st n) h t = G.o h (64 * n + t) := by
  funext e
  unfold RIn.o o
  rw [G.qin_st hn, add_comm]
  unfold att
  simp only [ite_mul, zero_mul]
  rw [sum_causal _ hn]
  refine congrArg₂ (· + ·) rfl (sum_congr rfl fun s _ => ?_)
  rw [G.att_eq hn]; unfold att
  rw [ite_mul, zero_mul]
  exact if_congr (by rw [Fin.le_def]; omega) rfl rfl

/-! ## The norm and the gates -/

theorem sg_sq (x : ℝ) : 1 / ((1 + Real.exp (-x)) * (1 + Real.exp (-x))) * Real.exp (-x) = sg x * (1 - sg x) := by
  unfold sg
  have : (1 + Real.exp (-x)) ≠ 0 := by positivity
  field_simp
  ring

theorem on_eq {n : ℕ} (hn : n < 32) (h t e) :
    (G.chunk n).on (G.st n) h t e = G.on h (64 * n + (t : Fin 64)) e := by
  unfold RIn.on on; rw [G.o_eq hn]

theorem mix_eq {n : ℕ} (hn : n < 32) (h t e) :
    (G.chunk n).mix (G.st n) h t e = G.out h (64 * n + (t : Fin 64)) e := by
  unfold RIn.mix out on silu; rw [G.o_eq hn]
  show sg (G.a h _ e) * (_ * G.gn e) * (G.g h _ e * sg (G.g h _ e)) = _
  ring

theorem c1_eq (n : ℕ) (h t e) : (G.chunk n).c1 (G.cm n) h t e = G.c1 h (64 * n + (t : Fin 64)) e := by
  show sg (G.a h _ e) * (G.m h _ e * (G.chunk n).silu h t e) = sg (G.a h _ e) * G.m h _ e * G.silu h _ e
  rw [show (G.chunk n).silu h t e = G.silu h (64 * n + t) e from rfl]
  ring

theorem dg_eq {n : ℕ} (hn : n < 32) (h t e) :
    (G.chunk n).dg (G.st n) (G.cm n) h t e = G.dg h (64 * n + (t : Fin 64)) e := by
  unfold RIn.dg dg x am
  rw [G.on_eq hn, ← sg_sq (G.g h (64 * n + t) e)]
  show sg (G.a h _ e) * (_ * G.gn e) * G.m h _ e * sg (G.g h _ e)
    + -(-(G.g h _ e * (sg (G.a h _ e) * (_ * G.gn e) * G.m h _ e) * (1 / ((1 + Real.exp (-(G.g h _ e)))
      * (1 + Real.exp (-(G.g h _ e)))))) * Real.exp (-(G.g h _ e))) = _
  ring

theorem da_eq {n : ℕ} (hn : n < 32) (h t e) :
    (G.chunk n).da (G.st n) (G.cm n) h t e = G.da h (64 * n + (t : Fin 64)) e := by
  unfold RIn.da da
  rw [G.on_eq hn, ← sg_sq (G.a h (64 * n + t) e)]
  show -(-(G.m h _ e * G.silu h _ e * (_ * G.gn e) * (1 / ((1 + Real.exp (-(G.a h _ e)))
      * (1 + Real.exp (-(G.a h _ e)))))) * Real.exp (-(G.a h _ e))) = _
  ring

theorem dO_eq {n : ℕ} (hn : n < 32) (h t e) :
    (G.chunk n).dO (G.st n) (G.cm n) h t e = G.dO h (64 * n + (t : Fin 64)) e := by
  unfold RIn.dO dO RIn.wn wn
  simp only [G.o_eq hn, G.c1_eq]
  rfl

theorem dgn_eq (e) : ∑ n ∈ range 32, (G.chunk n).dgn (G.st n) (G.cm n) e = G.dgn e := by
  have key : ∀ N ≤ 32, ∑ n ∈ range N, (G.chunk n).dgn (G.st n) (G.cm n) e
      = ∑ h, ∑ t ∈ range (64 * N), G.on h t e * G.c1 h t e := by
    intro N hN
    induction N with
    | zero => simp
    | succ n ih =>
      rw [sum_range_succ, ih (by omega)]
      simp only [sum_chunk, sum_add_distrib]
      unfold RIn.dgn
      simp only [G.on_eq (show n < 32 by omega), G.c1_eq]
  exact key 32 le_rfl

/-! ## The state's gradient -/

/-- The state's gradient after chunk `n`, from the positions after it. -/
def dst (n : ℕ) : Sf := fun h e d =>
  ∑ t ∈ Ico (64 * (n + 1)) 2048, G.dO h t e * (G.q h t d * (1 / 16) * Real.exp (G.B h t d - G.base (n + 1) h d))

theorem dst_step {n : ℕ} (hn : n + 1 < 32) :
    (G.chunk (n + 1)).dnew (G.st (n + 1)) (G.cm (n + 1)) (G.dst (n + 1)) = G.dst n := by
  funext h e d
  unfold RIn.dnew
  simp only [G.dO_eq hn]
  conv_rhs => unfold dst
  rw [sum_Ico_chunk _ hn, add_comm]
  refine congrArg₂ (· + ·) (sum_congr rfl fun t _ => ?_) ?_
  · unfold RIn.qin
    rw [G.B_chunk hn, add_sub_cancel_left]
    rfl
  · unfold dst
    rw [sum_mul]
    refine sum_congr rfl fun t _ => ?_
    rw [G.base_succ (n + 1), show G.B h t d - G.base (n + 1) h d
      = (G.B h t d - (G.base (n + 1) h d + (G.chunk (n + 1)).bl h d)) + (G.chunk (n + 1)).bl h d by ring, Real.exp_add]
    ring

theorem ds_eq {i : ℕ} (hi : i ≤ 31) : G.ds i = G.dst (31 - i) := by
  induction i with
  | zero => funext h e d; simp [ds, dst]
  | succ i ih =>
    show (G.chunk (31 - i)).dnew (G.st (31 - i)) (G.cm (31 - i)) (G.ds i) = _
    rw [ih (by omega)]
    obtain ⟨j, hj⟩ : ∃ j, 31 - i = j + 1 := ⟨30 - i, by omega⟩
    rw [hj, show 31 - (i + 1) = j by omega]
    exact G.dst_step (by omega)

/-! ## The value's, the key's and the query's gradient -/

theorem dv_eq {n : ℕ} (hn : n < 32) (h t e) :
    (G.chunk n).dv (G.st n) (G.cm n) (G.dst n) h t e = G.dv h (64 * n + (t : Fin 64)) e := by
  unfold RIn.dv dv
  simp only [G.dO_eq hn, G.att_eq hn]
  rw [sum_split _ hn, sum_eq_zero (s := range _), zero_add, add_comm]
  · refine congrArg₂ (· + ·) rfl ?_
    unfold dst
    simp only [sum_mul]
    rw [sum_comm]
    refine sum_congr rfl fun u hu => ?_
    rw [mem_Ico] at hu
    unfold att
    rw [if_pos (by omega), mul_sum]
    refine sum_congr rfl fun d _ => ?_
    unfold RIn.kdec qin kin
    rw [G.B_chunk hn, G.base_succ, neg_add, sub_eq_add_neg, neg_add, sub_eq_add_neg]
    simp only [Real.exp_add]
    have e := Real.exp_add ((G.chunk n).bl h d) (-((G.chunk n).bl h d))
    rw [add_neg_cancel, Real.exp_zero] at e
    show _ * (G.k h _ d * _) = _
    linear_combination (-(G.dO h u _ * (G.q h u d * (1 / 16) * (Real.exp (G.B h u d) * Real.exp (-(G.base n h d))))
      * (G.k h (64 * n + t) d * Real.exp (-((G.chunk n).bc h t d))))) * e
  · intro s hs
    rw [mem_range] at hs
    unfold att
    rw [if_neg (by omega), mul_zero]

/-- The pair weight: the gradient at the score of position `t` against `s`, times what lane `d` gives. -/
def w (h : Fin 4) (d : Fin 256) (s t : ℕ) : ℝ :=
  (∑ e, G.dO h t e * G.v h s e) * (G.q h t d * (1 / 16) * G.k h s d * Real.exp (G.B h t d - G.B h s d))

theorem k_dk (h d) (s : ℕ) : G.k h s d * G.dk h s d = ∑ t ∈ range 2048, if s ≤ t then G.w h d s t else 0 := by
  unfold dk dkin dA w
  rw [sum_mul, mul_sum]
  refine sum_congr rfl fun t _ => ?_
  split
  · unfold qin; rw [sub_eq_add_neg, Real.exp_add]; ring
  · ring

theorem q_dq (h d) (t : ℕ) : G.q h t d * (1 / 16) * G.dq h t d = ∑ s ∈ range 2048, if s ≤ t then G.w h d s t else 0 := by
  unfold dq dqin dA w
  rw [sum_mul, mul_sum]
  refine sum_congr rfl fun s _ => ?_
  split
  · unfold kin; rw [sub_eq_add_neg, Real.exp_add]; ring
  · ring

theorem dB_eq (h d) (t : ℕ) : G.dB h t d = G.q h t d * (1 / 16) * G.dq h t d - G.k h t d * G.dk h t d := by
  unfold dB dq dk; ring

theorem dkd_eq {n : ℕ} (hn : n < 32) (h) (t : Fin 64) (d) :
    (G.chunk n).dkd (G.dst n) h t d * Real.exp ((G.chunk n).bl h d - (G.chunk n).bc h t d)
      = ∑ u ∈ Ico (64 * (n + 1)) 2048, (∑ e, G.dO h u e * G.v h (64 * n + t) e)
          * G.qin h u d * Real.exp (-(G.B h (64 * n + t) d)) := by
  unfold RIn.dkd dst
  simp only [sum_mul]
  rw [sum_comm]
  refine sum_congr rfl fun u _ => sum_congr rfl fun e _ => ?_
  unfold qin
  rw [G.base_succ, G.B_chunk hn, sub_eq_add_neg, neg_add, sub_eq_add_neg, neg_add]
  simp only [Real.exp_add]
  have e1 := Real.exp_add ((G.chunk n).bl h d) (-((G.chunk n).bl h d))
  rw [add_neg_cancel, Real.exp_zero] at e1
  show _ * G.v h _ e * _ = _
  linear_combination (-(G.dO h u e * (G.q h u d * (1 / 16) * (Real.exp (G.B h u d) * Real.exp (-(G.base n h d))))
      * G.v h (64 * n + t) e * Real.exp (-((G.chunk n).bc h t d)))) * e1

theorem dA_eq {n : ℕ} (hn : n < 32) (h) (t u : Fin 64) :
    (G.chunk n).dA (G.st n) (G.cm n) h t u = G.dA h (64 * n + t) (64 * n + u) := by
  unfold RIn.dA dA
  simp only [G.dO_eq hn]
  exact if_congr (by rw [Fin.le_def]; omega) rfl rfl

theorem dk_eq {n : ℕ} (hn : n < 32) (h t d) :
    (G.chunk n).dk (G.st n) (G.cm n) (G.dst n) h t d = G.dk h (64 * n + (t : Fin 64)) d := by
  unfold RIn.dk dk
  rw [G.dkd_eq hn]
  unfold dkin RIn.dkin
  rw [sum_split _ hn, sum_eq_zero (s := range _), zero_add, add_mul, add_comm]
  · refine congrArg₂ (· + ·) ?_ ?_
    · rw [sum_mul, sum_mul]
      refine sum_congr rfl fun u _ => ?_
      rw [G.dA_eq hn]
      unfold RIn.qin qin
      rw [G.B_chunk hn, G.B_chunk hn, neg_add]
      simp only [Real.exp_add]
      have e1 := Real.exp_add (G.base n h d) (-(G.base n h d))
      rw [add_neg_cancel, Real.exp_zero] at e1
      show _ * (G.q h _ d * (1 / 16) * _) * _ = _
      linear_combination (G.dA h (64 * n + u) (64 * n + t) * (G.q h (64 * n + u) d * (1 / 16)
        * Real.exp ((G.chunk n).bc h u d)) * Real.exp (-((G.chunk n).bc h t d))) * e1
    · rw [sum_mul]
      refine sum_congr rfl fun u hu => ?_
      rw [mem_Ico] at hu
      unfold dA
      rw [if_pos (by omega)]
  · intro s hs
    rw [mem_range] at hs
    unfold dA
    rw [if_neg (by omega), zero_mul]

theorem dq_eq {n : ℕ} (hn : n < 32) (h t d) :
    (G.chunk n).dq (G.st n) (G.cm n) h t d = G.dq h (64 * n + (t : Fin 64)) d := by
  unfold RIn.dq dq RIn.dqin dqin
  rw [sum_split _ hn, sum_eq_zero (s := Ico _ _), add_zero, add_mul, add_mul]
  · refine congrArg₂ (· + ·) ?_ ?_
    · simp only [G.dO_eq hn, G.st_eq hn.le, mul_sum, sum_mul]
      rw [sum_comm]
      refine sum_congr rfl fun s hs => ?_
      rw [mem_range] at hs
      unfold dA kin
      rw [if_pos (by omega), sum_mul, sum_mul]
      refine sum_congr rfl fun e _ => ?_
      rw [G.B_chunk hn, sub_eq_add_neg]
      simp only [Real.exp_add]
      ring
    · rw [sum_mul, sum_mul]
      refine sum_congr rfl fun u _ => ?_
      rw [G.dA_eq hn]
      unfold RIn.kin kin
      rw [G.B_chunk hn, G.B_chunk hn, neg_add]
      simp only [Real.exp_add]
      have e1 := Real.exp_add (G.base n h d) (-(G.base n h d))
      rw [add_neg_cancel, Real.exp_zero] at e1
      show _ * (G.k h _ d * _) * _ = _
      linear_combination (G.dA h (64 * n + t) (64 * n + u) * (G.k h (64 * n + u) d
        * Real.exp (-((G.chunk n).bc h u d))) * Real.exp ((G.chunk n).bc h t d)) * e1
  · intro s hs
    rw [mem_Ico] at hs
    unfold dA
    rw [if_neg (by omega), zero_mul]

/-! ## The decay's gradient -/

/-- What flows through the state after chunk `n`: the pairs with the key in it or before and the query after. -/
theorem dbl_eq {n : ℕ} (hn : n < 32) (h d) :
    (G.chunk n).dbl (G.st n) (G.dst n) h d
      = ∑ t ∈ Ico (64 * (n + 1)) 2048, ∑ s ∈ range (64 * (n + 1)), G.w h d s t := by
  trans ∑ e, G.st (n + 1) h e d * G.dst n h e d
  · show _ = ∑ e, (G.st n h e d * Real.exp ((G.chunk n).bl h d) + ∑ s, (G.chunk n).v h s e * (G.chunk n).kdec h s d)
      * G.dst n h e d
    unfold RIn.dbl RIn.dkd RIn.kdec
    simp only [add_mul, sum_add_distrib, sum_mul, mul_sum]
    refine congrArg₂ (· + ·) (sum_congr rfl fun e _ => by ring) ?_
    rw [sum_comm]
    exact sum_congr rfl fun e _ => sum_congr rfl fun t _ => by ring
  · simp only [G.st_eq (show n + 1 ≤ 32 by omega)]
    unfold dst w
    simp only [sum_mul_sum]
    rw [sum_comm, sum_congr rfl fun s _ => sum_comm, sum_comm]
    simp only [sum_mul]
    refine sum_congr rfl fun t _ => sum_congr rfl fun s _ => sum_congr rfl fun e _ => ?_
    rw [sub_eq_add_neg, sub_eq_add_neg, sub_eq_add_neg]
    simp only [Real.exp_add]
    have e1 := Real.exp_add (G.base (n + 1) h d) (-(G.base (n + 1) h d))
    rw [add_neg_cancel, Real.exp_zero] at e1
    linear_combination (-(G.v h s e * G.k h s d * Real.exp (-(G.B h s d)) * G.dO h t e * (G.q h t d * (1 / 16))
      * Real.exp (G.B h t d))) * e1

/-- The decay's gradient summed over the positions from `M` on: the pairs across `M`. -/
theorem sum_dB (h d) (M : ℕ) (hM : M ≤ 2048) :
    ∑ u ∈ Ico M 2048, G.dB h u d = ∑ t ∈ Ico M 2048, ∑ s ∈ range M, G.w h d s t := by
  simp only [G.dB_eq, G.k_dk, G.q_dq, sum_sub_distrib]
  rw [sub_eq_iff_eq_add]
  have split : ∀ f : ℕ → ℝ, ∑ s ∈ range 2048, f s = ∑ s ∈ range M, f s + ∑ s ∈ Ico M 2048, f s := fun f => by
    rw [range_eq_Ico, range_eq_Ico, sum_Ico_consecutive f (Nat.zero_le _) hM]
  simp only [split, sum_add_distrib]
  have z : ∑ u ∈ Ico M 2048, ∑ t ∈ range M, (if u ≤ t then G.w h d u t else 0) = 0 :=
    sum_eq_zero fun u hu => sum_eq_zero fun t ht => by
      rw [mem_Ico] at hu; rw [mem_range] at ht; exact if_neg (by omega)
  rw [z, zero_add]
  refine congrArg₂ (· + ·) (sum_congr rfl fun t ht => sum_congr rfl fun s hs => ?_) sum_comm
  rw [mem_Ico] at ht; rw [mem_range] at hs
  exact if_pos (by omega)

theorem dbc_eq {n : ℕ} (hn : n < 32) (h t d) :
    (G.chunk n).dbc (G.st n) (G.cm n) (G.dst n) h t d = G.dB h (64 * n + (t : Fin 64)) d := by
  rw [G.dB_eq, ← G.dk_eq hn, ← G.dq_eq hn]
  unfold RIn.dbc RIn.dk RIn.dq
  show -(G.k h _ d * _ * _) + -(G.k h _ d * _ * _) + G.q h _ d * (1 / 16) * _ * _ = _
  ring

theorem dlf_eq {n : ℕ} (hn : n < 32) (h t d) :
    (G.chunk n).dlf (G.st n) (G.cm n) (G.dst n) h t d = G.dlf h (64 * n + (t : Fin 64)) d := by
  unfold RIn.dlf dlf
  rw [G.dbl_eq hn, ← G.sum_dB h d _ (by omega), sum_later _ hn, add_comm]
  simp only [G.dbc_eq hn, ite_mul, one_mul, zero_mul]

theorem spGrad_of_ne {x : ℝ} (hx : x ≠ 0) (y : ℝ) : spGrad x y = y * sg x := by
  unfold spGrad sg
  rcases lt_or_gt_of_ne hx with h | h
  · rw [if_neg (not_le.mpr h), if_neg (not_le.mpr h), if_neg (not_lt.mpr h.le), if_neg hx, abs_of_neg h, neg_neg,
      Real.exp_neg]
    have : 0 < Real.exp x := Real.exp_pos x
    field_simp
    ring
  · rw [if_pos h.le, if_pos h.le, if_pos h, abs_of_pos h]
    have : 0 < Real.exp (-x) := Real.exp_pos _
    field_simp
    ring

theorem du_eq {n : ℕ} (hn : n < 32) (h t d) (hnu : G.nu h (64 * n + (t : Fin 64)) d ≠ 0) :
    (G.chunk n).du (G.st n) (G.cm n) (G.dst n) h t d = G.du h (64 * n + t) d := by
  unfold RIn.du du
  rw [G.dlf_eq hn, show (G.chunk n).nu h t d = G.nu h (64 * n + t) d from rfl, spGrad_of_ne hnu]
  ring

/-! ## The low-rank gate's gradients -/

theorem dlr_eq {n : ℕ} (hn : n < 32) (hnu : ∀ h t d, G.nu h t d ≠ 0) (t : Fin 64) (j) :
    (G.chunk n).dlr (G.st n) (G.cm n) (G.dst n) t j = ∑ h, ∑ d, G.du h (64 * n + t) d * G.w2 h j d := by
  unfold RIn.dlr
  simp only [G.du_eq hn _ _ _ (hnu _ _ _)]
  rfl

theorem dw2_eq (hnu : ∀ h t d, G.nu h t d ≠ 0) (h j d) :
    ∑ n ∈ range 32, (G.chunk n).dw2 (G.st n) (G.cm n) (G.dst n) h j d = ∑ s ∈ range 2048, G.du h s d * G.lr s j := by
  have key : ∀ N ≤ 32, ∑ n ∈ range N, (G.chunk n).dw2 (G.st n) (G.cm n) (G.dst n) h j d
      = ∑ s ∈ range (64 * N), G.du h s d * G.lr s j := by
    intro N hN
    induction N with
    | zero => simp
    | succ n ih =>
      rw [sum_range_succ, ih (by omega), sum_chunk]
      unfold RIn.dw2
      simp only [G.du_eq (show n < 32 by omega) _ _ _ (hnu _ _ _)]
      rfl
  exact key 32 le_rfl

theorem db_eq (hnu : ∀ h t d, G.nu h t d ≠ 0) (h d) :
    ∑ n ∈ range 32, (G.chunk n).db (G.st n) (G.cm n) (G.dst n) h d = ∑ s ∈ range 2048, G.du h s d := by
  have key : ∀ N ≤ 32, ∑ n ∈ range N, (G.chunk n).db (G.st n) (G.cm n) (G.dst n) h d = ∑ s ∈ range (64 * N), G.du h s d := by
    intro N hN
    induction N with
    | zero => simp
    | succ n ih =>
      rw [sum_range_succ, ih (by omega), sum_chunk]
      unfold RIn.db
      simp only [G.du_eq (show n < 32 by omega) _ _ _ (hnu _ _ _)]
  exact key 32 le_rfl

end GIn

end Cert.KernelIdeal.Gla

end
-- ==== Proof.RefWin.lean ====
module

public import proofs.«01_k».proof.Proof.Math
public import Idealize.ShloMosaic.PureOps.Ideal.Laws

/-!
The two window sums of the reference, a running sum along the sequence from its start and one from its end, as sums
over the sequence.
-/

@[expose] public section

noncomputable section

namespace Cert.KernelIdeal.Gla

open Idealize.ShloMosaic Finset

/-- Batch, head, position, lane. -/
abbrev S4d : Shape := ⟨4, ![2, 4, 2048, 256]⟩
/-- One lane's window: the whole sequence. -/
abbrev Win : Shape := ⟨4, ![1, 1, 2048, 1]⟩

theorem foldl_add {n : ℕ} (g : Fin n → EReal) (z : EReal) :
    (List.finRange n).foldl (fun r i => r + g i) z = z + ∑ i, g i := by
  have key : ∀ (l : List (Fin n)) (z : EReal), l.foldl (fun r i => r + g i) z = z + (l.map g).sum := by
    intro l
    induction l with
    | nil => intro z; simp
    | cons i l ih => intro z; rw [List.foldl_cons, ih, List.map_cons, List.sum_cons, add_assoc]
  rw [key, Fin.sum_univ_def]

/-- The positions of the window. -/
def winEquiv : Fin 2048 ≃ Win.Idx where
  toFun k := ix4 0 0 k 0
  invFun i := i 2
  left_inv k := rfl
  right_inv i := by
    funext a; apply Fin.ext
    match a with
    | ⟨0, _⟩ => exact (Nat.lt_one_iff.mp (i 0).isLt).symm
    | ⟨1, _⟩ => exact (Nat.lt_one_iff.mp (i 1).isLt).symm
    | ⟨2, _⟩ => rfl
    | ⟨3, _⟩ => exact (Nat.lt_one_iff.mp (i 3).isLt).symm

theorem window_eq (lo hi : Fin 4 → ℕ) (h : S4d.ReduceWindows ![1, 1, 2048, 1] ![1, 1, 1, 1] lo hi S4d)
    (x : S4d.Idx → EReal) (b : Fin 2) (g : Fin 4) (t : Fin 2048) (d : Fin 256) :
    Ideal.hostReduceWindowAdd ![1, 1, 2048, 1] ![1, 1, 1, 1] lo hi h x 0 (ix4 b g t d)
      = ∑ k : Fin 2048, if hin : ∀ a, lo a ≤ (![b.val, g.val, t.val + k.val, d.val] : Fin 4 → ℕ) a
          ∧ (![b.val, g.val, t.val + k.val, d.val] : Fin 4 → ℕ) a - lo a < S4d.size a
        then x (fun a => ⟨(![b.val, g.val, t.val + k.val, d.val] : Fin 4 → ℕ) a - lo a, (hin a).2⟩) else 0 := by
  have hp : ∀ (k : Fin 2048) (a : Fin 4), ((ix4 b g t d : S4d.Idx) a).val * (![1, 1, 1, 1] : Fin 4 → ℕ) a
      + ((winEquiv k) a).val = (![b.val, g.val, t.val + k.val, d.val] : Fin 4 → ℕ) a := by
    intro k a
    match a with
    | ⟨0, _⟩ => exact Nat.mul_one _
    | ⟨1, _⟩ => exact Nat.mul_one _
    | ⟨2, _⟩ => exact congrArg (· + k.val) (Nat.mul_one _)
    | ⟨3, _⟩ => exact Nat.mul_one _
  refine (foldl_add _ 0).trans ?_
  rw [zero_add, ← Equiv.sum_comp (winEquiv.trans Win.rowMajor)]
  refine sum_congr rfl fun k _ => ?_
  simp only [Equiv.trans_apply, Equiv.symm_apply_apply]
  have hp' : ∀ a : Fin 4, ((ix4 b g t d : S4d.Idx) (a.cast h.1.symm)).val * (![1, 1, 1, 1] : Fin 4 → ℕ) a
      + ((winEquiv k) a).val = _ := hp k
  simp only [hp']

/-- The sum from the sequence's start. -/
theorem cumsum_eq (h : S4d.ReduceWindows ![1, 1, 2048, 1] ![1, 1, 1, 1] ![0, 0, 2047, 0] ![0, 0, 0, 0] S4d)
    (x : S4d.Idx → EReal) (f : Fin 2 → Fin 4 → ℕ → Fin 256 → ℝ)
    (hx : ∀ b g (s : Fin 2048) d, x (ix4 b g s d) = ((f b g s d : ℝ) : EReal)) (b g) (t : Fin 2048) (d) :
    Ideal.hostReduceWindowAdd ![1, 1, 2048, 1] ![1, 1, 1, 1] ![0, 0, 2047, 0] ![0, 0, 0, 0] h x 0 (ix4 b g t d)
      = ((∑ s ∈ range 2048, if s ≤ t then f b g s d else 0 : ℝ) : EReal) := by
  have ht := t.isLt
  rw [window_eq]
  trans ∑ k : Fin 2048, ((if 2047 ≤ t.val + k.val then f b g (t.val + k.val - 2047) d else 0 : ℝ) : EReal)
  · refine sum_congr rfl fun k _ => ?_
    have hk := k.isLt
    by_cases c : 2047 ≤ t.val + k.val
    · rw [if_pos c, dif_pos (by
        intro a
        match a with
        | ⟨0, _⟩ => exact ⟨Nat.zero_le _, b.isLt⟩
        | ⟨1, _⟩ => exact ⟨Nat.zero_le _, g.isLt⟩
        | ⟨2, _⟩ => exact ⟨c, show t.val + k.val - 2047 < 2048 by omega⟩
        | ⟨3, _⟩ => exact ⟨Nat.zero_le _, d.isLt⟩)]
      refine Eq.trans (congrArg x ?_) (hx b g ⟨t.val + k.val - 2047, by omega⟩ d)
      funext a; apply Fin.ext
      match a with
      | ⟨0, _⟩ => rfl
      | ⟨1, _⟩ => rfl
      | ⟨2, _⟩ => rfl
      | ⟨3, _⟩ => rfl
    · rw [if_neg c, dif_neg fun hin => c (hin 2).1]; rfl
  · rw [sum_coe, ← sum_range (fun k => if 2047 ≤ t.val + k then f b g (t.val + k - 2047) d else 0)]
    refine congrArg Real.toEReal ?_
    rw [← sum_filter, ← sum_filter]
    refine sum_nbij' (fun k => t.val + k - 2047) (fun s => s + 2047 - t.val) ?_ ?_ ?_ ?_ ?_
    all_goals intro k hk
    all_goals simp only [mem_filter, mem_range] at hk ⊢
    all_goals omega

/-- The sum from the sequence's end. -/
theorem revsum_eq (h : S4d.ReduceWindows ![1, 1, 2048, 1] ![1, 1, 1, 1] ![0, 0, 0, 0] ![0, 0, 2047, 0] S4d)
    (x : S4d.Idx → EReal) (f : Fin 2 → Fin 4 → ℕ → Fin 256 → ℝ)
    (hx : ∀ b g (s : Fin 2048) d, x (ix4 b g s d) = ((f b g s d : ℝ) : EReal)) (b g) (t : Fin 2048) (d) :
    Ideal.hostReduceWindowAdd ![1, 1, 2048, 1] ![1, 1, 1, 1] ![0, 0, 0, 0] ![0, 0, 2047, 0] h x 0 (ix4 b g t d)
      = ((∑ s ∈ range 2048, if t ≤ s then f b g s d else 0 : ℝ) : EReal) := by
  have ht := t.isLt
  rw [window_eq]
  trans ∑ k : Fin 2048, ((if t.val + k.val < 2048 then f b g (t.val + k.val) d else 0 : ℝ) : EReal)
  · refine sum_congr rfl fun k _ => ?_
    have hk := k.isLt
    by_cases c : t.val + k.val < 2048
    · rw [if_pos c, dif_pos (by
        intro a
        match a with
        | ⟨0, _⟩ => exact ⟨Nat.zero_le _, b.isLt⟩
        | ⟨1, _⟩ => exact ⟨Nat.zero_le _, g.isLt⟩
        | ⟨2, _⟩ => exact ⟨Nat.zero_le _, c⟩
        | ⟨3, _⟩ => exact ⟨Nat.zero_le _, d.isLt⟩)]
      refine Eq.trans (congrArg x ?_) (hx b g ⟨t.val + k.val, c⟩ d)
      funext a; apply Fin.ext
      match a with
      | ⟨0, _⟩ => rfl
      | ⟨1, _⟩ => rfl
      | ⟨2, _⟩ => rfl
      | ⟨3, _⟩ => rfl
    · rw [if_neg c, dif_neg fun hin => c (hin 2).2]; rfl
  · rw [sum_coe, ← sum_range (fun k => if t.val + k < 2048 then f b g (t.val + k) d else 0)]
    refine congrArg Real.toEReal ?_
    rw [← sum_filter, ← sum_filter]
    refine sum_nbij' (fun k => t.val + k) (fun s => s - t.val) ?_ ?_ ?_ ?_ ?_
    all_goals intro k hk
    all_goals simp only [mem_filter, mem_range] at hk ⊢
    all_goals omega

end Cert.KernelIdeal.Gla

end
-- ==== Proof.RefVal.lean ====
module

public import proofs.«01_k».proof.Proof.RefWin
public import proofs.«01_k».proof.Proof.Gen.ReferenceIdeal.Run
public import Idealize.ShloMosaic.Lib.Tactic.CleanTypes

/-!
The reference's terms at an index: the whole sequence's real functions.
-/

@[expose] public section

set_option maxRecDepth 16384

noncomputable section

namespace Cert.ReferenceIdeal.Gla

open Idealize.ShloMosaic Idealize.ShloMosaic.TcCoe
open Cert.KernelIdeal.Gla Cert.ReferenceIdeal.Gen Cert.ReferenceIdeal.Value

/-- Row `2048 b + s` of the two sequences laid one after the other. -/
abbrev row (b : Fin 2) (s : Fin 2048) : Fin 4096 := ⟨b * 2048 + s, by omega⟩

/-- The six arrays hold the reals of `G`, one sequence each. -/
structure ArgsIs (x0 : Vec Ideal ⟨2, ![4096, 18432]⟩ .f32) (x1 : Vec Ideal ⟨2, ![4096, 384]⟩ .f32)
    (x2 : Vec Ideal ⟨2, ![128, 1024]⟩ .f32) (x3 : Vec Ideal ⟨2, ![1, 1024]⟩ .f32) (x4 : Vec Ideal ⟨2, ![1, 512]⟩ .f32)
    (x5 : Vec Ideal ⟨2, ![4096, 2048]⟩ .bf16) (G : Fin 2 → GIn) : Prop where
  q : ∀ b h (s : Fin 2048) d, x0 (ix2 (row b s) ⟨(cK h d).val, by omega⟩) = (((G b).q h s d : ℝ) : EReal)
  k : ∀ b h (s : Fin 2048) d, x0 (ix2 (row b s) ⟨1024 + (cK h d).val, by omega⟩) = (((G b).k h s d : ℝ) : EReal)
  v : ∀ b h (s : Fin 2048) e, x0 (ix2 (row b s) ⟨2048 + (cV h e).val, by omega⟩) = (((G b).v h s e : ℝ) : EReal)
  g : ∀ b h (s : Fin 2048) e, x0 (ix2 (row b s) ⟨4096 + (cV h e).val, by omega⟩) = (((G b).g h s e : ℝ) : EReal)
  a : ∀ b h (s : Fin 2048) e, x0 (ix2 (row b s) ⟨14336 + (cV h e).val, by omega⟩) = (((G b).a h s e : ℝ) : EReal)
  lr : ∀ b (s : Fin 2048) (j : Fin 128), x1 (ix2 (row b s) ⟨j.val, by omega⟩) = (((G b).lr s j : ℝ) : EReal)
  w2 : ∀ b h j d, x2 (ix2 j (cK h d)) = (((G b).w2 h j d : ℝ) : EReal)
  b : ∀ b h d, x3 (ix2 0 (cK h d)) = (((G b).b h d : ℝ) : EReal)
  gn : ∀ b e, x4 (ix2 0 e) = (((G b).gn e : ℝ) : EReal)
  m : ∀ b h (s : Fin 2048) e, x5 (ix2 (row b s) (cV h e)) = (((G b).m h s e : ℝ) : EReal)

/-- The reference's launch contents hold the reals of `G`. -/
abbrev RefIs (V0 : Valuation τ sig (Elt Ideal)) (G : Fin 2 → GIn) : Prop :=
  ArgsIs (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) G

variable {V0 : Valuation τ sig (Elt Ideal)} {G : Fin 2 → GIn}

theorem mulf_coe {s : Shape} (u v : FVec Ideal s .f32) (i : s.Idx) (x y : ℝ) (hx : u i = (x : EReal)) (hy : v i = (y : EReal)) :
    mulf u v i = ((x * y : ℝ) : EReal) := by
  rw [EReal.coe_mul, ← hx, ← hy]; rfl

theorem addf_coe {s : Shape} (u v : FVec Ideal s .f32) (i : s.Idx) (x y : ℝ) (hx : u i = (x : EReal)) (hy : v i = (y : EReal)) :
    addf u v i = ((x + y : ℝ) : EReal) := by
  rw [EReal.coe_add, ← hx, ← hy]; rfl

theorem sum_seq (f : ℕ → ℝ) : ∑ s : Fin 2048, ((f s : ℝ) : EReal) = ((∑ s ∈ Finset.range 2048, f s : ℝ) : EReal) := by
  rw [sum_coe, Finset.sum_range]

theorem log1p_exp (x : ℝ) :
    Ideal.log1p ((Real.exp x : ℝ) : EReal) = ((Real.log (1 + Real.exp x) : ℝ) : EReal) := by
  unfold Ideal.log1p; rw [one_add_coe, log_one_add_exp]

theorem sg_eq (x : ℝ) : Real.exp (x - sp x) = sg x := by
  unfold sp sg
  have hx : (0 : ℝ) < 1 + Real.exp (-|x|) := by positivity
  rw [Real.exp_sub, Real.exp_add, Real.exp_log hx]
  rcases le_total 0 x with h | h
  · rw [max_eq_left h, abs_of_nonneg h]
    have := Real.exp_pos x
    field_simp
  · rw [max_eq_right h, abs_of_nonpos h, Real.exp_zero, neg_neg, Real.exp_neg]
    have := Real.exp_pos x
    field_simp
    ring

theorem cV_div (h : Fin 4) (e : Fin 512) (p) : (⟨(h.val * 512 + e.val) / 512, p⟩ : Fin 4) = h := by
  apply Fin.ext; show (h.val * 512 + e.val) / 512 = h.val; omega

theorem cV_mod (h : Fin 4) (e : Fin 512) (p) : (⟨(h.val * 512 + e.val) % 512, p⟩ : Fin 512) = e := by
  apply Fin.ext; show (h.val * 512 + e.val) % 512 = e.val; omega

theorem cK_div (h : Fin 4) (d : Fin 256) (p) : (⟨(h.val * 256 + d.val) / 256, p⟩ : Fin 4) = h := by
  apply Fin.ext; show (h.val * 256 + d.val) / 256 = h.val; omega

theorem cK_mod (h : Fin 4) (d : Fin 256) (p) : (⟨(h.val * 256 + d.val) % 256, p⟩ : Fin 256) = d := by
  apply Fin.ext; show (h.val * 256 + d.val) % 256 = d.val; omega

/-! ## The projections -/

theorem is_q (H : RefIs V0 G) (b h s d) :
    (res_main_v22 V0 : FVec Ideal S2x4x2048x256 .f32) (ix4 b h s d)
      = (((G b).q h (s : Fin 2048) d * (1 / 16) : ℝ) : EReal) := by
  rw [EReal.coe_mul, ← H.q, ← cst_sixteenth]
  unfold res_main_v22 res_main_v0; clean_types; pointwise []

theorem is_k (H : RefIs V0 G) (b h s d) :
    (res_main_v24 V0 : FVec Ideal S2x4x2048x256 .f32) (ix4 b h s d)
      = (((G b).k h (s : Fin 2048) d : ℝ) : EReal) := by
  rw [← H.k]
  unfold res_main_v24 res_main_v0; clean_types; pointwise []

theorem is_v (H : RefIs V0 G) (b h s e) :
    (res_main_v26 V0 : FVec Ideal S2x4x2048x512 .f32) (ix4 b h s e)
      = (((G b).v h (s : Fin 2048) e : ℝ) : EReal) := by
  rw [← H.v]
  unfold res_main_v26 res_main_v0; clean_types; pointwise []

theorem is_g (H : RefIs V0 G) (b h s e) :
    (res_main_v6 V0 : FVec Ideal S2x2048x2048 .f32) (ix3 b s (cV h e))
      = (((G b).g h (s : Fin 2048) e : ℝ) : EReal) := by
  rw [← H.g]
  unfold res_main_v6 res_main_v0; clean_types; pointwise []

theorem is_m (H : RefIs V0 G) (b h s e) :
    (res_main_v9 V0 : FVec Ideal S2x2048x2048 .f32) (ix3 b s (cV h e))
      = (((G b).m h (s : Fin 2048) e : ℝ) : EReal) := by
  rw [← H.m]
  unfold res_main_v9; clean_types; pointwise []

theorem is_lr (H : RefIs V0 G) (b s j) :
    (res_main_v2 V0 : FVec Ideal S2x2048x128 .f32) (ix3 b s j) = (((G b).lr (s : Fin 2048) j : ℝ) : EReal) := by
  rw [← H.lr]
  unfold res_main_v2; clean_types; pointwise []

theorem is_gn (H : RefIs V0 G) (b : Fin 2) (e) :
    (res_main_v53 V0 : FVec Ideal S1x1x1x512 .f32) (ix4 0 0 0 e) = (((G b).gn e : ℝ) : EReal) := by
  rw [← H.gn]
  unfold res_main_v53; clean_types; pointwise []

/-! ## The decay -/

theorem win_zero {win strd lo hi : Fin 4 → ℕ} (h : S2x4x2048x256.ReduceWindows win strd lo hi S2x4x2048x256)
    (x : FVec Ideal S2x4x2048x256 .f32) (i) :
    Host.reduceWindowAdd win strd lo hi x (broadcastInDim S_ ![] bcast_S_S_ (constant (F := Ideal) S_ FTy.f32 0#32)) h h_S_ i
      = Ideal.hostReduceWindowAdd win strd lo hi h x 0 i := by
  refine congrArg (fun z => Ideal.hostReduceWindowAdd win strd lo hi h x z i) ?_
  pointwise []

theorem is_nu (H : RefIs V0 G) (b h s d) :
    (res_main_call0_v0 V0 : FVec Ideal S2x2048x1024 .f32) (ix3 b s (cK h d))
      = (((G b).nu h (s : Fin 2048) d : ℝ) : EReal) := by
  unfold res_main_call0_v0; clean_types; pointwise []
  simp only [is_lr H, H.w2 b, H.b b, ← EReal.coe_mul, sum_coe, ← EReal.coe_add, ← EReal.coe_neg]
  rfl

theorem is_sp (H : RefIs V0 G) (b h s d) :
    (res_main_call0_v1_0 V0 : FVec Ideal S2x2048x1024 .f32) (ix3 b s (cK h d))
      = ((sp ((G b).nu h (s : Fin 2048) d) : ℝ) : EReal) := by
  unfold res_main_call0_v1_0 res_main_call0_call0_v3 res_main_call0_call0_cst; clean_types; pointwise []
  rw [if_neg (fun h => h rfl)]
  simp only [is_nu H, max_zero_coe, abs_coe, ← EReal.coe_neg, exp_coe, log1p_exp, ← EReal.coe_add]
  rfl

theorem is_B (H : RefIs V0 G) (b h s d) :
    (res_main_v29 V0 : FVec Ideal S2x4x2048x256 .f32) (ix4 b h s d)
      = (((G b).B h (s : Fin 2048) d : ℝ) : EReal) := by
  unfold res_main_v29; clean_types
  refine Eq.trans (win_zero _ _ _) (cumsum_eq _ _ (fun b h s d => (G b).lf h s d) ?_ b h s d)
  · intro b h s d
    pointwise []
    simp only [is_sp H, ← EReal.coe_neg, cst_sixteen, div_sixteen]
    rfl

theorem is_expB (H : RefIs V0 G) (b h s d) :
    (res_main_v30 V0 : FVec Ideal S2x4x2048x256 .f32) (ix4 b h s d)
      = ((Real.exp ((G b).B h (s : Fin 2048) d) : ℝ) : EReal) := by
  unfold res_main_v30; clean_types; pointwise []
  rw [is_B H, exp_coe]

theorem is_qin (H : RefIs V0 G) (b h s d) :
    (res_main_v31 V0 : FVec Ideal S2x4x2048x256 .f32) (ix4 b h s d)
      = (((G b).qin h (s : Fin 2048) d : ℝ) : EReal) := by
  unfold res_main_v31; clean_types; pointwise []
  rw [is_q H, is_expB H, ← EReal.coe_mul]; rfl

theorem is_expnB (H : RefIs V0 G) (b h s d) :
    (res_main_v33 V0 : FVec Ideal S2x4x2048x256 .f32) (ix4 b h s d)
      = ((Real.exp (-((G b).B h (s : Fin 2048) d)) : ℝ) : EReal) := by
  unfold res_main_v33; clean_types; pointwise []
  rw [is_B H, ← EReal.coe_neg, exp_coe]

theorem is_kin (H : RefIs V0 G) (b h s d) :
    (res_main_v34 V0 : FVec Ideal S2x4x2048x256 .f32) (ix4 b h s d)
      = (((G b).kin h (s : Fin 2048) d : ℝ) : EReal) := by
  unfold res_main_v34; clean_types; pointwise []
  rw [is_k H, is_expnB H, ← EReal.coe_mul]; rfl

/-! ## The attention -/

theorem is_mask (b h) (t s : Fin 2048) :
    (res_main_v38_1 V0 : IVec S2x4x2048x2048 1) (ix4 b h t s) = BitVec.ofBool (decide (s.val ≤ t.val)) := by
  unfold res_main_v38_1; clean_types; pointwise []
  rw [show IntOp.addi (BitVec.ofNat 32 t.val) 0#32 = BitVec.ofNat 32 t.val from BitVec.add_zero _,
    sge_ofNat (Nat.lt_trans t.isLt (by norm_num)) (Nat.lt_trans s.isLt (by norm_num)), sel_ofBool]
  split <;> simp [*]

theorem id_zero : (id (constant (F := Ideal) S_ FTy.f32 0#32) : FVec Ideal S_ .f32) ix0 = 0 := by
  show constant (F := Ideal) S_ FTy.f32 0#32 ix0 = 0
  pointwise []

theorem is_A (H : RefIs V0 G) (b h t s) :
    (res_main_v38_0 V0 : FVec Ideal S2x4x2048x2048 .f32) (ix4 b h t s)
      = (((G b).att h (t : Fin 2048) (s : Fin 2048) : ℝ) : EReal) := by
  unfold res_main_v38_0; clean_types; pointwise []
  rw [is_mask, id_zero]
  simp only [is_qin H, is_kin H, ← EReal.coe_mul, sum_coe, sel_zero]
  rfl

theorem is_o (H : RefIs V0 G) (b h t e) :
    (res_main_v39 V0 : FVec Ideal S2x4x2048x512 .f32) (ix4 b h t e) = (((G b).o h (t : Fin 2048) e : ℝ) : EReal) := by
  unfold res_main_v39; clean_types; pointwise []
  simp only [is_A H, is_v H, ← EReal.coe_mul]
  exact sum_seq (fun s => (G b).att h t s * (G b).v h s e)

/-! ## The norm and the gates -/

theorem is_msq (H : RefIs V0 G) (b h t) :
    (res_main_v46 V0 : FVec Ideal S2x4x2048x1 .f32) (ix4 b h t 0) = ((msq ((G b).o h (t : Fin 2048)) : ℝ) : EReal) := by
  unfold res_main_v46; clean_types; pointwise []
  simp only [is_o H, ← EReal.coe_mul, sum_coe, cst_512, div_512, cst_eps, zero_add, ← EReal.coe_add]
  rfl

theorem is_rms (H : RefIs V0 G) (b h t) :
    (res_main_v47 V0 : FVec Ideal S2x4x2048x1 .f32) (ix4 b h t 0) = ((rms ((G b).o h (t : Fin 2048)) : ℝ) : EReal) := by
  unfold res_main_v47; clean_types; pointwise []
  rw [is_msq H, rsqrt_msq]; rfl

theorem is_on (H : RefIs V0 G) (b h t e) :
    (res_main_v52 V0 : FVec Ideal S2x4x2048x512 .f32) (ix4 b h t e) = (((G b).on h (t : Fin 2048) e : ℝ) : EReal) := by
  unfold res_main_v52; clean_types; pointwise []
  rw [is_o H, is_rms H, ← EReal.coe_mul]; rfl

theorem is_ong (H : RefIs V0 G) (b h t e) :
    (res_main_v57 V0 : FVec Ideal S2x2048x2048 .f32) (ix3 b t (cV h e))
      = (((G b).on h (t : Fin 2048) e * (G b).gn e : ℝ) : EReal) := by
  unfold res_main_v57; clean_types; pointwise []
  rw [is_on H, is_gn H b, cV_div, cV_mod, ← EReal.coe_mul]

theorem is_sgg (H : RefIs V0 G) (b h t e) :
    (res_main_v58_2 V0 : FVec Ideal S2x2048x2048 .f32) (ix3 b t (cV h e))
      = ((sg ((G b).g h (t : Fin 2048) e) : ℝ) : EReal) := by
  unfold res_main_v58_2; clean_types; pointwise []
  simp only [is_g H, ← EReal.coe_neg, exp_coe, one_add_coe, one_div_one_add_exp]
  rfl

theorem is_silu (H : RefIs V0 G) (b h t e) :
    (res_main_v58_0 V0 : FVec Ideal S2x2048x2048 .f32) (ix3 b t (cV h e))
      = (((G b).silu h (t : Fin 2048) e : ℝ) : EReal) := by
  unfold res_main_v58_0; clean_types; pointwise []
  rw [is_g H, is_sgg H, ← EReal.coe_mul]; rfl

theorem is_ongs (H : RefIs V0 G) (b h t e) :
    (res_main_v59 V0 : FVec Ideal S2x2048x2048 .f32) (ix3 b t (cV h e))
      = (((G b).on h (t : Fin 2048) e * (G b).gn e * (G b).silu h t e : ℝ) : EReal) :=
  mulf_coe (s := S2x2048x2048) (res_main_v57 V0) (res_main_v58_0 V0) _ _ _ (is_ong H b h t e) (is_silu H b h t e)

theorem is_sga (H : RefIs V0 G) (b h t e) :
    (res_main_v65 V0 : FVec Ideal S2x2048x2048 .f32) (ix3 b t (cV h e))
      = ((sg ((G b).a h (t : Fin 2048) e) : ℝ) : EReal) := by
  unfold res_main_v65 res_main_v0; clean_types; pointwise []
  have := H.a b h t e
  simp only [this, ← EReal.coe_neg, exp_coe, one_add_coe, one_div_one_add_exp]
  rfl

theorem is_am (H : RefIs V0 G) (b h t e) :
    (res_main_v70 V0 : FVec Ideal S2x2048x2048 .f32) (ix3 b t (cV h e)) = (((G b).am h (t : Fin 2048) e : ℝ) : EReal) := by
  unfold res_main_v70; clean_types; pointwise []
  rw [is_sga H, is_m H, ← EReal.coe_mul]; rfl

theorem is_x (H : RefIs V0 G) (b h t e) :
    (res_main_v73 V0 : FVec Ideal S2x2048x2048 .f32) (ix3 b t (cV h e)) = (((G b).x h (t : Fin 2048) e : ℝ) : EReal) :=
  mulf_coe (s := S2x2048x2048) (res_main_v57 V0) (res_main_v70 V0) _ _ _ (is_ong H b h t e) (is_am H b h t e)

theorem is_c1 (H : RefIs V0 G) (b h t e) :
    (res_main_v77 V0 : FVec Ideal S2x4x2048x512 .f32) (ix4 b h t e) = (((G b).c1 h (t : Fin 2048) e : ℝ) : EReal) := by
  unfold res_main_v77; clean_types; pointwise []
  rw [is_am H, is_silu H, ← EReal.coe_mul]; rfl

theorem is_c1g (H : RefIs V0 G) (b h t e) :
    (res_main_v82 V0 : FVec Ideal S2x4x2048x512 .f32) (ix4 b h t e)
      = (((G b).c1 h (t : Fin 2048) e * (G b).gn e : ℝ) : EReal) := by
  unfold res_main_v82; clean_types; pointwise []
  rw [is_c1 H, is_gn H b, ← EReal.coe_mul]

theorem is_wn (H : RefIs V0 G) (b h t e) :
    (res_main_v93 V0 : FVec Ideal S2x4x2048x512 .f32) (ix4 b h t e) = (((G b).wn h (t : Fin 2048) : ℝ) : EReal) := by
  unfold res_main_v93; clean_types; pointwise []
  simp only [Finset.univ_unique, Finset.sum_singleton, Fin.default_eq_zero, is_o H, is_c1g H, is_rms H, is_msq H,
    ← EReal.coe_mul, sum_coe, zero_add, div_msq, cst_neg_half, cst_512, div_512]
  rfl

theorem is_dO (H : RefIs V0 G) (b h t e) :
    (res_main_v97 V0 : FVec Ideal S2x4x2048x512 .f32) (ix4 b h t e) = (((G b).dO h (t : Fin 2048) e : ℝ) : EReal) := by
  unfold res_main_v97; clean_types; pointwise []
  simp only [is_c1g H, is_rms H, is_o H, is_wn H, ← EReal.coe_mul, ← EReal.coe_add]
  rfl

/-! ## The attention's gradient -/

theorem is_dA (H : RefIs V0 G) (b h t s) :
    (res_main_v101 V0 : FVec Ideal S2x4x2048x2048 .f32) (ix4 b h t s)
      = (((G b).dA h (t : Fin 2048) (s : Fin 2048) : ℝ) : EReal) := by
  unfold res_main_v101; clean_types; pointwise []
  rw [is_mask]
  simp only [is_dO H, is_v H, ← EReal.coe_mul, sum_coe, sel_zero]
  rfl

theorem is_dkin (H : RefIs V0 G) (b h s d) :
    (res_main_v102 V0 : FVec Ideal S2x4x2048x256 .f32) (ix4 b h s d)
      = (((G b).dkin h (s : Fin 2048) d : ℝ) : EReal) := by
  unfold res_main_v102; clean_types; pointwise []
  simp only [is_dA H, is_qin H, ← EReal.coe_mul]
  exact sum_seq (fun t => (G b).dA h t s * (G b).qin h t d)

theorem is_dqin (H : RefIs V0 G) (b h t d) :
    (res_main_v103 V0 : FVec Ideal S2x4x2048x256 .f32) (ix4 b h t d)
      = (((G b).dqin h (t : Fin 2048) d : ℝ) : EReal) := by
  unfold res_main_v103; clean_types; pointwise []
  simp only [is_dA H, is_kin H, ← EReal.coe_mul]
  exact sum_seq (fun s => (G b).dA h t s * (G b).kin h s d)

theorem is_du (H : RefIs V0 G) (b h t d) :
    (res_main_v125 V0 : FVec Ideal S2x2048x1024 .f32) (ix3 b t (cK h d))
      = (((G b).du h (t : Fin 2048) d : ℝ) : EReal) := by
  unfold res_main_v125; clean_types; pointwise []
  rw [cK_div, cK_mod, win_zero, revsum_eq _ _ (fun b h s d => (G b).dB h s d)]
  · simp only [is_nu H, is_sp H, cst_sixteen, cst_inf, EReal.coe_ne_top, if_false, div_sixteen, ← EReal.coe_sub, exp_coe, sg_eq,
      ← EReal.coe_neg, ← EReal.coe_mul]
    rw [neg_mul, neg_neg]
    rfl
  · intro b h s d
    pointwise []
    simp only [is_k H, is_dkin H, is_expnB H, is_q H, is_dqin H, is_expB H, ← EReal.coe_neg, ← EReal.coe_mul, ← EReal.coe_add]
    rfl

end Cert.ReferenceIdeal.Gla

end
-- ==== Proof.Final0.lean ====
module

public import proofs.«01_k».proof.Proof.Main
public import proofs.«01_k».proof.Proof.RefVal
public import proofs.«01_k».proof.Proof.ValBwd

/-!
The forward kernel's two arrays after its pipeline: the branch's output and the state before every chunk.
-/

@[expose] public section

set_option maxRecDepth 16384

noncomputable section

namespace Cert.KernelIdeal.Gla

open Cert.KernelIdeal.Gen
open Idealize.ShloMosaic Idealize.ShloMosaic.TcCoe Idealize.ShloMosaic.Tactic
open Cert.ReferenceIdeal.Gla (ArgsIs row)

/-- The block each window is at, by grid point. -/
theorem idx0 : ∀ t : Fin cfg0.N, win0_0.index t = ![t.val, 0] ∧ win0_1.index t = ![t.val, 1] ∧ win0_2.index t = ![t.val, 1]
    ∧ win0_3.index t = ![t.val, 2] ∧ win0_4.index t = ![t.val, 7] ∧ win0_5.index t = ![t.val, 0]
    ∧ win0_6.index t = ![0, 0] ∧ win0_7.index t = ![0, 0] ∧ win0_8.index t = ![0, 0]
    ∧ win0_9.index t = ![t.val, 0] ∧ win0_10.index t = ![t.val / 32, t.val % 32, 0, 0, 0] :=
  (by decide +kernel : ∀ t : Fin grid0.N, win0_0.index t = ![t.val, 0] ∧ win0_1.index t = ![t.val, 1] ∧ win0_2.index t = ![t.val, 1]
    ∧ win0_3.index t = ![t.val, 2] ∧ win0_4.index t = ![t.val, 7] ∧ win0_5.index t = ![t.val, 0]
    ∧ win0_6.index t = ![0, 0] ∧ win0_7.index t = ![0, 0] ∧ win0_8.index t = ![0, 0]
    ∧ win0_9.index t = ![t.val, 0] ∧ win0_10.index t = ![t.val / 32, t.val % 32, 0, 0, 0])

variable (V : (c : Dev nD) → (b : Ref sig .tc) → Buf (Elt Ideal) ((c : Thread nD τ).loc b)) {G : Fin 2 → GIn}

/-- The buffers hold the reals of `G` where the arguments lie. -/
abbrev VIs (c : Dev nD) (G : Fin 2 → GIn) : Prop :=
  ArgsIs (V c main_arg0) (V c main_arg1) (V c main_arg2) (V c main_arg3) (V c main_arg4) (V c main_arg5) G

variable {V} {c : Dev nD}

theorem is_in0 (H : VIs V c G) (t : Fin cfg0.N) (b : Fin 2) (n : ℕ) (hn : n < 32) (ht : t.val = b * 32 + n) :
    (in0 V c t).Is ((G b).chunk n) where
  q h r d := by
    refine Eq.trans ?_ (H.q b h ⟨64 * n + r, by omega⟩ d)
    show iblk0 V c 0 t _ = _
    blk_ext [iblk0, idx0 t, ht]
  k h r d := by
    refine Eq.trans ?_ (H.k b h ⟨64 * n + r, by omega⟩ d)
    show iblk0 V c 1 t _ = _
    blk_ext [iblk0, idx0 t, ht]
  v h r e := by
    refine Eq.trans ?_ (H.v b h ⟨64 * n + r, by omega⟩ e)
    show iblk0 V c 2 t _ = _
    blk_ext [iblk0, idx0 t, ht]
  g h r e := by
    refine Eq.trans ?_ (H.g b h ⟨64 * n + r, by omega⟩ e)
    show iblk0 V c 3 t _ = _
    blk_ext [iblk0, idx0 t, ht]
  a h r e := by
    refine Eq.trans ?_ (H.a b h ⟨64 * n + r, by omega⟩ e)
    show iblk0 V c 4 t _ = _
    blk_ext [iblk0, idx0 t, ht]
  lr r j := by
    refine Eq.trans ?_ (H.lr b ⟨64 * n + r, by omega⟩ j)
    show iblk0 V c 5 t _ = _
    blk_ext [iblk0, idx0 t, ht]
  w2 h j d := by
    refine Eq.trans ?_ (H.w2 b h j d)
    show iblk0 V c 6 t _ = _
    blk_ext [iblk0, idx0 t, ht]
  b h d := by
    refine Eq.trans ?_ (H.b b h d)
    show iblk0 V c 7 t _ = _
    blk_ext [iblk0, idx0 t, ht]
  gn e := by
    refine Eq.trans ?_ (H.gn b e)
    show iblk0 V c 8 t _ = _
    blk_ext [iblk0, idx0 t, ht]

theorem is_zeroS : Is3 (zeroS : Vec Ideal S4x512x256 .f32) (fun _ _ _ => 0) := by
  intro h e d
  unfold zeroS; pointwise []
  rfl

theorem is_E0 (H : VIs V c G) (b : Fin 2) (n : ℕ) (hn : n < 32) : Is3 (E0 V c (b * 32 + n)) ((G b).st n) := by
  induction n with
  | zero => rw [E0_first V c _ (by omega)]; exact is_zeroS
  | succ n ih =>
    rw [← Nat.add_assoc, E0, if_neg (by omega)]
    have hp : (pt0 (b * 32 + n)).val = b * 32 + n := Nat.mod_eq_of_lt (by omega)
    exact is_fNew (is_in0 H _ b n (by omega) hp) (ih (by omega))

/-- An array over tokens and value columns, from a function of sequence, head, time and feature. -/
def rowsV {φ : FTy} (f : Fin 2 → Fin 4 → ℕ → Fin 512 → ℝ) : FVec Ideal S4096x2048 φ := fun i =>
  ((f ⟨(i 0).val / 2048, Nat.div_lt_of_lt_mul (i 0).isLt⟩ ⟨(i 1).val / 512, Nat.div_lt_of_lt_mul (i 1).isLt⟩
    ((i 0).val % 2048) ⟨(i 1).val % 512, Nat.mod_lt _ (by decide)⟩ : ℝ) : EReal)

/-- A block of 64 rows at sequence `b`, chunk `n` is its place in the array. -/
theorem block_rowsV {φ : FTy} (f : Fin 2 → Fin 4 → ℕ → Fin 512 → ℝ) (u : FVec Ideal S64x2048 φ) (y : S64x2048.Idx) (i : S4096x2048.Idx)
    (b : Fin 2) (n : ℕ) (hn : n < 32) (hu : ∀ h (r : Fin 64) e, u (ix2 r (cV h e)) = ((f b h (64 * n + r) e : ℝ) : EReal))
    (h0 : (i 0).val = (b.val * 32 + n) * 64 + (y 0).val) (h1 : (i 1).val = (y 1).val) : u y = (rowsV f : FVec Ideal S4096x2048 φ) i := by
  have hy0 : (y 0).val < 64 := (y 0).isLt
  have hy1 : (y 1).val < 2048 := (y 1).isLt
  have ey : y = ix2 (y 0) (cV ⟨(y 1).val / 512, by omega⟩ ⟨(y 1).val % 512, by omega⟩) := by
    refine (eq_ix2 y).trans (congrArg (ix2 (y 0)) (Fin.ext ?_))
    show (y 1).val = (y 1).val / 512 * 512 + (y 1).val % 512
    omega
  have e1 : (⟨(i 0).val / 2048, Nat.div_lt_of_lt_mul (i 0).isLt⟩ : Fin 2) = b := Fin.ext (by simp only [h0]; omega)
  have e2 : (⟨(i 1).val / 512, Nat.div_lt_of_lt_mul (i 1).isLt⟩ : Fin 4) = ⟨(y 1).val / 512, by omega⟩ := Fin.ext (by simp only [h1])
  have e3 : (⟨(i 1).val % 512, Nat.mod_lt _ (by decide)⟩ : Fin 512) = ⟨(y 1).val % 512, by omega⟩ := Fin.ext (by simp only [h1])
  have e4 : (i 0).val % 2048 = 64 * n + (y 0).val := by omega
  refine (congrArg u ey).trans ((hu _ (y 0) _).trans ?_)
  unfold rowsV
  rw [e1, e2, e3, e4]

/-- An array over tokens and key columns, from a function of sequence, head, time and feature. -/
def rowsK {φ : FTy} (f : Fin 2 → Fin 4 → ℕ → Fin 256 → ℝ) : FVec Ideal S4096x1024 φ := fun i =>
  ((f ⟨(i 0).val / 2048, Nat.div_lt_of_lt_mul (i 0).isLt⟩ ⟨(i 1).val / 256, Nat.div_lt_of_lt_mul (i 1).isLt⟩
    ((i 0).val % 2048) ⟨(i 1).val % 256, Nat.mod_lt _ (by decide)⟩ : ℝ) : EReal)

/-- A block of 64 rows at sequence `b`, chunk `n` is its place in the array. -/
theorem block_rowsK {φ : FTy} (f : Fin 2 → Fin 4 → ℕ → Fin 256 → ℝ) (u : FVec Ideal S64x1024 φ) (y : S64x1024.Idx) (i : S4096x1024.Idx)
    (b : Fin 2) (n : ℕ) (hn : n < 32) (hu : ∀ h (r : Fin 64) e, u (ix2 r (cK h e)) = ((f b h (64 * n + r) e : ℝ) : EReal))
    (h0 : (i 0).val = (b.val * 32 + n) * 64 + (y 0).val) (h1 : (i 1).val = (y 1).val) : u y = (rowsK f : FVec Ideal S4096x1024 φ) i := by
  have hy0 : (y 0).val < 64 := (y 0).isLt
  have hy1 : (y 1).val < 1024 := (y 1).isLt
  have ey : y = ix2 (y 0) (cK ⟨(y 1).val / 256, by omega⟩ ⟨(y 1).val % 256, by omega⟩) := by
    refine (eq_ix2 y).trans (congrArg (ix2 (y 0)) (Fin.ext ?_))
    show (y 1).val = (y 1).val / 256 * 256 + (y 1).val % 256
    omega
  have e1 : (⟨(i 0).val / 2048, Nat.div_lt_of_lt_mul (i 0).isLt⟩ : Fin 2) = b := Fin.ext (by simp only [h0]; omega)
  have e2 : (⟨(i 1).val / 256, Nat.div_lt_of_lt_mul (i 1).isLt⟩ : Fin 4) = ⟨(y 1).val / 256, by omega⟩ := Fin.ext (by simp only [h1])
  have e3 : (⟨(i 1).val % 256, Nat.mod_lt _ (by decide)⟩ : Fin 256) = ⟨(y 1).val % 256, by omega⟩ := Fin.ext (by simp only [h1])
  have e4 : (i 0).val % 2048 = 64 * n + (y 0).val := by omega
  refine (congrArg u ey).trans ((hu _ (y 0) _).trans ?_)
  unfold rowsK
  rw [e1, e2, e3, e4]

/-- An array over tokens and the low-rank columns. -/
def rowsL (f : Fin 2 → ℕ → Fin 128 → ℝ) : FVec Ideal S4096x128 .f32 := fun i =>
  ((f ⟨(i 0).val / 2048, Nat.div_lt_of_lt_mul (i 0).isLt⟩ ((i 0).val % 2048) (i 1) : ℝ) : EReal)

theorem block_rowsL (f : Fin 2 → ℕ → Fin 128 → ℝ) (u : FVec Ideal S64x128 .f32) (y : S64x128.Idx) (i : S4096x128.Idx)
    (b : Fin 2) (n : ℕ) (hn : n < 32) (hu : ∀ (r : Fin 64) j, u (ix2 r j) = ((f b (64 * n + r) j : ℝ) : EReal))
    (h0 : (i 0).val = (b.val * 32 + n) * 64 + (y 0).val) (h1 : (i 1).val = (y 1).val) : u y = rowsL f i := by
  have hy0 : (y 0).val < 64 := (y 0).isLt
  have e1 : (⟨(i 0).val / 2048, Nat.div_lt_of_lt_mul (i 0).isLt⟩ : Fin 2) = b := Fin.ext (by simp only [h0]; omega)
  have e2 : (i 1 : Fin 128) = y 1 := Fin.ext h1
  have e4 : (i 0).val % 2048 = 64 * n + (y 0).val := by omega
  refine (congrArg u (eq_ix2 y)).trans ((hu (y 0) (y 1)).trans ?_)
  unfold rowsL
  rw [e1, e2, e4]

/-- The states before the chunks of every sequence, as one array. -/
def statesV (f : Fin 2 → ℕ → Fin 4 → Fin 512 → Fin 256 → ℝ) : FVec Ideal S2x32x4x512x256 .f32 := fun i =>
  ((f (i 0) (i 1).val (i 2) (i 3) (i 4) : ℝ) : EReal)

/-- A grid point is a sequence and a chunk. -/
theorem pt_split (t : ℕ) (ht : t < 64) : ∃ b : Fin 2, ∃ n < 32, t = b.val * 32 + n :=
  ⟨⟨t / 32, by omega⟩, t % 32, by omega, by simp only []; omega⟩

/-- The branch's output. -/
theorem arr_mix (H : VIs V c G) : (dat0 V c).arrAt 9 cfg0.N = (rowsV (fun b => (G b).out) : FVec Ideal S4096x2048 .f32) := by
  refine (dat0 V c).arrAt_eq_of_covers 9 _ (by decide +kernel) fun t hf y => ?_
  blk_simp
  rw [after0_9]
  obtain ⟨b, n, hn, ht⟩ := pt_split t.val t.isLt
  have hE := is_E0 H b n hn
  rw [← ht] at hE
  exact block_rowsV (fun b => (G b).out) _ y _ b n hn
    (fun h r e => (is_fMix (is_in0 H t b n hn ht) hE h r e).trans (congrArg (fun x : ℝ => (x : EReal)) (GIn.mix_eq (G b) hn h r e)))
    (by blk_simp [idx0 t]; omega) (by blk_simp [idx0 t])

theorem fStates_ix (st : Vec Ideal S4x512x256 .f32) (h e d) : fStates st (ix5 0 0 h e d) = st (ix3 h e d) := by
  unfold fStates; pointwise []

theorem fStates_at (st : Vec Ideal S4x512x256 .f32) (y : S1x1x4x512x256.Idx) : fStates st y = st (ix3 (y 2) (y 3) (y 4)) := by
  have e0 : y 0 = (0 : Fin 1) := Subsingleton.elim (α := Fin 1) _ _
  have e1 : y 1 = (0 : Fin 1) := Subsingleton.elim (α := Fin 1) _ _
  refine (congrArg (fStates st) ((eq_ix5 y).trans ?_)).trans (fStates_ix st _ _ _)
  exact congrArg₂ (fun a b => ix5 a b (y 2) (y 3) (y 4)) e0 e1

/-- The state before each chunk, as the backward kernel finds it. -/
theorem arr_states (H : VIs V c G) : (dat0 V c).arrAt 10 cfg0.N = statesV (fun b => (G b).st) := by
  refine (dat0 V c).arrAt_eq_of_covers 10 _ (by decide +kernel) fun t hf y => ?_
  blk_simp
  rw [after0_10]
  obtain ⟨b, n, hn, ht⟩ := pt_split t.val t.isLt
  have hE := is_E0 H b n hn
  rw [← ht] at hE
  refine (fStates_at _ _).trans ((hE _ _ _).trans ?_)
  unfold statesV
  have hy0 : (y 0).val < 1 := (y 0).isLt
  have hy1 : (y 1).val < 1 := (y 1).isLt
  have e0 : (((win0_10.blk t).view.emb y) 0 : Fin 2) = b := Fin.ext (by blk_simp [idx0 t]; omega)
  have e1 : (((win0_10.blk t).view.emb y) 1).val = n := by blk_simp [idx0 t]; omega
  have e2 : ((win0_10.blk t).view.emb y) 2 = y 2 := Fin.ext (by blk_simp [idx0 t])
  have e3 : ((win0_10.blk t).view.emb y) 3 = y 3 := Fin.ext (by blk_simp [idx0 t])
  have e4 : ((win0_10.blk t).view.emb y) 4 = y 4 := Fin.ext (by blk_simp [idx0 t])
  show _ = (((G (((win0_10.blk t).view.emb y) 0)).st (((win0_10.blk t).view.emb y) 1).val _ _ _ : ℝ) : EReal)
  rw [e0, e1, e2, e3, e4]

end Cert.KernelIdeal.Gla

end
-- ==== Proof.Final1.lean ====
module

public import proofs.«01_k».proof.Proof.Final0

/-!
The backward kernel's nine arrays after its pipeline.
-/

@[expose] public section

set_option maxRecDepth 16384

noncomputable section

namespace Cert.KernelIdeal.Gla

open Cert.KernelIdeal.Gen
open Idealize.ShloMosaic Idealize.ShloMosaic.TcCoe Idealize.ShloMosaic.Tactic
open Cert.ReferenceIdeal.Gla (ArgsIs row)
open Finset (range)

/-- The block each window is at, by grid point: the chunks of a sequence come last first. -/
theorem idx1 : ∀ t : Fin cfg1.N, win1_0.index t = ![t.val / 32 * 32 + (31 - t.val % 32), 0]
    ∧ win1_1.index t = ![t.val / 32 * 32 + (31 - t.val % 32), 1]
    ∧ win1_2.index t = ![t.val / 32 * 32 + (31 - t.val % 32), 1]
    ∧ win1_3.index t = ![t.val / 32 * 32 + (31 - t.val % 32), 2]
    ∧ win1_4.index t = ![t.val / 32 * 32 + (31 - t.val % 32), 7]
    ∧ win1_5.index t = ![t.val / 32 * 32 + (31 - t.val % 32), 0]
    ∧ win1_6.index t = ![0, 0]
    ∧ win1_7.index t = ![0, 0]
    ∧ win1_8.index t = ![0, 0]
    ∧ win1_9.index t = ![t.val / 32, 31 - t.val % 32, 0, 0, 0]
    ∧ win1_10.index t = ![t.val / 32 * 32 + (31 - t.val % 32), 0]
    ∧ win1_11.index t = ![t.val / 32 * 32 + (31 - t.val % 32), 0]
    ∧ win1_12.index t = ![t.val / 32 * 32 + (31 - t.val % 32), 0]
    ∧ win1_13.index t = ![t.val / 32 * 32 + (31 - t.val % 32), 0]
    ∧ win1_14.index t = ![t.val / 32 * 32 + (31 - t.val % 32), 0]
    ∧ win1_15.index t = ![t.val / 32 * 32 + (31 - t.val % 32), 0]
    ∧ win1_16.index t = ![t.val / 32 * 32 + (31 - t.val % 32), 0] :=
  (by decide +kernel : ∀ t : Fin grid1.N, win1_0.index t = ![t.val / 32 * 32 + (31 - t.val % 32), 0]
    ∧ win1_1.index t = ![t.val / 32 * 32 + (31 - t.val % 32), 1]
    ∧ win1_2.index t = ![t.val / 32 * 32 + (31 - t.val % 32), 1]
    ∧ win1_3.index t = ![t.val / 32 * 32 + (31 - t.val % 32), 2]
    ∧ win1_4.index t = ![t.val / 32 * 32 + (31 - t.val % 32), 7]
    ∧ win1_5.index t = ![t.val / 32 * 32 + (31 - t.val % 32), 0]
    ∧ win1_6.index t = ![0, 0]
    ∧ win1_7.index t = ![0, 0]
    ∧ win1_8.index t = ![0, 0]
    ∧ win1_9.index t = ![t.val / 32, 31 - t.val % 32, 0, 0, 0]
    ∧ win1_10.index t = ![t.val / 32 * 32 + (31 - t.val % 32), 0]
    ∧ win1_11.index t = ![t.val / 32 * 32 + (31 - t.val % 32), 0]
    ∧ win1_12.index t = ![t.val / 32 * 32 + (31 - t.val % 32), 0]
    ∧ win1_13.index t = ![t.val / 32 * 32 + (31 - t.val % 32), 0]
    ∧ win1_14.index t = ![t.val / 32 * 32 + (31 - t.val % 32), 0]
    ∧ win1_15.index t = ![t.val / 32 * 32 + (31 - t.val % 32), 0]
    ∧ win1_16.index t = ![t.val / 32 * 32 + (31 - t.val % 32), 0])

variable {V : (c : Dev nD) → (b : Ref sig .tc) → Buf (Elt Ideal) ((c : Thread nD τ).loc b)} {G : Fin 2 → GIn} {c : Dev nD}

theorem is_in1 (H : VIs V c G) (t : Fin cfg1.N) (b : Fin 2) (i : ℕ) (hi : i < 32) (ht : t.val = b * 32 + i) :
    (in1 V c t).Is ((G b).chunk (31 - i)) := by
  have e1 : (b.val * 32 + i) / 32 = b.val := by omega
  have e2 : (b.val * 32 + i) % 32 = i := by omega
  refine ⟨?_, ?_, ?_, ?_, ?_, ?_, ?_, ?_, ?_⟩
  · intro h r d
    refine Eq.trans ?_ (H.q b h ⟨64 * (31 - i) + r, by omega⟩ d)
    show iblk1 V c 0 t _ = _
    blk_ext [iblk1, idx1 t, ht, e1, e2]
  · intro h r d
    refine Eq.trans ?_ (H.k b h ⟨64 * (31 - i) + r, by omega⟩ d)
    show iblk1 V c 1 t _ = _
    blk_ext [iblk1, idx1 t, ht, e1, e2]
  · intro h r e
    refine Eq.trans ?_ (H.v b h ⟨64 * (31 - i) + r, by omega⟩ e)
    show iblk1 V c 2 t _ = _
    blk_ext [iblk1, idx1 t, ht, e1, e2]
  · intro h r e
    refine Eq.trans ?_ (H.g b h ⟨64 * (31 - i) + r, by omega⟩ e)
    show iblk1 V c 3 t _ = _
    blk_ext [iblk1, idx1 t, ht, e1, e2]
  · intro h r e
    refine Eq.trans ?_ (H.a b h ⟨64 * (31 - i) + r, by omega⟩ e)
    show iblk1 V c 4 t _ = _
    blk_ext [iblk1, idx1 t, ht, e1, e2]
  · intro r j
    refine Eq.trans ?_ (H.lr b ⟨64 * (31 - i) + r, by omega⟩ j)
    show iblk1 V c 5 t _ = _
    blk_ext [iblk1, idx1 t, ht, e1, e2]
  · intro h j d
    refine Eq.trans ?_ (H.w2 b h j d)
    show iblk1 V c 6 t _ = _
    blk_ext [iblk1, idx1 t, ht, e1, e2]
  · intro h d
    refine Eq.trans ?_ (H.b b h d)
    show iblk1 V c 7 t _ = _
    blk_ext [iblk1, idx1 t, ht, e1, e2]
  · intro e
    refine Eq.trans ?_ (H.gn b e)
    show iblk1 V c 8 t _ = _
    blk_ext [iblk1, idx1 t, ht, e1, e2]

theorem is_dm1 (H : VIs V c G) (t : Fin cfg1.N) (b : Fin 2) (i : ℕ) (hi : i < 32) (ht : t.val = b * 32 + i) :
    IsM (dm1 V c t) ((G b).cm (31 - i)) := by
  have e1 : (b.val * 32 + i) / 32 = b.val := by omega
  have e2 : (b.val * 32 + i) % 32 = i := by omega
  intro h r e
  refine Eq.trans ?_ (H.m b h ⟨64 * (31 - i) + r, by omega⟩ e)
  show iblk1 V c 10 t _ = _
  blk_ext [iblk1, idx1 t, ht, e1, e2]

/-- The states' array, as the backward kernel finds it. -/
abbrev HasStates (V : (c : Dev nD) → (b : Ref sig .tc) → Buf (Elt Ideal) ((c : Thread nD τ).loc b)) (c : Dev nD) (G : Fin 2 → GIn) : Prop :=
  V c main_v0_1 = statesV (fun b => (G b).st)

theorem is_st1 (HS : HasStates V c G) (t : Fin cfg1.N) (b : Fin 2) (i : ℕ) (hi : i < 32) (ht : t.val = b * 32 + i) :
    IsS (st1 V c t) ((G b).st (31 - i)) := by
  have e1 : (b.val * 32 + i) / 32 = b.val := by omega
  have e2 : (b.val * 32 + i) % 32 = i := by omega
  intro h e d
  have hb : statesV (fun b => (G b).st) (ix5 b (⟨31 - i, by omega⟩ : Fin 32) h e d) = (((G b).st (31 - i) h e d : ℝ) : EReal) := rfl
  refine Eq.trans ?_ hb
  rw [← HS]
  show iblk1 V c 9 t _ = _
  blk_ext [iblk1, idx1 t, ht, e1, e2]

theorem is_E1 (H : VIs V c G) (HS : HasStates V c G) (b : Fin 2) (i : ℕ) (hi : i < 32) :
    Is3 (E1 V c (b * 32 + i)) ((G b).dst (31 - i)) := by
  rw [← GIn.ds_eq _ (by omega : i ≤ 31)]
  induction i with
  | zero => rw [E1_first V c _ (by omega)]; exact is_zeroS
  | succ i ih =>
    rw [← Nat.add_assoc, E1, if_neg (by omega)]
    have hp : (pt1 (b * 32 + i)).val = b * 32 + i := Nat.mod_eq_of_lt (by omega)
    exact is_bNew (is_in1 H _ b i (by omega) hp) (is_st1 HS _ b i (by omega) hp) (is_dm1 H _ b i (by omega) hp) (ih (by omega))

/-- The point of chunk `n` in the backward kernel's order. -/
theorem pt_split1 (t : Fin cfg1.N) : ∃ b : Fin 2, ∃ i < 32, t.val = b.val * 32 + i ∧ t.val / 32 * 32 + (31 - t.val % 32) = b.val * 32 + (31 - i) := by
  have h : t.val < 64 := t.isLt
  refine ⟨⟨t.val / 32, by omega⟩, t.val % 32, by omega, ?_, rfl⟩
  show t.val = t.val / 32 * 32 + t.val % 32
  omega

theorem arr_Dq (H : VIs V c G) (HS : HasStates V c G) :
    (dat1 V c).arrAt 11 cfg1.N = (rowsK (fun b h s d => (G b).dq h s d * (1 / 16)) : FVec Ideal S4096x1024 .bf16) := by
  refine (dat1 V c).arrAt_eq_of_covers 11 _ (by decide +kernel) fun t hf y => ?_
  blk_simp
  rw [after1_11]
  obtain ⟨b, i, hi, ht, hr⟩ := pt_split1 t
  have hn : 31 - i < 32 := by omega
  exact block_rowsK (fun b h s d => (G b).dq h s d * (1 / 16)) _ y _ b (31 - i) hn
    (fun h r d => (is_bDq (is_in1 H t b i hi ht) (is_st1 HS t b i hi ht) (is_dm1 H t b i hi ht) h r d).trans
      (congrArg (fun x : ℝ => ((x * (1 / 16) : ℝ) : EReal)) (GIn.dq_eq (G b) hn h r d)))
    (by blk_simp [idx1 t]; rw [hr]) (by blk_simp [idx1 t])

theorem arr_Dk (H : VIs V c G) (HS : HasStates V c G) :
    (dat1 V c).arrAt 12 cfg1.N = (rowsK (fun b => (G b).dk) : FVec Ideal S4096x1024 .bf16) := by
  refine (dat1 V c).arrAt_eq_of_covers 12 _ (by decide +kernel) fun t hf y => ?_
  blk_simp
  rw [after1_12]
  obtain ⟨b, i, hi, ht, hr⟩ := pt_split1 t
  have hn : 31 - i < 32 := by omega
  have hE := is_E1 H HS b i hi
  rw [← ht] at hE
  exact block_rowsK (fun b => (G b).dk) _ y _ b (31 - i) hn
    (fun h r d => (is_bDk (is_in1 H t b i hi ht) (is_st1 HS t b i hi ht) (is_dm1 H t b i hi ht) hE h r d).trans
      (congrArg (fun x : ℝ => (x : EReal)) (GIn.dk_eq (G b) hn h r d)))
    (by blk_simp [idx1 t]; rw [hr]) (by blk_simp [idx1 t])

theorem arr_Dv (H : VIs V c G) (HS : HasStates V c G) :
    (dat1 V c).arrAt 13 cfg1.N = (rowsV (fun b => (G b).dv) : FVec Ideal S4096x2048 .bf16) := by
  refine (dat1 V c).arrAt_eq_of_covers 13 _ (by decide +kernel) fun t hf y => ?_
  blk_simp
  rw [after1_13]
  obtain ⟨b, i, hi, ht, hr⟩ := pt_split1 t
  have hn : 31 - i < 32 := by omega
  have hE := is_E1 H HS b i hi
  rw [← ht] at hE
  exact block_rowsV (fun b => (G b).dv) _ y _ b (31 - i) hn
    (fun h r d => (is_bDv (is_in1 H t b i hi ht) (is_st1 HS t b i hi ht) (is_dm1 H t b i hi ht) hE h r d).trans
      (congrArg (fun x : ℝ => (x : EReal)) (GIn.dv_eq (G b) hn h r d)))
    (by blk_simp [idx1 t]; rw [hr]) (by blk_simp [idx1 t])

theorem arr_Dg (H : VIs V c G) (HS : HasStates V c G) :
    (dat1 V c).arrAt 14 cfg1.N = (rowsV (fun b => (G b).dg) : FVec Ideal S4096x2048 .bf16) := by
  refine (dat1 V c).arrAt_eq_of_covers 14 _ (by decide +kernel) fun t hf y => ?_
  blk_simp
  rw [after1_14]
  obtain ⟨b, i, hi, ht, hr⟩ := pt_split1 t
  have hn : 31 - i < 32 := by omega
  exact block_rowsV (fun b => (G b).dg) _ y _ b (31 - i) hn
    (fun h r d => (is_bDg (is_in1 H t b i hi ht) (is_st1 HS t b i hi ht) (is_dm1 H t b i hi ht) h r d).trans
      (congrArg (fun x : ℝ => (x : EReal)) (GIn.dg_eq (G b) hn h r d)))
    (by blk_simp [idx1 t]; rw [hr]) (by blk_simp [idx1 t])

theorem arr_Dga (H : VIs V c G) (HS : HasStates V c G) :
    (dat1 V c).arrAt 15 cfg1.N = (rowsV (fun b => (G b).da) : FVec Ideal S4096x2048 .bf16) := by
  refine (dat1 V c).arrAt_eq_of_covers 15 _ (by decide +kernel) fun t hf y => ?_
  blk_simp
  rw [after1_15]
  obtain ⟨b, i, hi, ht, hr⟩ := pt_split1 t
  have hn : 31 - i < 32 := by omega
  exact block_rowsV (fun b => (G b).da) _ y _ b (31 - i) hn
    (fun h r d => (is_bDga (is_in1 H t b i hi ht) (is_st1 HS t b i hi ht) (is_dm1 H t b i hi ht) h r d).trans
      (congrArg (fun x : ℝ => (x : EReal)) (GIn.da_eq (G b) hn h r d)))
    (by blk_simp [idx1 t]; rw [hr]) (by blk_simp [idx1 t])

theorem arr_Dlr (H : VIs V c G) (HS : HasStates V c G) (hnu : ∀ b h t d, (G b).nu h t d ≠ 0) :
    (dat1 V c).arrAt 16 cfg1.N = rowsL (fun b s j => ∑ h, ∑ d, (G b).du h s d * (G b).w2 h j d) := by
  refine (dat1 V c).arrAt_eq_of_covers 16 _ (by decide +kernel) fun t hf y => ?_
  blk_simp
  rw [after1_16]
  obtain ⟨b, i, hi, ht, hr⟩ := pt_split1 t
  have hn : 31 - i < 32 := by omega
  have hE := is_E1 H HS b i hi
  rw [← ht] at hE
  exact block_rowsL _ _ y _ b (31 - i) hn
    (fun r j => (is_bDlr (is_in1 H t b i hi ht) (is_st1 HS t b i hi ht) (is_dm1 H t b i hi ht) hE r j).trans
      (congrArg (fun x : ℝ => (x : EReal)) (GIn.dlr_eq (G b) hn (hnu b) r j)))
    (by blk_simp [idx1 t]; rw [hr]) (by blk_simp [idx1 t])

/-! ## The accumulated gradients -/

theorem sum_points (f : ℕ → ℝ) :
    ∑ u ∈ range 64, f u = ∑ b : Fin 2, ∑ n ∈ range 32, f (b.val * 32 + (31 - n)) := by
  have e (o : ℕ) : ∑ n ∈ range 32, f (o + (31 - n)) = ∑ n ∈ range 32, f (o + n) :=
    Finset.sum_range_reflect (fun n => f (o + n)) 32
  rw [Fin.sum_univ_two, e, e, show (64 : ℕ) = 32 + 32 from rfl, Finset.sum_range_add]
  simp

/-- The sequence of grid point `u`. -/
def bOf (u : ℕ) : Fin 2 := ⟨u / 32 % 2, Nat.mod_lt _ (by decide)⟩

variable (G) in
/-- What a grid point adds to the gradient of `W2`. -/
def aw2 (u : ℕ) (h : Fin 4) (j : Fin 128) (d : Fin 256) : ℝ := ((G (bOf u)).chunk (31 - u % 32)).dw2 ((G (bOf u)).st (31 - u % 32)) ((G (bOf u)).cm (31 - u % 32))
  ((G (bOf u)).dst (31 - u % 32)) h j d
variable (G) in
/-- What a grid point adds to the gradient of the gate's bias. -/
def ab (u : ℕ) (h : Fin 4) (d : Fin 256) : ℝ := ((G (bOf u)).chunk (31 - u % 32)).db ((G (bOf u)).st (31 - u % 32)) ((G (bOf u)).cm (31 - u % 32))
  ((G (bOf u)).dst (31 - u % 32)) h d
variable (G) in
/-- What a grid point adds to the gradient of the norm's scale. -/
def agn (u : ℕ) (e : Fin 512) : ℝ := ((G (bOf u)).chunk (31 - u % 32)).dgn ((G (bOf u)).st (31 - u % 32)) ((G (bOf u)).cm (31 - u % 32)) e

theorem is_acc (H : VIs V c G) (HS : HasStates V c G) (u : ℕ) (hu : u < 64) :
    Is3 (A17 V c u) (fun h j d => ∑ v ∈ range (u + 1), aw2 G v h j d)
    ∧ Is3 (A18 V c u) (fun h _ d => ∑ v ∈ range (u + 1), ab G v h d)
    ∧ Is2 (A19 V c u) (fun _ e => ∑ v ∈ range (u + 1), agn G v e) := by
  have key (u : ℕ) (hu : u < 64) : (pt1 u).val = (bOf u).val * 32 + u % 32 := by
    show u % 64 = u / 32 % 2 * 32 + u % 32
    omega
  have i1 (u hu) := is_in1 H _ (bOf u) (u % 32) (by omega) (key u hu)
  have i2 (u hu) := is_st1 HS _ (bOf u) (u % 32) (by omega) (key u hu)
  have i3 (u hu) := is_dm1 H _ (bOf u) (u % 32) (by omega) (key u hu)
  have i4 (u) (hu : u < 64) : Is3 (E1 V c u) ((G (bOf u)).dst (31 - u % 32)) := by
    have := is_E1 H HS (bOf u) (u % 32) (by omega)
    rwa [← key u hu, show (pt1 u).val = u from Nat.mod_eq_of_lt hu] at this
  induction u with
  | zero =>
    refine ⟨?_, ?_, ?_⟩
    · have z : Is3 (k1_pay5 (F := Ideal) : Vec Ideal S4x128x256 .f32) (fun _ _ _ => 0) := fun h j d => by pointwise [k1_pay5]; rfl
      intro h j d
      refine (is_bDw2 (i1 0 hu) (i2 0 hu) (i3 0 hu) (i4 0 hu) z h j d).trans (congrArg (fun x : ℝ => (x : EReal)) ?_)
      simp only [zero_add, Finset.sum_range_one]; rfl
    · have z : Is3 (k1_pay6 (F := Ideal) : Vec Ideal S4x1x256 .f32) (fun _ _ _ => 0) := fun h j d => by pointwise [k1_pay6]; rfl
      intro h j d
      refine (is_bDb (i1 0 hu) (i2 0 hu) (i3 0 hu) (i4 0 hu) z h j d).trans (congrArg (fun x : ℝ => (x : EReal)) ?_)
      simp only [zero_add, Finset.sum_range_one]; rfl
    · have z : Is2 (k1_pay7 (F := Ideal) : Vec Ideal S1x512 .f32) (fun _ _ => 0) := fun j e => by pointwise [k1_pay7]; rfl
      intro j e
      refine (is_bDgn (i1 0 hu) (i2 0 hu) (i3 0 hu) z j e).trans (congrArg (fun x : ℝ => (x : EReal)) ?_)
      simp only [zero_add, Finset.sum_range_one]; rfl
  | succ u ih =>
    obtain ⟨z1, z2, z3⟩ := ih (by omega)
    refine ⟨?_, ?_, ?_⟩
    · intro h j d
      refine (is_bDw2 (i1 _ hu) (i2 _ hu) (i3 _ hu) (i4 _ hu) z1 h j d).trans (congrArg (fun x : ℝ => (x : EReal)) ?_)
      dsimp only
      rw [Finset.sum_range_succ _ (u + 1)]; rfl
    · intro h j d
      refine (is_bDb (i1 _ hu) (i2 _ hu) (i3 _ hu) (i4 _ hu) z2 h j d).trans (congrArg (fun x : ℝ => (x : EReal)) ?_)
      dsimp only
      rw [Finset.sum_range_succ _ (u + 1)]; rfl
    · intro j e
      refine (is_bDgn (i1 _ hu) (i2 _ hu) (i3 _ hu) z3 j e).trans (congrArg (fun x : ℝ => (x : EReal)) ?_)
      dsimp only
      rw [Finset.sum_range_succ _ (u + 1)]; rfl

theorem bOf_mul (b : Fin 2) (n : ℕ) (hn : n < 32) : bOf (b.val * 32 + (31 - n)) = b := Fin.ext (by show _ / 32 % 2 = _; omega)
theorem mod_mul (b : Fin 2) (n : ℕ) (hn : n < 32) : 31 - (b.val * 32 + (31 - n)) % 32 = n := by omega

/-- The last grid point, which writes the accumulators back. -/
def last1 : Fin cfg1.N := ⟨63, by decide +kernel⟩

theorem arr_Dw2 (H : VIs V c G) (HS : HasStates V c G) (hnu : ∀ b h t d, (G b).nu h t d ≠ 0) (h j d) :
    ((dat1 V c).arrAt 17 cfg1.N : Vec Ideal S4x128x256 .f32) (ix3 h j d)
      = ((∑ b, ∑ s ∈ range 2048, (G b).du h s d * (G b).lr s j : ℝ) : EReal) := by
  have e : (dat1 V c).arrAt 17 cfg1.N = A17 V c 63 := by
    refine (dat1 V c).arrAt_eq_of_after_last 17 last1 (by decide +kernel) _ fun j => ?_
    blk_simp
    rw [after1_17]
    rfl
  rw [e]
  refine ((is_acc H HS 63 (by omega)).1 h j d).trans (congrArg (fun x : ℝ => (x : EReal)) ?_)
  dsimp only
  rw [sum_points]
  refine Finset.sum_congr rfl fun b _ => ?_
  rw [← GIn.dw2_eq (G b) (hnu b)]
  refine Finset.sum_congr rfl fun n hn => ?_
  rw [Finset.mem_range] at hn
  unfold aw2
  rw [bOf_mul b n hn, mod_mul b n hn]

theorem arr_Db (H : VIs V c G) (HS : HasStates V c G) (hnu : ∀ b h t d, (G b).nu h t d ≠ 0) (h d) :
    ((dat1 V c).arrAt 18 cfg1.N : Vec Ideal S4x1x256 .f32) (ix3 h 0 d)
      = ((∑ b, ∑ s ∈ range 2048, (G b).du h s d : ℝ) : EReal) := by
  have e : (dat1 V c).arrAt 18 cfg1.N = A18 V c 63 := by
    refine (dat1 V c).arrAt_eq_of_after_last 18 last1 (by decide +kernel) _ fun j => ?_
    blk_simp
    rw [after1_18]
    rfl
  rw [e]
  refine ((is_acc H HS 63 (by omega)).2.1 h 0 d).trans (congrArg (fun x : ℝ => (x : EReal)) ?_)
  dsimp only
  rw [sum_points]
  refine Finset.sum_congr rfl fun b _ => ?_
  rw [← GIn.db_eq (G b) (hnu b)]
  refine Finset.sum_congr rfl fun n hn => ?_
  rw [Finset.mem_range] at hn
  unfold ab
  rw [bOf_mul b n hn, mod_mul b n hn]

theorem arr_Dgn (H : VIs V c G) (HS : HasStates V c G) (e) :
    ((dat1 V c).arrAt 19 cfg1.N : Vec Ideal S1x512 .f32) (ix2 0 e) = ((∑ b, (G b).dgn e : ℝ) : EReal) := by
  have e' : (dat1 V c).arrAt 19 cfg1.N = A19 V c 63 := by
    refine (dat1 V c).arrAt_eq_of_after_last 19 last1 (by decide +kernel) _ fun j => ?_
    blk_simp
    rw [after1_19]
    rfl
  rw [e']
  refine ((is_acc H HS 63 (by omega)).2.2 0 e).trans (congrArg (fun x : ℝ => (x : EReal)) ?_)
  dsimp only
  rw [sum_points]
  refine Finset.sum_congr rfl fun b _ => ?_
  rw [← GIn.dgn_eq (G b)]
  refine Finset.sum_congr rfl fun n hn => ?_
  rw [Finset.mem_range] at hn
  unfold agn
  rw [bOf_mul b n hn, mod_mul b n hn]

end Cert.KernelIdeal.Gla

end
-- ==== Proof.RefOut.lean ====
module

public import proofs.«01_k».proof.Proof.RefVal
public import proofs.«01_k».proof.Proof.Gen.ReferenceIdeal.Run
public import Idealize.ShloMosaic.Lib.Tactic.CleanTypes

/-!
The reference's ten results at an index.
-/

@[expose] public section

set_option maxRecDepth 16384

noncomputable section

namespace Cert.ReferenceIdeal.Gla

open Idealize.ShloMosaic Idealize.ShloMosaic.TcCoe
open Cert.KernelIdeal.Gla Cert.ReferenceIdeal.Gen Cert.ReferenceIdeal.Value

variable {V0 : Valuation τ sig (Elt Ideal)} {G : Fin 2 → GIn}

section

variable (V0 : Valuation τ sig (Elt Ideal))

def rOut : FVec Ideal S4096x2048 .f32 :=
  shapeCast _ (mulf (res_main_v65 V0) (res_main_v59 V0)) shapeCasts_S2x2048x2048_S4096x2048

def rDq : FVec Ideal S4096x1024 .bf16 :=
  truncf .bf16 (shapeCast _ (shapeCast _ (transpose S2x2048x4x256 [0, 2, 1, 3] (mulf (mulf (res_main_v103 V0) (res_main_v30 V0)) (broadcastInDim S2x4x2048x256 ![] bcast_S_S2x4x2048x256 (constant S_ .f32 0x3D800000#32))) transposes_S2x4x2048x256_S2x2048x4x256_0_2_1_3) shapeCasts_S2x2048x4x256_S2x2048x1024) shapeCasts_S2x2048x1024_S4096x1024) bitsLt_bf16_f32

def rDk : FVec Ideal S4096x1024 .bf16 :=
  truncf .bf16 (shapeCast _ (shapeCast _ (transpose S2x2048x4x256 [0, 2, 1, 3] (mulf (res_main_v102 V0) (res_main_v33 V0)) transposes_S2x4x2048x256_S2x2048x4x256_0_2_1_3) shapeCasts_S2x2048x4x256_S2x2048x1024) shapeCasts_S2x2048x1024_S4096x1024) bitsLt_bf16_f32

def rDv : FVec Ideal S4096x2048 .bf16 :=
  truncf .bf16 (shapeCast _ (shapeCast _ (transpose S2x2048x4x512 [0, 2, 1, 3] (transpose S2x4x2048x512 [0, 1, 3, 2] (Host.dotGeneral (φ₁ := .f32) (φ₂ := .f32) dot_S2x4x2048x512_S2x4x2048x2048_S2x4x512x2048_2_2_3_3_01_01 none (res_main_v97 V0 : FVec Ideal S2x4x2048x512 .f32) (res_main_v38_0 V0 : FVec Ideal S2x4x2048x2048 .f32)) transposes_S2x4x512x2048_S2x4x2048x512_0_1_3_2) transposes_S2x4x2048x512_S2x2048x4x512_0_2_1_3) shapeCasts_S2x2048x4x512_S2x2048x2048) shapeCasts_S2x2048x2048_S4096x2048) bitsLt_bf16_f32

def rDg0 : FVec Ideal S2x2048x2048 .f32 :=
  addf (mulf (res_main_v73 V0) (res_main_v58_2 V0)) (mulf (mulf (res_main_v6 V0) (res_main_v73 V0)) (mulf (res_main_v58_2 V0) (subf (broadcastInDim S2x2048x2048 ![] bcast_S_S2x2048x2048 (constant S_ .f32 0x3F800000#32)) (res_main_v58_2 V0))))

def rDg : FVec Ideal S4096x2048 .bf16 :=
  truncf .bf16 (shapeCast _ (rDg0 V0) shapeCasts_S2x2048x2048_S4096x2048) bitsLt_bf16_f32

def rDga0 : FVec Ideal S2x2048x2048 .f32 :=
  mulf (mulf (res_main_v9 V0) (res_main_v59 V0)) (mulf (res_main_v65 V0) (subf (broadcastInDim S2x2048x2048 ![] bcast_S_S2x2048x2048 (constant S_ .f32 0x3F800000#32)) (res_main_v65 V0)))

def rDga : FVec Ideal S4096x2048 .bf16 :=
  truncf .bf16 (shapeCast _ (rDga0 V0) shapeCasts_S2x2048x2048_S4096x2048) bitsLt_bf16_f32

def rDlr : FVec Ideal S4096x128 .f32 :=
  shapeCast _ (Host.dotGeneral (φ₁ := .f32) (φ₂ := .f32) dot_S2x2048x1024_S128x1024_S2x2048x128_2_1_01_0_n_n none (res_main_v125 V0 : FVec Ideal S2x2048x1024 .f32) (V0 (Proc.devRef .tc main_arg2) : FVec Ideal S128x1024 .f32)) shapeCasts_S2x2048x128_S4096x128

def rDw2 : FVec Ideal S4x128x256 .f32 :=
  transpose S4x128x256 [1, 0, 2] (shapeCast _ (transpose S128x1024 [1, 0] (Host.dotGeneral (φ₁ := .f32) (φ₂ := .f32) dot_S2x2048x1024_S2x2048x128_S1024x128_01_01_2_2_n_n none (res_main_v125 V0 : FVec Ideal S2x2048x1024 .f32) (res_main_v2 V0 : FVec Ideal S2x2048x128 .f32)) transposes_S1024x128_S128x1024_1_0) shapeCasts_S128x1024_S128x4x256) transposes_S128x4x256_S4x128x256_1_0_2

def rDb : FVec Ideal S4x1x256 .f32 :=
  shapeCast _ (Host.reduceAdd (shapeCast _ (Host.reduceAdd (res_main_v125 V0) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S4x1x256

def rDgn : FVec Ideal S1x512 .f32 :=
  shapeCast _ (Host.reduceAdd (shapeCast _ (Host.reduceAdd (mulf (res_main_v52 V0) (res_main_v77 V0)) (constant S_ .f32 0x00000000#32) reducesTo_S2x4x2048x512_S512_d0_1_2 h_S_) shapeCasts_S512_S1x1x1x512) (constant S_ .f32 0x00000000#32) reducesTo_S1x1x1x512_S512_d0_1_2 h_S_) shapeCasts_S512_S1x512

end

theorem row_div (b : Fin 2) (s : Fin 2048) (p) : (⟨(b.val * 2048 + s.val) / 2048, p⟩ : Fin 2) = b := by
  apply Fin.ext; show (b.val * 2048 + s.val) / 2048 = b.val; omega

theorem row_mod (b : Fin 2) (s : Fin 2048) (p) : (⟨(b.val * 2048 + s.val) % 2048, p⟩ : Fin 2048) = s := by
  apply Fin.ext; show (b.val * 2048 + s.val) % 2048 = s.val; omega

/-- The four heads' columns are all columns. -/
def colEquiv : Fin 4 × Fin 256 ≃ Fin 1024 where
  toFun p := cK p.1 p.2
  invFun i := (⟨i / 256, by omega⟩, ⟨i % 256, by omega⟩)
  left_inv p := by
    apply Prod.ext <;> apply Fin.ext
    · show (p.1.val * 256 + p.2.val) / 256 = p.1.val; omega
    · show (p.1.val * 256 + p.2.val) % 256 = p.2.val; omega
  right_inv i := by
    apply Fin.ext; show i.val / 256 * 256 + i.val % 256 = i.val; omega

theorem sum_col (f : Fin 1024 → EReal) : ∑ i, f i = ∑ h, ∑ d, f (cK h d) := by
  rw [← colEquiv.sum_comp, Fintype.sum_prod_type]; rfl

theorem comp_coe (v : FVec Ideal S2x2048x2048 .f32) (i) (x : ℝ) (h : v i = (x : EReal)) :
    mulf v (subf (broadcastInDim S2x2048x2048 ![] bcast_S_S2x2048x2048 (constant S_ .f32 0x3F800000#32)) v) i
      = ((x * (1 - x) : ℝ) : EReal) := by
  pointwise []
  rw [h, ← EReal.coe_one, ← EReal.coe_sub, ← EReal.coe_mul]

theorem is_rDg0 (H : RefIs V0 G) (b h) (s : Fin 2048) (e) :
    rDg0 V0 (ix3 b s (cV h e)) = (((G b).dg h s e : ℝ) : EReal) :=
  addf_coe _ _ _ _ _ (mulf_coe _ _ _ _ _ (is_x H b h s e) (is_sgg H b h s e))
    (mulf_coe _ _ _ _ _ (mulf_coe _ _ _ _ _ (is_g H b h s e) (is_x H b h s e)) (comp_coe _ _ _ (is_sgg H b h s e)))

theorem is_rDga0 (H : RefIs V0 G) (b h) (s : Fin 2048) (e) :
    rDga0 V0 (ix3 b s (cV h e)) = (((G b).da h s e : ℝ) : EReal) :=
  mulf_coe _ _ _ _ _ (mulf_coe _ _ _ _ _ (is_m H b h s e) (is_ongs H b h s e)) (comp_coe _ _ _ (is_sga H b h s e))

theorem is_rOut (H : RefIs V0 G) (b h) (s : Fin 2048) (e) :
    rOut V0 (ix2 (row b s) (cV h e)) = (((G b).out h s e : ℝ) : EReal) := by
  unfold rOut; clean_types; pointwise []
  rw [row_div, row_mod, is_sga H, is_ongs H, ← EReal.coe_mul]; rfl

theorem is_rDq (H : RefIs V0 G) (b h) (s : Fin 2048) (d) :
    rDq V0 (ix2 (row b s) (cK h d)) = (((G b).dq h s d * (1 / 16) : ℝ) : EReal) := by
  unfold rDq; clean_types; pointwise []
  rw [row_div, row_mod, cK_div, cK_mod, is_dqin H, is_expB H, cst_sixteenth, ← EReal.coe_mul, ← EReal.coe_mul]; rfl

theorem is_rDk (H : RefIs V0 G) (b h) (s : Fin 2048) (d) :
    rDk V0 (ix2 (row b s) (cK h d)) = (((G b).dk h s d : ℝ) : EReal) := by
  unfold rDk; clean_types; pointwise []
  rw [row_div, row_mod, cK_div, cK_mod, is_dkin H, is_expnB H, ← EReal.coe_mul]; rfl

theorem is_rDv (H : RefIs V0 G) (b h) (s : Fin 2048) (e) :
    rDv V0 (ix2 (row b s) (cV h e)) = (((G b).dv h s e : ℝ) : EReal) := by
  unfold rDv; clean_types; pointwise []
  simp only [row_div, row_mod, cV_div, cV_mod, is_dO H, is_A H, ← EReal.coe_mul]
  exact sum_seq (fun t => (G b).dO h t e * (G b).att h t s)

theorem is_rDg (H : RefIs V0 G) (b h) (s : Fin 2048) (e) :
    rDg V0 (ix2 (row b s) (cV h e)) = (((G b).dg h s e : ℝ) : EReal) := by
  unfold rDg; clean_types; pointwise []
  rw [row_div, row_mod, is_rDg0 H]

theorem is_rDga (H : RefIs V0 G) (b h) (s : Fin 2048) (e) :
    rDga V0 (ix2 (row b s) (cV h e)) = (((G b).da h s e : ℝ) : EReal) := by
  unfold rDga; clean_types; pointwise []
  rw [row_div, row_mod, is_rDga0 H]

theorem is_rDlr (H : RefIs V0 G) (b) (s : Fin 2048) (j) :
    rDlr V0 (ix2 (row b s) j) = ((∑ h, ∑ d, (G b).du h s d * (G b).w2 h j d : ℝ) : EReal) := by
  unfold rDlr; clean_types; pointwise []
  rw [row_div, row_mod, sum_col]
  simp only [is_du H, H.w2 b, ← EReal.coe_mul, sum_coe]

theorem is_rDw2 (H : RefIs V0 G) (h j d) :
    rDw2 V0 (ix3 h j d) = ((∑ b, ∑ s ∈ Finset.range 2048, (G b).du h s d * (G b).lr s j : ℝ) : EReal) := by
  unfold rDw2; clean_types; pointwise []
  simp only [is_du H, is_lr H, ← EReal.coe_mul, sum_coe, Finset.sum_range]

theorem is_rDb (H : RefIs V0 G) (h d) :
    rDb V0 (ix3 h 0 d) = ((∑ b, ∑ s ∈ Finset.range 2048, (G b).du h s d : ℝ) : EReal) := by
  unfold rDb; clean_types; pointwise []
  rw [hostReduceAdd_01]
  simp only [Finset.univ_unique, Finset.sum_singleton, Fin.default_eq_zero, zero_add]
  pointwise []
  rw [hostReduceAdd_01]
  simp only [is_du H, sum_coe, zero_add, Finset.sum_range]

theorem is_rDgn (H : RefIs V0 G) (e) :
    rDgn V0 (ix2 0 e) = ((∑ b, (G b).dgn e : ℝ) : EReal) := by
  unfold rDgn; clean_types; pointwise []
  rw [hostReduceAdd_012]
  simp only [Finset.univ_unique, Finset.sum_singleton, Fin.default_eq_zero, zero_add]
  pointwise []
  rw [hostReduceAdd_012]
  simp only [mulf_coe _ _ _ _ _ (is_on H _ _ _ _) (is_c1 H _ _ _ _), sum_coe, zero_add]
  simp only [GIn.dgn, Finset.sum_range]

end Cert.ReferenceIdeal.Gla

end
-- ==== Proof.Pre.lean ====
module

public import proofs.«01_k».proof.Pre_regular
public import proofs.«01_k».proof.Proof.RefVal
public import Idealize.ShloMosaic.Lib.ReduceAll

/-!
What the precondition `regular` says of the argument arrays: the entries the branch reads are real numbers, and no
gate's pre-activation is zero.
-/

@[expose] public section

set_option maxRecDepth 16384

noncomputable section

namespace Cert.Pre_regular.Read

open Idealize.ShloMosaic Idealize.ShloMosaic.TcCoe
open Cert.KernelIdeal.Gla
open Cert.ReferenceIdeal.Gla (ArgsIs row)

instance facts : Cert.Pre_regular.Facts where
  slices_S4096x18432_S4096x6144_0_0 := by decide
  bcast_S_S4096x6144 := by decide
  reducesTo_S4096x6144_S_d0_1 := by decide
  h_S_ := by decide
  slices_S4096x18432_S4096x2048_0_14336 := by decide
  bcast_S_S4096x2048 := by decide
  reducesTo_S4096x2048_S_d0_1 := by decide
  slices_S4096x384_S4096x128_0_0 := by decide
  bcast_S_S4096x128 := by decide
  reducesTo_S4096x128_S_d0_1 := by decide
  bcast_S_S128x1024 := by decide
  reducesTo_S128x1024_S_d0_1 := by decide
  bcast_S_S1x1024 := by decide
  reducesTo_S1x1024_S_d0_1 := by decide
  bcast_S_S1x512 := by decide
  reducesTo_S1x512_S_d0_1 := by decide
  bitsLt_bf16_f32 := by decide
  bcast_S1x1024_S4096x1024_0_1 := by decide
  bcast_S_S4096x1024 := by decide
  reducesTo_S4096x1024_S_d0_1 := by decide
  dot_S4096x128_S128x1024_S4096x1024_1_0_0_1_n_n_wf := by decide

theorem real_of_lt {x : EReal} (h : Ideal.cmp .olt (max x (-x)) (Ideal.ofBits .f32 0x7F800000#32) = 1#1) : x = (x.toReal : EReal) := by
  rw [cst_inf] at h
  have h' : max x (-x) < ⊤ := by
    by_contra hc
    simp [Ideal.cmp, hc] at h
  obtain ⟨h1, h2⟩ := max_lt_iff.1 h'
  exact (EReal.coe_toReal h1.ne (fun e => by rw [e] at h2; simp at h2)).symm

instance : Subsingleton S_.Idx := ⟨fun a b => funext fun i => i.elim0⟩

theorem all_real {s : Shape} {axes : List (Fin s.rank)} (x : FVec Ideal s .f32) (bc : S_.BroadcastsInDim s (![] : Fin 0 → Fin s.rank))
    (hr : s.ReducesTo axes S_) (hu : 0 < S_.numel) (j : S_.Idx)
    (e : Host.reduce IntOp.andi (cmpf .olt (Host.absf x) (broadcastInDim s ![] bc (constant S_ .f32 0x7F800000#32))) (constantI S_ 1 1#1) hr hu j = 1#1)
    (i : s.Idx) : x i = ((x i : EReal).toReal : EReal) :=
  real_of_lt (Host.reduce_andi_all _ _ hr hu j e i)

/-- What the precondition says, entry by entry. -/
structure Reads (x0 : FVec Ideal S4096x18432 .f32) (x1 : FVec Ideal S4096x384 .f32) (x2 : FVec Ideal S128x1024 .f32)
    (x3 : FVec Ideal S1x1024 .f32) (x4 : FVec Ideal S1x512 .f32) (x5 : FVec Ideal S4096x2048 .bf16) : Prop where
  lo : ∀ (r : Fin 4096) (j : Fin 6144), x0 (ix2 r ⟨j.val, by omega⟩) = ((x0 (ix2 r ⟨j.val, by omega⟩) : EReal).toReal : EReal)
  hi : ∀ (r : Fin 4096) (j : Fin 2048), x0 (ix2 r ⟨14336 + j.val, by omega⟩) = ((x0 (ix2 r ⟨14336 + j.val, by omega⟩) : EReal).toReal : EReal)
  lr : ∀ (r : Fin 4096) (j : Fin 128), x1 (ix2 r ⟨j.val, by omega⟩) = ((x1 (ix2 r ⟨j.val, by omega⟩) : EReal).toReal : EReal)
  w2 : ∀ i, x2 i = ((x2 i : EReal).toReal : EReal)
  b : ∀ i, x3 i = ((x3 i : EReal).toReal : EReal)
  gn : ∀ i, x4 i = ((x4 i : EReal).toReal : EReal)
  m : ∀ i, x5 i = ((x5 i : EReal).toReal : EReal)
  nz : ∀ (r : Fin 4096) (k : Fin 1024), (∑ j : Fin 128, (x1 (ix2 r ⟨j.val, by omega⟩) : EReal) * (x2 (ix2 j k) : EReal)) + (x3 (ix2 0 k) : EReal) ≠ 0

theorem reads (x0 : FVec Ideal S4096x18432 .f32) (x1 : FVec Ideal S4096x384 .f32) (x2 : FVec Ideal S128x1024 .f32)
    (x3 : FVec Ideal S1x1024 .f32) (x4 : FVec Ideal S1x512 .f32) (x5 : FVec Ideal S4096x2048 .bf16)
    (h : fn (F := Ideal) x0 x1 x2 x3 x4 x5 = fun _ => 1#1) : Reads x0 x1 x2 x3 x4 x5 := by
  have e := congrFun h ix0
  unfold fn fn_part1 fn_part2 at e
  dsimp only at e
  obtain ⟨h37, h44⟩ := IntOp.andi_eq_one.1 e
  obtain ⟨h31, h36⟩ := IntOp.andi_eq_one.1 h37
  obtain ⟨h26, h30⟩ := IntOp.andi_eq_one.1 h31
  obtain ⟨h21, h25⟩ := IntOp.andi_eq_one.1 h26
  obtain ⟨h16, h20⟩ := IntOp.andi_eq_one.1 h21
  obtain ⟨h10, h15⟩ := IntOp.andi_eq_one.1 h16
  obtain ⟨h4, h9⟩ := IntOp.andi_eq_one.1 h10
  refine ⟨fun r j => ?_, fun r j => ?_, fun r j => ?_, all_real _ _ _ _ _ h20, all_real _ _ _ _ _ h25, all_real _ _ _ _ _ h30,
    all_real _ _ _ _ _ h36, fun r k => ?_⟩
  · have := all_real _ _ _ _ _ h4 (ix2 r j)
    have e : extractStridedSlice S4096x6144 ![0, 0] x0 Facts.slices_S4096x18432_S4096x6144_0_0 (ix2 r j) = x0 (ix2 r ⟨j.val, by omega⟩) := by
      pointwise []
    rwa [e] at this
  · have := all_real _ _ _ _ _ h9 (ix2 r j)
    have e : extractStridedSlice S4096x2048 ![0, 14336] x0 Facts.slices_S4096x18432_S4096x2048_0_14336 (ix2 r j) = x0 (ix2 r ⟨14336 + j.val, by omega⟩) := by
      pointwise []
    rwa [e] at this
  · have := all_real _ _ _ _ _ h15 (ix2 r j)
    have e : extractStridedSlice S4096x128 ![0, 0] x1 Facts.slices_S4096x384_S4096x128_0_0 (ix2 r j) = x1 (ix2 r ⟨j.val, by omega⟩) := by
      pointwise []
    rwa [e] at this
  · have := Host.reduce_andi_all _ _ _ _ _ h44 (ix2 r k)
    intro hz
    revert this
    pointwise []
    intro e1
    rw [hz] at e1
    simp at e1

/-! ## The reals of the arguments -/

section
variable (x0 : FVec Ideal S4096x18432 .f32) (x1 : FVec Ideal S4096x384 .f32) (x2 : FVec Ideal S128x1024 .f32)
    (x3 : FVec Ideal S1x1024 .f32) (x4 : FVec Ideal S1x512 .f32) (x5 : FVec Ideal S4096x2048 .bf16)

/-- The row of sequence `b`, time `s`, counted round. -/
def rw' (b : Fin 2) (s : ℕ) : Fin 4096 := row b ⟨s % 2048, Nat.mod_lt _ (by decide)⟩

theorem rw'_val (b : Fin 2) (s : Fin 2048) : rw' b s.val = row b s :=
  congrArg (row b) (Fin.ext (Nat.mod_eq_of_lt s.isLt))

/-- The real entries of the arguments that the branch reads, by sequence. -/
def gOf (b : Fin 2) : GIn where
  q h s d := (x0 (ix2 (rw' b s) ⟨(cK h d).val, by omega⟩) : EReal).toReal
  k h s d := (x0 (ix2 (rw' b s) ⟨1024 + (cK h d).val, by omega⟩) : EReal).toReal
  v h s e := (x0 (ix2 (rw' b s) ⟨2048 + (cV h e).val, by omega⟩) : EReal).toReal
  g h s e := (x0 (ix2 (rw' b s) ⟨4096 + (cV h e).val, by omega⟩) : EReal).toReal
  a h s e := (x0 (ix2 (rw' b s) ⟨14336 + (cV h e).val, by omega⟩) : EReal).toReal
  lr s j := (x1 (ix2 (rw' b s) ⟨j.val, by omega⟩) : EReal).toReal
  w2 h j d := (x2 (ix2 j (cK h d)) : EReal).toReal
  b h d := (x3 (ix2 0 (cK h d)) : EReal).toReal
  gn e := (x4 (ix2 0 e) : EReal).toReal
  m h s e := (x5 (ix2 (rw' b s) (cV h e)) : EReal).toReal

variable {x0 x1 x2 x3 x4 x5} (H : Reads x0 x1 x2 x3 x4 x5)
include H

theorem args : ArgsIs x0 x1 x2 x3 x4 x5 (gOf x0 x1 x2 x3 x4 x5) where
  q b h s d := by simp only [gOf, rw'_val]; exact H.lo (row b s) ⟨(cK h d).val, by omega⟩
  k b h s d := by simp only [gOf, rw'_val]; exact H.lo (row b s) ⟨1024 + (cK h d).val, by omega⟩
  v b h s e := by simp only [gOf, rw'_val]; exact H.lo (row b s) ⟨2048 + (cV h e).val, by omega⟩
  g b h s e := by simp only [gOf, rw'_val]; exact H.lo (row b s) ⟨4096 + (cV h e).val, by omega⟩
  a b h s e := by simp only [gOf, rw'_val]; exact H.hi (row b s) (cV h e)
  lr b s j := by simp only [gOf, rw'_val]; exact H.lr (row b s) j
  w2 b h j d := H.w2 _
  b b h d := H.b _
  gn b e := H.gn _
  m b h s e := by simp only [gOf, rw'_val]; exact H.m _

theorem nu_ne (b : Fin 2) (h : Fin 4) (s : ℕ) (d : Fin 256) : (gOf x0 x1 x2 x3 x4 x5 b).nu h s d ≠ 0 := by
  unfold GIn.nu
  rw [neg_ne_zero]
  intro hz
  refine H.nz (rw' b s) (cK h d) ?_
  have e1 (j : Fin 128) : (x1 (ix2 (rw' b s) ⟨j.val, by omega⟩) : EReal) = (((gOf x0 x1 x2 x3 x4 x5 b).lr s j : ℝ) : EReal) := H.lr (rw' b s) j
  have e2 (j : Fin 128) : (x2 (ix2 j (cK h d)) : EReal) = (((gOf x0 x1 x2 x3 x4 x5 b).w2 h j d : ℝ) : EReal) := H.w2 _
  have e3 : (x3 (ix2 0 (cK h d)) : EReal) = (((gOf x0 x1 x2 x3 x4 x5 b).b h d : ℝ) : EReal) := H.b _
  simp only [e1, e2, e3, ← EReal.coe_mul, sum_coe, ← EReal.coe_add, hz, EReal.coe_zero]

end

end Cert.Pre_regular.Read

end
-- ==== Proof.Value.lean ====
module

public import proofs.«01_k».proof.Proof.Final1
public import proofs.«01_k».proof.Proof.RefOut
public import proofs.«01_k».proof.Proof.Pre

/-!
The ten results of both programs, as one family of arrays over the reals of the arguments.
-/

@[expose] public section

set_option maxRecDepth 16384

noncomputable section

namespace Cert.KernelIdeal.Gla

open Cert.KernelIdeal.Gen
open Idealize.ShloMosaic Idealize.ShloMosaic.TcCoe Idealize.ShloMosaic.Tactic
open Cert.ReferenceIdeal.Gla (ArgsIs RefIs row)
open Finset (range)

/-! ## An array is its entries -/

theorem eq_rowsV {φ : FTy} (x : FVec Ideal S4096x2048 φ) (f : Fin 2 → Fin 4 → ℕ → Fin 512 → ℝ)
    (hx : ∀ b h (s : Fin 2048) e, x (ix2 (row b s) (cV h e)) = ((f b h s e : ℝ) : EReal)) : x = rowsV f := by
  funext i
  have h0 : (i 0).val < 4096 := (i 0).isLt
  have h1 : (i 1).val < 2048 := (i 1).isLt
  refine (congrArg x ((eq_ix2 i).trans (congrArg₂ ix2 ?_ ?_))).trans
    (hx ⟨(i 0).val / 2048, by omega⟩ ⟨(i 1).val / 512, by omega⟩ ⟨(i 0).val % 2048, by omega⟩ ⟨(i 1).val % 512, by omega⟩)
  · exact Fin.ext (by show (i 0).val = (i 0).val / 2048 * 2048 + (i 0).val % 2048; omega)
  · exact Fin.ext (by show (i 1).val = (i 1).val / 512 * 512 + (i 1).val % 512; omega)

theorem eq_rowsK {φ : FTy} (x : FVec Ideal S4096x1024 φ) (f : Fin 2 → Fin 4 → ℕ → Fin 256 → ℝ)
    (hx : ∀ b h (s : Fin 2048) d, x (ix2 (row b s) (cK h d)) = ((f b h s d : ℝ) : EReal)) : x = rowsK f := by
  funext i
  have h0 : (i 0).val < 4096 := (i 0).isLt
  have h1 : (i 1).val < 1024 := (i 1).isLt
  refine (congrArg x ((eq_ix2 i).trans (congrArg₂ ix2 ?_ ?_))).trans
    (hx ⟨(i 0).val / 2048, by omega⟩ ⟨(i 1).val / 256, by omega⟩ ⟨(i 0).val % 2048, by omega⟩ ⟨(i 1).val % 256, by omega⟩)
  · exact Fin.ext (by show (i 0).val = (i 0).val / 2048 * 2048 + (i 0).val % 2048; omega)
  · exact Fin.ext (by show (i 1).val = (i 1).val / 256 * 256 + (i 1).val % 256; omega)

theorem eq_rowsL (x : FVec Ideal S4096x128 .f32) (f : Fin 2 → ℕ → Fin 128 → ℝ)
    (hx : ∀ b (s : Fin 2048) j, x (ix2 (row b s) j) = ((f b s j : ℝ) : EReal)) : x = rowsL f := by
  funext i
  have h0 : (i 0).val < 4096 := (i 0).isLt
  refine (congrArg x ((eq_ix2 i).trans (congrArg₂ ix2 ?_ rfl))).trans
    (hx ⟨(i 0).val / 2048, by omega⟩ ⟨(i 0).val % 2048, by omega⟩ (i 1))
  exact Fin.ext (by show (i 0).val = (i 0).val / 2048 * 2048 + (i 0).val % 2048; omega)

/-! ## The ten results -/

section
variable (G : Fin 2 → GIn)

def oOut : FVec Ideal S4096x2048 .f32 := rowsV fun b => (G b).out
def oDq : FVec Ideal S4096x1024 .bf16 := rowsK fun b h s d => (G b).dq h s d * (1 / 16)
def oDk : FVec Ideal S4096x1024 .bf16 := rowsK fun b => (G b).dk
def oDv : FVec Ideal S4096x2048 .bf16 := rowsV fun b => (G b).dv
def oDg : FVec Ideal S4096x2048 .bf16 := rowsV fun b => (G b).dg
def oDga : FVec Ideal S4096x2048 .bf16 := rowsV fun b => (G b).da
def oDlr : FVec Ideal S4096x128 .f32 := rowsL fun b s j => ∑ h, ∑ d, (G b).du h s d * (G b).w2 h j d
def oDw2 : FVec Ideal S4x128x256 .f32 := fun i =>
  ((∑ b, ∑ s ∈ range 2048, (G b).du (i 0) s (i 2) * (G b).lr s (i 1) : ℝ) : EReal)
def oDb : FVec Ideal S4x1x256 .f32 := fun i => ((∑ b, ∑ s ∈ range 2048, (G b).du (i 0) s (i 2) : ℝ) : EReal)
def oDgn : FVec Ideal S1x512 .f32 := fun i => ((∑ b, (G b).dgn (i 1) : ℝ) : EReal)

variable {G}

theorem eq_oDw2 (x : FVec Ideal S4x128x256 .f32)
    (hx : ∀ h j d, x (ix3 h j d) = ((∑ b, ∑ s ∈ range 2048, (G b).du h s d * (G b).lr s j : ℝ) : EReal)) : x = oDw2 G :=
  funext fun i => (congrArg x (eq_ix3 i)).trans (hx (i 0) (i 1) (i 2))

theorem eq_oDb (x : FVec Ideal S4x1x256 .f32)
    (hx : ∀ h d, x (ix3 h 0 d) = ((∑ b, ∑ s ∈ range 2048, (G b).du h s d : ℝ) : EReal)) : x = oDb G := by
  funext i
  have e1 : i 1 = (0 : Fin 1) := Subsingleton.elim (α := Fin 1) _ _
  exact (congrArg x ((eq_ix3 i).trans (congrArg (fun a => ix3 (i 0) a (i 2)) e1))).trans (hx (i 0) (i 2))

theorem eq_oDgn (x : FVec Ideal S1x512 .f32) (hx : ∀ e, x (ix2 0 e) = ((∑ b, (G b).dgn e : ℝ) : EReal)) : x = oDgn G := by
  funext i
  have e0 : i 0 = (0 : Fin 1) := Subsingleton.elim (α := Fin 1) _ _
  exact (congrArg x ((eq_ix2 i).trans (congrArg (fun a => ix2 a (i 1)) e0))).trans (hx (i 1))

/-! ## The kernel's -/

variable {m : (ℓ : Loc nD τ sig) → Buf (Elt Ideal) ℓ} {ρ : Dev nD → PrngReg} {c : Dev nD}

/-- A device's argument arrays hold the reals of `G`. -/
abbrev MIs (m : (ℓ : Loc nD τ sig) → Buf (Elt Ideal) ℓ) (c : Dev nD) (G : Fin 2 → GIn) : Prop :=
  ArgsIs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) G

theorem v0_is (H : MIs m c G) : VIs (V0 m ρ) c G := H

theorem v1_is (H : MIs m c G) : VIs (V1 m ρ) c G := by
  have a := W1_args m ρ c
  have h0 : V1 m ρ c main_arg0 = m ((c : Thread nD τ).loc main_arg0) := a main_arg0 (by decide)
  have h1 : V1 m ρ c main_arg1 = m ((c : Thread nD τ).loc main_arg1) := a main_arg1 (by decide)
  have h2 : V1 m ρ c main_arg2 = m ((c : Thread nD τ).loc main_arg2) := a main_arg2 (by decide)
  have h3 : V1 m ρ c main_arg3 = m ((c : Thread nD τ).loc main_arg3) := a main_arg3 (by decide)
  have h4 : V1 m ρ c main_arg4 = m ((c : Thread nD τ).loc main_arg4) := a main_arg4 (by decide)
  have h5 : V1 m ρ c main_arg5 = m ((c : Thread nD τ).loc main_arg5) := a main_arg5 (by decide)
  unfold VIs
  rw [h0, h1, h2, h3, h4, h5]
  exact H

theorem v1_states (H : MIs m c G) : HasStates (V1 m ρ) c G :=
  (W1_arr m ρ c 10).trans (arr_states (v0_is H))

/-- The contents of the kernel's ten result buffers. -/
theorem kernel_results (H : MIs m c G) (hnu : ∀ b h t d, (G b).nu h t d ≠ 0) :
    W2 m ρ c (Proc.devRef .tc main_v0_0) = oOut G ∧ W2 m ρ c (Proc.devRef .tc main_v1_0) = oDq G
    ∧ W2 m ρ c (Proc.devRef .tc main_v1_1) = oDk G ∧ W2 m ρ c (Proc.devRef .tc main_v1_2) = oDv G
    ∧ W2 m ρ c (Proc.devRef .tc main_v1_3) = oDg G ∧ W2 m ρ c (Proc.devRef .tc main_v1_4) = oDga G
    ∧ W2 m ρ c (Proc.devRef .tc main_v1_5) = oDlr G ∧ W2 m ρ c (Proc.devRef .tc main_v1_6) = oDw2 G
    ∧ W2 m ρ c (Proc.devRef .tc main_v1_7) = oDb G ∧ W2 m ρ c (Proc.devRef .tc main_v1_8) = oDgn G := by
  have A : VIs (V1 m ρ) c G := v1_is H
  have S : HasStates (V1 m ρ) c G := v1_states H
  exact ⟨(W2_of m ρ c main_v0_0 (by decide +kernel)).trans ((W1_arr m ρ c 9).trans (arr_mix (v0_is H))),
    (W2_arr m ρ c 11).trans (arr_Dq A S), (W2_arr m ρ c 12).trans (arr_Dk A S), (W2_arr m ρ c 13).trans (arr_Dv A S),
    (W2_arr m ρ c 14).trans (arr_Dg A S), (W2_arr m ρ c 15).trans (arr_Dga A S), (W2_arr m ρ c 16).trans (arr_Dlr A S hnu),
    (W2_arr m ρ c 17).trans (eq_oDw2 _ (arr_Dw2 A S hnu)), (W2_arr m ρ c 18).trans (eq_oDb _ (arr_Db A S hnu)),
    (W2_arr m ρ c 19).trans (eq_oDgn _ (arr_Dgn A S))⟩

end

/-! ## The reference's -/

theorem reference_results {V0 : Valuation Cert.ReferenceIdeal.τ Cert.ReferenceIdeal.sig (Elt Ideal)} {G : Fin 2 → GIn} (H : RefIs V0 G) :
    Cert.ReferenceIdeal.Gla.rOut V0 = oOut G ∧ Cert.ReferenceIdeal.Gla.rDq V0 = oDq G ∧ Cert.ReferenceIdeal.Gla.rDk V0 = oDk G
    ∧ Cert.ReferenceIdeal.Gla.rDv V0 = oDv G ∧ Cert.ReferenceIdeal.Gla.rDg V0 = oDg G ∧ Cert.ReferenceIdeal.Gla.rDga V0 = oDga G
    ∧ Cert.ReferenceIdeal.Gla.rDlr V0 = oDlr G ∧ Cert.ReferenceIdeal.Gla.rDw2 V0 = oDw2 G ∧ Cert.ReferenceIdeal.Gla.rDb V0 = oDb G
    ∧ Cert.ReferenceIdeal.Gla.rDgn V0 = oDgn G :=
  ⟨eq_rowsV _ _ (Cert.ReferenceIdeal.Gla.is_rOut H), eq_rowsK _ _ (Cert.ReferenceIdeal.Gla.is_rDq H),
    eq_rowsK _ _ (Cert.ReferenceIdeal.Gla.is_rDk H), eq_rowsV _ _ (Cert.ReferenceIdeal.Gla.is_rDv H),
    eq_rowsV _ _ (Cert.ReferenceIdeal.Gla.is_rDg H), eq_rowsV _ _ (Cert.ReferenceIdeal.Gla.is_rDga H),
    eq_rowsL _ _ (Cert.ReferenceIdeal.Gla.is_rDlr H), eq_oDw2 _ (Cert.ReferenceIdeal.Gla.is_rDw2 H),
    eq_oDb _ (Cert.ReferenceIdeal.Gla.is_rDb H), eq_oDgn _ (Cert.ReferenceIdeal.Gla.is_rDgn H)⟩

end Cert.KernelIdeal.Gla

end
-- ==== Proof.Blocks.lean ====
module

public import Mathlib.Algebra.BigOperators.Fin
public import Mathlib.Algebra.BigOperators.Intervals
public import Idealize.ShloMosaic.Lib.Pointwise

/-!
A product whose contracted axis is cut into blocks: a sum kept from one grid point to the next is the sum over the
blocks, and the sum over the blocks is the sum over the axis.
-/

@[expose] public section

noncomputable section

namespace Cert.Product

open Finset

/-- The start of a block that is a whole buffer. -/
theorem zeros : (![0, 0] : Fin 2 → Nat) = fun _ => 0 := funext fun a => by fin_cases a <;> rfl

/-- What is kept over a run of `K` points, started afresh at its first point, is the sum of the run's terms so far. -/
theorem kept_eq_sum {α : Type*} [AddCommMonoid α] {N K : ℕ} (hK : 0 < K) (s : (n : ℕ) → n < N → α) (p : ℕ → α)
    (first : ∀ n h, n % K = 0 → s n h = p n)
    (next : ∀ n (h : n < N), n % K ≠ 0 → s n h = s (n - 1) (Nat.lt_of_le_of_lt (Nat.sub_le _ _) h) + p n) (q : ℕ) :
    ∀ (k : ℕ) (hk : k < K) (h : q * K + k < N), s (q * K + k) h = ∑ j ∈ range (k + 1), p (q * K + j)
  | 0, _, h => by
    rw [first _ h (by simp), sum_range_one]
  | k + 1, hk, h => by
    have hm : (q * K + (k + 1)) % K ≠ 0 := by
      rw [Nat.add_comm, Nat.add_mul_mod_self_right, Nat.mod_eq_of_lt hk]; exact Nat.succ_ne_zero k
    rw [next _ h hm, sum_range_succ _ (k + 1)]
    congr 1
    exact kept_eq_sum hK s p first next q k (Nat.lt_of_succ_lt hk) _

/-- A sum over the blocks of an axis, and in a block over its places, is the sum over the axis. -/
theorem sum_blocks {α : Type*} [AddCommMonoid α] (B : ℕ) (f : ℕ → α) :
    ∀ K : ℕ, ∑ j ∈ range K, ∑ x : Fin B, f (j * B + x.val) = ∑ x : Fin (K * B), f x.val
  | 0 => by
    rw [← sum_range (fun x => f x), Nat.zero_mul]; rfl
  | K + 1 => by
    rw [sum_range_succ, sum_blocks B f K, ← sum_range (fun x => f x), ← sum_range (fun x => f (K * B + x)),
      ← sum_range (fun x => f x), Nat.succ_mul, sum_range_add]

/-- So what is kept over a run whose points go through the blocks of an axis of `T` places is, at its last point, the sum
    over the axis. -/
theorem run_eq_sum {N K B T : ℕ} (hK : 0 < K) (hT : K * B = T) (s P : (n : ℕ) → n < N → EReal) (f : Fin T → EReal)
    (first : ∀ n h, n % K = 0 → s n h = P n h)
    (next : ∀ n (h : n < N), n % K ≠ 0 → s n h = s (n - 1) (Nat.lt_of_le_of_lt (Nat.sub_le _ _) h) + P n h) (q : ℕ)
    (blocks : ∀ (k : ℕ) (hk : k < K) (h : q * K + k < N), P (q * K + k) h
      = ∑ x : Fin B, f ⟨k * B + x.val, hT ▸ (by nlinarith [x.isLt] : k * B + x.val < K * B)⟩)
    (n : ℕ) (h : n < N) (hn : n = q * K + (K - 1)) : s n h = ∑ κ : Fin T, f κ := by
  subst hT hn
  rw [kept_eq_sum hK s (fun n => if h : n < N then P n h else 0) (fun n h h0 => by rw [first n h h0, dif_pos h])
    (fun n h h0 => by rw [next n h h0, dif_pos h]) q (K - 1) (by omega) h, Nat.sub_add_cancel hK]
  rw [show (∑ κ, f κ) = ∑ κ : Fin (K * B), (fun n => if h : n < K * B then f ⟨n, h⟩ else 0) κ.val from
    sum_congr rfl fun κ _ => by dsimp only; rw [dif_pos κ.isLt]]
  refine Eq.trans ?_ (sum_blocks B (fun n => if h : n < K * B then f ⟨n, h⟩ else 0) K)
  refine sum_congr rfl fun k hk => ?_
  have hk := mem_range.mp hk
  have hN : q * K + k < N := lt_of_le_of_lt (by omega) h
  rw [dif_pos hN, blocks k hk hN]
  exact sum_congr rfl fun x _ => by rw [dif_pos]

/-- One entry of a product taken block by block. Point `n` of the grid is at block `n % K` of the contracted axis and at the
    tile in row `n / K / G` and column `n / K % G` of the result; it multiplies its two blocks `l` and `r`, and adds the
    product to what is kept, or starts with it at a run's first point. What is kept at the run's last point is then the
    entry of the product of the whole arrays `a` and `b`. -/
theorem tiled_product {N K B T G tm tn P Q : ℕ} (hK : 0 < K) (hT : K * B = T)
    (s : (n : ℕ) → n < N → Fin tm → Fin tn → EReal) (l : (n : ℕ) → n < N → Fin B → Fin tm → EReal)
    (r : (n : ℕ) → n < N → Fin B → Fin tn → EReal) (a : Fin T → Fin P → EReal) (b : Fin T → Fin Q → EReal)
    (first : ∀ n h, n % K = 0 → ∀ x y, s n h x y = ∑ k, l n h k x * r n h k y)
    (next : ∀ n (h : n < N), n % K ≠ 0 → ∀ x y,
      s n h x y = s (n - 1) (Nat.lt_of_le_of_lt (Nat.sub_le _ _) h) x y + ∑ k, l n h k x * r n h k y)
    (left : ∀ n h k x (κ : Fin T) (p : Fin P), κ.val = n % K * B + k.val → p.val = n / K / G * tm + x.val → l n h k x = a κ p)
    (right : ∀ n h k y (κ : Fin T) (q : Fin Q), κ.val = n % K * B + k.val → q.val = n / K % G * tn + y.val → r n h k y = b κ q)
    (p : Fin P) (q : Fin Q) (hq : q.val / tn < G) (n : ℕ) (h : n < N)
    (hn : n = (p.val / tm * G + q.val / tn) * K + (K - 1)) (x : Fin tm) (y : Fin tn) (hx : x.val = p.val % tm)
    (hy : y.val = q.val % tn) : s n h x y = ∑ κ, a κ p * b κ q := by
  refine run_eq_sum hK hT (fun n h => s n h x y) (fun n h => ∑ k, l n h k x * r n h k y) _ (fun n h e => first n h e x y)
    (fun n h e => next n h e x y) _ (fun k hk h => ?_) n h hn
  have e0 : ((p.val / tm * G + q.val / tn) * K + k) % K = k := by
    rw [Nat.add_comm, Nat.add_mul_mod_self_right, Nat.mod_eq_of_lt hk]
  have e1 : ((p.val / tm * G + q.val / tn) * K + k) / K = p.val / tm * G + q.val / tn := by
    rw [Nat.add_comm, Nat.add_mul_div_right _ _ hK, Nat.div_eq_of_lt hk, Nat.zero_add]
  have hG : 0 < G := Nat.lt_of_le_of_lt (Nat.zero_le _) hq
  refine sum_congr rfl fun j _ => ?_
  rw [left _ h j x ⟨k * B + j.val, _⟩ p (by rw [e0]) ?_, right _ h j y ⟨k * B + j.val, _⟩ q (by rw [e0]) ?_]
  · rw [e1, hy, Nat.add_comm (_ * G), Nat.add_mul_mod_self_right, Nat.mod_eq_of_lt hq]; exact (Nat.div_add_mod' ..).symm
  · rw [e1, hx, Nat.add_comm (_ * G), Nat.add_mul_div_right _ _ hG, Nat.div_eq_of_lt hq, Nat.zero_add]
    exact (Nat.div_add_mod' ..).symm

/-- Where column `n` of the projections lies among the rows of the stored weight, which has the 16 and the 32 rows of the
    gates between them. -/
def rowOf (n : ℕ) : ℕ := n + if n < 6144 then 0 else if n < 14336 then 16 else 48

theorem rowOf_lt {n : ℕ} (h : n < 18432) : rowOf n < 18480 := by unfold rowOf; split_ifs <;> omega

/-- A sum over the stored weight's rows whose terms vanish at the gates' rows is the sum over the projections' columns. -/
theorem sum_rows (f : Fin 18480 → EReal) (g : Fin 18432 → EReal) (hfg : ∀ n : Fin 18432, f ⟨rowOf n, rowOf_lt n.isLt⟩ = g n)
    (h0 : ∀ n : Fin 18480, (6144 ≤ n.val ∧ n.val < 6160) ∨ (14352 ≤ n.val ∧ n.val < 14384) → f n = 0) :
    ∑ n, f n = ∑ n, g n := by
  refine (sum_of_injOn (fun n : Fin 18432 => (⟨rowOf n, rowOf_lt n.isLt⟩ : Fin 18480)) ?_ (fun _ _ => mem_coe.mpr (mem_univ _)) ?_
    (fun n _ => (hfg n).symm)).symm
  · intro n _ k _ e
    have e := congrArg Fin.val e
    have hn := n.isLt
    have hk := k.isLt
    dsimp only [rowOf] at e
    apply Fin.ext
    split_ifs at e <;> omega
  · intro n _ hn
    refine h0 n ?_
    have hlt := n.isLt
    by_contra hc
    refine hn ?_
    simp only [coe_univ, Set.image_univ, Set.mem_range]
    rcases lt_or_ge n.val 6144 with h | h
    · exact ⟨⟨n.val, by omega⟩, Fin.ext (by dsimp only [rowOf]; split_ifs <;> omega)⟩
    rcases lt_or_ge n.val 14352 with h' | h'
    · exact ⟨⟨n.val - 16, by omega⟩, Fin.ext (by dsimp only [rowOf]; split_ifs <;> omega)⟩
    · exact ⟨⟨n.val - 48, by omega⟩, Fin.ext (by dsimp only [rowOf]; split_ifs <;> omega)⟩

end Cert.Product

end
-- ==== Proof.ValInProj.lean ====
module

public import proofs.«01_k».proof.Defs
public import proofs.«01_k».proof.Proof.Blocks
public import proofs.«01_k».proof.Proof.Gen.InProj
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The mixers' projections: one product over the 2048 columns of the model, with the stored weight's rows.
-/

@[expose] public section

set_option maxRecDepth 16384

noncomputable section

namespace Cert.InProjIdeal.Product

open Cert.InProjIdeal.Gen Cert.Product
open Idealize.ShloMosaic Idealize.ShloMosaic.TcCoe Idealize.ShloMosaic.Tactic Idealize.SL.Sem

theorem zeros : (![0, 0] : Fin 2 → Nat) = fun _ => 0 := funext fun a => by fin_cases a <;> rfl

variable (m : (ℓ : Loc nD τ sig) → Buf (Elt Ideal) ℓ) (c : Dev nD)

theorem index_of : ∀ t : Fin cfg0.N, win0_0.index t = ![t.val / 18, 0] ∧ win0_1.index t = ![rowOf (t.val % 18 * 1024), 0]
    ∧ win0_2.index t = ![t.val / 18, t.val % 18] := by decide +kernel

theorem product_at (x : Vec Ideal S1024x2048 .bf16) (y : Vec Ideal S1024x2048 .bf16) (i : S1024x1024.Idx) :
    k0_pay1 (F := Ideal) x y i = ∑ κ : Fin 2048, x (ix2 (i 0) κ) * y (ix2 (i 1) κ) := by
  unfold k0_pay1
  pointwise []

/-- The whole product, at an entry. -/
def entry (a : Vec Ideal S4096x2048 .bf16) (b : Vec Ideal S18480x2048 .bf16) (i : S4096x18432.Idx) : EReal :=
  ∑ κ : Fin 2048, a (ix2 (i 0) κ) * b (ix2 ⟨rowOf (i 1).val, rowOf_lt (i 1).isLt⟩ κ)

theorem value : (dats m 0 c).arrAt 2 cfg0.N
    = entry (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  rw [View.canon_unit_zero zeros, View.ld_unit_zero (S := S1024x2048) zeros, View.ld_unit_zero (S := S1024x2048) zeros]
  refine (product_at _ _ _).trans ?_
  unfold entry
  refine Finset.sum_congr rfl fun κ _ => ?_
  have e := index_of t
  have hy0 : (y 0).val < 1024 := (y 0).isLt
  have hy1 : (y 1).val < 1024 := (y 1).isLt
  have hN : t.val < 72 := t.isLt.trans_eq N_0
  congr 1
  · show iblk m c 0 _ _ = V m c main_arg0 _
    blk_ext [iblk, e]
  · show iblk m c 1 _ _ = V m c main_arg1 _
    have hrow : rowOf (t.val % 18 * 1024) + (y 1).val = rowOf (t.val % 18 * 1024 + (y 1).val) := by
      dsimp only [rowOf]
      split_ifs <;> omega
    blk_ext [iblk, e]
    · refine Eq.trans ?_ hrow
      show win0_1.index t 0 + 1 * (y 1).val = _
      rw [e.2.1, one_mul]; rfl
    · show win0_1.index t 1 + 1 * κ.val = _
      rw [e.2.1, one_mul]; exact Nat.zero_add _

/-- The whole product, with the gates' columns. -/
def whole (a : FVec Ideal S4096x2048 .bf16) (b : FVec Ideal S18480x2048 .bf16) : FVec Ideal Cert.InProjRefIdeal.S4096x18480 .f32 :=
  Host.dotGeneral Cert.InProjRefIdeal.dot_S4096x2048_S2048x18480_S4096x18480_1_0_0_1_n_n none
    (extf .f32 a Cert.InProjRefIdeal.Gen.bitsLt_bf16_f32) (transpose Cert.InProjRefIdeal.S2048x18480 [1, 0]
      (extf .f32 b Cert.InProjRefIdeal.Gen.bitsLt_bf16_f32) Cert.InProjRefIdeal.Gen.transposes_S18480x2048_S2048x18480_1_0)

theorem whole_at (a : FVec Ideal S4096x2048 .bf16) (b : FVec Ideal S18480x2048 .bf16) (r : Fin 4096) (n : Fin 18480) :
    whole a b (ix2 r n) = ∑ κ : Fin 2048, a (ix2 r κ) * b (ix2 n κ) := by
  unfold whole
  pointwise []

theorem reference_value (a : FVec Ideal S4096x2048 .bf16) (b : FVec Ideal S18480x2048 .bf16) (i : S4096x18432.Idx) :
    (concatenate Cert.InProjRefIdeal.S4096x18432 1
      [⟨Cert.InProjRefIdeal.S4096x6144, (extractStridedSlice Cert.InProjRefIdeal.S4096x6144 ![0, 0] (whole a b)
          Cert.InProjRefIdeal.Gen.slices_S4096x18480_S4096x6144_0_0 : FVec Ideal Cert.InProjRefIdeal.S4096x6144 .f32)⟩,
       ⟨Cert.InProjRefIdeal.S4096x8192, (extractStridedSlice Cert.InProjRefIdeal.S4096x8192 ![0, 6160] (whole a b)
          Cert.InProjRefIdeal.Gen.slices_S4096x18480_S4096x8192_0_6160 : FVec Ideal Cert.InProjRefIdeal.S4096x8192 .f32)⟩,
       ⟨Cert.InProjRefIdeal.S4096x4096, (extractStridedSlice Cert.InProjRefIdeal.S4096x4096 ![0, 14384] (whole a b)
          Cert.InProjRefIdeal.Gen.slices_S4096x18480_S4096x4096_0_14384 : FVec Ideal Cert.InProjRefIdeal.S4096x4096 .f32)⟩]
      Cert.InProjRefIdeal.Gen.concatenates_S4096x6144_S4096x8192_S4096x4096_S4096x18432_d1
      : FVec Ideal Cert.InProjRefIdeal.S4096x18432 .f32) i = entry a b i := by
  have hi : (i 1).val < 18432 := (i 1).isLt
  have at_row : ∀ n : Fin 18480, n.val = rowOf (i 1).val → whole a b (ix2 (i 0) n) = entry a b i := fun n h =>
    (whole_at a b (i 0) n).trans (by rw [show n = ⟨rowOf (i 1).val, rowOf_lt (i 1).isLt⟩ from Fin.ext h]; rfl)
  pointwise []
  rcases lt_or_ge (i 1).val 6144 with h | h
  · rw [dif_pos h]
    exact at_row _ (by show (i 1).val = rowOf _; dsimp only [rowOf]; rw [if_pos h]; rfl)
  rw [dif_neg (by omega)]
  rcases lt_or_ge (i 1).val 14336 with h' | h'
  · rw [dif_pos (by omega)]
    exact at_row _ (by show 6160 + ((i 1).val - 6144) = rowOf _; dsimp only [rowOf]; rw [if_neg (by omega), if_pos h']; omega)
  · rw [dif_neg (by omega)]
    exact at_row _ (by
      show 14384 + ((i 1).val - 6144 - 8192) = rowOf _; dsimp only [rowOf]; rw [if_neg (by omega), if_neg (by omega)]; omega)

theorem algebraic : Cert.algebraic_InProjIdeal_InProjRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (value m c), (h c).2⟩) (Value.run_blocks m g)
  · refine (θ_run Cert.InProjRefIdeal.defs _ _).mono (fun r h c => ⟨(h c).1.trans ?_, (h c).2⟩) (Cert.InProjRefIdeal.Value.run m' g')
    obtain ⟨a0, a1⟩ := hargs c
    rw [a0, a1]
    exact funext (reference_value _ _)

theorem frame_reference : Cert.quiescent_InProjRefIdeal := fun m ρ _ =>
  (θ_run Cert.InProjRefIdeal.defs _ _).mono (fun r h => ⟨fun c => (h c).2, sem_eq_zero_of_no_sems rfl _⟩) (Cert.InProjRefIdeal.Value.run m ρ)

theorem frame_kernelIdeal : Cert.quiescent_InProjIdeal := fun m ρ _ => Cert.InProjIdeal.Gen.frame m ρ

theorem frame_kernel : Cert.quiescent_InProj := by
  intro m ρ _
  refine Eq.mp ?_ (Cert.InProjIdeal.Gen.frame (F := Bits) m ρ)
  sl_kernel_rfl

end Cert.InProjIdeal.Product

end
-- ==== Proof.ValDown.lean ====
module

public import proofs.«01_k».proof.Defs
public import proofs.«01_k».proof.Proof.Blocks
public import proofs.«01_k».proof.Proof.Gen.Down
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The MLP's second product, added to its input: over 8192 hidden columns, taken 2048 at a time.
-/

@[expose] public section

set_option maxRecDepth 16384

noncomputable section

namespace Cert.DownIdeal.Product

open Cert.DownIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 a7 h7 p0 p1 p2) (x0 x1 x2) :
    sout0_A_0 (F := Ideal) c i a3 h3 a4 h4 a5 h5 a6 h6 a7 h7 p0 p1 p2 x0 x1 x2 = k0_pay1 x0 x1 := by
  unfold sout0_A_0
  rw [View.read_writes_eq_canon _ _ _ (scover0_A_0 c i a3 h3 a4 h4 a5 h5 a6 h6 a7 h7 p0 p1 p2 x0 x1 x2)]
  unfold kernelRun0_A
  dsimp only
  rw [View.canon_unit_zero zeros]
  simp only [View.readAt_eq_ld, h3.read_unread, h4.read_unread, View.ld_unit_zero (S := S1024x2048) zeros,
    View.ld_unit_zero (S := S2048x1024) zeros]

theorem left_B (i : grid0.Coords) (a3 h3 a4 h4 a5 h5 a6 h6 a7 h7 p0 p1 p2) (x0 x1 x2 xs) :
    sout0_B_0 (F := Ideal) c i a3 h3 a4 h4 a5 h5 a6 h6 a7 h7 p0 p1 p2 x0 x1 x2 xs = k0_pay2 xs x0 x1 := by
  unfold sout0_B_0
  rw [View.read_writes_eq_canon _ _ _ (scover0_B_0 c i a3 h3 a4 h4 a5 h5 a6 h6 a7 h7 p0 p1 p2 x0 x1 x2 xs)]
  unfold kernelRun0_B
  dsimp only
  rw [View.canon_unit_zero zeros]
  simp only [View.readAt_eq_ld, h3.read_unread, h4.read_unread, h7.read_unread,
    View.ld_unit_zero (S := S1024x2048) zeros, View.ld_unit_zero (S := S2048x1024) zeros,
    View.ld_unit_zero (S := S1024x1024) zeros]

theorem left_C (i : grid0.Coords) (a3 h3 a4 h4 a5 h5 a6 h6 a7 h7 p0 p1 p2) (x0 x1 x2 xs) :
    sout0_C_0 (F := Ideal) c i a3 h3 a4 h4 a5 h5 a6 h6 a7 h7 p0 p1 p2 x0 x1 x2 xs = k0_pay2 xs x0 x1 := by
  unfold sout0_C_0
  rw [View.read_writes_eq_canon _ _ _ (scover0_C_0 c i a3 h3 a4 h4 a5 h5 a6 h6 a7 h7 p0 p1 p2 x0 x1 x2 xs)]
  unfold kernelRun0_C
  dsimp only
  sl_unfold_words
  rw [View.canon_unit_zero zeros]
  simp only [View.readAt_eq_ld, h3.read_unread, h4.read_unread, h7.read_unread,
    View.ld_unit_zero (S := S1024x2048) zeros, View.ld_unit_zero (S := S2048x1024) zeros,
    View.ld_unit_zero (S := S1024x1024) zeros]

theorem written_C (i : grid0.Coords) (a3 h3 a4 h4 a5 h5 a6 h6 a7 h7 p0 p1 p2) (x0 x1 x2 xs) :
    out0_C_3 (F := Ideal) c i a3 h3 a4 h4 a5 h5 a6 h6 a7 h7 p0 p1 p2 x0 x1 x2 xs = k0_pay3 (k0_pay2 xs x0 x1) x2 := by
  unfold out0_C_3
  rw [View.read_writes_eq_canon _ _ _ (cover0_C_3 c i a3 h3 a4 h4 a5 h5 a6 h6 a7 h7 p0 p1 p2 x0 x1 x2 xs)]
  unfold kernelRun0_C
  dsimp only
  sl_unfold_words
  rw [View.canon_unit_zero zeros, View.readCov_unit_zero (S := S1024x1024) _ zeros]
  simp only [View.readAt_eq_ld, h3.read_unread, h4.read_unread, h5.read_unread, h7.read_unread,
    View.ld_unit_zero (S := S1024x2048) zeros, View.ld_unit_zero (S := S2048x1024) zeros, View.ld_unit_zero (S := S1024x1024) zeros]

/-- One point's product of its two blocks. -/
theorem product_at (x0 : Vec Ideal S1024x2048 .bf16) (x1 : Vec Ideal S2048x1024 .bf16) (y : S1024x1024.Idx) :
    k0_pay1 (F := Ideal) x0 x1 y = ∑ κ : Fin 2048, x0 (ix2 (y 0) κ) * x1 (ix2 κ (y 1)) := by
  unfold k0_pay1
  pointwise []

theorem added_at (xs) (x0 : Vec Ideal S1024x2048 .bf16) (x1 : Vec Ideal S2048x1024 .bf16) (y : S1024x1024.Idx) :
    k0_pay2 (F := Ideal) xs x0 x1 y = xs y + k0_pay1 (F := Ideal) x0 x1 y := by
  unfold k0_pay2 k0_pay1
  pointwise []

theorem finished_at (acc x : Vec Ideal S1024x1024 .f32) (y : S1024x1024.Idx) :
    k0_pay3 (F := Ideal) acc x y = x y + acc y := rfl

theorem index_of : ∀ t : Fin cfg0.N, win0_0.index t = ![t.val / 4 / 2, t.val % 4] ∧ win0_1.index t = ![t.val % 4, t.val / 4 % 2]
    ∧ win0_2.index t = ![t.val / 4 / 2, t.val / 4 % 2] :=
  (by decide +kernel : ∀ t : Fin grid0.N, win0_0.index t = ![t.val / 4 / 2, t.val % 4] ∧ win0_1.index t = ![t.val % 4, t.val / 4 % 2]
    ∧ win0_2.index t = ![t.val / 4 / 2, t.val / 4 % 2])

/-- What is kept at a run's first point, and at each of its later points. -/
theorem first_point (t : Fin cfg0.N) (h : t.val % 4 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 4 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  by_cases h3 : t.val % 4 = 3
  · rw [outsAt0_C m c t h (by omega) h3]
    dsimp only; rw [left_C]
  · rw [outsAt0_B m c t h (by omega) h3]
    dsimp only; rw [left_B]

theorem last_point (t : Fin cfg0.N) (h : t.val % 4 = 3) :
    (outsAt0 m c t.val t.isLt).1 = k0_pay3 (outsAt0 m c t.val t.isLt).2 (iblk m c 2 t) := by
  rw [outsAt0_C m c t (by omega) (by omega) h]
  dsimp only; rw [written_C, left_C]

/-- The whole product, at an entry. -/
def entry (a : Vec Ideal S4096x8192 .bf16) (b : Vec Ideal S8192x2048 .bf16) (x : Vec Ideal S4096x2048 .f32)
    (i : S4096x2048.Idx) : EReal :=
  x i + ∑ κ : Fin 8192, a (ix2 (i 0) κ) * b (ix2 κ (i 1))

theorem value (i : S4096x2048.Idx) : Value.G3 m c i
    = entry (m ((c : Thread nD τ).loc main_arg0)) (m ((c : Thread nD τ).loc main_arg1)) (m ((c : Thread nD τ).loc main_arg2)) i := by
  have h0 : (i 0).val < 4096 := (i 0).isLt
  have h1 : (i 1).val < 2048 := (i 1).isLt
  have hn : Value.pt3Of i = ((i 0).val / 1024 * 2 + (i 1).val / 1024) * 4 + (4 - 1) := by
    show 4 * (2 * ((i 0).val / 1024 - 0) + 1 * ((i 1).val / 1024 - 0)) + 3 = _; omega
  have hp : Value.pt3Of i < cfg0.N := by rw [show cfg0.N = 32 from N_0]; omega
  unfold Value.G3
  rw [dif_pos hp, ← Value.outsAt0_sweep, last_point m c ⟨Value.pt3Of i, hp⟩ (by dsimp only; omega)]
  rw [finished_at]
  unfold entry
  refine congrArg₂ (fun x y : EReal => x + y) ?_ ?_
  · have e := index_of ⟨Value.pt3Of i, hp⟩
    have e0 : Value.pt3Of i / 4 / 2 = (i 0).val / 1024 := by omega
    have e1 : Value.pt3Of i / 4 % 2 = (i 1).val / 1024 := by omega
    dsimp only at e
    rw [e0, e1] at e
    show iblk m c 2 _ _ = V m c main_arg2 _
    blk_ext [iblk, e]
  rw [show Value.loc3Of i = ix2 ⟨(i 0).val % 1024, Nat.mod_lt _ (by decide)⟩ ⟨(i 1).val % 1024, Nat.mod_lt _ (by decide)⟩ from
    funext fun d => by fin_cases d <;> rfl]
  refine tiled_product (K := 4) (B := 2048) (G := 2) (by decide) rfl (fun n h x y => (outsAt0 m c n h).2 (ix2 x y))
    (fun n h κ x => iblk m c 0 ⟨n, h⟩ (ix2 x κ)) (fun n h κ y => iblk m c 1 ⟨n, h⟩ (ix2 κ y))
    (fun κ p => m ((c : Thread nD τ).loc main_arg0) (ix2 p κ)) (fun κ q => m ((c : Thread nD τ).loc main_arg1) (ix2 κ q))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => ?_) (fun n h k y κ q hκ hq => ?_) (i 0) (i 1) (by omega) (Value.pt3Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    blk_ext [iblk, e, hκ, hq]
  · exact hp

/-- The reference's product, at an entry. -/
theorem reference_value (a : Vec Ideal S4096x8192 .bf16) (b : Vec Ideal S8192x2048 .bf16) (x : Vec Ideal S4096x2048 .f32)
    (i : S4096x2048.Idx) :
    addf x (Host.dotGeneral (F := Ideal) Cert.DownRefIdeal.dot_S4096x8192_S8192x2048_S4096x2048_1_0_0_1_n_n none
      (extf .f32 a Cert.DownRefIdeal.Gen.bitsLt_bf16_f32) (extf .f32 b Cert.DownRefIdeal.Gen.bitsLt_bf16_f32)) i = entry a b x i := by
  unfold entry
  pointwise []

theorem algebraic : Cert.algebraic_DownIdeal_DownRefIdeal := by
  intro m g m' g' _ hargs
  refine ⟨fun c => entry (m ((c.tc : Thread nD τ).loc main_arg0)) (m ((c.tc : Thread nD τ).loc main_arg1))
    (m ((c.tc : Thread nD τ).loc main_arg2)), ?_, ?_⟩
  · exact (θ_run defs _ _).mono (fun r h c => ⟨(h c).1.trans (funext (value m c)), (h c).2⟩) (Value.run m g)
  · refine (θ_run Cert.DownRefIdeal.defs _ _).mono (fun r h c => ⟨(h c).1.trans ?_, (h c).2⟩) (Cert.DownRefIdeal.Value.run m' g')
    obtain ⟨a0, a1, a2⟩ := hargs c
    rw [a0, a1, a2]
    exact funext (reference_value _ _ _)

theorem frame_reference : Cert.quiescent_DownRefIdeal := fun m ρ _ =>
  (θ_run Cert.DownRefIdeal.defs _ _).mono (fun r h => ⟨fun c => (h c).2, sem_eq_zero_of_no_sems rfl _⟩) (Cert.DownRefIdeal.Value.run m ρ)

theorem frame_kernelIdeal : Cert.quiescent_DownIdeal := fun m ρ _ => Cert.DownIdeal.Gen.frame m ρ

theorem frame_kernel : Cert.quiescent_Down := by
  intro m ρ _
  refine Eq.mp ?_ (Cert.DownIdeal.Gen.frame (F := Bits) m ρ)
  sl_kernel_rfl

end Cert.DownIdeal.Product

end
-- ==== Proof.ValDHMix.lean ====
module

public import proofs.«01_k».proof.Defs
public import proofs.«01_k».proof.Proof.Blocks
public import proofs.«01_k».proof.Proof.ValDown
public import proofs.«01_k».proof.Proof.Gen.DHMix
public import proofs.«01_k».proof.Proof.Gen.DHMixIdeal.Value
public import proofs.«01_k».proof.Proof.Gen.DHMixRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient entering the mixers, added to the gates' part of it: a product over the 18432 columns of the projections, taken
2048 at a time, with the stored weight's rows.
-/

@[expose] public section

set_option maxRecDepth 16384

noncomputable section

namespace Cert.DHMixIdeal.Product

open Cert.DHMixIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 a7 h7 p0 p1 p2) (x0 x1 x2) :
    sout0_A_0 (F := Ideal) c i a3 h3 a4 h4 a5 h5 a6 h6 a7 h7 p0 p1 p2 x0 x1 x2 = k0_pay1 x0 x1 := by
  unfold sout0_A_0
  rw [View.read_writes_eq_canon _ _ _ (scover0_A_0 c i a3 h3 a4 h4 a5 h5 a6 h6 a7 h7 p0 p1 p2 x0 x1 x2)]
  unfold kernelRun0_A
  dsimp only
  rw [View.canon_unit_zero zeros]
  simp only [View.readAt_eq_ld, h3.read_unread, h4.read_unread, View.ld_unit_zero (S := S1024x2048) zeros,
    View.ld_unit_zero (S := S2048x1024) zeros]

theorem left_B (i : grid0.Coords) (a3 h3 a4 h4 a5 h5 a6 h6 a7 h7 p0 p1 p2) (x0 x1 x2 xs) :
    sout0_B_0 (F := Ideal) c i a3 h3 a4 h4 a5 h5 a6 h6 a7 h7 p0 p1 p2 x0 x1 x2 xs = k0_pay2 xs x0 x1 := by
  unfold sout0_B_0
  rw [View.read_writes_eq_canon _ _ _ (scover0_B_0 c i a3 h3 a4 h4 a5 h5 a6 h6 a7 h7 p0 p1 p2 x0 x1 x2 xs)]
  unfold kernelRun0_B
  dsimp only
  rw [View.canon_unit_zero zeros]
  simp only [View.readAt_eq_ld, h3.read_unread, h4.read_unread, h7.read_unread,
    View.ld_unit_zero (S := S1024x2048) zeros, View.ld_unit_zero (S := S2048x1024) zeros,
    View.ld_unit_zero (S := S1024x1024) zeros]

theorem left_C (i : grid0.Coords) (a3 h3 a4 h4 a5 h5 a6 h6 a7 h7 p0 p1 p2) (x0 x1 x2 xs) :
    sout0_C_0 (F := Ideal) c i a3 h3 a4 h4 a5 h5 a6 h6 a7 h7 p0 p1 p2 x0 x1 x2 xs = k0_pay2 xs x0 x1 := by
  unfold sout0_C_0
  rw [View.read_writes_eq_canon _ _ _ (scover0_C_0 c i a3 h3 a4 h4 a5 h5 a6 h6 a7 h7 p0 p1 p2 x0 x1 x2 xs)]
  unfold kernelRun0_C
  dsimp only
  sl_unfold_words
  rw [View.canon_unit_zero zeros]
  simp only [View.readAt_eq_ld, h3.read_unread, h4.read_unread, h7.read_unread,
    View.ld_unit_zero (S := S1024x2048) zeros, View.ld_unit_zero (S := S2048x1024) zeros,
    View.ld_unit_zero (S := S1024x1024) zeros]

theorem written_C (i : grid0.Coords) (a3 h3 a4 h4 a5 h5 a6 h6 a7 h7 p0 p1 p2) (x0 x1 x2 xs) :
    out0_C_3 (F := Ideal) c i a3 h3 a4 h4 a5 h5 a6 h6 a7 h7 p0 p1 p2 x0 x1 x2 xs = k0_pay3 (k0_pay2 xs x0 x1) x2 := by
  unfold out0_C_3
  rw [View.read_writes_eq_canon _ _ _ (cover0_C_3 c i a3 h3 a4 h4 a5 h5 a6 h6 a7 h7 p0 p1 p2 x0 x1 x2 xs)]
  unfold kernelRun0_C
  dsimp only
  sl_unfold_words
  rw [View.canon_unit_zero zeros, View.readCov_unit_zero (S := S1024x1024) _ zeros]
  simp only [View.readAt_eq_ld, h3.read_unread, h4.read_unread, h5.read_unread, h7.read_unread,
    View.ld_unit_zero (S := S1024x2048) zeros, View.ld_unit_zero (S := S2048x1024) zeros, View.ld_unit_zero (S := S1024x1024) zeros]

/-- One point's product of its two blocks. -/
theorem product_at (x0 : Vec Ideal S1024x2048 .bf16) (x1 : Vec Ideal S2048x1024 .bf16) (y : S1024x1024.Idx) :
    k0_pay1 (F := Ideal) x0 x1 y = ∑ κ : Fin 2048, x0 (ix2 (y 0) κ) * x1 (ix2 κ (y 1)) :=
  Cert.DownIdeal.Product.product_at x0 x1 y

theorem added_at (xs) (x0 : Vec Ideal S1024x2048 .bf16) (x1 : Vec Ideal S2048x1024 .bf16) (y : S1024x1024.Idx) :
    k0_pay2 (F := Ideal) xs x0 x1 y = xs y + k0_pay1 (F := Ideal) x0 x1 y :=
  Cert.DownIdeal.Product.added_at xs x0 x1 y

theorem finished_at (acc x : Vec Ideal S1024x1024 .f32) (y : S1024x1024.Idx) :
    k0_pay3 (F := Ideal) acc x y = x y + acc y := rfl

theorem index_of : ∀ t : Fin cfg0.N, win0_0.index t = ![t.val / 9 / 2, t.val % 9]
    ∧ win0_1.index t = ![rowOf (t.val % 9 * 2048), t.val / 9 % 2 * 1024]
    ∧ win0_2.index t = ![t.val / 9 / 2, t.val / 9 % 2] :=
  (by decide +kernel : ∀ t : Fin grid0.N, win0_0.index t = ![t.val / 9 / 2, t.val % 9]
    ∧ win0_1.index t = ![rowOf (t.val % 9 * 2048), t.val / 9 % 2 * 1024]
    ∧ win0_2.index t = ![t.val / 9 / 2, t.val / 9 % 2])

/-- What is kept at a run's first point, and at each of its later points. -/
theorem first_point (t : Fin cfg0.N) (h : t.val % 9 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 9 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  by_cases h3 : t.val % 9 = 8
  · rw [outsAt0_C m c t h (by omega) h3]
    dsimp only; rw [left_C]
  · rw [outsAt0_B m c t h (by omega) h3]
    dsimp only; rw [left_B]

theorem last_point (t : Fin cfg0.N) (h : t.val % 9 = 8) :
    (outsAt0 m c t.val t.isLt).1 = k0_pay3 (outsAt0 m c t.val t.isLt).2 (iblk m c 2 t) := by
  rw [outsAt0_C m c t (by omega) (by omega) h]
  dsimp only; rw [written_C, left_C]

/-- The whole product, at an entry. -/
def entry (a : Vec Ideal S4096x18432 .bf16) (b : Vec Ideal S18480x2048 .bf16) (x : Vec Ideal S4096x2048 .f32)
    (i : S4096x2048.Idx) : EReal :=
  x i + ∑ κ : Fin 18432, a (ix2 (i 0) κ) * b (ix2 ⟨rowOf κ, rowOf_lt κ.isLt⟩ (i 1))

theorem value (i : S4096x2048.Idx) : Value.G3 m c i
    = entry (m ((c : Thread nD τ).loc main_arg0)) (m ((c : Thread nD τ).loc main_arg1)) (m ((c : Thread nD τ).loc main_arg2)) i := by
  have h0 : (i 0).val < 4096 := (i 0).isLt
  have h1 : (i 1).val < 2048 := (i 1).isLt
  have hn : Value.pt3Of i = ((i 0).val / 1024 * 2 + (i 1).val / 1024) * 9 + (9 - 1) := by
    show 9 * (2 * ((i 0).val / 1024 - 0) + 1 * ((i 1).val / 1024 - 0)) + 8 = _; omega
  have hp : Value.pt3Of i < cfg0.N := by rw [show cfg0.N = 72 from N_0]; omega
  unfold Value.G3
  rw [dif_pos hp, ← Value.outsAt0_sweep, last_point m c ⟨Value.pt3Of i, hp⟩ (by dsimp only; omega)]
  rw [finished_at]
  unfold entry
  refine congrArg₂ (fun x y : EReal => x + y) ?_ ?_
  · have e := index_of ⟨Value.pt3Of i, hp⟩
    have e0 : Value.pt3Of i / 9 / 2 = (i 0).val / 1024 := by omega
    have e1 : Value.pt3Of i / 9 % 2 = (i 1).val / 1024 := by omega
    dsimp only at e
    rw [e0, e1] at e
    show iblk m c 2 _ _ = V m c main_arg2 _
    blk_ext [iblk, e]
  rw [show Value.loc3Of i = ix2 ⟨(i 0).val % 1024, Nat.mod_lt _ (by decide)⟩ ⟨(i 1).val % 1024, Nat.mod_lt _ (by decide)⟩ from
    funext fun d => by fin_cases d <;> rfl]
  refine tiled_product (K := 9) (B := 2048) (G := 2) (by decide) rfl (fun n h x y => (outsAt0 m c n h).2 (ix2 x y))
    (fun n h κ x => iblk m c 0 ⟨n, h⟩ (ix2 x κ)) (fun n h κ y => iblk m c 1 ⟨n, h⟩ (ix2 κ y))
    (fun κ p => m ((c : Thread nD τ).loc main_arg0) (ix2 p κ))
    (fun κ q => m ((c : Thread nD τ).loc main_arg1) (ix2 ⟨rowOf κ, rowOf_lt κ.isLt⟩ q))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => ?_) (fun n h k y κ q hκ hq => ?_) (i 0) (i 1) (by omega) (Value.pt3Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    have hrow : rowOf (n % 9 * 2048) + k.val = rowOf κ := by
      have hk : k.val < 2048 := k.isLt
      rw [hκ]
      dsimp only [rowOf]
      split_ifs <;> omega
    blk_ext [iblk, e]
    · refine Eq.trans ?_ hrow
      show win0_1.index ⟨n, h⟩ 0 + 1 * k.val = _
      rw [e.2.1, one_mul]; rfl
    · show win0_1.index ⟨n, h⟩ 1 + 1 * y.val = _
      rw [e.2.1, one_mul]; exact hq.symm
  · exact hp

/-- The gradient of the projections on the columns of the whole product, zero on those of the gates. -/
def widened (a : FVec Ideal S4096x18432 .bf16) : FVec Ideal Cert.DHMixRefIdeal.S4096x18480 .f32 :=
  addf (addf
    (pad _ ![0, 14384] ![0, 0] ![0, 0] (extractStridedSlice Cert.DHMixRefIdeal.S4096x4096 ![0, 14336]
      (extf .f32 a Cert.DHMixRefIdeal.Gen.bitsLt_bf16_f32) Cert.DHMixRefIdeal.Gen.slices_S4096x18432_S4096x4096_0_14336)
      (constant Cert.DHMixRefIdeal.S_ .f32 0x00000000#32) Cert.DHMixRefIdeal.Gen.pads_S4096x4096_S4096x18480_000_1438400
      Cert.DHMixRefIdeal.Gen.h_S_)
    (pad _ ![0, 6160] ![0, 4128] ![0, 0] (extractStridedSlice Cert.DHMixRefIdeal.S4096x8192 ![0, 6144]
      (extf .f32 a Cert.DHMixRefIdeal.Gen.bitsLt_bf16_f32) Cert.DHMixRefIdeal.Gen.slices_S4096x18432_S4096x8192_0_6144)
      (constant Cert.DHMixRefIdeal.S_ .f32 0x00000000#32) Cert.DHMixRefIdeal.Gen.pads_S4096x8192_S4096x18480_000_616041280
      Cert.DHMixRefIdeal.Gen.h_S_))
    (pad _ ![0, 0] ![0, 12336] ![0, 0] (extractStridedSlice Cert.DHMixRefIdeal.S4096x6144 ![0, 0]
      (extf .f32 a Cert.DHMixRefIdeal.Gen.bitsLt_bf16_f32) Cert.DHMixRefIdeal.Gen.slices_S4096x18432_S4096x6144_0_0)
      (constant Cert.DHMixRefIdeal.S_ .f32 0x00000000#32) Cert.DHMixRefIdeal.Gen.pads_S4096x6144_S4096x18480_000_0123360
      Cert.DHMixRefIdeal.Gen.h_S_)

theorem widened_rowOf (a : FVec Ideal S4096x18432 .bf16) (r : Fin 4096) (n : Fin 18432) :
    widened a (ix2 r ⟨rowOf n, rowOf_lt n.isLt⟩) = a (ix2 r n) := by
  have hn := n.isLt
  unfold widened
  pointwise []
  rcases lt_or_ge n.val 6144 with h | h
  · have e : rowOf n = n := by dsimp only [rowOf]; rw [if_pos h]; rfl
    rw [dif_neg (by omega), dif_neg (by omega), dif_pos (by omega), zero_add, zero_add]
    exact congrArg a (congrArg (ix2 r) (Fin.ext e))
  rcases lt_or_ge n.val 14336 with h' | h'
  · have e : rowOf n = n + 16 := by dsimp only [rowOf]; rw [if_neg (by omega), if_pos h']
    rw [dif_neg (by omega), dif_pos (by omega), dif_neg (by omega), zero_add, add_zero]
    exact congrArg a (congrArg (ix2 r) (Fin.ext (by show 6144 + (rowOf n - 6160) = n.val; omega)))
  · have e : rowOf n = n + 48 := by dsimp only [rowOf]; rw [if_neg (by omega), if_neg (by omega)]
    rw [dif_pos (by omega), dif_neg (by omega), dif_neg (by omega), add_zero, add_zero]
    exact congrArg a (congrArg (ix2 r) (Fin.ext (by show 14336 + (rowOf n - 14384) = n.val; omega)))

theorem widened_gate (a : FVec Ideal S4096x18432 .bf16) (r : Fin 4096) (n : Fin 18480)
    (h : (6144 ≤ n.val ∧ n.val < 6160) ∨ (14352 ≤ n.val ∧ n.val < 14384)) : widened a (ix2 r n) = 0 := by
  unfold widened
  pointwise []
  rw [dif_neg (by omega), dif_neg (by omega), dif_neg (by omega), add_zero, add_zero]

/-- The reference's product, at an entry. -/
theorem reference_value (a : Vec Ideal S4096x18432 .bf16) (b : Vec Ideal S18480x2048 .bf16) (x : Vec Ideal S4096x2048 .f32)
    (i : S4096x2048.Idx) :
    addf x (Host.dotGeneral (F := Ideal) Cert.DHMixRefIdeal.dot_S4096x18480_S2048x18480_S4096x2048_1_1_0_0_n_n none
      (widened a) (transpose Cert.DHMixRefIdeal.S2048x18480 [1, 0] (extf .f32 b Cert.DHMixRefIdeal.Gen.bitsLt_bf16_f32)
        Cert.DHMixRefIdeal.Gen.transposes_S18480x2048_S2048x18480_1_0)) i = entry a b x i := by
  unfold entry
  pointwise []
  refine congrArg (x i + ·) (sum_rows _ _ (fun n => ?_) (fun n h => ?_))
  · exact congrArg (fun y : EReal => y * b (ix2 ⟨rowOf n, rowOf_lt n.isLt⟩ (i 1))) (widened_rowOf a (i 0) n)
  · exact (congrArg (fun y : EReal => y * b (ix2 n (i 1))) (widened_gate a (i 0) n h)).trans (zero_mul _)

theorem algebraic : Cert.algebraic_DHMixIdeal_DHMixRefIdeal := by
  intro m g m' g' _ hargs
  refine ⟨fun c => entry (m ((c.tc : Thread nD τ).loc main_arg0)) (m ((c.tc : Thread nD τ).loc main_arg1))
    (m ((c.tc : Thread nD τ).loc main_arg2)), ?_, ?_⟩
  · exact (θ_run defs _ _).mono (fun r h c => ⟨(h c).1.trans (funext (value m c)), (h c).2⟩) (Value.run m g)
  · refine (θ_run Cert.DHMixRefIdeal.defs _ _).mono (fun r h c => ⟨(h c).1.trans ?_, (h c).2⟩) (Cert.DHMixRefIdeal.Value.run m' g')
    obtain ⟨a0, a1, a2⟩ := hargs c
    rw [a0, a1, a2]
    exact funext (reference_value _ _ _)

theorem frame_reference : Cert.quiescent_DHMixRefIdeal := fun m ρ _ =>
  (θ_run Cert.DHMixRefIdeal.defs _ _).mono (fun r h => ⟨fun c => (h c).2, sem_eq_zero_of_no_sems rfl _⟩) (Cert.DHMixRefIdeal.Value.run m ρ)

theorem frame_kernelIdeal : Cert.quiescent_DHMixIdeal := fun m ρ _ => Cert.DHMixIdeal.Gen.frame m ρ

theorem frame_kernel : Cert.quiescent_DHMix := by
  intro m ρ _
  refine Eq.mp ?_ (Cert.DHMixIdeal.Gen.frame (F := Bits) m ρ)
  sl_kernel_rfl

end Cert.DHMixIdeal.Product

end
-- ==== Proof.ValDWDown.lean ====
module

public import proofs.«01_k».proof.Defs
public import proofs.«01_k».proof.Proof.Blocks
public import proofs.«01_k».proof.Proof.Gen.DWDown
public import proofs.«01_k».proof.Proof.Gen.DWDownIdeal.Value
public import proofs.«01_k».proof.Proof.Gen.DWDownRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient of the MLP's second weight: a product over 4096 tokens, taken 2048 at a time.
-/

@[expose] public section

set_option maxRecDepth 16384

noncomputable section

namespace Cert.DWDownIdeal.Product

open Cert.DWDownIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 p0 p1 p2) (x0 x1) :
    sout0_A_0 (F := Ideal) c i a3 h3 a4 h4 a5 h5 a6 h6 p0 p1 p2 x0 x1 = k0_pay1 x0 x1 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  simp only [View.readAt_eq_ld, h3.read_unread, h4.read_unread, View.ld_unit_zero (S := S2048x1024) zeros]

theorem left_B (i : grid0.Coords) (a3 h3 a4 h4 a5 h5 a6 h6 p0 p1 p2) (x0 x1 xs) :
    sout0_B_0 (F := Ideal) c i a3 h3 a4 h4 a5 h5 a6 h6 p0 p1 p2 x0 x1 xs = k0_pay2 xs x0 x1 := by
  unfold sout0_B_0
  rw [View.read_writes_eq_canon _ _ _ (scover0_B_0 c i a3 h3 a4 h4 a5 h5 a6 h6 p0 p1 p2 x0 x1 xs)]
  unfold kernelRun0_B
  dsimp only
  sl_unfold_words
  rw [View.canon_unit_zero zeros]
  simp only [View.readAt_eq_ld, h3.read_unread, h4.read_unread, h6.read_unread,
    View.ld_unit_zero (S := S2048x1024) zeros, View.ld_unit_zero (S := S1024x1024) zeros]

theorem written_B (i : grid0.Coords) (a3 h3 a4 h4 a5 h5 a6 h6 p0 p1 p2) (x0 x1 xs) :
    out0_B_2 (F := Ideal) c i a3 h3 a4 h4 a5 h5 a6 h6 p0 p1 p2 x0 x1 xs = k0_pay3 (k0_pay2 xs x0 x1) := by
  unfold out0_B_2
  rw [View.read_writes_eq_canon _ _ _ (cover0_B_2 c i a3 h3 a4 h4 a5 h5 a6 h6 p0 p1 p2 x0 x1 xs)]
  unfold kernelRun0_B
  dsimp only
  sl_unfold_words
  rw [View.canon_unit_zero zeros, View.readCov_unit_zero (S := S1024x1024) _ zeros]
  simp only [View.readAt_eq_ld, h3.read_unread, h4.read_unread, h6.read_unread,
    View.ld_unit_zero (S := S2048x1024) zeros, View.ld_unit_zero (S := S1024x1024) zeros]

/-- One point's product of its two blocks. -/
theorem product_at (x0 x1 : Vec Ideal S2048x1024 .bf16) (y : S1024x1024.Idx) :
    k0_pay1 (F := Ideal) x0 x1 y = ∑ κ : Fin 2048, x0 (ix2 κ (y 0)) * x1 (ix2 κ (y 1)) := by
  unfold k0_pay1
  pointwise []

theorem added_at (xs) (x0 x1 : Vec Ideal S2048x1024 .bf16) (y : S1024x1024.Idx) :
    k0_pay2 (F := Ideal) xs x0 x1 y = xs y + k0_pay1 (F := Ideal) x0 x1 y := by
  unfold k0_pay2 k0_pay1
  pointwise []

theorem index_of : ∀ t : Fin cfg0.N, win0_0.index t = ![t.val % 2, t.val / 2 / 2] ∧ win0_1.index t = ![t.val % 2, t.val / 2 % 2] :=
  (by decide +kernel : ∀ t : Fin grid0.N, win0_0.index t = ![t.val % 2, t.val / 2 / 2] ∧ win0_1.index t = ![t.val % 2, t.val / 2 % 2])

/-- What is kept at a run's first point, and at each of its later points. -/
theorem first_point (t : Fin cfg0.N) (h : t.val % 2 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 2 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h (by omega) (by omega)]
  dsimp only; rw [left_B]

theorem last_point (t : Fin cfg0.N) (h : t.val % 2 = 1) :
    (outsAt0 m c t.val t.isLt).1 = k0_pay3 (outsAt0 m c t.val t.isLt).2 := by
  rw [outsAt0_B m c t (by omega) h h]
  dsimp only; rw [written_B, left_B]

/-- The whole product, at an entry. -/
def entry (a : Vec Ideal S4096x8192 .bf16) (b : Vec Ideal S4096x2048 .bf16) (i : S8192x2048.Idx) : EReal :=
  ∑ κ : Fin 4096, a (ix2 κ (i 0)) * b (ix2 κ (i 1))

theorem value (i : S8192x2048.Idx) : Value.G2 m c i
    = entry (m ((c : Thread nD τ).loc main_arg0)) (m ((c : Thread nD τ).loc main_arg1)) i := by
  have h0 : (i 0).val < 8192 := (i 0).isLt
  have h1 : (i 1).val < 2048 := (i 1).isLt
  have hn : Value.pt2Of i = ((i 0).val / 1024 * 2 + (i 1).val / 1024) * 2 + (2 - 1) := by
    show 2 * (2 * ((i 0).val / 1024 - 0) + 1 * ((i 1).val / 1024 - 0)) + 1 = _; omega
  have hp : Value.pt2Of i < cfg0.N := by rw [show cfg0.N = 32 from N_0]; omega
  unfold Value.G2
  rw [dif_pos hp, ← Value.outsAt0_sweep, last_point m c ⟨Value.pt2Of i, hp⟩ (by dsimp only; omega)]
  rw [show Value.loc2Of i = ix2 ⟨(i 0).val % 1024, Nat.mod_lt _ (by decide)⟩ ⟨(i 1).val % 1024, Nat.mod_lt _ (by decide)⟩ from
    funext fun d => by fin_cases d <;> rfl]
  refine tiled_product (K := 2) (B := 2048) (G := 2) (by decide) rfl (fun n h x y => (outsAt0 m c n h).2 (ix2 x y))
    (fun n h κ x => iblk m c 0 ⟨n, h⟩ (ix2 κ x)) (fun n h κ y => iblk m c 1 ⟨n, h⟩ (ix2 κ y))
    (fun κ p => m ((c : Thread nD τ).loc main_arg0) (ix2 κ p)) (fun κ q => m ((c : Thread nD τ).loc main_arg1) (ix2 κ q))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => by
      have e := index_of ⟨n, h⟩
      show iblk m c 0 _ _ = V m c main_arg0 _
      blk_ext [iblk, e, hκ, hp])
    (fun n h k y κ q hκ hq => by
      have e := index_of ⟨n, h⟩
      show iblk m c 1 _ _ = V m c main_arg1 _
      blk_ext [iblk, e, hκ, hq])
    (i 0) (i 1) (by omega) (Value.pt2Of i) hp hn _ _ rfl rfl
  exact hp

/-- The reference's product, at an entry. -/
theorem reference_value (a : Vec Ideal S4096x8192 .bf16) (b : Vec Ideal S4096x2048 .bf16) (i : S8192x2048.Idx) :
    truncf .bf16 (transpose S8192x2048 [1, 0] (Host.dotGeneral (F := Ideal) Cert.DWDownRefIdeal.dot_S4096x2048_S4096x8192_S2048x8192_0_0_1_1_n_n none (extf .f32 b Cert.DWDownRefIdeal.Gen.bitsLt_bf16_f32) (extf .f32 a Cert.DWDownRefIdeal.Gen.bitsLt_bf16_f32))
      Cert.DWDownRefIdeal.Gen.transposes_S2048x8192_S8192x2048_1_0) Cert.DWDownRefIdeal.Gen.bitsLt_bf16_f32 i = entry a b i := by
  unfold entry
  pointwise []
  exact Finset.sum_congr rfl fun _ _ => mul_comm _ _

theorem algebraic : Cert.algebraic_DWDownIdeal_DWDownRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (funext (value m c)), (h c).2⟩) (Value.run m g)
  · refine (θ_run Cert.DWDownRefIdeal.defs _ _).mono (fun r h c => ⟨(h c).1.trans ?_, (h c).2⟩) (Cert.DWDownRefIdeal.Value.run m' g')
    obtain ⟨a0, a1⟩ := hargs c
    rw [a0, a1]
    exact funext (reference_value _ _)

theorem frame_reference : Cert.quiescent_DWDownRefIdeal := fun m ρ _ =>
  (θ_run Cert.DWDownRefIdeal.defs _ _).mono (fun r h => ⟨fun c => (h c).2, sem_eq_zero_of_no_sems rfl _⟩) (Cert.DWDownRefIdeal.Value.run m ρ)

theorem frame_kernelIdeal : Cert.quiescent_DWDownIdeal := fun m ρ _ => Cert.DWDownIdeal.Gen.frame m ρ

theorem frame_kernel : Cert.quiescent_DWDown := by
  intro m ρ _
  refine Eq.mp ?_ (Cert.DWDownIdeal.Gen.frame (F := Bits) m ρ)
  sl_kernel_rfl

end Cert.DWDownIdeal.Product

end
-- ==== Proof.ValDWIn.lean ====
module

public import proofs.«01_k».proof.Defs
public import proofs.«01_k».proof.Proof.Blocks
public import proofs.«01_k».proof.Proof.ValDWDown
public import proofs.«01_k».proof.Proof.Gen.DWIn
public import proofs.«01_k».proof.Proof.Gen.DWInIdeal.Value
public import proofs.«01_k».proof.Proof.Gen.DWInRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient of the projections' weight: a product over 4096 tokens, taken 2048 at a time.
-/

@[expose] public section

set_option maxRecDepth 16384

noncomputable section

namespace Cert.DWInIdeal.Product

open Cert.DWInIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 p0 p1 p2) (x0 x1) :
    sout0_A_0 (F := Ideal) c i a3 h3 a4 h4 a5 h5 a6 h6 p0 p1 p2 x0 x1 = k0_pay1 x0 x1 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  simp only [View.readAt_eq_ld, h3.read_unread, h4.read_unread, View.ld_unit_zero (S := S2048x1024) zeros]

theorem left_B (i : grid0.Coords) (a3 h3 a4 h4 a5 h5 a6 h6 p0 p1 p2) (x0 x1 xs) :
    sout0_B_0 (F := Ideal) c i a3 h3 a4 h4 a5 h5 a6 h6 p0 p1 p2 x0 x1 xs = k0_pay2 xs x0 x1 := by
  unfold sout0_B_0
  rw [View.read_writes_eq_canon _ _ _ (scover0_B_0 c i a3 h3 a4 h4 a5 h5 a6 h6 p0 p1 p2 x0 x1 xs)]
  unfold kernelRun0_B
  dsimp only
  sl_unfold_words
  rw [View.canon_unit_zero zeros]
  simp only [View.readAt_eq_ld, h3.read_unread, h4.read_unread, h6.read_unread,
    View.ld_unit_zero (S := S2048x1024) zeros, View.ld_unit_zero (S := S1024x1024) zeros]

theorem written_B (i : grid0.Coords) (a3 h3 a4 h4 a5 h5 a6 h6 p0 p1 p2) (x0 x1 xs) :
    out0_B_2 (F := Ideal) c i a3 h3 a4 h4 a5 h5 a6 h6 p0 p1 p2 x0 x1 xs = k0_pay3 (k0_pay2 xs x0 x1) := by
  unfold out0_B_2
  rw [View.read_writes_eq_canon _ _ _ (cover0_B_2 c i a3 h3 a4 h4 a5 h5 a6 h6 p0 p1 p2 x0 x1 xs)]
  unfold kernelRun0_B
  dsimp only
  sl_unfold_words
  rw [View.canon_unit_zero zeros, View.readCov_unit_zero (S := S1024x1024) _ zeros]
  simp only [View.readAt_eq_ld, h3.read_unread, h4.read_unread, h6.read_unread,
    View.ld_unit_zero (S := S2048x1024) zeros, View.ld_unit_zero (S := S1024x1024) zeros]

/-- One point's product of its two blocks. -/
theorem product_at (x0 x1 : Vec Ideal S2048x1024 .bf16) (y : S1024x1024.Idx) :
    k0_pay1 (F := Ideal) x0 x1 y = ∑ κ : Fin 2048, x0 (ix2 κ (y 0)) * x1 (ix2 κ (y 1)) :=
  Cert.DWDownIdeal.Product.product_at x0 x1 y

theorem added_at (xs) (x0 x1 : Vec Ideal S2048x1024 .bf16) (y : S1024x1024.Idx) :
    k0_pay2 (F := Ideal) xs x0 x1 y = xs y + k0_pay1 (F := Ideal) x0 x1 y :=
  Cert.DWDownIdeal.Product.added_at xs x0 x1 y

theorem index_of : ∀ t : Fin cfg0.N, win0_0.index t = ![t.val % 2, t.val / 2 / 2] ∧ win0_1.index t = ![t.val % 2, t.val / 2 % 2] :=
  (by decide +kernel : ∀ t : Fin grid0.N, win0_0.index t = ![t.val % 2, t.val / 2 / 2] ∧ win0_1.index t = ![t.val % 2, t.val / 2 % 2])

/-- What is kept at a run's first point, and at each of its later points. -/
theorem first_point (t : Fin cfg0.N) (h : t.val % 2 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 2 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h (by omega) (by omega)]
  dsimp only; rw [left_B]

theorem last_point (t : Fin cfg0.N) (h : t.val % 2 = 1) :
    (outsAt0 m c t.val t.isLt).1 = k0_pay3 (outsAt0 m c t.val t.isLt).2 := by
  rw [outsAt0_B m c t (by omega) h h]
  dsimp only; rw [written_B, left_B]

/-- The whole product, at an entry. -/
def entry (a : Vec Ideal S4096x18432 .bf16) (b : Vec Ideal S4096x2048 .bf16) (i : S18432x2048.Idx) : EReal :=
  ∑ κ : Fin 4096, a (ix2 κ (i 0)) * b (ix2 κ (i 1))

theorem value (i : S18432x2048.Idx) : Value.G2 m c i
    = entry (m ((c : Thread nD τ).loc main_arg0)) (m ((c : Thread nD τ).loc main_arg1)) i := by
  have h0 : (i 0).val < 18432 := (i 0).isLt
  have h1 : (i 1).val < 2048 := (i 1).isLt
  have hn : Value.pt2Of i = ((i 0).val / 1024 * 2 + (i 1).val / 1024) * 2 + (2 - 1) := by
    show 2 * (2 * ((i 0).val / 1024 - 0) + 1 * ((i 1).val / 1024 - 0)) + 1 = _; omega
  have hp : Value.pt2Of i < cfg0.N := by rw [show cfg0.N = 72 from N_0]; omega
  unfold Value.G2
  rw [dif_pos hp, ← Value.outsAt0_sweep, last_point m c ⟨Value.pt2Of i, hp⟩ (by dsimp only; omega)]
  rw [show Value.loc2Of i = ix2 ⟨(i 0).val % 1024, Nat.mod_lt _ (by decide)⟩ ⟨(i 1).val % 1024, Nat.mod_lt _ (by decide)⟩ from
    funext fun d => by fin_cases d <;> rfl]
  refine tiled_product (K := 2) (B := 2048) (G := 2) (by decide) rfl (fun n h x y => (outsAt0 m c n h).2 (ix2 x y))
    (fun n h κ x => iblk m c 0 ⟨n, h⟩ (ix2 κ x)) (fun n h κ y => iblk m c 1 ⟨n, h⟩ (ix2 κ y))
    (fun κ p => m ((c : Thread nD τ).loc main_arg0) (ix2 κ p)) (fun κ q => m ((c : Thread nD τ).loc main_arg1) (ix2 κ q))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => ?_) (fun n h k y κ q hκ hq => ?_) (i 0) (i 1) (by omega) (Value.pt2Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    blk_ext [iblk, e, hκ, hq]
  · exact hp

/-- The reference's product, at an entry. -/
theorem reference_value (a : Vec Ideal S4096x18432 .bf16) (b : Vec Ideal S4096x2048 .bf16) (i : S18432x2048.Idx) :
    truncf .bf16 (transpose S18432x2048 [1, 0] (transpose Cert.DWInRefIdeal.S2048x18432 [1, 0] (Host.dotGeneral (F := Ideal)
      Cert.DWInRefIdeal.dot_S4096x18432_S4096x2048_S18432x2048_0_0_1_1_n_n none (extf .f32 a Cert.DWInRefIdeal.Gen.bitsLt_bf16_f32) (extf .f32 b Cert.DWInRefIdeal.Gen.bitsLt_bf16_f32))
      Cert.DWInRefIdeal.Gen.transposes_S18432x2048_S2048x18432_1_0) Cert.DWInRefIdeal.Gen.transposes_S2048x18432_S18432x2048_1_0) Cert.DWInRefIdeal.Gen.bitsLt_bf16_f32 i = entry a b i := by
  unfold entry
  pointwise []

theorem algebraic : Cert.algebraic_DWInIdeal_DWInRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (funext (value m c)), (h c).2⟩) (Value.run m g)
  · refine (θ_run Cert.DWInRefIdeal.defs _ _).mono (fun r h c => ⟨(h c).1.trans ?_, (h c).2⟩) (Cert.DWInRefIdeal.Value.run m' g')
    obtain ⟨a0, a1⟩ := hargs c
    rw [a0, a1]
    exact funext (reference_value _ _)

theorem frame_reference : Cert.quiescent_DWInRefIdeal := fun m ρ _ =>
  (θ_run Cert.DWInRefIdeal.defs _ _).mono (fun r h => ⟨fun c => (h c).2, sem_eq_zero_of_no_sems rfl _⟩) (Cert.DWInRefIdeal.Value.run m ρ)

theorem frame_kernelIdeal : Cert.quiescent_DWInIdeal := fun m ρ _ => Cert.DWInIdeal.Gen.frame m ρ

theorem frame_kernel : Cert.quiescent_DWIn := by
  intro m ρ _
  refine Eq.mp ?_ (Cert.DWInIdeal.Gen.frame (F := Bits) m ρ)
  sl_kernel_rfl

end Cert.DWInIdeal.Product

end
-- ==== Proof.ValHidden.lean ====
module

public import proofs.«01_k».proof.Defs
public import proofs.«01_k».proof.Proof.Blocks
public import proofs.«01_k».proof.Proof.Gen.Hidden
public import proofs.«01_k».proof.Proof.Gen.HiddenIdeal.Frame
public import proofs.«01_k».proof.Proof.Gen.HiddenRefIdeal.Run
public import Idealize.ShloMosaic.Lib.Pipeline.ValueKit
public import Idealize.ShloMosaic.Lib.Pointwise
public import Idealize.ShloMosaic.Lib.Tactic.CleanTypes
public import Idealize.ShloMosaic.Lib.Quiescent
public import Idealize.ShloMosaic.Lib.Pipeline.RegionsLoop

/-!
The hidden layer of the MLP, forwards and backwards: the first product with the squared rectifier, then the gradient of the
hidden layer's input, from the product that the forward call saves.
-/

@[expose] public section

set_option maxRecDepth 16384

noncomputable section

namespace Cert.HiddenIdeal.Product

open Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem zeros : (![0, 0] : Fin 2 → Nat) = fun _ => 0 := funext fun a => by fin_cases a <;> rfl

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's lemma is stated over the pinned configurations, which unification has to unfold
set_option backward.isDefEq.respectTransparency.types false in
/-- Both calls one after the other: every buffer that is not a call's own ends at `W2`. -/
theorem run : θ_run defs (onTc (τ := τ) (main (F := F))) ⟨m, fun _ => 0, ρ⟩ (fun r =>
      ∀ c : Dev nD, ∀ b : Ref sig .tc, ¬ (Proc.devRef .tc b : DevRef τ sig).isScoped →
        r.2.mem ((c.tc : Thread nD τ).loc b) = W2 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c b hb => h c _ (mem_uc b hb))

end Run

/-! ## The two calls' blocks -/

theorem index_up : ∀ t : Fin cfg0.N, win0_0.index t = ![t.val / 8, 0] ∧ win0_1.index t = ![0, t.val % 8]
    ∧ win0_2.index t = ![t.val / 8, t.val % 8] ∧ win0_3.index t = ![t.val / 8, t.val % 8] := by decide +kernel

theorem index_back : ∀ t : Fin cfg1.N, win1_0.index t = ![t.val / 8, 0] ∧ win1_1.index t = ![t.val % 8, 0]
    ∧ win1_2.index t = ![t.val / 8, t.val % 8] ∧ win1_3.index t = ![t.val / 8, t.val % 8] := by decide +kernel

/-- The squared rectifier. -/
def act (u : EReal) : EReal := max u 0 * max u 0

/-- The number 2, as both programs write it. -/
def two : EReal := Ideal.ofBits .f32 0x40000000#32

/-- The hidden layer's gradient at the rectifier's input, from that at its output. -/
def grad (u d : EReal) : EReal := d * (two * max u 0)

theorem saved_at (x : Vec Ideal S1024x2048 .bf16) (y : Vec Ideal S2048x1024 .bf16) (i : S1024x1024.Idx) :
    k0_pay2 (F := Ideal) x y i = ∑ κ : Fin 2048, x (ix2 (i 0) κ) * y (ix2 κ (i 1)) := by
  unfold k0_pay2 k0_pay1
  pointwise []

theorem hidden_at (x : Vec Ideal S1024x2048 .bf16) (y : Vec Ideal S2048x1024 .bf16) (i : S1024x1024.Idx) :
    k0_pay3 (F := Ideal) x y i = act (∑ κ : Fin 2048, x (ix2 (i 0) κ) * y (ix2 κ (i 1))) := by
  unfold k0_pay3 k0_pay1 act
  pointwise []

theorem back_at (x : Vec Ideal S1024x2048 .bf16) (y : Vec Ideal S1024x2048 .bf16) (z : Vec Ideal S1024x1024 .bf16) (i : S1024x1024.Idx) :
    k1_pay1 (F := Ideal) x y z i = grad (z i) (∑ κ : Fin 2048, x (ix2 (i 0) κ) * y (ix2 (i 1) κ)) := by
  unfold k1_pay1 grad two
  pointwise []

/-! ## The arrays -/

/-- The first product, at an entry, -/
def first (a : Vec Ideal S4096x2048 .bf16) (b : Vec Ideal S2048x8192 .bf16) (i : S4096x8192.Idx) : EReal :=
  ∑ κ : Fin 2048, a (ix2 (i 0) κ) * b (ix2 κ (i 1))

/-- and the gradient at the hidden layer's output. -/
def outer (a : Vec Ideal S4096x2048 .bf16) (b : Vec Ideal S8192x2048 .bf16) (i : S4096x8192.Idx) : EReal :=
  ∑ κ : Fin 2048, a (ix2 (i 0) κ) * b (ix2 (i 1) κ)

section Arrays

variable (V : (c : Dev nD) → (b : Ref sig .tc) → Buf (Elt Ideal) ((c : Thread nD τ).loc b)) (c : Dev nD)

theorem product_block (t : Fin cfg0.N) (x : Vec Ideal S1024x2048 .bf16) (y : Vec Ideal S2048x1024 .bf16) (hx : x = iblk0 V c 0 t)
    (hy : y = iblk0 V c 1 t) (j : S1024x1024.Idx) (i : S4096x8192.Idx) (e0 : (i 0).val = t.val / 8 * 1024 + (j 0).val)
    (e1 : (i 1).val = t.val % 8 * 1024 + (j 1).val) :
    (∑ κ : Fin 2048, x (ix2 (j 0) κ) * y (ix2 κ (j 1))) = first (V c main_arg0) (V c main_arg1) i := by
  subst hx hy
  unfold first
  refine Finset.sum_congr rfl fun κ _ => ?_
  have e := index_up t
  congr 1
  · show iblk0 V c 0 _ _ = V c main_arg0 _
    blk_ext [iblk0, e]
  · show iblk0 V c 1 _ _ = V c main_arg1 _
    blk_ext [iblk0, e]

theorem saved : (dat0 V c).arrAt 2 cfg0.N = (first (V c main_arg0) (V c main_arg1) : FVec Ideal S4096x8192 .bf16) := by
  refine (dat0 V c).arrAt_eq_of_covers 2 _ (by decide +kernel) fun t hf y => ?_
  blk_simp
  rw [after0_2]
  unfold out0_2
  rw [View.canon_unit_zero zeros, View.ld_unit_zero (S := S1024x2048) zeros, View.ld_unit_zero (S := S2048x1024) zeros]
  refine (saved_at _ _ _).trans ?_
  exact product_block V c t _ _ rfl rfl y _ (by blk_simp [index_up t]) (by blk_simp [index_up t])

theorem hidden : (dat0 V c).arrAt 3 cfg0.N
    = (fun i => act (first (V c main_arg0) (V c main_arg1) i) : FVec Ideal S4096x8192 .bf16) := by
  refine (dat0 V c).arrAt_eq_of_covers 3 _ (by decide +kernel) fun t hf y => ?_
  blk_simp
  rw [after0_3]
  unfold out0_3
  rw [View.canon_unit_zero zeros, View.ld_unit_zero (S := S1024x2048) zeros, View.ld_unit_zero (S := S2048x1024) zeros]
  refine (hidden_at _ _ _).trans ?_
  exact congrArg act (product_block V c t _ _ rfl rfl y _ (by blk_simp [index_up t]) (by blk_simp [index_up t]))

theorem back : (dat1 V c).arrAt 3 cfg1.N
    = (fun i => grad ((V c main_v0_0 : FVec Ideal S4096x8192 .bf16) i) (outer (V c main_arg3) (V c main_arg2) i) : FVec Ideal S4096x8192 .bf16) := by
  refine (dat1 V c).arrAt_eq_of_covers 3 _ (by decide +kernel) fun t hf y => ?_
  blk_simp
  rw [after1_3]
  unfold out1_3
  rw [View.canon_unit_zero zeros, View.ld_unit_zero (S := S1024x2048) zeros, View.ld_unit_zero (S := S1024x2048) zeros,
    View.ld_unit_zero (S := S1024x1024) zeros]
  refine (back_at _ _ _ _).trans ?_
  have e := index_back t
  refine congrArg₂ grad ?_ ?_
  · show iblk1 V c 2 _ _ = V c main_v0_0 _
    blk_ext [iblk1, e]
  unfold outer
  refine Finset.sum_congr rfl fun κ _ => ?_
  congr 1
  · show iblk1 V c 0 _ _ = V c main_arg3 _
    blk_ext [iblk1, e]
  · show iblk1 V c 1 _ _ = V c main_arg2 _
    blk_ext [iblk1, e]

end Arrays

/-! ## The results -/

variable (m : (ℓ : Loc nD τ sig) → Buf (Elt Ideal) ℓ) (ρ : Dev nD → PrngReg) (c : Dev nD)

theorem result_hidden : W2 m ρ c (Proc.devRef .tc main_v0_1)
    = (fun i => act (first (m ((c : Thread nD τ).loc main_arg0)) (m ((c : Thread nD τ).loc main_arg1)) i) : FVec Ideal S4096x8192 .bf16) :=
  (W2_of_ne m ρ c main_v0_1 (by decide)).trans ((W1_arr m ρ c 3).trans (hidden (V0 m ρ) c))

theorem result_back : W2 m ρ c (Proc.devRef .tc main_v1)
    = (fun i => grad (first (m ((c : Thread nD τ).loc main_arg0)) (m ((c : Thread nD τ).loc main_arg1)) i)
        (outer (m ((c : Thread nD τ).loc main_arg3)) (m ((c : Thread nD τ).loc main_arg2)) i) : FVec Ideal S4096x8192 .bf16) := by
  refine (W2_arr m ρ c 3).trans ((back (V1 m ρ) c).trans ?_)
  have h0 : V1 m ρ c main_v0_0 = _ := (W1_arr m ρ c 2).trans (saved (V0 m ρ) c)
  have h2 : V1 m ρ c main_arg2 = _ := W1_args m ρ c main_arg2 (by decide)
  have h3 : V1 m ρ c main_arg3 = _ := W1_args m ρ c main_arg3 (by decide)
  rw [h0, h2, h3]

/-! ## The reference -/

section Reference

open Cert.HiddenRefIdeal.Gen

/-- The reference's first product, -/
def refFirst (a : FVec Ideal S4096x2048 .bf16) (b : FVec Ideal S2048x8192 .bf16) : FVec Ideal S4096x8192 .f32 :=
  Host.dotGeneral Cert.HiddenRefIdeal.dot_S4096x2048_S2048x8192_S4096x8192_1_0_0_1_n_n none
    (extf .f32 a Cert.HiddenRefIdeal.Gen.bitsLt_bf16_f32) (extf .f32 b Cert.HiddenRefIdeal.Gen.bitsLt_bf16_f32)

/-- and its zero, at every entry. -/
def refZero : FVec Ideal S4096x8192 .f32 :=
  broadcastInDim S4096x8192 ![] Cert.HiddenRefIdeal.Gen.bcast_S_S4096x8192 (constant Cert.HiddenRefIdeal.S_ .f32 0x00000000#32)

theorem refFirst_at (a : FVec Ideal S4096x2048 .bf16) (b : FVec Ideal S2048x8192 .bf16) (i : S4096x8192.Idx) :
    refFirst a b i = first a b i := by
  unfold refFirst first
  pointwise []

theorem reference_hidden (a : FVec Ideal S4096x2048 .bf16) (b : FVec Ideal S2048x8192 .bf16) (i : S4096x8192.Idx) :
    truncf .bf16 (mulf (maximumf (refFirst a b) refZero) (maximumf (refFirst a b) refZero)) Cert.HiddenRefIdeal.Gen.bitsLt_bf16_f32 i
      = act (first a b i) := by
  rw [← refFirst_at]
  unfold act refZero
  pointwise []

theorem reference_back (a : FVec Ideal S4096x2048 .bf16) (b : FVec Ideal S2048x8192 .bf16) (w : FVec Ideal S8192x2048 .bf16)
    (d : FVec Ideal S4096x2048 .bf16) (i : S4096x8192.Idx) :
    truncf .bf16 (select (cmpf .ogt (refFirst a b) refZero)
      (mulf (Host.dotGeneral Cert.HiddenRefIdeal.dot_S4096x2048_S8192x2048_S4096x8192_1_1_0_0_n_n none
          (extf .f32 d Cert.HiddenRefIdeal.Gen.bitsLt_bf16_f32) (extf .f32 w Cert.HiddenRefIdeal.Gen.bitsLt_bf16_f32))
        (mulf (broadcastInDim S4096x8192 ![] Cert.HiddenRefIdeal.Gen.bcast_S_S4096x8192 (constant Cert.HiddenRefIdeal.S_ .f32 0x40000000#32))
          (maximumf (refFirst a b) refZero))) refZero) Cert.HiddenRefIdeal.Gen.bitsLt_bf16_f32 i
      = grad (first a b i) (outer d w i) := by
  rw [← refFirst_at]
  generalize refFirst a b = u
  unfold grad refZero outer two
  pointwise []
  split_ifs with h
  · rfl
  · rw [max_eq_right (not_lt.mp h), mul_zero, mul_zero]

end Reference

theorem algebraic : Cert.algebraic_HiddenIdeal_HiddenRefIdeal := by
  intro m g m' g' _ hargs
  refine ⟨fun c => (fun i => act (first (m ((c.tc : Thread nD τ).loc main_arg0)) (m ((c.tc : Thread nD τ).loc main_arg1)) i) : FVec Ideal S4096x8192 .bf16),
    fun c => (fun i => grad (first (m ((c.tc : Thread nD τ).loc main_arg0)) (m ((c.tc : Thread nD τ).loc main_arg1)) i)
      (outer (m ((c.tc : Thread nD τ).loc main_arg3)) (m ((c.tc : Thread nD τ).loc main_arg2)) i) : FVec Ideal S4096x8192 .bf16), ?_, ?_⟩
  · refine (θ_run defs _ _).mono (fun r h c => ⟨(h c main_v0_1 (by decide)).trans (result_hidden m g c),
      (h c main_v1 (by decide)).trans (result_back m g c),
      (h c main_arg0 (by decide)).trans (W2_main_arg0 m g c), (h c main_arg1 (by decide)).trans (W2_main_arg1 m g c),
      (h c main_arg2 (by decide)).trans (W2_main_arg2 m g c), (h c main_arg3 (by decide)).trans (W2_main_arg3 m g c)⟩) (run m g)
  · refine (θ_run Cert.HiddenRefIdeal.defs _ _).mono (fun r h c => ⟨(h c).1.trans ?_, (h c).2.1.trans ?_, (h c).2.2⟩)
      (Cert.HiddenRefIdeal.Value.run m' g')
    · obtain ⟨a0, a1, a2, a3⟩ := hargs c
      rw [a0, a1]
      exact funext (reference_hidden _ _)
    · obtain ⟨a0, a1, a2, a3⟩ := hargs c
      rw [a0, a1, a2, a3]
      exact funext (reference_back _ _ _ _)

theorem frame_reference : Cert.quiescent_HiddenRefIdeal := fun m ρ _ =>
  (θ_run Cert.HiddenRefIdeal.defs _ _).mono (fun r h => ⟨fun c => (h c).2.2, sem_eq_zero_of_no_sems rfl _⟩) (Cert.HiddenRefIdeal.Value.run m ρ)

theorem frame_kernelIdeal : Cert.quiescent_HiddenIdeal := fun m ρ _ => Cert.HiddenIdeal.Gen.frame m ρ

theorem frame_kernel : Cert.quiescent_Hidden := by
  intro m ρ _
  refine Eq.mp ?_ (Cert.HiddenIdeal.Gen.frame (F := Bits) m ρ)
  sl_kernel_rfl

end Cert.HiddenIdeal.Product

end
-- ==== Proof.ValDWUp.lean ====
module

public import proofs.«01_k».proof.Defs
public import proofs.«01_k».proof.Proof.Blocks
public import proofs.«01_k».proof.Proof.ValDWDown
public import proofs.«01_k».proof.Proof.Gen.DWUp
public import proofs.«01_k».proof.Proof.Gen.DWUpIdeal.Value
public import proofs.«01_k».proof.Proof.Gen.DWUpRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient of the MLP's first weight: a product over 4096 tokens, taken 2048 at a time.
-/

@[expose] public section

set_option maxRecDepth 16384

noncomputable section

namespace Cert.DWUpIdeal.Product

open Cert.DWUpIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 p0 p1 p2) (x0 x1) :
    sout0_A_0 (F := Ideal) c i a3 h3 a4 h4 a5 h5 a6 h6 p0 p1 p2 x0 x1 = k0_pay1 x0 x1 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  simp only [View.readAt_eq_ld, h3.read_unread, h4.read_unread, View.ld_unit_zero (S := S2048x1024) zeros]

theorem left_B (i : grid0.Coords) (a3 h3 a4 h4 a5 h5 a6 h6 p0 p1 p2) (x0 x1 xs) :
    sout0_B_0 (F := Ideal) c i a3 h3 a4 h4 a5 h5 a6 h6 p0 p1 p2 x0 x1 xs = k0_pay2 xs x0 x1 := by
  unfold sout0_B_0
  rw [View.read_writes_eq_canon _ _ _ (scover0_B_0 c i a3 h3 a4 h4 a5 h5 a6 h6 p0 p1 p2 x0 x1 xs)]
  unfold kernelRun0_B
  dsimp only
  sl_unfold_words
  rw [View.canon_unit_zero zeros]
  simp only [View.readAt_eq_ld, h3.read_unread, h4.read_unread, h6.read_unread,
    View.ld_unit_zero (S := S2048x1024) zeros, View.ld_unit_zero (S := S1024x1024) zeros]

theorem written_B (i : grid0.Coords) (a3 h3 a4 h4 a5 h5 a6 h6 p0 p1 p2) (x0 x1 xs) :
    out0_B_2 (F := Ideal) c i a3 h3 a4 h4 a5 h5 a6 h6 p0 p1 p2 x0 x1 xs = k0_pay3 (k0_pay2 xs x0 x1) := by
  unfold out0_B_2
  rw [View.read_writes_eq_canon _ _ _ (cover0_B_2 c i a3 h3 a4 h4 a5 h5 a6 h6 p0 p1 p2 x0 x1 xs)]
  unfold kernelRun0_B
  dsimp only
  sl_unfold_words
  rw [View.canon_unit_zero zeros, View.readCov_unit_zero (S := S1024x1024) _ zeros]
  simp only [View.readAt_eq_ld, h3.read_unread, h4.read_unread, h6.read_unread,
    View.ld_unit_zero (S := S2048x1024) zeros, View.ld_unit_zero (S := S1024x1024) zeros]

/-- One point's product of its two blocks. -/
theorem product_at (x0 x1 : Vec Ideal S2048x1024 .bf16) (y : S1024x1024.Idx) :
    k0_pay1 (F := Ideal) x0 x1 y = ∑ κ : Fin 2048, x0 (ix2 κ (y 0)) * x1 (ix2 κ (y 1)) :=
  Cert.DWDownIdeal.Product.product_at x0 x1 y

theorem added_at (xs) (x0 x1 : Vec Ideal S2048x1024 .bf16) (y : S1024x1024.Idx) :
    k0_pay2 (F := Ideal) xs x0 x1 y = xs y + k0_pay1 (F := Ideal) x0 x1 y :=
  Cert.DWDownIdeal.Product.added_at xs x0 x1 y

theorem index_of : ∀ t : Fin cfg0.N, win0_0.index t = ![t.val % 2, t.val / 2 / 8] ∧ win0_1.index t = ![t.val % 2, t.val / 2 % 8] :=
  (by decide +kernel : ∀ t : Fin grid0.N, win0_0.index t = ![t.val % 2, t.val / 2 / 8] ∧ win0_1.index t = ![t.val % 2, t.val / 2 % 8])

/-- What is kept at a run's first point, and at each of its later points. -/
theorem first_point (t : Fin cfg0.N) (h : t.val % 2 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 2 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h (by omega) (by omega)]
  dsimp only; rw [left_B]

theorem last_point (t : Fin cfg0.N) (h : t.val % 2 = 1) :
    (outsAt0 m c t.val t.isLt).1 = k0_pay3 (outsAt0 m c t.val t.isLt).2 := by
  rw [outsAt0_B m c t (by omega) h h]
  dsimp only; rw [written_B, left_B]

/-- The whole product, at an entry. -/
def entry (a : Vec Ideal S4096x2048 .bf16) (b : Vec Ideal S4096x8192 .bf16) (i : S2048x8192.Idx) : EReal :=
  ∑ κ : Fin 4096, a (ix2 κ (i 0)) * b (ix2 κ (i 1))

theorem value (i : S2048x8192.Idx) : Value.G2 m c i
    = entry (m ((c : Thread nD τ).loc main_arg0)) (m ((c : Thread nD τ).loc main_arg1)) i := by
  have h0 : (i 0).val < 2048 := (i 0).isLt
  have h1 : (i 1).val < 8192 := (i 1).isLt
  have hn : Value.pt2Of i = ((i 0).val / 1024 * 8 + (i 1).val / 1024) * 2 + (2 - 1) := by
    show 2 * (8 * ((i 0).val / 1024 - 0) + 1 * ((i 1).val / 1024 - 0)) + 1 = _; omega
  have hp : Value.pt2Of i < cfg0.N := by rw [show cfg0.N = 32 from N_0]; omega
  unfold Value.G2
  rw [dif_pos hp, ← Value.outsAt0_sweep, last_point m c ⟨Value.pt2Of i, hp⟩ (by dsimp only; omega)]
  rw [show Value.loc2Of i = ix2 ⟨(i 0).val % 1024, Nat.mod_lt _ (by decide)⟩ ⟨(i 1).val % 1024, Nat.mod_lt _ (by decide)⟩ from
    funext fun d => by fin_cases d <;> rfl]
  refine tiled_product (K := 2) (B := 2048) (G := 8) (by decide) rfl (fun n h x y => (outsAt0 m c n h).2 (ix2 x y))
    (fun n h κ x => iblk m c 0 ⟨n, h⟩ (ix2 κ x)) (fun n h κ y => iblk m c 1 ⟨n, h⟩ (ix2 κ y))
    (fun κ p => m ((c : Thread nD τ).loc main_arg0) (ix2 κ p)) (fun κ q => m ((c : Thread nD τ).loc main_arg1) (ix2 κ q))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => ?_) (fun n h k y κ q hκ hq => ?_) (i 0) (i 1) (by omega) (Value.pt2Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    blk_ext [iblk, e, hκ, hq]
  · exact hp

/-- The reference's product, at an entry. -/
theorem reference_value (a : Vec Ideal S4096x2048 .bf16) (b : Vec Ideal S4096x8192 .bf16) (i : S2048x8192.Idx) :
    truncf .bf16 (transpose S2048x8192 [1, 0] (Host.dotGeneral (F := Ideal) Cert.DWUpRefIdeal.dot_S4096x8192_S4096x2048_S8192x2048_0_0_1_1_n_n none (extf .f32 b Cert.DWUpRefIdeal.Gen.bitsLt_bf16_f32) (extf .f32 a Cert.DWUpRefIdeal.Gen.bitsLt_bf16_f32))
      Cert.DWUpRefIdeal.Gen.transposes_S8192x2048_S2048x8192_1_0) Cert.DWUpRefIdeal.Gen.bitsLt_bf16_f32 i = entry a b i := by
  unfold entry
  pointwise []
  exact Finset.sum_congr rfl fun _ _ => mul_comm _ _

theorem algebraic : Cert.algebraic_DWUpIdeal_DWUpRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (funext (value m c)), (h c).2⟩) (Value.run m g)
  · refine (θ_run Cert.DWUpRefIdeal.defs _ _).mono (fun r h c => ⟨(h c).1.trans ?_, (h c).2⟩) (Cert.DWUpRefIdeal.Value.run m' g')
    obtain ⟨a0, a1⟩ := hargs c
    rw [a0, a1]
    exact funext (reference_value _ _)

theorem frame_reference : Cert.quiescent_DWUpRefIdeal := fun m ρ _ =>
  (θ_run Cert.DWUpRefIdeal.defs _ _).mono (fun r h => ⟨fun c => (h c).2, sem_eq_zero_of_no_sems rfl _⟩) (Cert.DWUpRefIdeal.Value.run m ρ)

theorem frame_kernelIdeal : Cert.quiescent_DWUpIdeal := fun m ρ _ => Cert.DWUpIdeal.Gen.frame m ρ

theorem frame_kernel : Cert.quiescent_DWUp := by
  intro m ρ _
  refine Eq.mp ?_ (Cert.DWUpIdeal.Gen.frame (F := Bits) m ρ)
  sl_kernel_rfl

end Cert.DWUpIdeal.Product

end
-- ==== Proof.ValDHMlp.lean ====
module

public import proofs.«01_k».proof.Defs
public import proofs.«01_k».proof.Proof.Blocks
public import proofs.«01_k».proof.Proof.Gen.DHMlp
public import proofs.«01_k».proof.Proof.Gen.DHMlpIdeal.Value
public import proofs.«01_k».proof.Proof.Gen.DHMlpRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient entering the MLP: a product over 8192 hidden columns, taken 2048 at a time.
-/

@[expose] public section

set_option maxRecDepth 16384

noncomputable section

namespace Cert.DHMlpIdeal.Product

open Cert.DHMlpIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 p0 p1 p2) (x0 x1) :
    sout0_A_0 (F := Ideal) c i a3 h3 a4 h4 a5 h5 a6 h6 p0 p1 p2 x0 x1 = k0_pay1 x0 x1 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  simp only [View.readAt_eq_ld, h3.read_unread, h4.read_unread, View.ld_unit_zero (S := S1024x2048) zeros]

theorem left_B (i : grid0.Coords) (a3 h3 a4 h4 a5 h5 a6 h6 p0 p1 p2) (x0 x1 xs) :
    sout0_B_0 (F := Ideal) c i a3 h3 a4 h4 a5 h5 a6 h6 p0 p1 p2 x0 x1 xs = k0_pay2 xs x0 x1 := by
  unfold sout0_B_0
  rw [View.read_writes_eq_canon _ _ _ (scover0_B_0 c i a3 h3 a4 h4 a5 h5 a6 h6 p0 p1 p2 x0 x1 xs)]
  unfold kernelRun0_B
  dsimp only
  rw [View.canon_unit_zero zeros]
  simp only [View.readAt_eq_ld, h3.read_unread, h4.read_unread, h6.read_unread,
    View.ld_unit_zero (S := S1024x2048) zeros, View.ld_unit_zero (S := S1024x1024) zeros]

theorem left_C (i : grid0.Coords) (a3 h3 a4 h4 a5 h5 a6 h6 p0 p1 p2) (x0 x1 xs) :
    sout0_C_0 (F := Ideal) c i a3 h3 a4 h4 a5 h5 a6 h6 p0 p1 p2 x0 x1 xs = k0_pay2 xs x0 x1 := by
  unfold sout0_C_0
  rw [View.read_writes_eq_canon _ _ _ (scover0_C_0 c i a3 h3 a4 h4 a5 h5 a6 h6 p0 p1 p2 x0 x1 xs)]
  unfold kernelRun0_C
  dsimp only
  sl_unfold_words
  rw [View.canon_unit_zero zeros]
  simp only [View.readAt_eq_ld, h3.read_unread, h4.read_unread, h6.read_unread,
    View.ld_unit_zero (S := S1024x2048) zeros, View.ld_unit_zero (S := S1024x1024) zeros]

theorem written_C (i : grid0.Coords) (a3 h3 a4 h4 a5 h5 a6 h6 p0 p1 p2) (x0 x1 xs) :
    out0_C_2 (F := Ideal) c i a3 h3 a4 h4 a5 h5 a6 h6 p0 p1 p2 x0 x1 xs = k0_pay2 xs x0 x1 := by
  unfold out0_C_2
  rw [View.read_writes_eq_canon _ _ _ (cover0_C_2 c i a3 h3 a4 h4 a5 h5 a6 h6 p0 p1 p2 x0 x1 xs)]
  unfold kernelRun0_C
  dsimp only
  sl_unfold_words
  rw [View.canon_unit_zero zeros, View.readCov_unit_zero (S := S1024x1024) _ zeros]
  simp only [View.readAt_eq_ld, h3.read_unread, h4.read_unread, h6.read_unread,
    View.ld_unit_zero (S := S1024x2048) zeros, View.ld_unit_zero (S := S1024x1024) zeros]

/-- One point's product of its two blocks. -/
theorem product_at (x0 x1 : Vec Ideal S1024x2048 .bf16) (y : S1024x1024.Idx) :
    k0_pay1 (F := Ideal) x0 x1 y = ∑ κ : Fin 2048, x0 (ix2 (y 0) κ) * x1 (ix2 (y 1) κ) := by
  unfold k0_pay1
  pointwise []

theorem added_at (xs) (x0 x1 : Vec Ideal S1024x2048 .bf16) (y : S1024x1024.Idx) :
    k0_pay2 (F := Ideal) xs x0 x1 y = xs y + k0_pay1 (F := Ideal) x0 x1 y := by
  unfold k0_pay2 k0_pay1
  pointwise []

theorem index_of : ∀ t : Fin cfg0.N, win0_0.index t = ![t.val / 4 / 2, t.val % 4] ∧ win0_1.index t = ![t.val / 4 % 2, t.val % 4] :=
  (by decide +kernel : ∀ t : Fin grid0.N, win0_0.index t = ![t.val / 4 / 2, t.val % 4] ∧ win0_1.index t = ![t.val / 4 % 2, t.val % 4])

/-- What is kept at a run's first point, and at each of its later points. -/
theorem first_point (t : Fin cfg0.N) (h : t.val % 4 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 4 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  by_cases h3 : t.val % 4 = 3
  · rw [outsAt0_C m c t h (by omega) h3]
    dsimp only; rw [left_C]
  · rw [outsAt0_B m c t h (by omega) h3]
    dsimp only; rw [left_B]

theorem last_point (t : Fin cfg0.N) (h : t.val % 4 = 3) :
    (outsAt0 m c t.val t.isLt).1 = (outsAt0 m c t.val t.isLt).2 := by
  rw [outsAt0_C m c t (by omega) (by omega) h]
  dsimp only; rw [written_C, left_C]

/-- The whole product, at an entry. -/
def entry (a : Vec Ideal S4096x8192 .bf16) (b : Vec Ideal S2048x8192 .bf16) (i : S4096x2048.Idx) : EReal :=
  ∑ κ : Fin 8192, a (ix2 (i 0) κ) * b (ix2 (i 1) κ)

theorem value (i : S4096x2048.Idx) : Value.G2 m c i
    = entry (m ((c : Thread nD τ).loc main_arg0)) (m ((c : Thread nD τ).loc main_arg1)) i := by
  have h0 : (i 0).val < 4096 := (i 0).isLt
  have h1 : (i 1).val < 2048 := (i 1).isLt
  have hn : Value.pt2Of i = ((i 0).val / 1024 * 2 + (i 1).val / 1024) * 4 + (4 - 1) := by
    show 4 * (2 * ((i 0).val / 1024 - 0) + 1 * ((i 1).val / 1024 - 0)) + 3 = _; omega
  have hp : Value.pt2Of i < cfg0.N := by rw [show cfg0.N = 32 from N_0]; omega
  unfold Value.G2
  rw [dif_pos hp, ← Value.outsAt0_sweep, last_point m c ⟨Value.pt2Of i, hp⟩ (by dsimp only; omega)]
  rw [show Value.loc2Of i = ix2 ⟨(i 0).val % 1024, Nat.mod_lt _ (by decide)⟩ ⟨(i 1).val % 1024, Nat.mod_lt _ (by decide)⟩ from
    funext fun d => by fin_cases d <;> rfl]
  refine tiled_product (K := 4) (B := 2048) (G := 2) (by decide) rfl (fun n h x y => (outsAt0 m c n h).2 (ix2 x y))
    (fun n h κ x => iblk m c 0 ⟨n, h⟩ (ix2 x κ)) (fun n h κ y => iblk m c 1 ⟨n, h⟩ (ix2 y κ))
    (fun κ p => m ((c : Thread nD τ).loc main_arg0) (ix2 p κ)) (fun κ q => m ((c : Thread nD τ).loc main_arg1) (ix2 q κ))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => ?_) (fun n h k y κ q hκ hq => ?_) (i 0) (i 1) (by omega) (Value.pt2Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    blk_ext [iblk, e, hκ, hq]
  · exact hp

/-- The reference's product, at an entry. -/
theorem reference_value (a : Vec Ideal S4096x8192 .bf16) (b : Vec Ideal S2048x8192 .bf16) (i : S4096x2048.Idx) :
    Host.dotGeneral (F := Ideal) Cert.DHMlpRefIdeal.dot_S4096x8192_S2048x8192_S4096x2048_1_1_0_0_n_n none
      (extf .f32 a Cert.DHMlpRefIdeal.Gen.bitsLt_bf16_f32) (extf .f32 b Cert.DHMlpRefIdeal.Gen.bitsLt_bf16_f32) i = entry a b i := by
  unfold entry
  pointwise []

theorem algebraic : Cert.algebraic_DHMlpIdeal_DHMlpRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (funext (value m c)), (h c).2⟩) (Value.run m g)
  · refine (θ_run Cert.DHMlpRefIdeal.defs _ _).mono (fun r h c => ⟨(h c).1.trans ?_, (h c).2⟩) (Cert.DHMlpRefIdeal.Value.run m' g')
    obtain ⟨a0, a1⟩ := hargs c
    rw [a0, a1]
    exact funext (reference_value _ _)

theorem frame_reference : Cert.quiescent_DHMlpRefIdeal := fun m ρ _ =>
  (θ_run Cert.DHMlpRefIdeal.defs _ _).mono (fun r h => ⟨fun c => (h c).2, sem_eq_zero_of_no_sems rfl _⟩) (Cert.DHMlpRefIdeal.Value.run m ρ)

theorem frame_kernelIdeal : Cert.quiescent_DHMlpIdeal := fun m ρ _ => Cert.DHMlpIdeal.Gen.frame m ρ

theorem frame_kernel : Cert.quiescent_DHMlp := by
  intro m ρ _
  refine Eq.mp ?_ (Cert.DHMlpIdeal.Gen.frame (F := Bits) m ρ)
  sl_kernel_rfl

end Cert.DHMlpIdeal.Product

end
-- ==== Proof.ValOutProj.lean ====
module

public import proofs.«01_k».proof.Defs
public import proofs.«01_k».proof.Proof.Gen.OutProj
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The output projection, added to the block's input: one product over the 2048 columns of the merged mixers.
-/

@[expose] public section

set_option maxRecDepth 16384

noncomputable section

namespace Cert.OutProjIdeal.Product

open Cert.OutProjIdeal.Gen
open Idealize.ShloMosaic Idealize.ShloMosaic.TcCoe Idealize.ShloMosaic.Tactic Idealize.SL.Sem

theorem zeros : (![0, 0] : Fin 2 → Nat) = fun _ => 0 := funext fun a => by fin_cases a <;> rfl

variable (m : (ℓ : Loc nD τ sig) → Buf (Elt Ideal) ℓ) (c : Dev nD)

theorem index_of : ∀ t : Fin cfg0.N, win0_0.index t = ![t.val / 2, 0] ∧ win0_1.index t = ![0, t.val % 2]
    ∧ win0_2.index t = ![t.val / 2, t.val % 2] ∧ win0_3.index t = ![t.val / 2, t.val % 2] := by decide +kernel

theorem product_at (x : Vec Ideal S1024x2048 .bf16) (y : Vec Ideal S2048x1024 .bf16) (z : Vec Ideal S1024x1024 .f32) (i : S1024x1024.Idx) :
    k0_pay1 (F := Ideal) x y z i = z i + ∑ κ : Fin 2048, x (ix2 (i 0) κ) * y (ix2 κ (i 1)) := by
  unfold k0_pay1
  pointwise []

/-- The whole product with its summand, at an entry. -/
def entry (a : Vec Ideal S4096x2048 .bf16) (b : Vec Ideal S2048x2048 .bf16) (x : Vec Ideal S4096x2048 .f32)
    (i : S4096x2048.Idx) : EReal :=
  x i + ∑ κ : Fin 2048, a (ix2 (i 0) κ) * b (ix2 κ (i 1))

theorem value : (dats m 0 c).arrAt 3 cfg0.N = entry (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  unfold out0_3
  rw [View.canon_unit_zero zeros, View.ld_unit_zero (S := S1024x2048) zeros, View.ld_unit_zero (S := S2048x1024) zeros,
    View.ld_unit_zero (S := S1024x1024) zeros]
  refine (product_at _ _ _ _).trans ?_
  unfold entry
  have e := index_of t
  refine congrArg₂ (fun x y : EReal => x + y) ?_ (Finset.sum_congr rfl fun κ _ => ?_)
  · show iblk m c 2 _ _ = V m c main_arg2 _
    blk_ext [iblk, e]
  congr 1
  · show iblk m c 0 _ _ = V m c main_arg0 _
    blk_ext [iblk, e]
  · show iblk m c 1 _ _ = V m c main_arg1 _
    blk_ext [iblk, e]

theorem reference_value (a : FVec Ideal S4096x2048 .bf16) (b : FVec Ideal S2048x2048 .bf16) (x : FVec Ideal S4096x2048 .f32)
    (i : S4096x2048.Idx) :
    addf x (Host.dotGeneral (F := Ideal) Cert.OutProjRefIdeal.dot_S4096x2048_S2048x2048_S4096x2048_1_0_0_1_n_n none
      (extf .f32 a Cert.OutProjRefIdeal.Gen.bitsLt_bf16_f32) (extf .f32 b Cert.OutProjRefIdeal.Gen.bitsLt_bf16_f32)) i
      = entry a b x i := by
  unfold entry
  pointwise []

theorem algebraic : Cert.algebraic_OutProjIdeal_OutProjRefIdeal := by
  intro m g m' g' _ hargs
  refine ⟨fun c => entry (m ((c.tc : Thread nD τ).loc main_arg0)) (m ((c.tc : Thread nD τ).loc main_arg1))
    (m ((c.tc : Thread nD τ).loc main_arg2)), ?_, ?_⟩
  · exact (θ_run defs _ _).mono (fun r h c => ⟨(h c).1.trans (value m c), (h c).2⟩) (Value.run_blocks m g)
  · refine (θ_run Cert.OutProjRefIdeal.defs _ _).mono (fun r h c => ⟨(h c).1.trans ?_, (h c).2⟩) (Cert.OutProjRefIdeal.Value.run m' g')
    obtain ⟨a0, a1, a2⟩ := hargs c
    rw [a0, a1, a2]
    exact funext (reference_value _ _ _)

theorem frame_reference : Cert.quiescent_OutProjRefIdeal := fun m ρ _ =>
  (θ_run Cert.OutProjRefIdeal.defs _ _).mono (fun r h => ⟨fun c => (h c).2, sem_eq_zero_of_no_sems rfl _⟩) (Cert.OutProjRefIdeal.Value.run m ρ)

theorem frame_kernelIdeal : Cert.quiescent_OutProjIdeal := fun m ρ _ => Cert.OutProjIdeal.Gen.frame m ρ

theorem frame_kernel : Cert.quiescent_OutProj := by
  intro m ρ _
  refine Eq.mp ?_ (Cert.OutProjIdeal.Gen.frame (F := Bits) m ρ)
  sl_kernel_rfl

end Cert.OutProjIdeal.Product

end
-- ==== Proof.ValDMixed.lean ====
module

public import proofs.«01_k».proof.Defs
public import proofs.«01_k».proof.Proof.Gen.DMixed
public import proofs.«01_k».proof.Proof.Gen.DMixedIdeal.Value
public import proofs.«01_k».proof.Proof.Gen.DMixedRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient at the mixers' merged output: one product over the 2048 columns of the model.
-/

@[expose] public section

set_option maxRecDepth 16384

noncomputable section

namespace Cert.DMixedIdeal.Product

open Cert.DMixedIdeal.Gen
open Idealize.ShloMosaic Idealize.ShloMosaic.TcCoe Idealize.ShloMosaic.Tactic Idealize.SL.Sem

theorem zeros : (![0, 0] : Fin 2 → Nat) = fun _ => 0 := funext fun a => by fin_cases a <;> rfl

variable (m : (ℓ : Loc nD τ sig) → Buf (Elt Ideal) ℓ) (c : Dev nD)

theorem index_of : ∀ t : Fin cfg0.N, win0_0.index t = ![t.val / 2, 0] ∧ win0_1.index t = ![t.val % 2, 0]
    ∧ win0_2.index t = ![t.val / 2, t.val % 2] := by decide +kernel

theorem product_at (x y : Vec Ideal S1024x2048 .bf16) (i : S1024x1024.Idx) :
    k0_pay1 (F := Ideal) x y i = ∑ κ : Fin 2048, x (ix2 (i 0) κ) * y (ix2 (i 1) κ) := by
  unfold k0_pay1
  pointwise []

/-- The whole product, at an entry. -/
def entry (a : Vec Ideal S4096x2048 .bf16) (b : Vec Ideal S2048x2048 .bf16) (i : S4096x2048.Idx) : EReal :=
  ∑ κ : Fin 2048, a (ix2 (i 0) κ) * b (ix2 (i 1) κ)

theorem value : (dats m 0 c).arrAt 2 cfg0.N
    = entry (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  rw [View.canon_unit_zero zeros, View.ld_unit_zero (S := S1024x2048) zeros, View.ld_unit_zero (S := S1024x2048) zeros]
  refine (product_at _ _ _).trans ?_
  unfold entry
  refine Finset.sum_congr rfl fun κ _ => ?_
  have e := index_of t
  congr 1
  · show iblk m c 0 _ _ = V m c main_arg0 _
    blk_ext [iblk, e]
  · show iblk m c 1 _ _ = V m c main_arg1 _
    blk_ext [iblk, e]

theorem reference_value (a : FVec Ideal S4096x2048 .bf16) (b : FVec Ideal S2048x2048 .bf16) (i : S4096x2048.Idx) :
    truncf .bf16 (Host.dotGeneral (F := Ideal) Cert.DMixedRefIdeal.dot_S4096x2048_S2048x2048_S4096x2048_1_1_0_0_n_n none
      (extf .f32 a Cert.DMixedRefIdeal.Gen.bitsLt_bf16_f32) (extf .f32 b Cert.DMixedRefIdeal.Gen.bitsLt_bf16_f32))
      Cert.DMixedRefIdeal.Gen.bitsLt_bf16_f32 i = entry a b i := by
  unfold entry
  pointwise []

theorem algebraic : Cert.algebraic_DMixedIdeal_DMixedRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (value m c), (h c).2⟩) (Value.run_blocks m g)
  · refine (θ_run Cert.DMixedRefIdeal.defs _ _).mono (fun r h c => ⟨(h c).1.trans ?_, (h c).2⟩) (Cert.DMixedRefIdeal.Value.run m' g')
    obtain ⟨a0, a1⟩ := hargs c
    rw [a0, a1]
    exact funext (reference_value _ _)

theorem frame_reference : Cert.quiescent_DMixedRefIdeal := fun m ρ _ =>
  (θ_run Cert.DMixedRefIdeal.defs _ _).mono (fun r h => ⟨fun c => (h c).2, sem_eq_zero_of_no_sems rfl _⟩) (Cert.DMixedRefIdeal.Value.run m ρ)

theorem frame_kernelIdeal : Cert.quiescent_DMixedIdeal := fun m ρ _ => Cert.DMixedIdeal.Gen.frame m ρ

theorem frame_kernel : Cert.quiescent_DMixed := by
  intro m ρ _
  refine Eq.mp ?_ (Cert.DMixedIdeal.Gen.frame (F := Bits) m ρ)
  sl_kernel_rfl

end Cert.DMixedIdeal.Product

end
-- ==== Proof.ValDWOut.lean ====
module

public import proofs.«01_k».proof.Defs
public import proofs.«01_k».proof.Proof.Blocks
public import proofs.«01_k».proof.Proof.ValDWDown
public import proofs.«01_k».proof.Proof.Gen.DWOut
public import proofs.«01_k».proof.Proof.Gen.DWOutIdeal.Value
public import proofs.«01_k».proof.Proof.Gen.DWOutRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
A gradient of a square weight, the output projection's or the per-layer gate's: a product over 4096 tokens, taken 2048 at
a time.
-/

@[expose] public section

set_option maxRecDepth 16384

noncomputable section

namespace Cert.DWOutIdeal.Product

open Cert.DWOutIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 p0 p1 p2) (x0 x1) :
    sout0_A_0 (F := Ideal) c i a3 h3 a4 h4 a5 h5 a6 h6 p0 p1 p2 x0 x1 = k0_pay1 x0 x1 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  simp only [View.readAt_eq_ld, h3.read_unread, h4.read_unread, View.ld_unit_zero (S := S2048x1024) zeros]

theorem left_B (i : grid0.Coords) (a3 h3 a4 h4 a5 h5 a6 h6 p0 p1 p2) (x0 x1 xs) :
    sout0_B_0 (F := Ideal) c i a3 h3 a4 h4 a5 h5 a6 h6 p0 p1 p2 x0 x1 xs = k0_pay2 xs x0 x1 := by
  unfold sout0_B_0
  rw [View.read_writes_eq_canon _ _ _ (scover0_B_0 c i a3 h3 a4 h4 a5 h5 a6 h6 p0 p1 p2 x0 x1 xs)]
  unfold kernelRun0_B
  dsimp only
  sl_unfold_words
  rw [View.canon_unit_zero zeros]
  simp only [View.readAt_eq_ld, h3.read_unread, h4.read_unread, h6.read_unread,
    View.ld_unit_zero (S := S2048x1024) zeros, View.ld_unit_zero (S := S1024x1024) zeros]

theorem written_B (i : grid0.Coords) (a3 h3 a4 h4 a5 h5 a6 h6 p0 p1 p2) (x0 x1 xs) :
    out0_B_2 (F := Ideal) c i a3 h3 a4 h4 a5 h5 a6 h6 p0 p1 p2 x0 x1 xs = k0_pay3 (k0_pay2 xs x0 x1) := by
  unfold out0_B_2
  rw [View.read_writes_eq_canon _ _ _ (cover0_B_2 c i a3 h3 a4 h4 a5 h5 a6 h6 p0 p1 p2 x0 x1 xs)]
  unfold kernelRun0_B
  dsimp only
  sl_unfold_words
  rw [View.canon_unit_zero zeros, View.readCov_unit_zero (S := S1024x1024) _ zeros]
  simp only [View.readAt_eq_ld, h3.read_unread, h4.read_unread, h6.read_unread,
    View.ld_unit_zero (S := S2048x1024) zeros, View.ld_unit_zero (S := S1024x1024) zeros]

/-- One point's product of its two blocks. -/
theorem product_at (x0 x1 : Vec Ideal S2048x1024 .bf16) (y : S1024x1024.Idx) :
    k0_pay1 (F := Ideal) x0 x1 y = ∑ κ : Fin 2048, x0 (ix2 κ (y 0)) * x1 (ix2 κ (y 1)) :=
  Cert.DWDownIdeal.Product.product_at x0 x1 y

theorem added_at (xs) (x0 x1 : Vec Ideal S2048x1024 .bf16) (y : S1024x1024.Idx) :
    k0_pay2 (F := Ideal) xs x0 x1 y = xs y + k0_pay1 (F := Ideal) x0 x1 y :=
  Cert.DWDownIdeal.Product.added_at xs x0 x1 y

theorem index_of : ∀ t : Fin cfg0.N, win0_0.index t = ![t.val % 2, t.val / 2 / 2] ∧ win0_1.index t = ![t.val % 2, t.val / 2 % 2] :=
  (by decide +kernel : ∀ t : Fin grid0.N, win0_0.index t = ![t.val % 2, t.val / 2 / 2] ∧ win0_1.index t = ![t.val % 2, t.val / 2 % 2])

/-- What is kept at a run's first point, and at each of its later points. -/
theorem first_point (t : Fin cfg0.N) (h : t.val % 2 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 2 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h (by omega) (by omega)]
  dsimp only; rw [left_B]

theorem last_point (t : Fin cfg0.N) (h : t.val % 2 = 1) :
    (outsAt0 m c t.val t.isLt).1 = k0_pay3 (outsAt0 m c t.val t.isLt).2 := by
  rw [outsAt0_B m c t (by omega) h h]
  dsimp only; rw [written_B, left_B]

/-- The whole product, at an entry. -/
def entry (a : Vec Ideal S4096x2048 .bf16) (b : Vec Ideal S4096x2048 .bf16) (i : S2048x2048.Idx) : EReal :=
  ∑ κ : Fin 4096, a (ix2 κ (i 0)) * b (ix2 κ (i 1))

theorem value (i : S2048x2048.Idx) : Value.G2 m c i
    = entry (m ((c : Thread nD τ).loc main_arg0)) (m ((c : Thread nD τ).loc main_arg1)) i := by
  have h0 : (i 0).val < 2048 := (i 0).isLt
  have h1 : (i 1).val < 2048 := (i 1).isLt
  have hn : Value.pt2Of i = ((i 0).val / 1024 * 2 + (i 1).val / 1024) * 2 + (2 - 1) := by
    show 2 * (2 * ((i 0).val / 1024 - 0) + 1 * ((i 1).val / 1024 - 0)) + 1 = _; omega
  have hp : Value.pt2Of i < cfg0.N := by rw [show cfg0.N = 8 from N_0]; omega
  unfold Value.G2
  rw [dif_pos hp, ← Value.outsAt0_sweep, last_point m c ⟨Value.pt2Of i, hp⟩ (by dsimp only; omega)]
  rw [show Value.loc2Of i = ix2 ⟨(i 0).val % 1024, Nat.mod_lt _ (by decide)⟩ ⟨(i 1).val % 1024, Nat.mod_lt _ (by decide)⟩ from
    funext fun d => by fin_cases d <;> rfl]
  refine tiled_product (K := 2) (B := 2048) (G := 2) (by decide) rfl (fun n h x y => (outsAt0 m c n h).2 (ix2 x y))
    (fun n h κ x => iblk m c 0 ⟨n, h⟩ (ix2 κ x)) (fun n h κ y => iblk m c 1 ⟨n, h⟩ (ix2 κ y))
    (fun κ p => m ((c : Thread nD τ).loc main_arg0) (ix2 κ p)) (fun κ q => m ((c : Thread nD τ).loc main_arg1) (ix2 κ q))
    (fun n h e x y => (congrFun (first_point m c ⟨n, h⟩ e) _).trans (product_at ..))
    (fun n h e x y => (congrFun (next_point m c ⟨n, h⟩ e) _).trans ((added_at ..).trans (congrArg _ (product_at ..))))
    (fun n h k x κ p hκ hp => ?_) (fun n h k y κ q hκ hq => ?_) (i 0) (i 1) (by omega) (Value.pt2Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    blk_ext [iblk, e, hκ, hq]
  · exact hp

/-- The reference's product, at an entry. -/
theorem reference_value (a : Vec Ideal S4096x2048 .bf16) (b : Vec Ideal S4096x2048 .bf16) (i : S2048x2048.Idx) :
    truncf .bf16 (transpose S2048x2048 [1, 0] (Host.dotGeneral (F := Ideal) Cert.DWOutRefIdeal.dot_S4096x2048_S4096x2048_S2048x2048_0_0_1_1_n_n none (extf .f32 b Cert.DWOutRefIdeal.Gen.bitsLt_bf16_f32) (extf .f32 a Cert.DWOutRefIdeal.Gen.bitsLt_bf16_f32))
      Cert.DWOutRefIdeal.Gen.transposes_S2048x2048_S2048x2048_1_0) Cert.DWOutRefIdeal.Gen.bitsLt_bf16_f32 i = entry a b i := by
  unfold entry
  pointwise []
  exact Finset.sum_congr rfl fun _ _ => mul_comm _ _

theorem algebraic : Cert.algebraic_DWOutIdeal_DWOutRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (funext (value m c)), (h c).2⟩) (Value.run m g)
  · refine (θ_run Cert.DWOutRefIdeal.defs _ _).mono (fun r h c => ⟨(h c).1.trans ?_, (h c).2⟩) (Cert.DWOutRefIdeal.Value.run m' g')
    obtain ⟨a0, a1⟩ := hargs c
    rw [a0, a1]
    exact funext (reference_value _ _)

theorem frame_reference : Cert.quiescent_DWOutRefIdeal := fun m ρ _ =>
  (θ_run Cert.DWOutRefIdeal.defs _ _).mono (fun r h => ⟨fun c => (h c).2, sem_eq_zero_of_no_sems rfl _⟩) (Cert.DWOutRefIdeal.Value.run m ρ)

theorem frame_kernelIdeal : Cert.quiescent_DWOutIdeal := fun m ρ _ => Cert.DWOutIdeal.Gen.frame m ρ

theorem frame_kernel : Cert.quiescent_DWOut := by
  intro m ρ _
  refine Eq.mp ?_ (Cert.DWOutIdeal.Gen.frame (F := Bits) m ρ)
  sl_kernel_rfl

end Cert.DWOutIdeal.Product

end
-- ==== Proof.ValPle.lean ====
module

public import proofs.«01_k».proof.Defs
public import proofs.«01_k».proof.Proof.Gen.Ple
public import proofs.«01_k».proof.Proof.Gen.PleIdeal.Frame
public import proofs.«01_k».proof.Proof.Gen.PleRefIdeal.Run
public import Idealize.ShloMosaic.Lib.Pipeline.ValueKit
public import Idealize.ShloMosaic.Lib.Pointwise
public import Idealize.ShloMosaic.Lib.Tactic.CleanTypes
public import Idealize.ShloMosaic.Lib.Quiescent
public import Idealize.ShloMosaic.Lib.Pipeline.RegionsLoop

/-!
The per-layer embedding, forwards and backwards: its projection, the gated sum, the gradients at the gate and at the
projection, and the gradient at the gate's input.
-/

@[expose] public section

set_option maxRecDepth 16384

noncomputable section

namespace Cert.PleIdeal.Product

open Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem zeros : (![0, 0] : Fin 2 → Nat) = fun _ => 0 := funext fun a => by fin_cases a <;> rfl

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's lemma is stated over the pinned configurations, which unification has to unfold
set_option backward.isDefEq.respectTransparency.types false in
/-- The four calls one after the other: every buffer that is not a call's own ends at `W4`. -/
theorem run : θ_run defs (onTc (τ := τ) (main (F := F))) ⟨m, fun _ => 0, ρ⟩ (fun r =>
      ∀ c : Dev nD, ∀ b : Ref sig .tc, ¬ (Proc.devRef .tc b : DevRef τ sig).isScoped →
        r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c b hb => h c _ (mem_uc b hb))

end Run

/-! ## The four calls' blocks -/

theorem index_emb : ∀ t : Fin cfg0.N, win0_0.index t = ![t.val / 2, 0] ∧ win0_1.index t = ![0, t.val % 2]
    ∧ win0_2.index t = ![t.val / 2, t.val % 2] := by decide +kernel

theorem index_gate : ∀ t : Fin cfg1.N, win1_0.index t = ![t.val / 4, 0] ∧ win1_1.index t = ![0, t.val % 4]
    ∧ win1_2.index t = ![t.val / 4, t.val % 4] ∧ win1_3.index t = ![t.val / 4, t.val % 4]
    ∧ win1_4.index t = ![t.val / 4, t.val % 4] ∧ win1_5.index t = ![t.val / 4, t.val % 4] := by decide +kernel

theorem index_pull : ∀ t : Fin cfg2.N, win2_0.index t = ![t.val, 0] ∧ win2_1.index t = ![t.val, 0]
    ∧ win2_2.index t = ![t.val, 0] ∧ win2_3.index t = ![t.val, 0] ∧ win2_4.index t = ![t.val, 0] := by decide +kernel

theorem index_back : ∀ t : Fin cfg3.N, win3_0.index t = ![t.val / 2, 0] ∧ win3_1.index t = ![t.val % 2, 0]
    ∧ win3_2.index t = ![t.val / 2, t.val % 2] := by decide +kernel

/-- The logistic function. -/
def gate (z : EReal) : EReal := Ideal.div 1 (1 + Ideal.exp (0 - z))

/-- An entry of the gated sum, -/
def sumOf (x z p : EReal) : EReal := x + gate z * p

/-- of the gradient at the gate before the logistic function, -/
def gradGate (d z p : EReal) : EReal := d * p * gate z * (1 - gate z)

/-- and of that at the projection. -/
def gradEmb (d z : EReal) : EReal := d * gate z

theorem emb_at (x : Vec Ideal S1024x256 .f32) (y : Vec Ideal S256x1024 .bf16) (i : S1024x1024.Idx) :
    k0_pay1 (F := Ideal) x y i = ∑ κ : Fin 256, x (ix2 (i 0) κ) * y (ix2 κ (i 1)) := by
  unfold k0_pay1
  pointwise []

theorem pre_at (x : Vec Ideal S1024x2048 .bf16) (y : Vec Ideal S2048x512 .bf16) (i : S1024x512.Idx) :
    k1_pay1 (F := Ideal) x y i = ∑ κ : Fin 2048, x (ix2 (i 0) κ) * y (ix2 κ (i 1)) := by
  unfold k1_pay1
  pointwise []

theorem added_at (x : Vec Ideal S1024x2048 .bf16) (y : Vec Ideal S2048x512 .bf16) (r p : Vec Ideal S1024x512 .f32) (i : S1024x512.Idx) :
    k1_pay2 (F := Ideal) x y r p i = sumOf (r i) (∑ κ : Fin 2048, x (ix2 (i 0) κ) * y (ix2 κ (i 1))) (p i) := by
  rw [← pre_at]
  unfold k1_pay2 sumOf gate
  generalize k1_pay1 (F := Ideal) x y = u
  pointwise []

theorem toEmb_at (d z : Vec Ideal S256x2048 .f32) (i : S256x2048.Idx) :
    k2_pay2 (F := Ideal) d z i = gradEmb (d i) (z i) := by
  unfold k2_pay2 k2_pay1 gradEmb gate
  pointwise []

theorem toGate_at (d z p : Vec Ideal S256x2048 .f32) (i : S256x2048.Idx) :
    k2_pay3 (F := Ideal) d z p i = gradGate (d i) (z i) (p i) := by
  unfold k2_pay3 k2_pay1 gradGate gate
  pointwise []

theorem back_at (x y : Vec Ideal S1024x2048 .bf16) (i : S1024x1024.Idx) :
    k3_pay1 (F := Ideal) x y i = ∑ κ : Fin 2048, x (ix2 (i 0) κ) * y (ix2 (i 1) κ) := by
  unfold k3_pay1
  pointwise []

/-! ## The arrays -/

/-- The embedding's projection, at an entry, -/
def emb (a : Vec Ideal S4096x256 .f32) (b : Vec Ideal S256x2048 .bf16) (i : S4096x2048.Idx) : EReal :=
  ∑ κ : Fin 256, a (ix2 (i 0) κ) * b (ix2 κ (i 1))

/-- the gate before the logistic function, -/
def pre (a : Vec Ideal S4096x2048 .bf16) (b : Vec Ideal S2048x2048 .bf16) (i : S4096x2048.Idx) : EReal :=
  ∑ κ : Fin 2048, a (ix2 (i 0) κ) * b (ix2 κ (i 1))

/-- and the gradient at the gate's input. -/
def back (a : S4096x2048.Idx → EReal) (b : Vec Ideal S2048x2048 .bf16) (i : S4096x2048.Idx) : EReal :=
  ∑ κ : Fin 2048, a (ix2 (i 0) κ) * b (ix2 (i 1) κ)

section Arrays

variable (V : (c : Dev nD) → (b : Ref sig .tc) → Buf (Elt Ideal) ((c : Thread nD τ).loc b)) (c : Dev nD)

theorem projected : (dat0 V c).arrAt 2 cfg0.N = (emb (V c main_arg2) (V c main_arg3) : FVec Ideal S4096x2048 .f32) := by
  refine (dat0 V c).arrAt_eq_of_covers 2 _ (by decide +kernel) fun t hf y => ?_
  blk_simp
  rw [after0_2]
  unfold out0_2
  rw [View.canon_unit_zero zeros, View.ld_unit_zero (S := S1024x256) zeros, View.ld_unit_zero (S := S256x1024) zeros]
  refine (emb_at _ _ _).trans ?_
  unfold emb
  refine Finset.sum_congr rfl fun κ _ => ?_
  have e := index_emb t
  congr 1
  · show iblk0 V c 0 _ _ = V c main_arg2 _
    blk_ext [iblk0, e]
  · show iblk0 V c 1 _ _ = V c main_arg3 _
    blk_ext [iblk0, e]

theorem pre_block (t : Fin cfg1.N) (x : Vec Ideal S1024x2048 .bf16) (y : Vec Ideal S2048x512 .bf16) (hx : x = iblk1 V c 0 t)
    (hy : y = iblk1 V c 1 t) (j : S1024x512.Idx) (i : S4096x2048.Idx) (e0 : (i 0).val = t.val / 4 * 1024 + (j 0).val)
    (e1 : (i 1).val = t.val % 4 * 512 + (j 1).val) :
    (∑ κ : Fin 2048, x (ix2 (j 0) κ) * y (ix2 κ (j 1))) = pre (V c main_arg0) (V c main_arg1) i := by
  subst hx hy
  unfold pre
  refine Finset.sum_congr rfl fun κ _ => ?_
  have e := index_gate t
  congr 1
  · show iblk1 V c 0 _ _ = V c main_arg0 _
    blk_ext [iblk1, e]
  · show iblk1 V c 1 _ _ = V c main_arg1 _
    blk_ext [iblk1, e]

theorem gated : (dat1 V c).arrAt 4 cfg1.N = (pre (V c main_arg0) (V c main_arg1) : FVec Ideal S4096x2048 .f32) := by
  refine (dat1 V c).arrAt_eq_of_covers 4 _ (by decide +kernel) fun t hf y => ?_
  blk_simp
  rw [after1_4]
  unfold out1_4
  rw [View.canon_unit_zero zeros, View.ld_unit_zero (S := S1024x2048) zeros, View.ld_unit_zero (S := S2048x512) zeros]
  refine (pre_at _ _ _).trans ?_
  exact pre_block V c t _ _ rfl rfl y _ (by blk_simp [index_gate t]) (by blk_simp [index_gate t])

theorem added : (dat1 V c).arrAt 5 cfg1.N = (fun i => sumOf ((V c main_arg4 : FVec Ideal S4096x2048 .f32) i)
    (pre (V c main_arg0) (V c main_arg1) i) ((V c main_v0 : FVec Ideal S4096x2048 .f32) i) : FVec Ideal S4096x2048 .f32) := by
  refine (dat1 V c).arrAt_eq_of_covers 5 _ (by decide +kernel) fun t hf y => ?_
  blk_simp
  rw [after1_5]
  unfold out1_5
  rw [View.canon_unit_zero zeros, View.ld_unit_zero (S := S1024x2048) zeros, View.ld_unit_zero (S := S2048x512) zeros,
    View.ld_unit_zero (S := S1024x512) zeros, View.ld_unit_zero (S := S1024x512) zeros]
  refine (added_at _ _ _ _ _).trans ?_
  show sumOf _ _ _ = sumOf _ _ _
  congr 1
  exact pre_block V c t _ _ rfl rfl y _ (by blk_simp [index_gate t]) (by blk_simp [index_gate t])

theorem pulledGate : (dat2 V c).arrAt 3 cfg2.N
    = (fun i => gradGate ((V c main_arg5 : FVec Ideal S4096x2048 .f32) i) ((V c main_v1_0 : FVec Ideal S4096x2048 .f32) i)
        ((V c main_v0 : FVec Ideal S4096x2048 .f32) i) : FVec Ideal S4096x2048 .bf16) := by
  refine (dat2 V c).arrAt_eq_of_covers 3 _ (by decide +kernel) fun t hf y => ?_
  blk_simp
  rw [after2_3]
  unfold out2_3
  rw [View.canon_unit_zero zeros, View.ld_unit_zero (S := S256x2048) zeros, View.ld_unit_zero (S := S256x2048) zeros,
    View.ld_unit_zero (S := S256x2048) zeros]
  refine (toGate_at _ _ _ _).trans ?_
  show gradGate _ _ _ = gradGate _ _ _
  congr 1

theorem pulledEmb : (dat2 V c).arrAt 4 cfg2.N
    = (fun i => gradEmb ((V c main_arg5 : FVec Ideal S4096x2048 .f32) i) ((V c main_v1_0 : FVec Ideal S4096x2048 .f32) i)
        : FVec Ideal S4096x2048 .bf16) := by
  refine (dat2 V c).arrAt_eq_of_covers 4 _ (by decide +kernel) fun t hf y => ?_
  blk_simp
  rw [after2_4]
  unfold out2_4
  rw [View.canon_unit_zero zeros, View.ld_unit_zero (S := S256x2048) zeros, View.ld_unit_zero (S := S256x2048) zeros]
  refine (toEmb_at _ _ _).trans ?_
  show gradEmb _ _ = gradEmb _ _
  congr 1

theorem entering : (dat3 V c).arrAt 2 cfg3.N
    = (back (V c main_v2_0 : FVec Ideal S4096x2048 .bf16) (V c main_arg1) : FVec Ideal S4096x2048 .f32) := by
  refine (dat3 V c).arrAt_eq_of_covers 2 _ (by decide +kernel) fun t hf y => ?_
  blk_simp
  rw [after3_2]
  unfold out3_2
  rw [View.canon_unit_zero zeros, View.ld_unit_zero (S := S1024x2048) zeros, View.ld_unit_zero (S := S1024x2048) zeros]
  refine (back_at _ _ _).trans ?_
  unfold back
  refine Finset.sum_congr rfl fun κ _ => ?_
  have e := index_back t
  congr 1
  · show iblk3 V c 0 _ _ = V c main_v2_0 _
    blk_ext [iblk3, e]
  · show iblk3 V c 1 _ _ = V c main_arg1 _
    blk_ext [iblk3, e]

end Arrays

/-! ## The results -/

variable (m : (ℓ : Loc nD τ sig) → Buf (Elt Ideal) ℓ) (ρ : Dev nD → PrngReg) (c : Dev nD)

/-- The four results, of the arguments. -/
def outSum (h : FVec Ideal S4096x2048 .bf16) (w : FVec Ideal S2048x2048 .bf16) (p : FVec Ideal S4096x256 .f32)
    (wp : FVec Ideal S256x2048 .bf16) (x : FVec Ideal S4096x2048 .f32) : FVec Ideal S4096x2048 .f32 :=
  fun i => sumOf (x i) (pre h w i) (emb p wp i)

def outGate (h : FVec Ideal S4096x2048 .bf16) (w : FVec Ideal S2048x2048 .bf16) (p : FVec Ideal S4096x256 .f32)
    (wp : FVec Ideal S256x2048 .bf16) (d : FVec Ideal S4096x2048 .f32) : FVec Ideal S4096x2048 .bf16 :=
  fun i => gradGate (d i) (pre h w i) (emb p wp i)

def outEmb (h : FVec Ideal S4096x2048 .bf16) (w : FVec Ideal S2048x2048 .bf16) (d : FVec Ideal S4096x2048 .f32) :
    FVec Ideal S4096x2048 .bf16 :=
  fun i => gradEmb (d i) (pre h w i)

def outBack (h : FVec Ideal S4096x2048 .bf16) (w : FVec Ideal S2048x2048 .bf16) (p : FVec Ideal S4096x256 .f32)
    (wp : FVec Ideal S256x2048 .bf16) (d : FVec Ideal S4096x2048 .f32) : FVec Ideal S4096x2048 .f32 :=
  back (outGate h w p wp d) w

/-- What the first two calls leave for the later ones. -/
theorem kept_emb : W1 m ρ c (Proc.devRef .tc main_v0) = (emb (m ((c : Thread nD τ).loc main_arg2)) (m ((c : Thread nD τ).loc main_arg3)) : FVec Ideal S4096x2048 .f32) :=
  (W1_arr m ρ c 2).trans (projected (V0 m ρ) c)

theorem kept_emb' : W2 m ρ c (Proc.devRef .tc main_v0) = (emb (m ((c : Thread nD τ).loc main_arg2)) (m ((c : Thread nD τ).loc main_arg3)) : FVec Ideal S4096x2048 .f32) :=
  (W2_of m ρ c main_v0 (by decide)).trans (kept_emb m ρ c)

theorem kept_pre : W2 m ρ c (Proc.devRef .tc main_v1_0) = (pre (m ((c : Thread nD τ).loc main_arg0)) (m ((c : Thread nD τ).loc main_arg1)) : FVec Ideal S4096x2048 .f32) := by
  refine (W2_arr m ρ c 4).trans ((gated (V1 m ρ) c).trans ?_)
  have h0 : V1 m ρ c main_arg0 = _ := W1_args m ρ c main_arg0 (by decide)
  have h1 : V1 m ρ c main_arg1 = _ := W1_args m ρ c main_arg1 (by decide)
  rw [h0, h1]

theorem kept_gate : W3 m ρ c (Proc.devRef .tc main_v2_0) = outGate (m ((c : Thread nD τ).loc main_arg0)) (m ((c : Thread nD τ).loc main_arg1))
    (m ((c : Thread nD τ).loc main_arg2)) (m ((c : Thread nD τ).loc main_arg3)) (m ((c : Thread nD τ).loc main_arg5)) := by
  refine (W3_arr m ρ c 3).trans ((pulledGate (V2 m ρ) c).trans ?_)
  have h0 : V2 m ρ c main_v0 = _ := kept_emb' m ρ c
  have h1 : V2 m ρ c main_v1_0 = _ := kept_pre m ρ c
  have h5 : V2 m ρ c main_arg5 = _ := W2_args m ρ c main_arg5 (by decide)
  rw [h0, h1, h5]
  rfl

theorem result_sum : W4 m ρ c (Proc.devRef .tc main_v1_1) = outSum (m ((c : Thread nD τ).loc main_arg0)) (m ((c : Thread nD τ).loc main_arg1))
    (m ((c : Thread nD τ).loc main_arg2)) (m ((c : Thread nD τ).loc main_arg3)) (m ((c : Thread nD τ).loc main_arg4)) := by
  refine (W4_of_ne m ρ c main_v1_1 (by decide)).trans ((W3_of_ne m ρ c main_v1_1 (by decide)).trans ?_)
  refine (W2_arr m ρ c 5).trans ((added (V1 m ρ) c).trans ?_)
  have h0 : V1 m ρ c main_arg0 = _ := W1_args m ρ c main_arg0 (by decide)
  have h1 : V1 m ρ c main_arg1 = _ := W1_args m ρ c main_arg1 (by decide)
  have h4 : V1 m ρ c main_arg4 = _ := W1_args m ρ c main_arg4 (by decide)
  have hv : V1 m ρ c main_v0 = _ := kept_emb m ρ c
  rw [h0, h1, h4, hv]
  rfl

theorem result_gate : W4 m ρ c (Proc.devRef .tc main_v2_0) = outGate (m ((c : Thread nD τ).loc main_arg0)) (m ((c : Thread nD τ).loc main_arg1))
    (m ((c : Thread nD τ).loc main_arg2)) (m ((c : Thread nD τ).loc main_arg3)) (m ((c : Thread nD τ).loc main_arg5)) :=
  (W4_of m ρ c main_v2_0 (by decide)).trans (kept_gate m ρ c)

theorem result_emb : W4 m ρ c (Proc.devRef .tc main_v2_1) = outEmb (m ((c : Thread nD τ).loc main_arg0)) (m ((c : Thread nD τ).loc main_arg1))
    (m ((c : Thread nD τ).loc main_arg5)) := by
  refine (W4_of_ne m ρ c main_v2_1 (by decide)).trans ((W3_arr m ρ c 4).trans ((pulledEmb (V2 m ρ) c).trans ?_))
  have h1 : V2 m ρ c main_v1_0 = _ := kept_pre m ρ c
  have h5 : V2 m ρ c main_arg5 = _ := W2_args m ρ c main_arg5 (by decide)
  rw [h1, h5]
  rfl

theorem result_back : W4 m ρ c (Proc.devRef .tc main_v3) = outBack (m ((c : Thread nD τ).loc main_arg0)) (m ((c : Thread nD τ).loc main_arg1))
    (m ((c : Thread nD τ).loc main_arg2)) (m ((c : Thread nD τ).loc main_arg3)) (m ((c : Thread nD τ).loc main_arg5)) := by
  refine (W4_arr m ρ c 2).trans ((entering (V3 m ρ) c).trans ?_)
  have h1 : V3 m ρ c main_arg1 = _ := W3_args m ρ c main_arg1 (by decide)
  have hv : V3 m ρ c main_v2_0 = _ := kept_gate m ρ c
  rw [h1, hv]
  rfl

/-! ## The reference -/

section Reference

open Cert.PleRefIdeal.Gen

/-- The reference's projection, -/
def refEmb (p : FVec Ideal S4096x256 .f32) (wp : FVec Ideal S256x2048 .bf16) : FVec Ideal S4096x2048 .f32 :=
  Host.dotGeneral Cert.PleRefIdeal.dot_S4096x256_S256x2048_S4096x2048_1_0_0_1_n_n none p (extf .f32 wp Cert.PleRefIdeal.Gen.bitsLt_bf16_f32)

/-- its gate before the logistic function, -/
def refPre (h : FVec Ideal S4096x2048 .bf16) (w : FVec Ideal S2048x2048 .bf16) : FVec Ideal S4096x2048 .f32 :=
  Host.dotGeneral Cert.PleRefIdeal.dot_S4096x2048_S2048x2048_S4096x2048_1_0_0_1_n_n none
    (extf .f32 h Cert.PleRefIdeal.Gen.bitsLt_bf16_f32) (extf .f32 w Cert.PleRefIdeal.Gen.bitsLt_bf16_f32)

/-- its number one at every entry, -/
def refOne : FVec Ideal S4096x2048 .f32 :=
  broadcastInDim S4096x2048 ![] Cert.PleRefIdeal.Gen.bcast_S_S4096x2048 (constant Cert.PleRefIdeal.S_ .f32 0x3F800000#32)

/-- its logistic function, -/
def refGate (z : FVec Ideal S4096x2048 .f32) : FVec Ideal S4096x2048 .f32 :=
  Host.divf refOne (addf refOne (Host.exp (Host.negf z)))

/-- and its gradient at the gate. -/
def refToGate (d z p : FVec Ideal S4096x2048 .f32) : FVec Ideal S4096x2048 .f32 :=
  mulf (mulf d p) (mulf (refGate z) (subf refOne (refGate z)))

theorem refEmb_at (p : FVec Ideal S4096x256 .f32) (wp : FVec Ideal S256x2048 .bf16) : refEmb p wp = emb p wp := by
  funext i
  unfold refEmb emb
  pointwise []

theorem refPre_at (h : FVec Ideal S4096x2048 .bf16) (w : FVec Ideal S2048x2048 .bf16) : refPre h w = pre h w := by
  funext i
  unfold refPre pre
  pointwise []

theorem refGate_at (z : FVec Ideal S4096x2048 .f32) (i : S4096x2048.Idx) : refGate z i = gate (z i) := by
  unfold refGate refOne gate
  rw [sub_eq_add_neg, zero_add]
  pointwise []

theorem refOne_at (i : S4096x2048.Idx) : refOne i = 1 := by
  unfold refOne
  pointwise []

theorem refToGate_at (d z p : FVec Ideal S4096x2048 .f32) (i : S4096x2048.Idx) : refToGate d z p i = gradGate (d i) (z i) (p i) := by
  show d i * p i * (refGate z i * (refOne i - refGate z i)) = _
  rw [refGate_at, refOne_at, ← mul_assoc]
  rfl

theorem reference_sum (h : FVec Ideal S4096x2048 .bf16) (w : FVec Ideal S2048x2048 .bf16) (p : FVec Ideal S4096x256 .f32)
    (wp : FVec Ideal S256x2048 .bf16) (x : FVec Ideal S4096x2048 .f32) :
    addf x (mulf (refGate (refPre h w)) (refEmb p wp)) = outSum h w p wp x := by
  funext i
  show x i + refGate _ i * refEmb p wp i = _
  rw [refGate_at, refPre_at, refEmb_at]
  rfl

theorem reference_gate (h : FVec Ideal S4096x2048 .bf16) (w : FVec Ideal S2048x2048 .bf16) (p : FVec Ideal S4096x256 .f32)
    (wp : FVec Ideal S256x2048 .bf16) (d : FVec Ideal S4096x2048 .f32) :
    truncf .bf16 (refToGate d (refPre h w) (refEmb p wp)) Cert.PleRefIdeal.Gen.bitsLt_bf16_f32 = outGate h w p wp d := by
  funext i
  show refToGate _ _ _ i = _
  rw [refToGate_at, refPre_at, refEmb_at]
  rfl

theorem reference_emb (h : FVec Ideal S4096x2048 .bf16) (w : FVec Ideal S2048x2048 .bf16) (d : FVec Ideal S4096x2048 .f32) :
    truncf .bf16 (mulf (refGate (refPre h w)) d) Cert.PleRefIdeal.Gen.bitsLt_bf16_f32 = outEmb h w d := by
  funext i
  show refGate _ i * d i = _
  rw [refGate_at, refPre_at, mul_comm]
  rfl

theorem reference_back (h : FVec Ideal S4096x2048 .bf16) (w : FVec Ideal S2048x2048 .bf16) (p : FVec Ideal S4096x256 .f32)
    (wp : FVec Ideal S256x2048 .bf16) (d : FVec Ideal S4096x2048 .f32) :
    (Host.dotGeneral Cert.PleRefIdeal.dot_S4096x2048_S2048x2048_S4096x2048_1_1_0_0_n_n none
      (refToGate d (refPre h w) (refEmb p wp)) (extf .f32 w Cert.PleRefIdeal.Gen.bitsLt_bf16_f32) : FVec Ideal S4096x2048 .f32)
      = outBack h w p wp d := by
  have e : refToGate d (refPre h w) (refEmb p wp) = outGate h w p wp d := funext fun i => by
    rw [refToGate_at, refPre_at, refEmb_at]; rfl
  rw [e]
  generalize hg : outGate h w p wp d = u
  funext i
  show _ = back (outGate h w p wp d) w i
  rw [hg]
  unfold back
  pointwise []

end Reference

theorem algebraic : Cert.algebraic_PleIdeal_PleRefIdeal := by
  intro m g m' g' _ hargs
  refine ⟨fun c => outSum (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    fun c => outGate (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)),
    fun c => outEmb (m ((c.tc : Thread nD τ).loc main_arg0)) (m ((c.tc : Thread nD τ).loc main_arg1)) (m ((c.tc : Thread nD τ).loc main_arg5)),
    fun c => outBack (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)), ?_, ?_⟩
  · refine (θ_run defs _ _).mono (fun r h c => ⟨(h c main_v1_1 (by decide)).trans (result_sum m g c),
      (h c main_v2_0 (by decide)).trans (result_gate m g c), (h c main_v2_1 (by decide)).trans (result_emb m g c),
      (h c main_v3 (by decide)).trans (result_back m g c),
      (h c main_arg0 (by decide)).trans (W4_main_arg0 m g c), (h c main_arg1 (by decide)).trans (W4_main_arg1 m g c),
      (h c main_arg2 (by decide)).trans (W4_main_arg2 m g c), (h c main_arg3 (by decide)).trans (W4_main_arg3 m g c),
      (h c main_arg4 (by decide)).trans (W4_main_arg4 m g c), (h c main_arg5 (by decide)).trans (W4_main_arg5 m g c)⟩) (run m g)
  · refine (θ_run Cert.PleRefIdeal.defs _ _).mono (fun r h c => ?_) (Cert.PleRefIdeal.Value.run m' g')
    obtain ⟨a0, a1, a2, a3, a4, a5⟩ := hargs c
    obtain ⟨h0, h1, h2, h3, h4⟩ := h c
    rw [a0, a1, a2, a3, a4] at h0
    rw [a0, a1, a2, a3, a5] at h1
    rw [a0, a1, a5] at h2
    rw [a0, a1, a2, a3, a5] at h3
    exact ⟨h0.trans (reference_sum _ _ _ _ _), h1.trans (reference_gate _ _ _ _ _), h2.trans (reference_emb _ _ _),
      h3.trans (reference_back _ _ _ _ _), h4⟩

theorem frame_reference : Cert.quiescent_PleRefIdeal := fun m ρ _ =>
  (θ_run Cert.PleRefIdeal.defs _ _).mono (fun r h => ⟨fun c => (h c).2.2.2.2, sem_eq_zero_of_no_sems rfl _⟩) (Cert.PleRefIdeal.Value.run m ρ)

theorem frame_kernelIdeal : Cert.quiescent_PleIdeal := fun m ρ _ => Cert.PleIdeal.Gen.frame m ρ

theorem frame_kernel : Cert.quiescent_Ple := by
  intro m ρ _
  refine Eq.mp ?_ (Cert.PleIdeal.Gen.frame (F := Bits) m ρ)
  sl_kernel_rfl

end Cert.PleIdeal.Product

end
-- ==== Proof.ValDWPleProj.lean ====
module

public import proofs.«01_k».proof.Defs
public import proofs.«01_k».proof.Proof.Blocks
public import proofs.«01_k».proof.Proof.Gen.DWPleProj
public import proofs.«01_k».proof.Proof.Gen.DWPleProjIdeal.Value
public import proofs.«01_k».proof.Proof.Gen.DWPleProjRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The gradient of the per-layer projection's weight: a product of the 256 per-layer features with the gradient of the
2048 columns, over 4096 tokens, taken 2048 at a time. A tile of the result has 256 rows and 1024 columns.
-/

@[expose] public section

set_option maxRecDepth 16384

noncomputable section

namespace Cert.DWPleProjIdeal.Product

open Cert.DWPleProjIdeal.Gen Cert.Product
open Idealize.ShloMosaic Idealize.ShloMosaic.TcCoe Idealize.ShloMosaic.Tactic Idealize.SL.Sem

variable (m : (ℓ : Loc nD τ sig) → Buf (Elt Ideal) ℓ) (c : Dev nD)

theorem left_A (i : grid0.Coords) (a3 h3 a4 h4 a5 h5 a6 h6 p0 p1 p2) (x0 x1) :
    sout0_A_0 (F := Ideal) c i a3 h3 a4 h4 a5 h5 a6 h6 p0 p1 p2 x0 x1 = k0_pay1 x0 x1 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  simp only [View.readAt_eq_ld, h3.read_unread, h4.read_unread, View.ld_unit_zero (S := S2048x256) zeros,
    View.ld_unit_zero (S := S2048x1024) zeros]

/-- What a later point keeps, and what it writes to the result. -/
theorem both_B (i : grid0.Coords) (a3 h3 a4 h4 a5 h5 a6 h6 p0 p1 p2) (x0 x1 xs) :
    sout0_B_0 (F := Ideal) c i a3 h3 a4 h4 a5 h5 a6 h6 p0 p1 p2 x0 x1 xs = k0_pay2 xs x0 x1
      ∧ out0_B_2 (F := Ideal) c i a3 h3 a4 h4 a5 h5 a6 h6 p0 p1 p2 x0 x1 xs = k0_pay3 (k0_pay2 xs x0 x1) := by
  constructor
  · unfold sout0_B_0
    rw [View.read_writes_eq_canon _ _ _ (scover0_B_0 c i a3 h3 a4 h4 a5 h5 a6 h6 p0 p1 p2 x0 x1 xs)]
    unfold kernelRun0_B
    dsimp only
    sl_unfold_words
    rw [View.canon_unit_zero zeros]
    simp only [View.readAt_eq_ld, h3.read_unread, h4.read_unread, h6.read_unread, View.ld_unit_zero (S := S2048x256) zeros,
      View.ld_unit_zero (S := S2048x1024) zeros, View.ld_unit_zero (S := S256x1024) zeros]
  · unfold out0_B_2
    rw [View.read_writes_eq_canon _ _ _ (cover0_B_2 c i a3 h3 a4 h4 a5 h5 a6 h6 p0 p1 p2 x0 x1 xs)]
    unfold kernelRun0_B
    dsimp only
    sl_unfold_words
    rw [View.canon_unit_zero zeros, View.readCov_unit_zero (S := S256x1024) _ zeros]
    simp only [View.readAt_eq_ld, h3.read_unread, h4.read_unread, h6.read_unread, View.ld_unit_zero (S := S2048x256) zeros,
      View.ld_unit_zero (S := S2048x1024) zeros, View.ld_unit_zero (S := S256x1024) zeros]

/-- One point's product of its two blocks, alone and added to what was kept. -/
theorem product_at (x0 : Vec Ideal S2048x256 .f32) (x1 : Vec Ideal S2048x1024 .bf16) (y : S256x1024.Idx) :
    k0_pay1 (F := Ideal) x0 x1 y = ∑ κ : Fin 2048, x0 (ix2 κ (y 0)) * x1 (ix2 κ (y 1)) := by
  unfold k0_pay1
  pointwise []

theorem added_at (xs) (x0 : Vec Ideal S2048x256 .f32) (x1 : Vec Ideal S2048x1024 .bf16) (y : S256x1024.Idx) :
    k0_pay2 (F := Ideal) xs x0 x1 y = xs y + ∑ κ : Fin 2048, x0 (ix2 κ (y 0)) * x1 (ix2 κ (y 1)) := by
  unfold k0_pay2
  pointwise []

theorem index_of : ∀ t : Fin cfg0.N, win0_0.index t = ![t.val % 2, t.val / 2 / 2] ∧ win0_1.index t = ![t.val % 2, t.val / 2 % 2] :=
  (by decide +kernel : ∀ t : Fin grid0.N, win0_0.index t = ![t.val % 2, t.val / 2 / 2] ∧ win0_1.index t = ![t.val % 2, t.val / 2 % 2])

theorem first_point (t : Fin cfg0.N) (h : t.val % 2 = 0) :
    (outsAt0 m c t.val t.isLt).2 = k0_pay1 (F := Ideal) (iblk m c 0 t) (iblk m c 1 t) := by
  rw [outsAt0_A m c t h (by omega) (by omega)]
  dsimp only; rw [left_A]

theorem next_point (t : Fin cfg0.N) (h : t.val % 2 ≠ 0) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h (by omega) (by omega)]
  dsimp only; rw [(both_B ..).1]

theorem last_point (t : Fin cfg0.N) (h : t.val % 2 = 1) :
    (outsAt0 m c t.val t.isLt).1 = k0_pay3 (outsAt0 m c t.val t.isLt).2 := by
  rw [outsAt0_B m c t (by omega) h h]
  dsimp only; rw [(both_B ..).1, (both_B ..).2]

/-- The whole product, at an entry. -/
def entry (a : Vec Ideal S4096x256 .f32) (b : Vec Ideal S4096x2048 .bf16) (i : S256x2048.Idx) : EReal :=
  ∑ κ : Fin 4096, a (ix2 κ (i 0)) * b (ix2 κ (i 1))

theorem value (i : S256x2048.Idx) : Value.G2 m c i
    = entry (m ((c : Thread nD τ).loc main_arg0)) (m ((c : Thread nD τ).loc main_arg1)) i := by
  have h0 : (i 0).val < 256 := (i 0).isLt
  have h1 : (i 1).val < 2048 := (i 1).isLt
  have hn : Value.pt2Of i = ((i 0).val / 256 * 2 + (i 1).val / 1024) * 2 + (2 - 1) := by
    show 2 * (2 * ((i 0).val / 256 - 0) + 1 * ((i 1).val / 1024 - 0)) + 1 = _; omega
  have hp : Value.pt2Of i < cfg0.N := by rw [show cfg0.N = 4 from N_0]; omega
  unfold Value.G2
  rw [dif_pos hp, ← Value.outsAt0_sweep, last_point m c ⟨Value.pt2Of i, hp⟩ (by dsimp only; omega)]
  rw [show Value.loc2Of i = ix2 ⟨(i 0).val % 256, Nat.mod_lt _ (by decide)⟩ ⟨(i 1).val % 1024, Nat.mod_lt _ (by decide)⟩ from
    funext fun d => by fin_cases d <;> rfl]
  refine tiled_product (K := 2) (B := 2048) (G := 2) (by decide) rfl (fun n h x y => (outsAt0 m c n h).2 (ix2 x y))
    (fun n h κ x => iblk m c 0 ⟨n, h⟩ (ix2 κ x)) (fun n h κ y => iblk m c 1 ⟨n, h⟩ (ix2 κ y))
    (fun κ p => m ((c : Thread nD τ).loc main_arg0) (ix2 κ p)) (fun κ q => m ((c : Thread nD τ).loc main_arg1) (ix2 κ q))
    (fun n h e x y => (congrFun (first_point m c ⟨n, h⟩ e) _).trans (product_at ..))
    (fun n h e x y => (congrFun (next_point m c ⟨n, h⟩ e) _).trans (added_at ..))
    (fun n h k x κ p hκ hp => ?_) (fun n h k y κ q hκ hq => ?_) (i 0) (i 1) (by omega) (Value.pt2Of i) hp hn _ _ rfl rfl
  · have e := index_of ⟨n, h⟩
    show iblk m c 0 _ _ = V m c main_arg0 _
    blk_ext [iblk, e, hκ, hp]
  · have e := index_of ⟨n, h⟩
    show iblk m c 1 _ _ = V m c main_arg1 _
    blk_ext [iblk, e, hκ, hq]
  · exact hp

/-- The reference's product, at an entry. -/
theorem reference_value (a : Vec Ideal S4096x256 .f32) (b : Vec Ideal S4096x2048 .bf16) (i : S256x2048.Idx) :
    truncf .bf16 (transpose S256x2048 [1, 0] (Host.dotGeneral (F := Ideal) (φ₂ := .f32)
      Cert.DWPleProjRefIdeal.dot_S4096x2048_S4096x256_S2048x256_0_0_1_1_n_n none (extf .f32 b Cert.DWPleProjRefIdeal.Gen.bitsLt_bf16_f32) a)
      Cert.DWPleProjRefIdeal.Gen.transposes_S2048x256_S256x2048_1_0) Cert.DWPleProjRefIdeal.Gen.bitsLt_bf16_f32 i = entry a b i := by
  unfold entry
  pointwise []
  exact Finset.sum_congr rfl fun _ _ => mul_comm _ _

theorem algebraic : Cert.algebraic_DWPleProjIdeal_DWPleProjRefIdeal := by
  intro m g m' g' _ hargs
  refine ⟨fun c => entry (m ((c.tc : Thread nD τ).loc main_arg0)) (m ((c.tc : Thread nD τ).loc main_arg1)), ?_, ?_⟩
  · exact (θ_run defs _ _).mono (fun r h c => ⟨(h c).1.trans (funext (value m c)), (h c).2⟩) (Value.run m g)
  · refine (θ_run Cert.DWPleProjRefIdeal.defs _ _).mono (fun r h c => ⟨(h c).1.trans ?_, (h c).2⟩) (Cert.DWPleProjRefIdeal.Value.run m' g')
    obtain ⟨a0, a1⟩ := hargs c
    rw [a0, a1]
    exact funext (reference_value _ _)

theorem frame_reference : Cert.quiescent_DWPleProjRefIdeal := fun m ρ _ =>
  (θ_run Cert.DWPleProjRefIdeal.defs _ _).mono (fun r h => ⟨fun c => (h c).2, sem_eq_zero_of_no_sems rfl _⟩) (Cert.DWPleProjRefIdeal.Value.run m ρ)

theorem frame_kernelIdeal : Cert.quiescent_DWPleProjIdeal := fun m ρ _ => Cert.DWPleProjIdeal.Gen.frame m ρ

theorem frame_kernel : Cert.quiescent_DWPleProj := by
  intro m ρ _
  refine Eq.mp ?_ (Cert.DWPleProjIdeal.Gen.frame (F := Bits) m ρ)
  sl_kernel_rfl

end Cert.DWPleProjIdeal.Product

end
-- ==== Proof.Adam.lean ====
module

public import proofs.«01_k».proof.Proof.Blocks
public import Idealize.ShloMosaic.Lib.Pointwise
public import Idealize.ShloMosaic.PureOps.Ideal
public import Idealize.ShloMosaic.Lib.ValueLayout
public import Idealize.ShloMosaic.Lib.IdealHost

/-!
One step of AdamW at one entry of an array: the two moments, and the change of the weight.
-/

@[expose] public section

noncomputable section

namespace Cert.Adam

open Idealize.ShloMosaic

/-- The number of a float's word. -/
def lit (b : BitVec 32) : EReal := FloatOps.ofBits (F := Ideal) .f32 b

/-- The first moment after the step, -/
def first (g m : EReal) : EReal := lit 0x3F666666#32 * m + lit 0x3DCCCCCD#32 * g

/-- the second moment after it, -/
def second (g v : EReal) : EReal := lit 0x3F7FBE77#32 * v + lit 0x3A83126F#32 * (g * g)

/-- and the change of the weight. -/
def change (w g m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

/-- The gradient from the devices' parts of it, which begin at row `off` of what each device sent. -/
def gradient {D T R C off : ℕ} (h : off + R ≤ T) (p : FVec Ideal ⟨3, ![D, T, C]⟩ .bf16) : FVec Ideal ⟨2, ![R, C]⟩ .f32 :=
  fun i => ∑ k : Fin D, p (ix3 k ⟨off + (i 0).val, Nat.lt_of_lt_of_le (Nat.add_lt_add_left (i 0).isLt off) h⟩ (i 1))

/-- The step on the arrays of a weight: the change, -/
def newChange {S : Shape} (w g m v : FVec Ideal S .f32) : FVec Ideal S .f32 := fun i => change (w i) (g i) (m i) (v i)
/-- and both moments. -/
def newFirst {S : Shape} (g m : FVec Ideal S .f32) : FVec Ideal S .f32 := fun i => first (g i) (m i)
def newSecond {S : Shape} (g v : FVec Ideal S .f32) : FVec Ideal S .f32 := fun i => second (g i) (v i)

/-- The start of a block of one device's part. -/
theorem zeros3 : (![0, 0, 0] : Fin 3 → Nat) = fun _ => 0 := funext fun a => by fin_cases a <;> rfl

/-- One device's block, widened and without its first axis, reads as the block. -/
theorem part_at {B C : ℕ} (x : FVec Ideal ⟨3, ![1, B, C]⟩ .bf16) (h : (⟨3, ![1, B, C]⟩ : Shape).ShapeCasts ⟨2, ![B, C]⟩)
    (hb : FTy.bf16.bits < FTy.f32.bits) (y : (⟨2, ![B, C]⟩ : Shape).Idx) :
    extf (F := Ideal) .f32 (shapeCast ⟨2, ![B, C]⟩ x h) hb y = x (ix3 0 (y 0) (y 1)) := by
  show shapeCast ⟨2, ![B, C]⟩ x h y = _
  rw [ValueIdx.eq_ix2 y]
  exact ValueIdx.shapeCast_1ab_ab_apply x h (y 0) (y 1)

/-- The parts' rows, cut out of what the devices sent and added up over the devices by a sum on the host. -/
theorem sum_at {D R C : ℕ} (x : FVec Ideal ⟨3, ![D, R, C]⟩ .bf16) (hb : FTy.bf16.bits < FTy.f32.bits)
    (h : (⟨3, ![D, R, C]⟩ : Shape).ReducesTo [0] ⟨2, ![R, C]⟩) (hu : 0 < (⟨0, ![]⟩ : Shape).numel) (i : (⟨2, ![R, C]⟩ : Shape).Idx) :
    Host.reduceAdd (F := Ideal) (extf .f32 x hb) (constant ⟨0, ![]⟩ .f32 0x00000000#32) h hu i = ∑ k : Fin D, x (ix3 k (i 0) (i 1)) := by
  pointwise []

/-- So the sum of the parts is the gradient, whether they are cut out of more rows -/
theorem sum_cut {D T R C off : ℕ} (hr : off + R ≤ T) (p : FVec Ideal ⟨3, ![D, T, C]⟩ .bf16)
    (hs : (⟨3, ![D, T, C]⟩ : Shape).Slices ![0, off, 0] ⟨3, ![D, R, C]⟩) (hb : FTy.bf16.bits < FTy.f32.bits)
    (h : (⟨3, ![D, R, C]⟩ : Shape).ReducesTo [0] ⟨2, ![R, C]⟩) (hu : 0 < (⟨0, ![]⟩ : Shape).numel) :
    Host.reduceAdd (F := Ideal) (extf .f32 (extractStridedSlice ⟨3, ![D, R, C]⟩ ![0, off, 0] p hs) hb)
      (constant ⟨0, ![]⟩ .f32 0x00000000#32) h hu = gradient hr p := by
  funext i
  rw [sum_at]
  refine Finset.sum_congr rfl fun k _ => congrArg p (funext fun a => Fin.ext ?_)
  match a with
  | ⟨0, _⟩ => exact Nat.zero_add _
  | ⟨1, _⟩ => rfl
  | ⟨2, _⟩ => exact Nat.zero_add _

/-- or are all of them. -/
theorem sum_whole {D R C : ℕ} (hr : 0 + R ≤ R) (p : FVec Ideal ⟨3, ![D, R, C]⟩ .bf16) (hb : FTy.bf16.bits < FTy.f32.bits)
    (h : (⟨3, ![D, R, C]⟩ : Shape).ReducesTo [0] ⟨2, ![R, C]⟩) (hu : 0 < (⟨0, ![]⟩ : Shape).numel) :
    Host.reduceAdd (F := Ideal) (extf .f32 p hb) (constant ⟨0, ![]⟩ .f32 0x00000000#32) h hu = gradient hr p := by
  funext i
  rw [sum_at]
  refine Finset.sum_congr rfl fun k _ => congrArg p (funext fun a => Fin.ext ?_)
  match a with
  | ⟨0, _⟩ => rfl
  | ⟨1, _⟩ => exact (Nat.zero_add _).symm
  | ⟨2, _⟩ => rfl

/-- A kernel's sum of eight devices' blocks, at an entry of the block where they are the parts, -/
theorem eight_at {T R C B C' off : ℕ} (hr : off + R ≤ T) (p : FVec Ideal ⟨3, ![8, T, C]⟩ .bf16) (i : (⟨2, ![R, C]⟩ : Shape).Idx)
    (x : Fin 8 → FVec Ideal ⟨3, ![1, B, C']⟩ .bf16) (h : (⟨3, ![1, B, C']⟩ : Shape).ShapeCasts ⟨2, ![B, C']⟩)
    (hb : FTy.bf16.bits < FTy.f32.bits) (y : (⟨2, ![B, C']⟩ : Shape).Idx)
    (hx : ∀ k, x k (ix3 0 (y 0) (y 1))
      = p (ix3 k ⟨off + (i 0).val, Nat.lt_of_lt_of_le (Nat.add_lt_add_left (i 0).isLt off) hr⟩ (i 1))) :
    addf (addf (addf (addf (addf (addf (addf (extf (F := Ideal) .f32 (shapeCast ⟨2, ![B, C']⟩ (x 0) h) hb)
      (extf .f32 (shapeCast ⟨2, ![B, C']⟩ (x 1) h) hb)) (extf .f32 (shapeCast ⟨2, ![B, C']⟩ (x 2) h) hb))
      (extf .f32 (shapeCast ⟨2, ![B, C']⟩ (x 3) h) hb)) (extf .f32 (shapeCast ⟨2, ![B, C']⟩ (x 4) h) hb))
      (extf .f32 (shapeCast ⟨2, ![B, C']⟩ (x 5) h) hb)) (extf .f32 (shapeCast ⟨2, ![B, C']⟩ (x 6) h) hb))
      (extf .f32 (shapeCast ⟨2, ![B, C']⟩ (x 7) h) hb) y = gradient hr p i :=
  (Fin.sum_univ_eight fun k => extf (F := Ideal) .f32 (shapeCast ⟨2, ![B, C']⟩ (x k) h) hb y).symm.trans
    (Finset.sum_congr rfl fun k _ => (part_at (x k) h hb y).trans (hx k))

/-- and of four. -/
theorem four_at {T R C B C' off : ℕ} (hr : off + R ≤ T) (p : FVec Ideal ⟨3, ![4, T, C]⟩ .bf16) (i : (⟨2, ![R, C]⟩ : Shape).Idx)
    (x : Fin 4 → FVec Ideal ⟨3, ![1, B, C']⟩ .bf16) (h : (⟨3, ![1, B, C']⟩ : Shape).ShapeCasts ⟨2, ![B, C']⟩)
    (hb : FTy.bf16.bits < FTy.f32.bits) (y : (⟨2, ![B, C']⟩ : Shape).Idx)
    (hx : ∀ k, x k (ix3 0 (y 0) (y 1))
      = p (ix3 k ⟨off + (i 0).val, Nat.lt_of_lt_of_le (Nat.add_lt_add_left (i 0).isLt off) hr⟩ (i 1))) :
    addf (addf (addf (extf (F := Ideal) .f32 (shapeCast ⟨2, ![B, C']⟩ (x 0) h) hb)
      (extf .f32 (shapeCast ⟨2, ![B, C']⟩ (x 1) h) hb)) (extf .f32 (shapeCast ⟨2, ![B, C']⟩ (x 2) h) hb))
      (extf .f32 (shapeCast ⟨2, ![B, C']⟩ (x 3) h) hb) y = gradient hr p i :=
  (Fin.sum_univ_four fun k => extf (F := Ideal) .f32 (shapeCast ⟨2, ![B, C']⟩ (x k) h) hb y).symm.trans
    (Finset.sum_congr rfl fun k _ => (part_at (x k) h hb y).trans (hx k))

end Cert.Adam

end
-- ==== Proof.ValAdamSmall.lean ====
module

public import proofs.«01_k».proof.Defs
public import proofs.«01_k».proof.Proof.Adam
public import proofs.«01_k».proof.Proof.Gen.AdamSmall
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pointwise
public import Idealize.ShloMosaic.Lib.Quiescent

/-!
The optimiser's step on the small weights, packed in rows of 128: the change of the weight and both moments.
-/

@[expose] public section

set_option maxRecDepth 16384

noncomputable section

namespace Cert.AdamSmallIdeal.Product

open Cert.AdamSmallIdeal.Gen Cert.Adam
open Idealize.ShloMosaic Idealize.ShloMosaic.TcCoe Idealize.ShloMosaic.Tactic Idealize.SL.Sem

variable (w m v g : FVec Ideal S120x128 .f32)

def outChange : FVec Ideal S120x128 .f32 := fun i => change (w i) (g i) (m i) (v i)
def outFirst : FVec Ideal S120x128 .f32 := fun i => first (g i) (m i)
def outSecond : FVec Ideal S120x128 .f32 := fun i => second (g i) (v i)

theorem kernel_change : Value.G4 (F := Ideal) w g m v = outChange w m v g := rfl
theorem kernel_first : Value.G5 (F := Ideal) g m = outFirst m g := rfl
theorem kernel_second : Value.G6 (F := Ideal) g v = outSecond v g := rfl

theorem algebraic : Cert.algebraic_AdamSmallIdeal_AdamSmallRefIdeal := by
  intro m g m' g' _ hargs
  refine ⟨fun c => outChange (m ((c.tc : Thread nD τ).loc main_arg0)) (m ((c.tc : Thread nD τ).loc main_arg1))
      (m ((c.tc : Thread nD τ).loc main_arg2)) (m ((c.tc : Thread nD τ).loc main_arg3)),
    fun c => outFirst (m ((c.tc : Thread nD τ).loc main_arg1)) (m ((c.tc : Thread nD τ).loc main_arg3)),
    fun c => outSecond (m ((c.tc : Thread nD τ).loc main_arg2)) (m ((c.tc : Thread nD τ).loc main_arg3)), ?_, ?_⟩
  · exact (θ_run defs _ _).mono (fun r h c => ⟨(h c).1.trans (kernel_change ..), (h c).2.1.trans (kernel_first ..),
      (h c).2.2.1.trans (kernel_second ..), (h c).2.2.2⟩) (Value.run m g)
  · refine (θ_run Cert.AdamSmallRefIdeal.defs _ _).mono (fun r h c => ?_) (Cert.AdamSmallRefIdeal.Value.run m' g')
    obtain ⟨a0, a1, a2, a3⟩ := hargs c
    obtain ⟨h0, h1, h2, h3⟩ := h c
    rw [a0, a1, a2, a3] at h0
    rw [a1, a3] at h1
    rw [a2, a3] at h2
    exact ⟨h0.trans rfl, h1.trans rfl, h2.trans rfl, h3⟩

theorem frame_reference : Cert.quiescent_AdamSmallRefIdeal := fun m ρ _ =>
  (θ_run Cert.AdamSmallRefIdeal.defs _ _).mono (fun r h => ⟨fun c => (h c).2.2.2, sem_eq_zero_of_no_sems rfl _⟩)
    (Cert.AdamSmallRefIdeal.Value.run m ρ)

theorem frame_kernelIdeal : Cert.quiescent_AdamSmallIdeal := fun m ρ _ => Cert.AdamSmallIdeal.Gen.frame m ρ

theorem frame_kernel : Cert.quiescent_AdamSmall := by
  intro m ρ _
  refine Eq.mp ?_ (Cert.AdamSmallIdeal.Gen.frame (F := Bits) m ρ)
  sl_kernel_rfl

end Cert.AdamSmallIdeal.Product

end
-- ==== Proof.ValAdamWOut.lean ====
module

public import proofs.«01_k».proof.Defs
public import proofs.«01_k».proof.Proof.Adam
public import proofs.«01_k».proof.Proof.Gen.AdamWOut
public import proofs.«01_k».proof.Proof.Gen.AdamWOutIdeal.Value
public import proofs.«01_k».proof.Proof.Gen.AdamWOutRefIdeal.Run
public import Idealize.ShloMosaic.Lib.Pipeline.ValueKit
public import Idealize.ShloMosaic.Lib.Pointwise
public import Idealize.ShloMosaic.Lib.Tactic.CleanTypes
public import Idealize.ShloMosaic.Lib.Quiescent

/-!
The optimiser's step on the output projection's weight: the sum of the devices' parts of its gradient, the change of the
weight, and both moments.
-/

@[expose] public section

set_option maxRecDepth 16384

noncomputable section

namespace Cert.AdamWOutIdeal.Product

open Cert.AdamWOutIdeal.Gen Cert.Adam Cert.Product
open Idealize.ShloMosaic Idealize.ShloMosaic.TcCoe Idealize.ShloMosaic.Tactic Idealize.SL.Sem

/-- The rows of this weight in what a device sent. -/
theorem rows : 0 + 256 ≤ 1536 := by decide

variable (m : (ℓ : Loc nD τ sig) → Buf (Elt Ideal) ℓ) (c : Dev nD)

abbrev w₀ : FVec Ideal S256x2048 .f32 := m ((c : Thread nD τ).loc main_arg0)
abbrev m₀ : FVec Ideal S256x2048 .f32 := m ((c : Thread nD τ).loc main_arg1)
abbrev v₀ : FVec Ideal S256x2048 .f32 := m ((c : Thread nD τ).loc main_arg2)
abbrev g₀ : FVec Ideal S256x2048 .f32 := gradient rows (m ((c : Thread nD τ).loc main_arg3))

theorem index_of : ∀ t : Fin cfg0.N, win0_3.index t = ![0, t.val, 0] ∧ win0_4.index t = ![1, t.val, 0] ∧ win0_5.index t = ![2, t.val, 0]
    ∧ win0_6.index t = ![3, t.val, 0] ∧ win0_7.index t = ![4, t.val, 0] ∧ win0_8.index t = ![5, t.val, 0]
    ∧ win0_9.index t = ![6, t.val, 0] ∧ win0_10.index t = ![7, t.val, 0] ∧ win0_11.index t = ![t.val, 0] := by
  unfold cfg0; decide +kernel

/-- The devices' blocks at a point. -/
def blocks (t : Fin cfg0.N) : Fin 8 → Vec Ideal S1x128x2048 .bf16 :=
  ![iblk m c 3 t, iblk m c 4 t, iblk m c 5 t, iblk m c 6 t, iblk m c 7 t, iblk m c 8 t, iblk m c 9 t, iblk m c 10 t]

set_option maxHeartbeats 2000000 in
/-- A point's sum is the gradient at the entries of its block. -/
theorem block_sum (t : Fin cfg0.N) (y : S128x2048.Idx) :
    k0_pay4 (F := Ideal) (iblk m c 3 t) (iblk m c 4 t) (iblk m c 5 t) (iblk m c 6 t) (iblk m c 7 t) (iblk m c 8 t) (iblk m c 9 t)
      (iblk m c 10 t) y = g₀ m c ((win0_11.blk t).view.emb y) := by
  refine eight_at rows _ _ (blocks m c t) shapeCasts_S1x128x2048_S128x2048 bitsLt_bf16_f32 y fun k => ?_
  obtain ⟨e3, e4, e5, e6, e7, e8, e9, e10, e⟩ := index_of t
  fin_cases k
  all_goals
    dsimp only [blocks]
    blk_ext [iblk, e3, e4, e5, e6, e7, e8, e9, e10, e]

/-- The arrays after the call. -/
theorem kernel_arrays : (dats m 0 c).arrAt 11 cfg0.N = g₀ m c
    ∧ (dats m 0 c).arrAt 12 cfg0.N = newChange (w₀ m c) (g₀ m c) (m₀ m c) (v₀ m c)
    ∧ (dats m 0 c).arrAt 13 cfg0.N = newFirst (g₀ m c) (m₀ m c)
    ∧ (dats m 0 c).arrAt 14 cfg0.N = newSecond (g₀ m c) (v₀ m c) := by
  refine ⟨(dats m 0 c).arrAt_eq_of_covers 11 _ (by decide +kernel) fun t _ y => ?_,
    (dats m 0 c).arrAt_eq_of_covers 12 _ (by decide +kernel) fun t _ y => ?_,
    (dats m 0 c).arrAt_eq_of_covers 13 _ (by decide +kernel) fun t _ y => ?_,
    (dats m 0 c).arrAt_eq_of_covers 14 _ (by decide +kernel) fun t _ y => ?_⟩
  all_goals
    blk_simp
    simp only [after0_11, after0_12, after0_13, after0_14, out0_11, out0_12, out0_13, out0_14, View.canon_unit_zero (S := S128x2048) zeros,
      View.ld_unit_zero (S := S128x2048) zeros, View.ld_unit_zero (S := S1x128x2048) zeros3, k0_pay5]
  · exact block_sum m c t y
  · show change _ _ _ _ = change _ _ _ _
    congr 1
    exact block_sum m c t y
  · show first _ _ = first _ _
    congr 1
    exact block_sum m c t y
  · show second _ _ = second _ _
    congr 1
    exact block_sum m c t y

theorem algebraic : Cert.algebraic_AdamWOutIdeal_AdamWOutRefIdeal := by
  intro m g m' g' _ hargs
  refine ⟨fun c => g₀ m c, fun c => newChange (w₀ m c) (g₀ m c) (m₀ m c) (v₀ m c), fun c => newFirst (g₀ m c) (m₀ m c),
    fun c => newSecond (g₀ m c) (v₀ m c), ?_, ?_⟩
  · refine (θ_run defs _ _).mono (fun r h c => ?_) (Value.run_blocks m g)
    obtain ⟨k0, k1, k2, k3⟩ := kernel_arrays m c
    obtain ⟨h0, h1, h2, h3, h4⟩ := h c
    exact ⟨h0.trans k0, h1.trans k1, h2.trans k2, h3.trans k3, h4⟩
  · refine (θ_run Cert.AdamWOutRefIdeal.defs _ _).mono (fun r h c => ?_) (Cert.AdamWOutRefIdeal.Value.run m' g')
    obtain ⟨a0, a1, a2, a3⟩ := hargs c
    obtain ⟨h0, h1, h2, h3, h4⟩ := h c
    simp only [a0, a1, a2, a3, sum_cut rows] at h0 h1 h2 h3
    exact ⟨h0, h1, h2, h3, h4⟩

theorem frame_reference : Cert.quiescent_AdamWOutRefIdeal := fun m ρ _ =>
  (θ_run Cert.AdamWOutRefIdeal.defs _ _).mono (fun r h => ⟨fun c => (h c).2.2.2.2, sem_eq_zero_of_no_sems rfl _⟩)
    (Cert.AdamWOutRefIdeal.Value.run m ρ)

theorem frame_kernelIdeal : Cert.quiescent_AdamWOutIdeal := fun m ρ _ => Cert.AdamWOutIdeal.Gen.frame m ρ

theorem frame_kernel : Cert.quiescent_AdamWOut := by
  intro m ρ _
  refine Eq.mp ?_ (Cert.AdamWOutIdeal.Gen.frame (F := Bits) m ρ)
  sl_kernel_rfl

end Cert.AdamWOutIdeal.Product

end
-- ==== Proof.ValAdamWPleGate.lean ====
module

public import proofs.«01_k».proof.Defs
public import proofs.«01_k».proof.Proof.Adam
public import proofs.«01_k».proof.Proof.Gen.AdamWPleGate
public import proofs.«01_k».proof.Proof.Gen.AdamWPleGateIdeal.Value
public import proofs.«01_k».proof.Proof.Gen.AdamWPleGateRefIdeal.Run
public import Idealize.ShloMosaic.Lib.Pipeline.ValueKit
public import Idealize.ShloMosaic.Lib.Tactic.CleanTypes
public import Idealize.ShloMosaic.Lib.Quiescent

/-!
The optimiser's step on the weight of the per-layer gate, by the lemmas of Proof/Adam.lean. Its rows come after the output
projection's in what the devices send, so a block of a part is two blocks further down than the block of the weight.
-/

@[expose] public section

set_option maxRecDepth 16384

noncomputable section

namespace Cert.AdamWPleGateIdeal.Product

open Cert.AdamWPleGateIdeal.Gen Cert.Adam Cert.Product
open Idealize.ShloMosaic Idealize.ShloMosaic.TcCoe Idealize.ShloMosaic.Tactic Idealize.SL.Sem

/-- The rows of this weight in what a device sent. -/
theorem rows : 256 + 256 ≤ 1536 := by decide

variable (m : (ℓ : Loc nD τ sig) → Buf (Elt Ideal) ℓ) (c : Dev nD)

abbrev w₀ : FVec Ideal S256x2048 .f32 := m ((c : Thread nD τ).loc main_arg0)
abbrev m₀ : FVec Ideal S256x2048 .f32 := m ((c : Thread nD τ).loc main_arg1)
abbrev v₀ : FVec Ideal S256x2048 .f32 := m ((c : Thread nD τ).loc main_arg2)
abbrev g₀ : FVec Ideal S256x2048 .f32 := gradient rows (m ((c : Thread nD τ).loc main_arg3))

theorem index_of : ∀ t : Fin cfg0.N, win0_3.index t = ![0, t.val + 2, 0] ∧ win0_4.index t = ![1, t.val + 2, 0]
    ∧ win0_5.index t = ![2, t.val + 2, 0] ∧ win0_6.index t = ![3, t.val + 2, 0] ∧ win0_7.index t = ![4, t.val + 2, 0]
    ∧ win0_8.index t = ![5, t.val + 2, 0] ∧ win0_9.index t = ![6, t.val + 2, 0] ∧ win0_10.index t = ![7, t.val + 2, 0]
    ∧ win0_11.index t = ![t.val, 0] := by
  unfold cfg0; decide +kernel

/-- The devices' blocks at a point. -/
def blocks (t : Fin cfg0.N) : Fin 8 → Vec Ideal S1x128x2048 .bf16 :=
  ![iblk m c 3 t, iblk m c 4 t, iblk m c 5 t, iblk m c 6 t, iblk m c 7 t, iblk m c 8 t, iblk m c 9 t, iblk m c 10 t]

set_option maxHeartbeats 2000000 in
theorem block_sum (t : Fin cfg0.N) (y : S128x2048.Idx) :
    k0_pay4 (F := Ideal) (iblk m c 3 t) (iblk m c 4 t) (iblk m c 5 t) (iblk m c 6 t) (iblk m c 7 t) (iblk m c 8 t) (iblk m c 9 t)
      (iblk m c 10 t) y = g₀ m c ((win0_11.blk t).view.emb y) := by
  refine eight_at rows _ _ (blocks m c t) shapeCasts_S1x128x2048_S128x2048 bitsLt_bf16_f32 y fun k => ?_
  obtain ⟨e3, e4, e5, e6, e7, e8, e9, e10, e⟩ := index_of t
  fin_cases k
  all_goals
    dsimp only [blocks]
    blk_ext [iblk, e3, e4, e5, e6, e7, e8, e9, e10, e]

theorem kernel_arrays : (dats m 0 c).arrAt 11 cfg0.N = g₀ m c
    ∧ (dats m 0 c).arrAt 12 cfg0.N = newChange (w₀ m c) (g₀ m c) (m₀ m c) (v₀ m c)
    ∧ (dats m 0 c).arrAt 13 cfg0.N = newFirst (g₀ m c) (m₀ m c)
    ∧ (dats m 0 c).arrAt 14 cfg0.N = newSecond (g₀ m c) (v₀ m c) := by
  refine ⟨(dats m 0 c).arrAt_eq_of_covers 11 _ (by decide +kernel) fun t _ y => ?_,
    (dats m 0 c).arrAt_eq_of_covers 12 _ (by decide +kernel) fun t _ y => ?_,
    (dats m 0 c).arrAt_eq_of_covers 13 _ (by decide +kernel) fun t _ y => ?_,
    (dats m 0 c).arrAt_eq_of_covers 14 _ (by decide +kernel) fun t _ y => ?_⟩
  all_goals
    blk_simp
    simp only [after0_11, after0_12, after0_13, after0_14, out0_11, out0_12, out0_13, out0_14, View.canon_unit_zero (S := S128x2048) zeros,
      View.ld_unit_zero (S := S128x2048) zeros, View.ld_unit_zero (S := S1x128x2048) zeros3, k0_pay5]
  · exact block_sum m c t y
  · show change _ _ _ _ = change _ _ _ _
    congr 1
    exact block_sum m c t y
  · show first _ _ = first _ _
    congr 1
    exact block_sum m c t y
  · show second _ _ = second _ _
    congr 1
    exact block_sum m c t y

theorem algebraic : Cert.algebraic_AdamWPleGateIdeal_AdamWPleGateRefIdeal := by
  intro m g m' g' _ hargs
  refine ⟨fun c => g₀ m c, fun c => newChange (w₀ m c) (g₀ m c) (m₀ m c) (v₀ m c), fun c => newFirst (g₀ m c) (m₀ m c),
    fun c => newSecond (g₀ m c) (v₀ m c), ?_, ?_⟩
  · refine (θ_run defs _ _).mono (fun r h c => ?_) (Value.run_blocks m g)
    obtain ⟨k0, k1, k2, k3⟩ := kernel_arrays m c
    obtain ⟨h0, h1, h2, h3, h4⟩ := h c
    exact ⟨h0.trans k0, h1.trans k1, h2.trans k2, h3.trans k3, h4⟩
  · refine (θ_run Cert.AdamWPleGateRefIdeal.defs _ _).mono (fun r h c => ?_) (Cert.AdamWPleGateRefIdeal.Value.run m' g')
    obtain ⟨a0, a1, a2, a3⟩ := hargs c
    obtain ⟨h0, h1, h2, h3, h4⟩ := h c
    simp only [a0, a1, a2, a3, sum_cut rows] at h0 h1 h2 h3
    exact ⟨h0, h1, h2, h3, h4⟩

theorem frame_reference : Cert.quiescent_AdamWPleGateRefIdeal := fun m ρ _ =>
  (θ_run Cert.AdamWPleGateRefIdeal.defs _ _).mono (fun r h => ⟨fun c => (h c).2.2.2.2, sem_eq_zero_of_no_sems rfl _⟩)
    (Cert.AdamWPleGateRefIdeal.Value.run m ρ)

theorem frame_kernelIdeal : Cert.quiescent_AdamWPleGateIdeal := fun m ρ _ => Cert.AdamWPleGateIdeal.Gen.frame m ρ

theorem frame_kernel : Cert.quiescent_AdamWPleGate := by
  intro m ρ _
  refine Eq.mp ?_ (Cert.AdamWPleGateIdeal.Gen.frame (F := Bits) m ρ)
  sl_kernel_rfl

end Cert.AdamWPleGateIdeal.Product

end
-- ==== Proof.ValAdamWDown.lean ====
module

public import proofs.«01_k».proof.Defs
public import proofs.«01_k».proof.Proof.Adam
public import proofs.«01_k».proof.Proof.Gen.AdamWDown
public import proofs.«01_k».proof.Proof.Gen.AdamWDownIdeal.Value
public import proofs.«01_k».proof.Proof.Gen.AdamWDownRefIdeal.Run
public import Idealize.ShloMosaic.Lib.Pipeline.ValueKit
public import Idealize.ShloMosaic.Lib.Tactic.CleanTypes
public import Idealize.ShloMosaic.Lib.Quiescent

/-!
The optimiser's step on the MLP's second weight, by the lemmas of Proof/Adam.lean. Its rows are the last 1024 of what the
devices send, from the fifth block on.
-/

@[expose] public section

set_option maxRecDepth 16384

noncomputable section

namespace Cert.AdamWDownIdeal.Product

open Cert.AdamWDownIdeal.Gen Cert.Adam Cert.Product
open Idealize.ShloMosaic Idealize.ShloMosaic.TcCoe Idealize.ShloMosaic.Tactic Idealize.SL.Sem

/-- The rows of this weight in what a device sent. -/
theorem rows : 512 + 1024 ≤ 1536 := by decide

variable (m : (ℓ : Loc nD τ sig) → Buf (Elt Ideal) ℓ) (c : Dev nD)

abbrev w₀ : FVec Ideal S1024x2048 .f32 := m ((c : Thread nD τ).loc main_arg0)
abbrev m₀ : FVec Ideal S1024x2048 .f32 := m ((c : Thread nD τ).loc main_arg1)
abbrev v₀ : FVec Ideal S1024x2048 .f32 := m ((c : Thread nD τ).loc main_arg2)
abbrev g₀ : FVec Ideal S1024x2048 .f32 := gradient rows (m ((c : Thread nD τ).loc main_arg3))

theorem index_of : ∀ t : Fin cfg0.N, win0_3.index t = ![0, t.val + 4, 0] ∧ win0_4.index t = ![1, t.val + 4, 0]
    ∧ win0_5.index t = ![2, t.val + 4, 0] ∧ win0_6.index t = ![3, t.val + 4, 0] ∧ win0_7.index t = ![4, t.val + 4, 0]
    ∧ win0_8.index t = ![5, t.val + 4, 0] ∧ win0_9.index t = ![6, t.val + 4, 0] ∧ win0_10.index t = ![7, t.val + 4, 0]
    ∧ win0_11.index t = ![t.val, 0] := by
  unfold cfg0; decide +kernel

/-- The devices' blocks at a point. -/
def blocks (t : Fin cfg0.N) : Fin 8 → Vec Ideal S1x128x2048 .bf16 :=
  ![iblk m c 3 t, iblk m c 4 t, iblk m c 5 t, iblk m c 6 t, iblk m c 7 t, iblk m c 8 t, iblk m c 9 t, iblk m c 10 t]

set_option maxHeartbeats 2000000 in
theorem block_sum (t : Fin cfg0.N) (y : S128x2048.Idx) :
    k0_pay4 (F := Ideal) (iblk m c 3 t) (iblk m c 4 t) (iblk m c 5 t) (iblk m c 6 t) (iblk m c 7 t) (iblk m c 8 t) (iblk m c 9 t)
      (iblk m c 10 t) y = g₀ m c ((win0_11.blk t).view.emb y) := by
  refine eight_at rows _ _ (blocks m c t) shapeCasts_S1x128x2048_S128x2048 bitsLt_bf16_f32 y fun k => ?_
  obtain ⟨e3, e4, e5, e6, e7, e8, e9, e10, e⟩ := index_of t
  fin_cases k
  all_goals
    dsimp only [blocks]
    blk_ext [iblk, e3, e4, e5, e6, e7, e8, e9, e10, e]

theorem kernel_arrays : (dats m 0 c).arrAt 11 cfg0.N = g₀ m c
    ∧ (dats m 0 c).arrAt 12 cfg0.N = newChange (w₀ m c) (g₀ m c) (m₀ m c) (v₀ m c)
    ∧ (dats m 0 c).arrAt 13 cfg0.N = newFirst (g₀ m c) (m₀ m c)
    ∧ (dats m 0 c).arrAt 14 cfg0.N = newSecond (g₀ m c) (v₀ m c) := by
  refine ⟨(dats m 0 c).arrAt_eq_of_covers 11 _ (by decide +kernel) fun t _ y => ?_,
    (dats m 0 c).arrAt_eq_of_covers 12 _ (by decide +kernel) fun t _ y => ?_,
    (dats m 0 c).arrAt_eq_of_covers 13 _ (by decide +kernel) fun t _ y => ?_,
    (dats m 0 c).arrAt_eq_of_covers 14 _ (by decide +kernel) fun t _ y => ?_⟩
  all_goals
    blk_simp
    simp only [after0_11, after0_12, after0_13, after0_14, out0_11, out0_12, out0_13, out0_14, View.canon_unit_zero (S := S128x2048) zeros,
      View.ld_unit_zero (S := S128x2048) zeros, View.ld_unit_zero (S := S1x128x2048) zeros3, k0_pay5]
  · exact block_sum m c t y
  · show change _ _ _ _ = change _ _ _ _
    congr 1
    exact block_sum m c t y
  · show first _ _ = first _ _
    congr 1
    exact block_sum m c t y
  · show second _ _ = second _ _
    congr 1
    exact block_sum m c t y

theorem algebraic : Cert.algebraic_AdamWDownIdeal_AdamWDownRefIdeal := by
  intro m g m' g' _ hargs
  refine ⟨fun c => g₀ m c, fun c => newChange (w₀ m c) (g₀ m c) (m₀ m c) (v₀ m c), fun c => newFirst (g₀ m c) (m₀ m c),
    fun c => newSecond (g₀ m c) (v₀ m c), ?_, ?_⟩
  · refine (θ_run defs _ _).mono (fun r h c => ?_) (Value.run_blocks m g)
    obtain ⟨k0, k1, k2, k3⟩ := kernel_arrays m c
    obtain ⟨h0, h1, h2, h3, h4⟩ := h c
    exact ⟨h0.trans k0, h1.trans k1, h2.trans k2, h3.trans k3, h4⟩
  · refine (θ_run Cert.AdamWDownRefIdeal.defs _ _).mono (fun r h c => ?_) (Cert.AdamWDownRefIdeal.Value.run m' g')
    obtain ⟨a0, a1, a2, a3⟩ := hargs c
    obtain ⟨h0, h1, h2, h3, h4⟩ := h c
    simp only [a0, a1, a2, a3, sum_cut rows] at h0 h1 h2 h3
    exact ⟨h0, h1, h2, h3, h4⟩

theorem frame_reference : Cert.quiescent_AdamWDownRefIdeal := fun m ρ _ =>
  (θ_run Cert.AdamWDownRefIdeal.defs _ _).mono (fun r h => ⟨fun c => (h c).2.2.2.2, sem_eq_zero_of_no_sems rfl _⟩)
    (Cert.AdamWDownRefIdeal.Value.run m ρ)

theorem frame_kernelIdeal : Cert.quiescent_AdamWDownIdeal := fun m ρ _ => Cert.AdamWDownIdeal.Gen.frame m ρ

theorem frame_kernel : Cert.quiescent_AdamWDown := by
  intro m ρ _
  refine Eq.mp ?_ (Cert.AdamWDownIdeal.Gen.frame (F := Bits) m ρ)
  sl_kernel_rfl

end Cert.AdamWDownIdeal.Product

end
-- ==== Proof.ValAdamWUp.lean ====
module

public import proofs.«01_k».proof.Defs
public import proofs.«01_k».proof.Proof.Adam
public import proofs.«01_k».proof.Proof.Gen.AdamWUp
public import proofs.«01_k».proof.Proof.Gen.AdamWUpIdeal.Value
public import proofs.«01_k».proof.Proof.Gen.AdamWUpRefIdeal.Run
public import Idealize.ShloMosaic.Lib.Pipeline.ValueKit
public import Idealize.ShloMosaic.Lib.Tactic.CleanTypes
public import Idealize.ShloMosaic.Lib.Quiescent

/-!
The optimiser's step on the MLP's first weight, by the lemmas of Proof/Adam.lean. The devices send its rows alone.
-/

@[expose] public section

set_option maxRecDepth 16384

noncomputable section

namespace Cert.AdamWUpIdeal.Product

open Cert.AdamWUpIdeal.Gen Cert.Adam Cert.Product
open Idealize.ShloMosaic Idealize.ShloMosaic.TcCoe Idealize.ShloMosaic.Tactic Idealize.SL.Sem

/-- The rows of this weight in what a device sent. -/
theorem rows : 0 + 2048 ≤ 2048 := by decide

variable (m : (ℓ : Loc nD τ sig) → Buf (Elt Ideal) ℓ) (c : Dev nD)

abbrev w₀ : FVec Ideal S2048x1024 .f32 := m ((c : Thread nD τ).loc main_arg0)
abbrev m₀ : FVec Ideal S2048x1024 .f32 := m ((c : Thread nD τ).loc main_arg1)
abbrev v₀ : FVec Ideal S2048x1024 .f32 := m ((c : Thread nD τ).loc main_arg2)
abbrev g₀ : FVec Ideal S2048x1024 .f32 := gradient rows (m ((c : Thread nD τ).loc main_arg3))

theorem index_of : ∀ t : Fin cfg0.N, win0_3.index t = ![0, t.val, 0] ∧ win0_4.index t = ![1, t.val, 0] ∧ win0_5.index t = ![2, t.val, 0]
    ∧ win0_6.index t = ![3, t.val, 0] ∧ win0_7.index t = ![4, t.val, 0] ∧ win0_8.index t = ![5, t.val, 0]
    ∧ win0_9.index t = ![6, t.val, 0] ∧ win0_10.index t = ![7, t.val, 0] ∧ win0_11.index t = ![t.val, 0] := by
  unfold cfg0; decide +kernel

/-- The devices' blocks at a point. -/
def blocks (t : Fin cfg0.N) : Fin 8 → Vec Ideal S1x128x1024 .bf16 :=
  ![iblk m c 3 t, iblk m c 4 t, iblk m c 5 t, iblk m c 6 t, iblk m c 7 t, iblk m c 8 t, iblk m c 9 t, iblk m c 10 t]

set_option maxHeartbeats 2000000 in
theorem block_sum (t : Fin cfg0.N) (y : S128x1024.Idx) :
    k0_pay4 (F := Ideal) (iblk m c 3 t) (iblk m c 4 t) (iblk m c 5 t) (iblk m c 6 t) (iblk m c 7 t) (iblk m c 8 t) (iblk m c 9 t)
      (iblk m c 10 t) y = g₀ m c ((win0_11.blk t).view.emb y) := by
  refine eight_at rows _ _ (blocks m c t) shapeCasts_S1x128x1024_S128x1024 bitsLt_bf16_f32 y fun k => ?_
  obtain ⟨e3, e4, e5, e6, e7, e8, e9, e10, e⟩ := index_of t
  fin_cases k
  all_goals
    dsimp only [blocks]
    blk_ext [iblk, e3, e4, e5, e6, e7, e8, e9, e10, e]

theorem kernel_arrays : (dats m 0 c).arrAt 11 cfg0.N = g₀ m c
    ∧ (dats m 0 c).arrAt 12 cfg0.N = newChange (w₀ m c) (g₀ m c) (m₀ m c) (v₀ m c)
    ∧ (dats m 0 c).arrAt 13 cfg0.N = newFirst (g₀ m c) (m₀ m c)
    ∧ (dats m 0 c).arrAt 14 cfg0.N = newSecond (g₀ m c) (v₀ m c) := by
  refine ⟨(dats m 0 c).arrAt_eq_of_covers 11 _ (by decide +kernel) fun t _ y => ?_,
    (dats m 0 c).arrAt_eq_of_covers 12 _ (by decide +kernel) fun t _ y => ?_,
    (dats m 0 c).arrAt_eq_of_covers 13 _ (by decide +kernel) fun t _ y => ?_,
    (dats m 0 c).arrAt_eq_of_covers 14 _ (by decide +kernel) fun t _ y => ?_⟩
  all_goals
    blk_simp
    simp only [after0_11, after0_12, after0_13, after0_14, out0_11, out0_12, out0_13, out0_14, View.canon_unit_zero (S := S128x1024) zeros,
      View.ld_unit_zero (S := S128x1024) zeros, View.ld_unit_zero (S := S1x128x1024) zeros3, k0_pay5]
  · exact block_sum m c t y
  · show change _ _ _ _ = change _ _ _ _
    congr 1
    exact block_sum m c t y
  · show first _ _ = first _ _
    congr 1
    exact block_sum m c t y
  · show second _ _ = second _ _
    congr 1
    exact block_sum m c t y

theorem algebraic : Cert.algebraic_AdamWUpIdeal_AdamWUpRefIdeal := by
  intro m g m' g' _ hargs
  refine ⟨fun c => g₀ m c, fun c => newChange (w₀ m c) (g₀ m c) (m₀ m c) (v₀ m c), fun c => newFirst (g₀ m c) (m₀ m c),
    fun c => newSecond (g₀ m c) (v₀ m c), ?_, ?_⟩
  · refine (θ_run defs _ _).mono (fun r h c => ?_) (Value.run_blocks m g)
    obtain ⟨k0, k1, k2, k3⟩ := kernel_arrays m c
    obtain ⟨h0, h1, h2, h3, h4⟩ := h c
    exact ⟨h0.trans k0, h1.trans k1, h2.trans k2, h3.trans k3, h4⟩
  · refine (θ_run Cert.AdamWUpRefIdeal.defs _ _).mono (fun r h c => ?_) (Cert.AdamWUpRefIdeal.Value.run m' g')
    obtain ⟨a0, a1, a2, a3⟩ := hargs c
    obtain ⟨h0, h1, h2, h3, h4⟩ := h c
    simp only [a0, a1, a2, a3, sum_whole rows] at h0 h1 h2 h3
    exact ⟨h0, h1, h2, h3, h4⟩

theorem frame_reference : Cert.quiescent_AdamWUpRefIdeal := fun m ρ _ =>
  (θ_run Cert.AdamWUpRefIdeal.defs _ _).mono (fun r h => ⟨fun c => (h c).2.2.2.2, sem_eq_zero_of_no_sems rfl _⟩)
    (Cert.AdamWUpRefIdeal.Value.run m ρ)

theorem frame_kernelIdeal : Cert.quiescent_AdamWUpIdeal := fun m ρ _ => Cert.AdamWUpIdeal.Gen.frame m ρ

theorem frame_kernel : Cert.quiescent_AdamWUp := by
  intro m ρ _
  refine Eq.mp ?_ (Cert.AdamWUpIdeal.Gen.frame (F := Bits) m ρ)
  sl_kernel_rfl

end Cert.AdamWUpIdeal.Product

end
-- ==== Proof.ValAdamWPleProj.lean ====
module

public import proofs.«01_k».proof.Defs
public import proofs.«01_k».proof.Proof.Adam
public import proofs.«01_k».proof.Proof.Gen.AdamWPleProj
public import proofs.«01_k».proof.Proof.Gen.AdamWPleProjIdeal.Value
public import proofs.«01_k».proof.Proof.Gen.AdamWPleProjRefIdeal.Run
public import Idealize.ShloMosaic.Lib.Pipeline.ValueKit
public import Idealize.ShloMosaic.Lib.Tactic.CleanTypes
public import Idealize.ShloMosaic.Lib.Quiescent

/-!
The optimiser's step on the weight that projects the per-layer embedding, by the lemmas of Proof/Adam.lean. The devices send
its rows alone.
-/

@[expose] public section

set_option maxRecDepth 16384

noncomputable section

namespace Cert.AdamWPleProjIdeal.Product

open Cert.AdamWPleProjIdeal.Gen Cert.Adam Cert.Product
open Idealize.ShloMosaic Idealize.ShloMosaic.TcCoe Idealize.ShloMosaic.Tactic Idealize.SL.Sem

/-- The rows of this weight in what a device sent. -/
theorem rows : 0 + 256 ≤ 256 := by decide

variable (m : (ℓ : Loc nD τ sig) → Buf (Elt Ideal) ℓ) (c : Dev nD)

abbrev w₀ : FVec Ideal S256x256 .f32 := m ((c : Thread nD τ).loc main_arg0)
abbrev m₀ : FVec Ideal S256x256 .f32 := m ((c : Thread nD τ).loc main_arg1)
abbrev v₀ : FVec Ideal S256x256 .f32 := m ((c : Thread nD τ).loc main_arg2)
abbrev g₀ : FVec Ideal S256x256 .f32 := gradient rows (m ((c : Thread nD τ).loc main_arg3))

theorem index_of : ∀ t : Fin cfg0.N, win0_3.index t = ![0, t.val, 0] ∧ win0_4.index t = ![1, t.val, 0] ∧ win0_5.index t = ![2, t.val, 0]
    ∧ win0_6.index t = ![3, t.val, 0] ∧ win0_7.index t = ![4, t.val, 0] ∧ win0_8.index t = ![5, t.val, 0]
    ∧ win0_9.index t = ![6, t.val, 0] ∧ win0_10.index t = ![7, t.val, 0] ∧ win0_11.index t = ![t.val, 0] := by
  unfold cfg0; decide +kernel

/-- The devices' blocks at a point. -/
def blocks (t : Fin cfg0.N) : Fin 8 → Vec Ideal S1x128x256 .bf16 :=
  ![iblk m c 3 t, iblk m c 4 t, iblk m c 5 t, iblk m c 6 t, iblk m c 7 t, iblk m c 8 t, iblk m c 9 t, iblk m c 10 t]

set_option maxHeartbeats 2000000 in
theorem block_sum (t : Fin cfg0.N) (y : S128x256.Idx) :
    k0_pay4 (F := Ideal) (iblk m c 3 t) (iblk m c 4 t) (iblk m c 5 t) (iblk m c 6 t) (iblk m c 7 t) (iblk m c 8 t) (iblk m c 9 t)
      (iblk m c 10 t) y = g₀ m c ((win0_11.blk t).view.emb y) := by
  refine eight_at rows _ _ (blocks m c t) shapeCasts_S1x128x256_S128x256 bitsLt_bf16_f32 y fun k => ?_
  obtain ⟨e3, e4, e5, e6, e7, e8, e9, e10, e⟩ := index_of t
  fin_cases k
  all_goals
    dsimp only [blocks]
    blk_ext [iblk, e3, e4, e5, e6, e7, e8, e9, e10, e]

theorem kernel_arrays : (dats m 0 c).arrAt 11 cfg0.N = g₀ m c
    ∧ (dats m 0 c).arrAt 12 cfg0.N = newChange (w₀ m c) (g₀ m c) (m₀ m c) (v₀ m c)
    ∧ (dats m 0 c).arrAt 13 cfg0.N = newFirst (g₀ m c) (m₀ m c)
    ∧ (dats m 0 c).arrAt 14 cfg0.N = newSecond (g₀ m c) (v₀ m c) := by
  refine ⟨(dats m 0 c).arrAt_eq_of_covers 11 _ (by decide +kernel) fun t _ y => ?_,
    (dats m 0 c).arrAt_eq_of_covers 12 _ (by decide +kernel) fun t _ y => ?_,
    (dats m 0 c).arrAt_eq_of_covers 13 _ (by decide +kernel) fun t _ y => ?_,
    (dats m 0 c).arrAt_eq_of_covers 14 _ (by decide +kernel) fun t _ y => ?_⟩
  all_goals
    blk_simp
    simp only [after0_11, after0_12, after0_13, after0_14, out0_11, out0_12, out0_13, out0_14, View.canon_unit_zero (S := S128x256) zeros,
      View.ld_unit_zero (S := S128x256) zeros, View.ld_unit_zero (S := S1x128x256) zeros3, k0_pay5]
  · exact block_sum m c t y
  · show change _ _ _ _ = change _ _ _ _
    congr 1
    exact block_sum m c t y
  · show first _ _ = first _ _
    congr 1
    exact block_sum m c t y
  · show second _ _ = second _ _
    congr 1
    exact block_sum m c t y

theorem algebraic : Cert.algebraic_AdamWPleProjIdeal_AdamWPleProjRefIdeal := by
  intro m g m' g' _ hargs
  refine ⟨fun c => g₀ m c, fun c => newChange (w₀ m c) (g₀ m c) (m₀ m c) (v₀ m c), fun c => newFirst (g₀ m c) (m₀ m c),
    fun c => newSecond (g₀ m c) (v₀ m c), ?_, ?_⟩
  · refine (θ_run defs _ _).mono (fun r h c => ?_) (Value.run_blocks m g)
    obtain ⟨k0, k1, k2, k3⟩ := kernel_arrays m c
    obtain ⟨h0, h1, h2, h3, h4⟩ := h c
    exact ⟨h0.trans k0, h1.trans k1, h2.trans k2, h3.trans k3, h4⟩
  · refine (θ_run Cert.AdamWPleProjRefIdeal.defs _ _).mono (fun r h c => ?_) (Cert.AdamWPleProjRefIdeal.Value.run m' g')
    obtain ⟨a0, a1, a2, a3⟩ := hargs c
    obtain ⟨h0, h1, h2, h3, h4⟩ := h c
    simp only [a0, a1, a2, a3, sum_whole rows] at h0 h1 h2 h3
    exact ⟨h0, h1, h2, h3, h4⟩

theorem frame_reference : Cert.quiescent_AdamWPleProjRefIdeal := fun m ρ _ =>
  (θ_run Cert.AdamWPleProjRefIdeal.defs _ _).mono (fun r h => ⟨fun c => (h c).2.2.2.2, sem_eq_zero_of_no_sems rfl _⟩)
    (Cert.AdamWPleProjRefIdeal.Value.run m ρ)

theorem frame_kernelIdeal : Cert.quiescent_AdamWPleProjIdeal := fun m ρ _ => Cert.AdamWPleProjIdeal.Gen.frame m ρ

theorem frame_kernel : Cert.quiescent_AdamWPleProj := by
  intro m ρ _
  refine Eq.mp ?_ (Cert.AdamWPleProjIdeal.Gen.frame (F := Bits) m ρ)
  sl_kernel_rfl

end Cert.AdamWPleProjIdeal.Product

end
-- ==== Proof.ValAdamWIn.lean ====
module

public import proofs.«01_k».proof.Defs
public import proofs.«01_k».proof.Proof.Adam
public import proofs.«01_k».proof.Proof.Gen.AdamWIn
public import proofs.«01_k».proof.Proof.Gen.AdamWInIdeal.Value
public import proofs.«01_k».proof.Proof.Gen.AdamWInRefIdeal.Run
public import Idealize.ShloMosaic.Lib.Pipeline.ValueKit
public import Idealize.ShloMosaic.Lib.Tactic.CleanTypes
public import Idealize.ShloMosaic.Lib.Quiescent

/-!
The optimiser's step on the combined input weight, by the lemmas of Proof/Adam.lean. There are four parts here, and the
blocks are of columns.
-/

@[expose] public section

set_option maxRecDepth 16384

noncomputable section

namespace Cert.AdamWInIdeal.Product

open Cert.AdamWInIdeal.Gen Cert.Adam Cert.Product
open Idealize.ShloMosaic Idealize.ShloMosaic.TcCoe Idealize.ShloMosaic.Tactic Idealize.SL.Sem

/-- The rows of this weight in a part. -/
theorem rows : 0 + 2310 ≤ 2310 := by decide

variable (m : (ℓ : Loc nD τ sig) → Buf (Elt Ideal) ℓ) (c : Dev nD)

abbrev w₀ : FVec Ideal S2310x2048 .f32 := m ((c : Thread nD τ).loc main_arg0)
abbrev m₀ : FVec Ideal S2310x2048 .f32 := m ((c : Thread nD τ).loc main_arg1)
abbrev v₀ : FVec Ideal S2310x2048 .f32 := m ((c : Thread nD τ).loc main_arg2)
abbrev g₀ : FVec Ideal S2310x2048 .f32 := gradient rows (m ((c : Thread nD τ).loc main_arg3))

theorem index_of : ∀ t : Fin cfg0.N, win0_3.index t = ![0, 0, t.val] ∧ win0_4.index t = ![1, 0, t.val] ∧ win0_5.index t = ![2, 0, t.val]
    ∧ win0_6.index t = ![3, 0, t.val] ∧ win0_7.index t = ![0, t.val] := by
  unfold cfg0; decide +kernel

/-- The blocks of the parts at a point. -/
def blocks (t : Fin cfg0.N) : Fin 4 → Vec Ideal S1x2310x256 .bf16 := ![iblk m c 3 t, iblk m c 4 t, iblk m c 5 t, iblk m c 6 t]

set_option maxHeartbeats 2000000 in
theorem block_sum (t : Fin cfg0.N) (y : S2310x256.Idx) :
    k0_pay2 (F := Ideal) (iblk m c 3 t) (iblk m c 4 t) (iblk m c 5 t) (iblk m c 6 t) y = g₀ m c ((win0_7.blk t).view.emb y) := by
  refine four_at rows _ _ (blocks m c t) shapeCasts_S1x2310x256_S2310x256 bitsLt_bf16_f32 y fun k => ?_
  obtain ⟨e3, e4, e5, e6, e⟩ := index_of t
  fin_cases k
  all_goals
    dsimp only [blocks]
    blk_ext [iblk, e3, e4, e5, e6, e]

theorem kernel_arrays : (dats m 0 c).arrAt 7 cfg0.N = g₀ m c
    ∧ (dats m 0 c).arrAt 8 cfg0.N = newChange (w₀ m c) (g₀ m c) (m₀ m c) (v₀ m c)
    ∧ (dats m 0 c).arrAt 9 cfg0.N = newFirst (g₀ m c) (m₀ m c)
    ∧ (dats m 0 c).arrAt 10 cfg0.N = newSecond (g₀ m c) (v₀ m c) := by
  refine ⟨(dats m 0 c).arrAt_eq_of_covers 7 _ (by decide +kernel) fun t _ y => ?_,
    (dats m 0 c).arrAt_eq_of_covers 8 _ (by decide +kernel) fun t _ y => ?_,
    (dats m 0 c).arrAt_eq_of_covers 9 _ (by decide +kernel) fun t _ y => ?_,
    (dats m 0 c).arrAt_eq_of_covers 10 _ (by decide +kernel) fun t _ y => ?_⟩
  all_goals
    blk_simp
    simp only [after0_7, after0_8, after0_9, after0_10, out0_7, out0_8, out0_9, out0_10, View.canon_unit_zero (S := S2310x256) zeros,
      View.ld_unit_zero (S := S2310x256) zeros, View.ld_unit_zero (S := S1x2310x256) zeros3]
  · exact block_sum m c t y
  · show change _ _ _ _ = change _ _ _ _
    congr 1
    exact block_sum m c t y
  · show first _ _ = first _ _
    congr 1
    exact block_sum m c t y
  · show second _ _ = second _ _
    congr 1
    exact block_sum m c t y

theorem algebraic : Cert.algebraic_AdamWInIdeal_AdamWInRefIdeal := by
  intro m g m' g' _ hargs
  refine ⟨fun c => g₀ m c, fun c => newChange (w₀ m c) (g₀ m c) (m₀ m c) (v₀ m c), fun c => newFirst (g₀ m c) (m₀ m c),
    fun c => newSecond (g₀ m c) (v₀ m c), ?_, ?_⟩
  · refine (θ_run defs _ _).mono (fun r h c => ?_) (Value.run_blocks m g)
    obtain ⟨k0, k1, k2, k3⟩ := kernel_arrays m c
    obtain ⟨h0, h1, h2, h3, h4⟩ := h c
    exact ⟨h0.trans k0, h1.trans k1, h2.trans k2, h3.trans k3, h4⟩
  · refine (θ_run Cert.AdamWInRefIdeal.defs _ _).mono (fun r h c => ?_) (Cert.AdamWInRefIdeal.Value.run m' g')
    obtain ⟨a0, a1, a2, a3⟩ := hargs c
    obtain ⟨h0, h1, h2, h3, h4⟩ := h c
    simp only [a0, a1, a2, a3, sum_whole rows] at h0 h1 h2 h3
    exact ⟨h0, h1, h2, h3, h4⟩

theorem frame_reference : Cert.quiescent_AdamWInRefIdeal := fun m ρ _ =>
  (θ_run Cert.AdamWInRefIdeal.defs _ _).mono (fun r h => ⟨fun c => (h c).2.2.2.2, sem_eq_zero_of_no_sems rfl _⟩)
    (Cert.AdamWInRefIdeal.Value.run m ρ)

theorem frame_kernelIdeal : Cert.quiescent_AdamWInIdeal := fun m ρ _ => Cert.AdamWInIdeal.Gen.frame m ρ

theorem frame_kernel : Cert.quiescent_AdamWIn := by
  intro m ρ _
  refine Eq.mp ?_ (Cert.AdamWInIdeal.Gen.frame (F := Bits) m ρ)
  sl_kernel_rfl

end Cert.AdamWInIdeal.Product

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.ValInProj
public import proofs.«01_k».proof.Proof.Gen.InProj
public import proofs.«01_k».proof.Proof.Gen.InProjIdeal
public import proofs.«01_k».proof.Proof.Gen.InProjRefIdeal
public import proofs.«01_k».proof.Proof.ValDHMix
public import proofs.«01_k».proof.Proof.Gen.DHMix
public import proofs.«01_k».proof.Proof.Gen.DHMixIdeal
public import proofs.«01_k».proof.Proof.Gen.DHMixRefIdeal
public import proofs.«01_k».proof.Proof.ValDWIn
public import proofs.«01_k».proof.Proof.Gen.DWIn
public import proofs.«01_k».proof.Proof.Gen.DWInIdeal
public import proofs.«01_k».proof.Proof.Gen.DWInRefIdeal
public import proofs.«01_k».proof.Proof.ValHidden
public import proofs.«01_k».proof.Proof.Gen.Hidden
public import proofs.«01_k».proof.Proof.Gen.HiddenIdeal
public import proofs.«01_k».proof.Proof.Gen.HiddenRefIdeal
public import proofs.«01_k».proof.Proof.ValDown
public import proofs.«01_k».proof.Proof.Gen.Down
public import proofs.«01_k».proof.Proof.Gen.DownIdeal
public import proofs.«01_k».proof.Proof.Gen.DownRefIdeal
public import proofs.«01_k».proof.Proof.ValDWDown
public import proofs.«01_k».proof.Proof.Gen.DWDown
public import proofs.«01_k».proof.Proof.Gen.DWDownIdeal
public import proofs.«01_k».proof.Proof.Gen.DWDownRefIdeal
public import proofs.«01_k».proof.Proof.ValDWUp
public import proofs.«01_k».proof.Proof.Gen.DWUp
public import proofs.«01_k».proof.Proof.Gen.DWUpIdeal
public import proofs.«01_k».proof.Proof.Gen.DWUpRefIdeal
public import proofs.«01_k».proof.Proof.ValDHMlp
public import proofs.«01_k».proof.Proof.Gen.DHMlp
public import proofs.«01_k».proof.Proof.Gen.DHMlpIdeal
public import proofs.«01_k».proof.Proof.Gen.DHMlpRefIdeal
public import proofs.«01_k».proof.Proof.ValOutProj
public import proofs.«01_k».proof.Proof.Gen.OutProj
public import proofs.«01_k».proof.Proof.Gen.OutProjIdeal
public import proofs.«01_k».proof.Proof.Gen.OutProjRefIdeal
public import proofs.«01_k».proof.Proof.ValDMixed
public import proofs.«01_k».proof.Proof.Gen.DMixed
public import proofs.«01_k».proof.Proof.Gen.DMixedIdeal
public import proofs.«01_k».proof.Proof.Gen.DMixedRefIdeal
public import proofs.«01_k».proof.Proof.ValDWOut
public import proofs.«01_k».proof.Proof.Gen.DWOut
public import proofs.«01_k».proof.Proof.Gen.DWOutIdeal
public import proofs.«01_k».proof.Proof.Gen.DWOutRefIdeal
public import proofs.«01_k».proof.Proof.ValPle
public import proofs.«01_k».proof.Proof.Gen.Ple
public import proofs.«01_k».proof.Proof.Gen.PleIdeal
public import proofs.«01_k».proof.Proof.Gen.PleRefIdeal
public import proofs.«01_k».proof.Proof.ValDWPleProj
public import proofs.«01_k».proof.Proof.Gen.DWPleProj
public import proofs.«01_k».proof.Proof.Gen.DWPleProjIdeal
public import proofs.«01_k».proof.Proof.Gen.DWPleProjRefIdeal
public import proofs.«01_k».proof.Proof.ValAdamSmall
public import proofs.«01_k».proof.Proof.Gen.AdamSmall
public import proofs.«01_k».proof.Proof.Gen.AdamSmallIdeal
public import proofs.«01_k».proof.Proof.Gen.AdamSmallRefIdeal
public import proofs.«01_k».proof.Proof.ValAdamWOut
public import proofs.«01_k».proof.Proof.Gen.AdamWOut
public import proofs.«01_k».proof.Proof.Gen.AdamWOutIdeal
public import proofs.«01_k».proof.Proof.Gen.AdamWOutRefIdeal
public import proofs.«01_k».proof.Proof.ValAdamWPleGate
public import proofs.«01_k».proof.Proof.Gen.AdamWPleGate
public import proofs.«01_k».proof.Proof.Gen.AdamWPleGateIdeal
public import proofs.«01_k».proof.Proof.Gen.AdamWPleGateRefIdeal
public import proofs.«01_k».proof.Proof.ValAdamWDown
public import proofs.«01_k».proof.Proof.Gen.AdamWDown
public import proofs.«01_k».proof.Proof.Gen.AdamWDownIdeal
public import proofs.«01_k».proof.Proof.Gen.AdamWDownRefIdeal
public import proofs.«01_k».proof.Proof.ValAdamWUp
public import proofs.«01_k».proof.Proof.Gen.AdamWUp
public import proofs.«01_k».proof.Proof.Gen.AdamWUpIdeal
public import proofs.«01_k».proof.Proof.Gen.AdamWUpRefIdeal
public import proofs.«01_k».proof.Proof.ValAdamWPleProj
public import proofs.«01_k».proof.Proof.Gen.AdamWPleProj
public import proofs.«01_k».proof.Proof.Gen.AdamWPleProjIdeal
public import proofs.«01_k».proof.Proof.Gen.AdamWPleProjRefIdeal
public import proofs.«01_k».proof.Proof.ValAdamWIn
public import proofs.«01_k».proof.Proof.Gen.AdamWIn
public import proofs.«01_k».proof.Proof.Gen.AdamWInIdeal
public import proofs.«01_k».proof.Proof.Gen.AdamWInRefIdeal
public import Idealize.ShloMosaic.Lib.Quiescent

@[expose] public section

set_option maxRecDepth 16384

noncomputable section

namespace Cert.Proof

open Idealize.ShloMosaic Idealize.SL.Sem Cert.KernelIdeal.Gla

theorem frame_kernelIdeal : Cert.quiescent_KernelIdeal := fun m ρ _ =>
  (θ_run Cert.KernelIdeal.defs _ _).mono (fun _ h => h) (Cert.KernelIdeal.Gla.frame_main (F := Ideal) m ρ)

theorem frame_kernel : Cert.quiescent_Kernel := by
  intro m ρ _
  refine Eq.mp ?_ (Cert.KernelIdeal.Gla.frame_main (F := Bits) m ρ)
  sl_kernel_rfl

theorem frame_reference : Cert.quiescent_ReferenceIdeal := fun m ρ _ =>
  (θ_run Cert.ReferenceIdeal.defs _ _).mono (fun r h => ⟨fun c => (h c).2.2.2.2.2.2.2.2.2.2, sem_eq_zero_of_no_sems rfl _⟩) (Cert.ReferenceIdeal.Value.run (F := Ideal) m ρ)

/-- The reals of device `c`'s arguments. -/
abbrev gAt (m : (ℓ : Loc Cert.KernelIdeal.nD Cert.KernelIdeal.τ Cert.KernelIdeal.sig) → Buf (Elt Ideal) ℓ) (c : Dev Cert.KernelIdeal.nD) : Fin 2 → GIn :=
  Cert.Pre_regular.Read.gOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

theorem algebraic : Cert.algebraic_KernelIdeal_ReferenceIdeal_pre_regular (hPre_regular := Cert.Pre_regular.Read.facts) := by
  intro m g m' g' hpre hargs
  have R := fun c => Cert.Pre_regular.Read.reads _ _ _ _ _ _ (hpre c)
  have H : ∀ c, MIs m c (gAt m c) := fun c => Cert.Pre_regular.Read.args (R c)
  have hnu := fun c => Cert.Pre_regular.Read.nu_ne (R c)
  refine ⟨fun c => oOut (gAt m c), fun c => oDq (gAt m c), fun c => oDk (gAt m c), fun c => oDv (gAt m c), fun c => oDg (gAt m c),
    fun c => oDga (gAt m c), fun c => oDlr (gAt m c), fun c => oDw2 (gAt m c), fun c => oDb (gAt m c), fun c => oDgn (gAt m c), ?_, ?_⟩
  · refine (θ_run Cert.KernelIdeal.defs _ _).mono (fun r h c => ?_) (run_main (F := Ideal) m g)
    obtain ⟨e0, e1, e2, e3, e4, e5, e6, e7, e8, e9⟩ := kernel_results (ρ := g) (H c) (hnu c)
    have a := W2_args m g c
    have hb := h.1 c
    exact ⟨(hb _ (by decide)).trans e0, (hb _ (by decide)).trans e1, (hb _ (by decide)).trans e2, (hb _ (by decide)).trans e3,
      (hb _ (by decide)).trans e4, (hb _ (by decide)).trans e5, (hb _ (by decide)).trans e6, (hb _ (by decide)).trans e7,
      (hb _ (by decide)).trans e8, (hb _ (by decide)).trans e9,
      (hb _ (by decide)).trans (a _ (by decide)), (hb _ (by decide)).trans (a _ (by decide)), (hb _ (by decide)).trans (a _ (by decide)),
      (hb _ (by decide)).trans (a _ (by decide)), (hb _ (by decide)).trans (a _ (by decide)), (hb _ (by decide)).trans (a _ (by decide))⟩
  · refine (θ_run Cert.ReferenceIdeal.defs _ _).mono (fun r h c => ?_) (Cert.ReferenceIdeal.Value.run (F := Ideal) m' g')
    obtain ⟨a0, a1, a2, a3, a4, a5⟩ := hargs c
    have HR : Cert.ReferenceIdeal.Gla.RefIs (StableHlo.launchContents m' c) (gAt m c) := by
      have := H c
      unfold MIs at this
      rw [← a0, ← a1, ← a2, ← a3, ← a4, ← a5] at this
      exact this
    obtain ⟨e0, e1, e2, e3, e4, e5, e6, e7, e8, e9⟩ := reference_results HR
    unfold Cert.ReferenceIdeal.Gla.rDg Cert.ReferenceIdeal.Gla.rDg0 at e4
    unfold Cert.ReferenceIdeal.Gla.rDga Cert.ReferenceIdeal.Gla.rDga0 at e5
    obtain ⟨h0, h1, h2, h3, h4, h5, h6, h7, h8, h9, h10⟩ := h c
    exact ⟨h0.trans e0, h1.trans e1, h2.trans e2, h3.trans e3, h4.trans e4, h5.trans e5, h6.trans e6, h7.trans e7, h8.trans e8,
      h9.trans e9, h10⟩

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.DHMix.Gen.facts, Cert.DHMixIdeal.Gen.facts, Cert.DHMixRefIdeal.Gen.facts,
  Cert.DWIn.Gen.facts, Cert.DWInIdeal.Gen.facts, Cert.DWInRefIdeal.Gen.facts,
  Cert.Hidden.Gen.facts, Cert.HiddenIdeal.Gen.facts, Cert.HiddenRefIdeal.Gen.facts,
  Cert.Down.Gen.facts, Cert.DownIdeal.Gen.facts, Cert.DownRefIdeal.Gen.facts,
  Cert.DWDown.Gen.facts, Cert.DWDownIdeal.Gen.facts, Cert.DWDownRefIdeal.Gen.facts,
  Cert.DWUp.Gen.facts, Cert.DWUpIdeal.Gen.facts, Cert.DWUpRefIdeal.Gen.facts,
  Cert.DHMlp.Gen.facts, Cert.DHMlpIdeal.Gen.facts, Cert.DHMlpRefIdeal.Gen.facts,
  Cert.OutProj.Gen.facts, Cert.OutProjIdeal.Gen.facts, Cert.OutProjRefIdeal.Gen.facts,
  Cert.DMixed.Gen.facts, Cert.DMixedIdeal.Gen.facts, Cert.DMixedRefIdeal.Gen.facts,
  Cert.DWOut.Gen.facts, Cert.DWOutIdeal.Gen.facts, Cert.DWOutRefIdeal.Gen.facts,
  Cert.Ple.Gen.facts, Cert.PleIdeal.Gen.facts, Cert.PleRefIdeal.Gen.facts,
  Cert.DWPleProj.Gen.facts, Cert.DWPleProjIdeal.Gen.facts, Cert.DWPleProjRefIdeal.Gen.facts,
  Cert.AdamSmall.Gen.facts, Cert.AdamSmallIdeal.Gen.facts, Cert.AdamSmallRefIdeal.Gen.facts,
  Cert.AdamWOut.Gen.facts, Cert.AdamWOutIdeal.Gen.facts, Cert.AdamWOutRefIdeal.Gen.facts,
  Cert.AdamWPleGate.Gen.facts, Cert.AdamWPleGateIdeal.Gen.facts, Cert.AdamWPleGateRefIdeal.Gen.facts,
  Cert.AdamWDown.Gen.facts, Cert.AdamWDownIdeal.Gen.facts, Cert.AdamWDownRefIdeal.Gen.facts,
  Cert.AdamWUp.Gen.facts, Cert.AdamWUpIdeal.Gen.facts, Cert.AdamWUpRefIdeal.Gen.facts,
  Cert.AdamWPleProj.Gen.facts, Cert.AdamWPleProjIdeal.Gen.facts, Cert.AdamWPleProjRefIdeal.Gen.facts,
  Cert.AdamWIn.Gen.facts, Cert.AdamWInIdeal.Gen.facts, Cert.AdamWInRefIdeal.Gen.facts,
  Cert.Pre_regular.Read.facts, frame_kernel, frame_kernelIdeal, fun m g _ => frame_kernelIdeal m g trivial,
  frame_reference, fun m g _ => frame_reference m g trivial,
  Cert.InProjIdeal.Product.frame_kernel, Cert.InProjIdeal.Product.frame_kernelIdeal, Cert.InProjIdeal.Product.frame_reference,
  Cert.DHMixIdeal.Product.frame_kernel, Cert.DHMixIdeal.Product.frame_kernelIdeal, Cert.DHMixIdeal.Product.frame_reference,
  Cert.DWInIdeal.Product.frame_kernel, Cert.DWInIdeal.Product.frame_kernelIdeal, Cert.DWInIdeal.Product.frame_reference,
  Cert.HiddenIdeal.Product.frame_kernel, Cert.HiddenIdeal.Product.frame_kernelIdeal, Cert.HiddenIdeal.Product.frame_reference,
  Cert.DownIdeal.Product.frame_kernel, Cert.DownIdeal.Product.frame_kernelIdeal, Cert.DownIdeal.Product.frame_reference,
  Cert.DWDownIdeal.Product.frame_kernel, Cert.DWDownIdeal.Product.frame_kernelIdeal, Cert.DWDownIdeal.Product.frame_reference,
  Cert.DWUpIdeal.Product.frame_kernel, Cert.DWUpIdeal.Product.frame_kernelIdeal, Cert.DWUpIdeal.Product.frame_reference,
  Cert.DHMlpIdeal.Product.frame_kernel, Cert.DHMlpIdeal.Product.frame_kernelIdeal, Cert.DHMlpIdeal.Product.frame_reference,
  Cert.OutProjIdeal.Product.frame_kernel, Cert.OutProjIdeal.Product.frame_kernelIdeal, Cert.OutProjIdeal.Product.frame_reference,
  Cert.DMixedIdeal.Product.frame_kernel, Cert.DMixedIdeal.Product.frame_kernelIdeal, Cert.DMixedIdeal.Product.frame_reference,
  Cert.DWOutIdeal.Product.frame_kernel, Cert.DWOutIdeal.Product.frame_kernelIdeal, Cert.DWOutIdeal.Product.frame_reference,
  Cert.PleIdeal.Product.frame_kernel, Cert.PleIdeal.Product.frame_kernelIdeal, Cert.PleIdeal.Product.frame_reference,
  Cert.DWPleProjIdeal.Product.frame_kernel, Cert.DWPleProjIdeal.Product.frame_kernelIdeal, Cert.DWPleProjIdeal.Product.frame_reference,
  Cert.AdamSmallIdeal.Product.frame_kernel, Cert.AdamSmallIdeal.Product.frame_kernelIdeal, Cert.AdamSmallIdeal.Product.frame_reference,
  Cert.AdamWOutIdeal.Product.frame_kernel, Cert.AdamWOutIdeal.Product.frame_kernelIdeal, Cert.AdamWOutIdeal.Product.frame_reference,
  Cert.AdamWPleGateIdeal.Product.frame_kernel, Cert.AdamWPleGateIdeal.Product.frame_kernelIdeal, Cert.AdamWPleGateIdeal.Product.frame_reference,
  Cert.AdamWDownIdeal.Product.frame_kernel, Cert.AdamWDownIdeal.Product.frame_kernelIdeal, Cert.AdamWDownIdeal.Product.frame_reference,
  Cert.AdamWUpIdeal.Product.frame_kernel, Cert.AdamWUpIdeal.Product.frame_kernelIdeal, Cert.AdamWUpIdeal.Product.frame_reference,
  Cert.AdamWPleProjIdeal.Product.frame_kernel, Cert.AdamWPleProjIdeal.Product.frame_kernelIdeal, Cert.AdamWPleProjIdeal.Product.frame_reference,
  Cert.AdamWInIdeal.Product.frame_kernel, Cert.AdamWInIdeal.Product.frame_kernelIdeal, Cert.AdamWInIdeal.Product.frame_reference,
  trivial, algebraic,
  trivial, Cert.InProjIdeal.Product.algebraic,
  trivial, Cert.DHMixIdeal.Product.algebraic,
  trivial, Cert.DWInIdeal.Product.algebraic,
  trivial, Cert.HiddenIdeal.Product.algebraic,
  trivial, Cert.DownIdeal.Product.algebraic,
  trivial, Cert.DWDownIdeal.Product.algebraic,
  trivial, Cert.DWUpIdeal.Product.algebraic,
  trivial, Cert.DHMlpIdeal.Product.algebraic,
  trivial, Cert.OutProjIdeal.Product.algebraic,
  trivial, Cert.DMixedIdeal.Product.algebraic,
  trivial, Cert.DWOutIdeal.Product.algebraic,
  trivial, Cert.PleIdeal.Product.algebraic,
  trivial, Cert.DWPleProjIdeal.Product.algebraic,
  trivial, Cert.AdamSmallIdeal.Product.algebraic,
  trivial, Cert.AdamWOutIdeal.Product.algebraic,
  trivial, Cert.AdamWPleGateIdeal.Product.algebraic,
  trivial, Cert.AdamWDownIdeal.Product.algebraic,
  trivial, Cert.AdamWUpIdeal.Product.algebraic,
  trivial, Cert.AdamWPleProjIdeal.Product.algebraic,
  trivial, Cert.AdamWInIdeal.Product.algebraic⟩

end Cert.Proof

end
